-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "log2_e" .f32 0x3FB8AA3B#32 (((Real.log 2)⁻¹ : ℝ) : EReal)
  ∧ IdealRules.named_const.Statement Cert.KernelIdeal.κ "ln_2" .f32 0x3F317218#32 ((Real.log 2 : ℝ) : EReal)

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S16x128x1536 : Shape := ⟨3, ![16, 128, 1536]⟩
abbrev S16x128 : Shape := ⟨2, ![16, 128]⟩
abbrev S1536x8192 : Shape := ⟨2, ![1536, 8192]⟩
abbrev S8192 : Shape := ⟨1, ![8192]⟩
abbrev S512 : Shape := ⟨1, ![512]⟩
abbrev S16 : Shape := ⟨1, ![16]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S16 : S_.BroadcastsInDim S16 (![] : Fin 0 → Fin S16.rank)
  reducesTo_S16_S_d0 : S16.ReducesTo [0] S_

variable [Facts]

def fn {F : FTy → Type} [FloatOps F] (main_arg0 : FVec F S16x128x1536 .fp8e4m3) (main_arg1 : FVec F S16x128 .f32) (main_arg2 : IVec S1536x8192 8) (main_arg3 : FVec F S8192 .f32) (main_arg4 : FVec F S8192 .f32) (main_arg5 : IVec S512 32) (main_arg6 : IVec S16 32) (main_arg7 : IVec S16 32) : IVec S_ 1 :=
  let main_c : IVec S_ 32 := constantI S_ 32 0#32
  let main_v0 : IVec S512 32 := broadcastInDim S512 ![] bcast_S_S512 main_c
  let main_v1 : IVec S512 1 := cmpi .sge main_arg5 main_v0
  let main_c_0 : IVec S_ 32 := constantI S_ 32 8192#32
  let main_v2 : IVec S512 32 := broadcastInDim S512 ![] bcast_S_S512 main_c_0
  let main_v3 : IVec S512 1 := cmpi .slt main_arg5 main_v2
  let main_v4 : IVec S512 1 := andi main_v1 main_v3
  let main_c_1 : IVec S_ 1 := constantI S_ 1 1#1
  let main_v5 : IVec S_ 1 := (fun x v => Host.reduce IntOp.andi x v reducesTo_S512_S_d0 h_S_) main_v4 main_c_1
  let main_c_2 : IVec S_ 32 := constantI S_ 32 0#32
  let main_v6 : IVec S16 32 := broadcastInDim S16 ![] bcast_S_S16 main_c_2
  let main_v7 : IVec S16 1 := cmpi .sge main_arg6 main_v6
  let main_c_3 : IVec S_ 32 := constantI S_ 32 32#32
  let main_v8 : IVec S16 32 := broadcastInDim S16 ![] bcast_S_S16 main_c_3
  let main_v9 : IVec S16 1 := cmpi .sle main_arg6 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  main_v12
-- ==== Kernel.lean ====
abbrev S16x128x1536 : Shape := ⟨3, ![16, 128, 1536]⟩
abbrev S16x128 : Shape := ⟨2, ![16, 128]⟩
abbrev S1536x8192 : Shape := ⟨2, ![1536, 8192]⟩
abbrev S8192 : Shape := ⟨1, ![8192]⟩
abbrev S512 : Shape := ⟨1, ![512]⟩
abbrev S16 : Shape := ⟨1, ![16]⟩
abbrev S2048x1536 : Shape := ⟨2, ![2048, 1536]⟩
abbrev S64x128 : Shape := ⟨2, ![64, 128]⟩
abbrev S1x16 : Shape := ⟨2, ![1, 16]⟩
abbrev S16x65 : Shape := ⟨2, ![16, 65]⟩
abbrev S12x2048x128 : Shape := ⟨3, ![12, 2048, 128]⟩
abbrev S8192x128 : Shape := ⟨2, ![8192, 128]⟩
abbrev S4x512x128 : Shape := ⟨3, ![4, 512, 128]⟩
abbrev S16x8x128 : Shape := ⟨3, ![16, 8, 128]⟩
abbrev S12x64x128 : Shape := ⟨3, ![12, 64, 128]⟩
abbrev S12x128x128 : Shape := ⟨3, ![12, 128, 128]⟩
abbrev S512x128 : Shape := ⟨2, ![512, 128]⟩
abbrev S4x128x128 : Shape := ⟨3, ![4, 128, 128]⟩
abbrev S128x128 : Shape := ⟨2, ![128, 128]⟩
abbrev S4x8x128 : Shape := ⟨3, ![4, 8, 128]⟩
abbrev S5x8x128 : Shape := ⟨3, ![5, 8, 128]⟩
abbrev S4 : Shape := ⟨1, ![4]⟩
abbrev S1 : Shape := ⟨1, ![1]⟩
abbrev S_ : Shape := ⟨0, ![]⟩
abbrev S1536x512 : Shape := ⟨2, ![1536, 512]⟩
abbrev S512x1536 : Shape := ⟨2, ![512, 1536]⟩
abbrev S8x128 : Shape := ⟨2, ![8, 128]⟩
abbrev S1536x128 : Shape := ⟨2, ![1536, 128]⟩
abbrev S128x1536 : Shape := ⟨2, ![128, 1536]⟩
abbrev S32x1536 : Shape := ⟨2, ![32, 1536]⟩
abbrev S32x128 : Shape := ⟨2, ![32, 128]⟩
abbrev S1x32x128 : Shape := ⟨3, ![1, 32, 128]⟩
abbrev S1x128 : Shape := ⟨2, ![1, 128]⟩
abbrev S1x128x128 : Shape := ⟨3, ![1, 128, 128]⟩
abbrev S512x512 : Shape := ⟨2, ![512, 512]⟩
abbrev S1x64x128 : Shape := ⟨3, ![1, 64, 128]⟩
abbrev S8x8x128 : Shape := ⟨3, ![8, 8, 128]⟩
abbrev S1x8x128 : Shape := ⟨3, ![1, 8, 128]⟩
abbrev S1x1x128 : Shape := ⟨3, ![1, 1, 128]⟩
abbrev S1x16x128 : Shape := ⟨3, ![1, 16, 128]⟩
abbrev S64x1536 : Shape := ⟨2, ![64, 1536]⟩
abbrev S256x1536 : Shape := ⟨2, ![256, 1536]⟩
abbrev S64x256 : Shape := ⟨2, ![64, 256]⟩
abbrev S128 : Shape := ⟨1, ![128]⟩
abbrev S8x128x1 : Shape := ⟨3, ![8, 128, 1]⟩

abbrev nBuf : Space → Nat
  | .hbm => 14
  | .vmem => 30
  | .smem => 4
  | _ => 0

abbrev bufTy : (tb : Table) → Fin (tcTables nBuf tb) → BufTy
  | .hbm, ⟨0, _⟩ => ⟨S16x128x1536, .fp8e4m3⟩
  | .hbm, ⟨1, _⟩ => ⟨S16x128, .f32⟩
  | .hbm, ⟨2, _⟩ => ⟨S1536x8192, .i8⟩
  | .hbm, ⟨3, _⟩ => ⟨S8192, .f32⟩
  | .hbm, ⟨4, _⟩ => ⟨S8192, .f32⟩
  | .hbm, ⟨5, _⟩ => ⟨S512, .i32⟩
  | .hbm, ⟨6, _⟩ => ⟨S16, .i32⟩
  | .hbm, ⟨7, _⟩ => ⟨S16, .i32⟩
  | .hbm, ⟨8, _⟩ => ⟨S2048x1536, .fp8e4m3⟩
  | .hbm, ⟨9, _⟩ => ⟨S64x128, .f32⟩
  | .hbm, ⟨10, _⟩ => ⟨S64x128, .f32⟩
  | .hbm, ⟨11, _⟩ => ⟨S1x16, .f32⟩
  | .hbm, ⟨12, _⟩ => ⟨S16x128, .f32⟩
  | .hbm, ⟨13, _⟩ => ⟨S16x65, .f32⟩
  | .local _ .vmem, ⟨0, _⟩ => ⟨S16x128, .f32⟩
  | .local _ .vmem, ⟨1, _⟩ => ⟨S64x128, .f32⟩
  | .local _ .vmem, ⟨2, _⟩ => ⟨S64x128, .f32⟩
  | .local _ .vmem, ⟨3, _⟩ => ⟨S1x16, .f32⟩
  | .local _ .vmem, ⟨4, _⟩ => ⟨S16x128, .f32⟩
  | .local _ .vmem, ⟨5, _⟩ => ⟨S16x65, .f32⟩
  | .local _ .vmem, ⟨6, _⟩ => ⟨S2048x1536, .fp8e4m3⟩
  | .local _ .vmem, ⟨7, _⟩ => ⟨S1536x8192, .i8⟩
  | .local _ .vmem, ⟨8, _⟩ => ⟨S12x2048x128, .i32⟩
  | .local _ .vmem, ⟨9, _⟩ => ⟨S8192x128, .f32⟩
  | .local _ .vmem, ⟨10, _⟩ => ⟨S8192x128, .f32⟩
  | .local _ .vmem, ⟨11, _⟩ => ⟨S4x512x128, .f32⟩
  | .local _ .vmem, ⟨12, _⟩ => ⟨S16x8x128, .f32⟩
  | .local _ .vmem, ⟨13, _⟩ => ⟨S16x8x128, .f32⟩
  | .local _ .vmem, ⟨14, _⟩ => ⟨S16x128, .f32⟩
  | .local _ .vmem, ⟨15, _⟩ => ⟨S12x64x128, .i32⟩
  | .local _ .vmem, ⟨16, _⟩ => ⟨S64x128, .i32⟩
  | .local _ .vmem, ⟨17, _⟩ => ⟨S12x128x128, .i32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S4x128x128, .f32⟩
  | .local _ .vmem, ⟨22, _⟩ => ⟨S128x128, .f32⟩
  | .local _ .vmem, ⟨23, _⟩ => ⟨S4x128x128, .f32⟩
  | .local _ .vmem, ⟨24, _⟩ => ⟨S128x128, .f32⟩
  | .local _ .vmem, ⟨25, _⟩ => ⟨S4x8x128, .f32⟩
  | .local _ .vmem, ⟨26, _⟩ => ⟨S4x8x128, .f32⟩
  | .local _ .vmem, ⟨27, _⟩ => ⟨S5x8x128, .f32⟩
  | .local _ .vmem, ⟨28, _⟩ => ⟨S128x128, .f32⟩
  | .local _ .vmem, ⟨29, _⟩ => ⟨S128x128, .f32⟩
  | .local _ .smem, ⟨0, _⟩ => ⟨S512, .i32⟩
  | .local _ .smem, ⟨1, _⟩ => ⟨S16, .i32⟩
  | .local _ .smem, ⟨2, _⟩ => ⟨S16, .i32⟩
  | .local _ .smem, ⟨3, _⟩ => ⟨S16, .i32⟩
  | _, _ => ⟨S16x128x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg6_0 : Ref sig .tc := ⟨.vmem, 3, rfl⟩
abbrev cc0_stg7_0 : Ref sig .tc := ⟨.vmem, 4, rfl⟩
abbrev cc0_stg8_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_scratch8 : Ref sig .tc := ⟨.vmem, 14, rfl⟩
abbrev cc0_scratch9 : Ref sig .tc := ⟨.vmem, 15, rfl⟩
abbrev cc0_scratch10 : Ref sig .tc := ⟨.vmem, 16, rfl⟩
abbrev cc0_scratch11 : Ref sig .tc := ⟨.vmem, 17, rfl⟩
abbrev cc0_scratch12 : Ref sig .tc := ⟨.vmem, 18, rfl⟩
abbrev cc0_scratch13 : Ref sig .tc := ⟨.vmem, 19, rfl⟩
abbrev cc0_scratch14 : Ref sig .tc := ⟨.vmem, 20, rfl⟩
abbrev cc0_scratch15 : Ref sig .tc := ⟨.vmem, 21, rfl⟩
abbrev cc0_scratch16 : Ref sig .tc := ⟨.vmem, 22, rfl⟩
abbrev cc0_scratch17 : Ref sig .tc := ⟨.vmem, 23, rfl⟩
abbrev cc0_scratch18 : Ref sig .tc := ⟨.vmem, 24, rfl⟩
abbrev cc0_scratch19 : Ref sig .tc := ⟨.vmem, 25, rfl⟩
abbrev cc0_scratch20 : Ref sig .tc := ⟨.vmem, 26, rfl⟩
abbrev cc0_scratch21 : Ref sig .tc := ⟨.vmem, 27, rfl⟩
abbrev cc0_scratch22 : Ref sig .tc := ⟨.vmem, 28, rfl⟩
abbrev cc0_scratch23 : Ref sig .tc := ⟨.vmem, 29, rfl⟩
abbrev cc0_stg3_0 : Ref sig .tc := ⟨.smem, 0, rfl⟩
abbrev cc0_stg4_0 : Ref sig .tc := ⟨.smem, 1, rfl⟩
abbrev cc0_stg5_0 : Ref sig .tc := ⟨.smem, 2, rfl⟩
abbrev cc0_scratch24 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c0_i32_3 : BitVec 32 := 0#32
  c0_i32_3
def k0_mult3 : BitVec 32 :=
  let c512_i32 : BitVec 32 := 512#32
  c512_i32
def k0_mult4 : BitVec 32 :=
  let c1024_i32 : BitVec 32 := 1024#32
  c1024_i32
def k0_mult5 : BitVec 32 :=
  let c1536_i32 : BitVec 32 := 1536#32
  c1536_i32
def k0_mult6 : BitVec 32 :=
  let c512_i32_13 : BitVec 32 := 512#32
  c512_i32_13
def k0_mult7 : BitVec 32 :=
  let c1024_i32_17 : BitVec 32 := 1024#32
  c1024_i32_17
def k0_mult8 : BitVec 32 :=
  let c1536_i32_21 : BitVec 32 := 1536#32
  c1536_i32_21
def k0_mult9 : BitVec 32 :=
  let c2048_i32 : BitVec 32 := 2048#32
  c2048_i32
def k0_mult10 : BitVec 32 :=
  let c2560_i32 : BitVec 32 := 2560#32
  c2560_i32
def k0_mult11 : BitVec 32 :=
  let c3072_i32 : BitVec 32 := 3072#32
  c3072_i32
def k0_mult12 : BitVec 32 :=
  let c3584_i32 : BitVec 32 := 3584#32
  c3584_i32
def k0_mult13 : BitVec 32 :=
  let c4096_i32 : BitVec 32 := 4096#32
  c4096_i32
def k0_mult14 : BitVec 32 :=
  let c4608_i32 : BitVec 32 := 4608#32
  c4608_i32
def k0_mult15 : BitVec 32 :=
  let c5120_i32 : BitVec 32 := 5120#32
  c5120_i32
def k0_mult16 : BitVec 32 :=
  let c5632_i32 : BitVec 32 := 5632#32
  c5632_i32
def k0_mult17 : BitVec 32 :=
  let c6144_i32 : BitVec 32 := 6144#32
  c6144_i32
def k0_mult18 : BitVec 32 :=
  let c6656_i32 : BitVec 32 := 6656#32
  c6656_i32
def k0_mult19 : BitVec 32 :=
  let c7168_i32 : BitVec 32 := 7168#32
  c7168_i32
def k0_mult20 : BitVec 32 :=
  let c7680_i32 : BitVec 32 := 7680#32
  c7680_i32
@[reducible] def k0_t1_loop : Scf.Loop 32 :=
  let c0_i32_59 : BitVec 32 := 0#32
  let c16_i32 : BitVec 32 := 16#32
  let v127 : BitVec 32 := Scalar.addi c0_i32_59 c16_i32
  let c1_i32_60 : BitVec 32 := 1#32
  ⟨c0_i32_59, v127, c1_i32_60⟩
def k0_off1 (k0_t1 : Fin k0_t1_loop.trips) : Fin 1 → Nat :=
  let c0_i32_59 : BitVec 32 := 0#32
  let c1_i32_60 : BitVec 32 := 1#32
  let arg38 : BitVec 32 := Scf.iv c0_i32_59 c1_i32_60 k0_t1
  let v499 : Index := Scalar.indexCast arg38
  ![v499.toNat]
def k0_mult21 : BitVec 32 :=
  let c0_i32_74 : BitVec 32 := 0#32
  c0_i32_74
def k0_mult22 : BitVec 32 :=
  let c512_i32_78 : BitVec 32 := 512#32
  c512_i32_78
def k0_mult23 : BitVec 32 :=
  let c1024_i32_82 : BitVec 32 := 1024#32
  c1024_i32_82
def k0_mult24 : BitVec 32 :=
  let c1536_i32_86 : BitVec 32 := 1536#32
  c1536_i32_86
def k0_mult25 : BitVec 32 :=
  let c0_i32_90 : BitVec 32 := 0#32
  c0_i32_90
@[reducible] def k0_t2_loop : Scf.Loop 32 :=
  let c0_i32_94 : BitVec 32 := 0#32
  let c4_i32_95 : BitVec 32 := 4#32
  let v171 : BitVec 32 := Scalar.addi c0_i32_94 c4_i32_95
  let c1_i32_96 : BitVec 32 := 1#32
  ⟨c0_i32_94, v171, c1_i32_96⟩
def k0_mult26 (k0_t2 : Fin k0_t2_loop.trips) : BitVec 32 :=
  let c0_i32_248 : BitVec 32 := 0#32
  let c0_i32_94 : BitVec 32 := 0#32
  let c1_i32_96 : BitVec 32 := 1#32
  let arg38 : BitVec 32 := Scf.iv c0_i32_94 c1_i32_96 k0_t2
  let c128_i32_247 : BitVec 32 := 128#32
  let v499 : BitVec 32 := Scalar.muli arg38 c128_i32_247
  let v500 : BitVec 32 := Scalar.addi c0_i32_248 v499
  v500
def k0_off2 (k0_t2 : Fin k0_t2_loop.trips) : Fin 2 → Nat :=
  let c0_249 : Index := 0#32
  let c0_i32_248 : BitVec 32 := 0#32
  let c0_i32_94 : BitVec 32 := 0#32
  let c1_i32_96 : BitVec 32 := 1#32
  let arg38 : BitVec 32 := Scf.iv c0_i32_94 c1_i32_96 k0_t2
  let c128_i32_247 : BitVec 32 := 128#32
  let v499 : BitVec 32 := Scalar.muli arg38 c128_i32_247
  let v500 : BitVec 32 := Scalar.addi c0_i32_248 v499
  let v501 : BitVec 32 := v500
  let v502 : Index := Scalar.indexCast v501
  ![0, v502.toNat]
def k0_mult27 (k0_t2 : Fin k0_t2_loop.trips) : BitVec 32 :=
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  v507
def k0_off3 (k0_t2 : Fin k0_t2_loop.trips) : Fin 3 → Nat :=
  let c0_252 : Index := 0#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v510 : Index := Scalar.indexCast v508
  let c0_253 : Index := 0#32
  ![0, v510.toNat, 0]
def k0_off4 (k0_t2 : Fin k0_t2_loop.trips) : Fin 3 → Nat :=
  let c1_254 : Index := 1#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v515 : Index := Scalar.indexCast v508
  let c0_255 : Index := 0#32
  ![1, v515.toNat, 0]
def k0_off5 (k0_t2 : Fin k0_t2_loop.trips) : Fin 3 → Nat :=
  let c2_256 : Index := 2#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v520 : Index := Scalar.indexCast v508
  let c0_257 : Index := 0#32
  ![2, v520.toNat, 0]
def k0_off6 (k0_t2 : Fin k0_t2_loop.trips) : Fin 3 → Nat :=
  let c3_258 : Index := 3#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v525 : Index := Scalar.indexCast v508
  let c0_259 : Index := 0#32
  ![3, v525.toNat, 0]
def k0_off7 (k0_t2 : Fin k0_t2_loop.trips) : Fin 3 → Nat :=
  let c4_260 : Index := 4#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v530 : Index := Scalar.indexCast v508
  let c0_261 : Index := 0#32
  ![4, v530.toNat, 0]
def k0_off8 (k0_t2 : Fin k0_t2_loop.trips) : Fin 3 → Nat :=
  let c5 : Index := 5#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v535 : Index := Scalar.indexCast v508
  let c0_262 : Index := 0#32
  ![5, v535.toNat, 0]
def k0_off9 (k0_t2 : Fin k0_t2_loop.trips) : Fin 3 → Nat :=
  let c6 : Index := 6#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v540 : Index := Scalar.indexCast v508
  let c0_263 : Index := 0#32
  ![6, v540.toNat, 0]
def k0_off10 (k0_t2 : Fin k0_t2_loop.trips) : Fin 3 → Nat :=
  let c7_264 : Index := 7#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v545 : Index := Scalar.indexCast v508
  let c0_265 : Index := 0#32
  ![7, v545.toNat, 0]
def k0_off11 (k0_t2 : Fin k0_t2_loop.trips) : Fin 3 → Nat :=
  let c8 : Index := 8#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v550 : Index := Scalar.indexCast v508
  let c0_266 : Index := 0#32
  ![8, v550.toNat, 0]
def k0_off12 (k0_t2 : Fin k0_t2_loop.trips) : Fin 3 → Nat :=
  let c9 : Index := 9#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v555 : Index := Scalar.indexCast v508
  let c0_267 : Index := 0#32
  ![9, v555.toNat, 0]
def k0_off13 (k0_t2 : Fin k0_t2_loop.trips) : Fin 3 → Nat :=
  let c10 : Index := 10#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v560 : Index := Scalar.indexCast v508
  let c0_268 : Index := 0#32
  ![10, v560.toNat, 0]
def k0_off14 (k0_t2 : Fin k0_t2_loop.trips) : Fin 3 → Nat :=
  let c11 : Index := 11#32
  let c0_i32_251 : BitVec 32 := 0#32
  let c0_i32_94 : BitVec 32 := 0#32
  let c1_i32_96 : BitVec 32 := 1#32
  let arg38 : BitVec 32 := Scf.iv c0_i32_94 c1_i32_96 k0_t2
  let c32_i32_250 : BitVec 32 := 32#32
  let v506 : BitVec 32 := Scalar.muli arg38 c32_i32_250
  let v507 : BitVec 32 := Scalar.addi c0_i32_251 v506
  let v508 : BitVec 32 := v507
  let v565 : Index := Scalar.indexCast v508
  let c0_269 : Index := 0#32
  ![11, v565.toNat, 0]
def k0_off15 (k0_t2 : Fin k0_t2_loop.trips) : Fin 2 → Nat :=
  let c0_i32_270 : BitVec 32 := 0#32
  let c0_i32_94 : BitVec 32 := 0#32
  let c1_i32_96 : BitVec 32 := 1#32
  let arg38 : BitVec 32 := Scf.iv c0_i32_94 c1_i32_96 k0_t2
  let v569 : BitVec 32 := Scalar.addi c0_i32_270 arg38
  let v570 : Index := Scalar.indexCast v569
  let c0_271 : Index := 0#32
  ![v570.toNat, 0]
def k0_off16 (k0_t2 : Fin k0_t2_loop.trips) : Fin 2 → Nat :=
  let c0_i32_248 : BitVec 32 := 0#32
  let c0_i32_94 : BitVec 32 := 0#32
  let c1_i32_96 : BitVec 32 := 1#32
  let arg38 : BitVec 32 := Scf.iv c0_i32_94 c1_i32_96 k0_t2
  let c128_i32_247 : BitVec 32 := 128#32
  let v499 : BitVec 32 := Scalar.muli arg38 c128_i32_247
  let v500 : BitVec 32 := Scalar.addi c0_i32_248 v499
  let v501 : BitVec 32 := v500
  let v576 : Index := Scalar.indexCast v501
  let c0_272 : Index := 0#32
  ![v576.toNat, 0]
@[reducible] def k0_t3_loop : Scf.Loop 32 :=
  let c0_i32_98 : BitVec 32 := 0#32
  let c16_i32_99 : BitVec 32 := 16#32
  let v172 : BitVec 32 := Scalar.addi c0_i32_98 c16_i32_99
  let c1_i32_100 : BitVec 32 := 1#32
  ⟨c0_i32_98, v172, c1_i32_100⟩
def k0_cond1 (k0_t3 : Fin k0_t3_loop.trips) : BitVec 1 :=
  let c0_i32_98 : BitVec 32 := 0#32
  let c1_i32_100 : BitVec 32 := 1#32
  let arg38 : BitVec 32 := Scf.iv c0_i32_98 c1_i32_100 k0_t3
  let c1_i32_247 : BitVec 32 := 1#32
  let v499 : BitVec 32 := Scalar.addi arg38 c1_i32_247
  let c16_i32_248 : BitVec 32 := 16#32
  let v500 : BitVec 1 := Scalar.cmpi .slt v499 c16_i32_248
  let v501 : BitVec 32 := Scalar.extui v500
  let c0_i32_249 : BitVec 32 := 0#32
  let v502 : BitVec 1 := Scalar.cmpi .ne v501 c0_i32_249
  v502

def k0_mult28 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c512_i32_255 : BitVec 32 := 512#32
  let v505 : BitVec 32 := Scalar.muli v504 c512_i32_255
  v505
def k0_off17 (k0_t3 : Fin k0_t3_loop.trips) : Fin 1 → Nat :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  ![v504.toNat]
def k0_off18 (k0_t3 : Fin k0_t3_loop.trips) : Fin 2 → Nat :=
  let c0_i32_256 : BitVec 32 := 0#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c512_i32_255 : BitVec 32 := 512#32
  let v505 : BitVec 32 := Scalar.muli v504 c512_i32_255
  let v506 : BitVec 32 := v505
  ![0, v506.toNat]
@[reducible] def k0_t4_loop : Scf.Loop 32 :=
  let c0_i32_258 : BitVec 32 := 0#32
  let c4_i32_259 : BitVec 32 := 4#32
  let v511 : BitVec 32 := Scalar.addi c0_i32_258 c4_i32_259
  let c1_i32_260 : BitVec 32 := 1#32
  ⟨c0_i32_258, v511, c1_i32_260⟩
def k0_mult29 (k0_t3 : Fin k0_t3_loop.trips) (k0_t4 : Fin k0_t4_loop.trips) : BitVec 32 :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c512_i32_262 : BitVec 32 := 512#32
  let v512 : BitVec 32 := Scalar.muli v504 c512_i32_262
  let c0_i32_258 : BitVec 32 := 0#32
  let c1_i32_260 : BitVec 32 := 1#32
  let arg39 : BitVec 32 := Scf.iv c0_i32_258 c1_i32_260 k0_t4
  let c128_i32_263 : BitVec 32 := 128#32
  let v513 : BitVec 32 := Scalar.muli arg39 c128_i32_263
  let v514 : BitVec 32 := Scalar.addi v512 v513
  v514
def k0_off19 (k0_t3 : Fin k0_t3_loop.trips) (k0_t4 : Fin k0_t4_loop.trips) : Fin 2 → Nat :=
  let c0_264 : Index := 0#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c512_i32_262 : BitVec 32 := 512#32
  let v512 : BitVec 32 := Scalar.muli v504 c512_i32_262
  let c0_i32_258 : BitVec 32 := 0#32
  let c1_i32_260 : BitVec 32 := 1#32
  let arg39 : BitVec 32 := Scf.iv c0_i32_258 c1_i32_260 k0_t4
  let c128_i32_263 : BitVec 32 := 128#32
  let v513 : BitVec 32 := Scalar.muli arg39 c128_i32_263
  let v514 : BitVec 32 := Scalar.addi v512 v513
  let v515 : BitVec 32 := v514
  let v516 : Index := Scalar.indexCast v515
  ![0, v516.toNat]
def k0_mult30 (k0_t3 : Fin k0_t3_loop.trips) (k0_t4 : Fin k0_t4_loop.trips) : BitVec 32 :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  v522
def k0_off20 (k0_t3 : Fin k0_t3_loop.trips) (k0_t4 : Fin k0_t4_loop.trips) : Fin 3 → Nat :=
  let c0_267 : Index := 0#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v525 : Index := Scalar.indexCast v523
  let c0_268 : Index := 0#32
  ![0, v525.toNat, 0]
def k0_off21 (k0_t3 : Fin k0_t3_loop.trips) (k0_t4 : Fin k0_t4_loop.trips) : Fin 3 → Nat :=
  let c1_269 : Index := 1#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v530 : Index := Scalar.indexCast v523
  let c0_270 : Index := 0#32
  ![1, v530.toNat, 0]
def k0_off22 (k0_t3 : Fin k0_t3_loop.trips) (k0_t4 : Fin k0_t4_loop.trips) : Fin 3 → Nat :=
  let c2_271 : Index := 2#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v535 : Index := Scalar.indexCast v523
  let c0_272 : Index := 0#32
  ![2, v535.toNat, 0]
def k0_off23 (k0_t3 : Fin k0_t3_loop.trips) (k0_t4 : Fin k0_t4_loop.trips) : Fin 3 → Nat :=
  let c3_273 : Index := 3#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v540 : Index := Scalar.indexCast v523
  let c0_274 : Index := 0#32
  ![3, v540.toNat, 0]
def k0_off24 (k0_t3 : Fin k0_t3_loop.trips) (k0_t4 : Fin k0_t4_loop.trips) : Fin 3 → Nat :=
  let c4_275 : Index := 4#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v545 : Index := Scalar.indexCast v523
  let c0_276 : Index := 0#32
  ![4, v545.toNat, 0]
def k0_off25 (k0_t3 : Fin k0_t3_loop.trips) (k0_t4 : Fin k0_t4_loop.trips) : Fin 3 → Nat :=
  let c5 : Index := 5#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v550 : Index := Scalar.indexCast v523
  let c0_277 : Index := 0#32
  ![5, v550.toNat, 0]
def k0_off26 (k0_t3 : Fin k0_t3_loop.trips) (k0_t4 : Fin k0_t4_loop.trips) : Fin 3 → Nat :=
  let c6 : Index := 6#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v555 : Index := Scalar.indexCast v523
  let c0_278 : Index := 0#32
  ![6, v555.toNat, 0]
def k0_off27 (k0_t3 : Fin k0_t3_loop.trips) (k0_t4 : Fin k0_t4_loop.trips) : Fin 3 → Nat :=
  let c7_279 : Index := 7#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v560 : Index := Scalar.indexCast v523
  let c0_280 : Index := 0#32
  ![7, v560.toNat, 0]
def k0_off28 (k0_t3 : Fin k0_t3_loop.trips) (k0_t4 : Fin k0_t4_loop.trips) : Fin 3 → Nat :=
  let c8 : Index := 8#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v565 : Index := Scalar.indexCast v523
  let c0_281 : Index := 0#32
  ![8, v565.toNat, 0]
def k0_off29 (k0_t3 : Fin k0_t3_loop.trips) (k0_t4 : Fin k0_t4_loop.trips) : Fin 3 → Nat :=
  let c9 : Index := 9#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v570 : Index := Scalar.indexCast v523
  let c0_282 : Index := 0#32
  ![9, v570.toNat, 0]
def k0_off30 (k0_t3 : Fin k0_t3_loop.trips) (k0_t4 : Fin k0_t4_loop.trips) : Fin 3 → Nat :=
  let c10 : Index := 10#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v575 : Index := Scalar.indexCast v523
  let c0_283 : Index := 0#32
  ![10, v575.toNat, 0]
def k0_off31 (k0_t3 : Fin k0_t3_loop.trips) (k0_t4 : Fin k0_t4_loop.trips) : Fin 3 → Nat :=
  let c11 : Index := 11#32
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c128_i32_265 : BitVec 32 := 128#32
  let v520 : BitVec 32 := Scalar.muli v504 c128_i32_265
  let c0_i32_258 : BitVec 32 := 0#32
  let c1_i32_260 : BitVec 32 := 1#32
  let arg39 : BitVec 32 := Scf.iv c0_i32_258 c1_i32_260 k0_t4
  let c32_i32_266 : BitVec 32 := 32#32
  let v521 : BitVec 32 := Scalar.muli arg39 c32_i32_266
  let v522 : BitVec 32 := Scalar.addi v520 v521
  let v523 : BitVec 32 := v522
  let v580 : Index := Scalar.indexCast v523
  let c0_284 : Index := 0#32
  ![11, v580.toNat, 0]
def k0_off32 (k0_t3 : Fin k0_t3_loop.trips) (k0_t4 : Fin k0_t4_loop.trips) : Fin 2 → Nat :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c4_i32_285 : BitVec 32 := 4#32
  let v584 : BitVec 32 := Scalar.muli v504 c4_i32_285
  let c0_i32_258 : BitVec 32 := 0#32
  let c1_i32_260 : BitVec 32 := 1#32
  let arg39 : BitVec 32 := Scf.iv c0_i32_258 c1_i32_260 k0_t4
  let v585 : BitVec 32 := Scalar.addi v584 arg39
  let v586 : Index := Scalar.indexCast v585
  let c0_286 : Index := 0#32
  ![v586.toNat, 0]
def k0_off33 (k0_t3 : Fin k0_t3_loop.trips) (k0_t4 : Fin k0_t4_loop.trips) : Fin 2 → Nat :=
  let c0_i32_98 : BitVec 32 := 0#32
  let c1_i32_100 : BitVec 32 := 1#32
  let arg38 : BitVec 32 := Scf.iv c0_i32_98 c1_i32_100 k0_t3
  let c1_i32_254 : BitVec 32 := 1#32
  let v504 : BitVec 32 := Scalar.addi arg38 c1_i32_254
  let c512_i32_262 : BitVec 32 := 512#32
  let v512 : BitVec 32 := Scalar.muli v504 c512_i32_262
  let c0_i32_258 : BitVec 32 := 0#32
  let c1_i32_260 : BitVec 32 := 1#32
  let arg39 : BitVec 32 := Scf.iv c0_i32_258 c1_i32_260 k0_t4
  let c128_i32_263 : BitVec 32 := 128#32
  let v513 : BitVec 32 := Scalar.muli arg39 c128_i32_263
  let v514 : BitVec 32 := Scalar.addi v512 v513
  let v515 : BitVec 32 := v514
  let v592 : Index := Scalar.indexCast v515
  let c0_287 : Index := 0#32
  ![v592.toNat, 0]
@[reducible] def k0_t5_loop : Scf.Loop 32 :=
  let c0_i32_250 : BitVec 32 := 0#32
  let c4_i32_251 : BitVec 32 := 4#32
  let v503 : BitVec 32 := Scalar.addi c0_i32_250 c4_i32_251
  let c1_i32_252 : BitVec 32 := 1#32
  ⟨c0_i32_250, v503, c1_i32_252⟩
def k0_mult31 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  v504
def k0_mult32 (k0_t5 : Fin k0_t5_loop.trips) : BitVec 32 :=
  let c0_i32_250 : BitVec 32 := 0#32
  let c1_i32_252 : BitVec 32 := 1#32
  let arg39 : BitVec 32 := Scf.iv c0_i32_250 c1_i32_252 k0_t5
  let c512_i32_255 : BitVec 32 := 512#32
  let v506 : BitVec 32 := Scalar.muli arg39 c512_i32_255
  v506
def k0_mult33 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  v508
def k0_off34 (k0_t3 : Fin k0_t3_loop.trips) : Fin 3 → Nat :=
  let c0_257 : Index := 0#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v510 : Index := Scalar.indexCast v509
  let c0_258 : Index := 0#32
  ![0, v510.toNat, 0]
def k0_off35 (k0_t3 : Fin k0_t3_loop.trips) : Fin 3 → Nat :=
  let c1_259 : Index := 1#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v514 : Index := Scalar.indexCast v509
  let c0_260 : Index := 0#32
  ![1, v514.toNat, 0]
def k0_off36 (k0_t3 : Fin k0_t3_loop.trips) : Fin 3 → Nat :=
  let c2_261 : Index := 2#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v518 : Index := Scalar.indexCast v509
  let c0_262 : Index := 0#32
  ![2, v518.toNat, 0]
def k0_off37 (k0_t3 : Fin k0_t3_loop.trips) : Fin 3 → Nat :=
  let c3_263 : Index := 3#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v522 : Index := Scalar.indexCast v509
  let c0_264 : Index := 0#32
  ![3, v522.toNat, 0]
def k0_off38 (k0_t3 : Fin k0_t3_loop.trips) : Fin 3 → Nat :=
  let c4_265 : Index := 4#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v526 : Index := Scalar.indexCast v509
  let c0_266 : Index := 0#32
  ![4, v526.toNat, 0]
def k0_off39 (k0_t3 : Fin k0_t3_loop.trips) : Fin 3 → Nat :=
  let c5 : Index := 5#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v530 : Index := Scalar.indexCast v509
  let c0_267 : Index := 0#32
  ![5, v530.toNat, 0]
def k0_off40 (k0_t3 : Fin k0_t3_loop.trips) : Fin 3 → Nat :=
  let c6 : Index := 6#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v534 : Index := Scalar.indexCast v509
  let c0_268 : Index := 0#32
  ![6, v534.toNat, 0]
def k0_off41 (k0_t3 : Fin k0_t3_loop.trips) : Fin 3 → Nat :=
  let c7_269 : Index := 7#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v538 : Index := Scalar.indexCast v509
  let c0_270 : Index := 0#32
  ![7, v538.toNat, 0]
def k0_off42 (k0_t3 : Fin k0_t3_loop.trips) : Fin 3 → Nat :=
  let c8 : Index := 8#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v542 : Index := Scalar.indexCast v509
  let c0_271 : Index := 0#32
  ![8, v542.toNat, 0]
def k0_off43 (k0_t3 : Fin k0_t3_loop.trips) : Fin 3 → Nat :=
  let c9 : Index := 9#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v546 : Index := Scalar.indexCast v509
  let c0_272 : Index := 0#32
  ![9, v546.toNat, 0]
def k0_off44 (k0_t3 : Fin k0_t3_loop.trips) : Fin 3 → Nat :=
  let c10 : Index := 10#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v550 : Index := Scalar.indexCast v509
  let c0_273 : Index := 0#32
  ![10, v550.toNat, 0]
def k0_off45 (k0_t3 : Fin k0_t3_loop.trips) : Fin 3 → Nat :=
  let c11 : Index := 11#32
  let c0_i32_98 : BitVec 32 := 0#32
  let c1_i32_100 : BitVec 32 := 1#32
  let arg38 : BitVec 32 := Scf.iv c0_i32_98 c1_i32_100 k0_t3
  let c128_i32_256 : BitVec 32 := 128#32
  let v508 : BitVec 32 := Scalar.muli arg38 c128_i32_256
  let v509 : BitVec 32 := v508
  let v554 : Index := Scalar.indexCast v509
  let c0_274 : Index := 0#32
  ![11, v554.toNat, 0]
def k0_off46 (k0_t5 : Fin k0_t5_loop.trips) : Fin 2 → Nat :=
  let c0_i32_250 : BitVec 32 := 0#32
  let c1_i32_252 : BitVec 32 := 1#32
  let arg39 : BitVec 32 := Scf.iv c0_i32_250 c1_i32_252 k0_t5
  let c512_i32_255 : BitVec 32 := 512#32
  let v506 : BitVec 32 := Scalar.muli arg39 c512_i32_255
  let v507 : BitVec 32 := v506
  let v559 : Index := Scalar.indexCast v507
  let c0_275 : Index := 0#32
  ![v559.toNat, 0]
def k0_mult34 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c0_i32_279 : BitVec 32 := 0#32
  let v564 : BitVec 32 := Scalar.addi v505 c0_i32_279
  v564
def k0_off47 (k0_t3 : Fin k0_t3_loop.trips) (c0_i32_279 : BitVec 32) : Fin 2 → Nat :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let v564 : BitVec 32 := Scalar.addi v505 c0_i32_279
  let v565 : BitVec 32 := v564
  let v567 : Index := Scalar.indexCast v565
  let c0_280 : Index := 0#32
  ![v567.toNat, 0]
def k0_off48 (k0_t5 : Fin k0_t5_loop.trips) (c0_i32_278 : BitVec 32) : Fin 2 → Nat :=
  let c0_i32_250 : BitVec 32 := 0#32
  let c1_i32_252 : BitVec 32 := 1#32
  let arg39 : BitVec 32 := Scf.iv c0_i32_250 c1_i32_252 k0_t5
  let c4_i32_277 : BitVec 32 := 4#32
  let v562 : BitVec 32 := Scalar.muli arg39 c4_i32_277
  let v563 : BitVec 32 := Scalar.addi v562 c0_i32_278
  let v570 : Index := Scalar.indexCast v563
  let c0_281 : Index := 0#32
  ![v570.toNat, 0]
def k0_mult35 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c64_i32 : BitVec 32 := 64#32
  let v582 : BitVec 32 := Scalar.addi v505 c64_i32
  v582
def k0_mult36 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c128_i32_294 : BitVec 32 := 128#32
  let v601 : BitVec 32 := Scalar.addi v505 c128_i32_294
  v601
def k0_mult37 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c192_i32 : BitVec 32 := 192#32
  let v620 : BitVec 32 := Scalar.addi v505 c192_i32
  v620
def k0_mult38 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c256_i32 : BitVec 32 := 256#32
  let v639 : BitVec 32 := Scalar.addi v505 c256_i32
  v639
def k0_mult39 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c320_i32 : BitVec 32 := 320#32
  let v658 : BitVec 32 := Scalar.addi v505 c320_i32
  v658
def k0_mult40 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c384_i32 : BitVec 32 := 384#32
  let v677 : BitVec 32 := Scalar.addi v505 c384_i32
  v677
def k0_mult41 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c448_i32 : BitVec 32 := 448#32
  let v696 : BitVec 32 := Scalar.addi v505 c448_i32
  v696
def k0_off49 (k0_t5 : Fin k0_t5_loop.trips) (c0_i32_278 : BitVec 32) : Fin 3 → Nat :=
  let c0_i32_250 : BitVec 32 := 0#32
  let c1_i32_252 : BitVec 32 := 1#32
  let arg39 : BitVec 32 := Scf.iv c0_i32_250 c1_i32_252 k0_t5
  let c4_i32_277 : BitVec 32 := 4#32
  let v562 : BitVec 32 := Scalar.muli arg39 c4_i32_277
  let v563 : BitVec 32 := Scalar.addi v562 c0_i32_278
  let v715 : Index := Scalar.indexCast v563
  let c0_331 : Index := 0#32
  let c0_332 : Index := 0#32
  ![v715.toNat, 0, 0]
def k0_mult42 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c0_i32_373 : BitVec 32 := 0#32
  let v807 : BitVec 32 := Scalar.addi v505 c0_i32_373
  v807
def k0_mult43 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c64_i32_381 : BitVec 32 := 64#32
  let v825 : BitVec 32 := Scalar.addi v505 c64_i32_381
  v825
def k0_mult44 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c128_i32_389 : BitVec 32 := 128#32
  let v844 : BitVec 32 := Scalar.addi v505 c128_i32_389
  v844
def k0_mult45 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c192_i32_397 : BitVec 32 := 192#32
  let v863 : BitVec 32 := Scalar.addi v505 c192_i32_397
  v863
def k0_mult46 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c256_i32_405 : BitVec 32 := 256#32
  let v882 : BitVec 32 := Scalar.addi v505 c256_i32_405
  v882
def k0_mult47 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c320_i32_413 : BitVec 32 := 320#32
  let v901 : BitVec 32 := Scalar.addi v505 c320_i32_413
  v901
def k0_mult48 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c384_i32_421 : BitVec 32 := 384#32
  let v920 : BitVec 32 := Scalar.addi v505 c384_i32_421
  v920
def k0_mult49 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c448_i32_429 : BitVec 32 := 448#32
  let v939 : BitVec 32 := Scalar.addi v505 c448_i32_429
  v939
def k0_mult50 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c0_i32_479 : BitVec 32 := 0#32
  let v1050 : BitVec 32 := Scalar.addi v505 c0_i32_479
  v1050
def k0_mult51 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c64_i32_487 : BitVec 32 := 64#32
  let v1068 : BitVec 32 := Scalar.addi v505 c64_i32_487
  v1068
def k0_mult52 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c128_i32_495 : BitVec 32 := 128#32
  let v1087 : BitVec 32 := Scalar.addi v505 c128_i32_495
  v1087
def k0_mult53 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c192_i32_503 : BitVec 32 := 192#32
  let v1106 : BitVec 32 := Scalar.addi v505 c192_i32_503
  v1106
def k0_mult54 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c256_i32_511 : BitVec 32 := 256#32
  let v1125 : BitVec 32 := Scalar.addi v505 c256_i32_511
  v1125
def k0_mult55 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c320_i32_519 : BitVec 32 := 320#32
  let v1144 : BitVec 32 := Scalar.addi v505 c320_i32_519
  v1144
def k0_mult56 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c384_i32_527 : BitVec 32 := 384#32
  let v1163 : BitVec 32 := Scalar.addi v505 c384_i32_527
  v1163
def k0_mult57 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c448_i32_535 : BitVec 32 := 448#32
  let v1182 : BitVec 32 := Scalar.addi v505 c448_i32_535
  v1182
def k0_mult58 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c0_i32_585 : BitVec 32 := 0#32
  let v1293 : BitVec 32 := Scalar.addi v505 c0_i32_585
  v1293
def k0_mult59 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c64_i32_593 : BitVec 32 := 64#32
  let v1311 : BitVec 32 := Scalar.addi v505 c64_i32_593
  v1311
def k0_mult60 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c128_i32_601 : BitVec 32 := 128#32
  let v1330 : BitVec 32 := Scalar.addi v505 c128_i32_601
  v1330
def k0_mult61 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c192_i32_609 : BitVec 32 := 192#32
  let v1349 : BitVec 32 := Scalar.addi v505 c192_i32_609
  v1349
def k0_mult62 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c256_i32_617 : BitVec 32 := 256#32
  let v1368 : BitVec 32 := Scalar.addi v505 c256_i32_617
  v1368
def k0_mult63 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c320_i32_625 : BitVec 32 := 320#32
  let v1387 : BitVec 32 := Scalar.addi v505 c320_i32_625
  v1387
def k0_mult64 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c384_i32_633 : BitVec 32 := 384#32
  let v1406 : BitVec 32 := Scalar.addi v505 c384_i32_633
  v1406
def k0_mult65 (k0_t3 : Fin k0_t3_loop.trips) : BitVec 32 :=
  let c0_i32_98 : BitVec 32 := 0#32
  let c1_i32_100 : BitVec 32 := 1#32
  let arg38 : BitVec 32 := Scf.iv c0_i32_98 c1_i32_100 k0_t3
  let c512_i32_254 : BitVec 32 := 512#32
  let v504 : BitVec 32 := Scalar.muli arg38 c512_i32_254
  let v505 : BitVec 32 := v504
  let c448_i32_641 : BitVec 32 := 448#32
  let v1425 : BitVec 32 := Scalar.addi v505 c448_i32_641
  v1425
def k0_cond2 (k0_t3 : Fin k0_t3_loop.trips) : BitVec 1 :=
  let c0_i32_98 : BitVec 32 := 0#32
  let c1_i32_100 : BitVec 32 := 1#32
  let arg38 : BitVec 32 := Scf.iv c0_i32_98 c1_i32_100 k0_t3
  let c0_i32_689 : BitVec 32 := 0#32
  let v1534 : BitVec 1 := Scalar.cmpi .eq arg38 c0_i32_689
  let v1535 : BitVec 32 := Scalar.extui v1534
  let c0_i32_690 : BitVec 32 := 0#32
  let v1536 : BitVec 1 := Scalar.cmpi .ne v1535 c0_i32_690
  v1536

def k0_mult66 (k0_t5 : Fin k0_t5_loop.trips) : BitVec 32 :=
  let c0_i32_250 : BitVec 32 := 0#32
  let c1_i32_252 : BitVec 32 := 1#32
  let arg39 : BitVec 32 := Scf.iv c0_i32_250 c1_i32_252 k0_t5
  let c4_i32_691 : BitVec 32 := 4#32
  let v1537 : BitVec 32 := Scalar.muli arg39 c4_i32_691
  let c0_i32_692 : BitVec 32 := 0#32
  let v1538 : BitVec 32 := Scalar.addi v1537 c0_i32_692
  let c8_i32_693 : BitVec 32 := 8#32
  let v1539 : BitVec 32 := Scalar.muli v1538 c8_i32_693
  v1539
def k0_off50 (k0_t5 : Fin k0_t5_loop.trips) (c0_i32_692 : BitVec 32) : Fin 2 → Nat :=
  let c0_i32_250 : BitVec 32 := 0#32
  let c1_i32_252 : BitVec 32 := 1#32
  let arg39 : BitVec 32 := Scf.iv c0_i32_250 c1_i32_252 k0_t5
  let c4_i32_691 : BitVec 32 := 4#32
  let v1537 : BitVec 32 := Scalar.muli arg39 c4_i32_691
  let v1538 : BitVec 32 := Scalar.addi v1537 c0_i32_692
  let c8_i32_693 : BitVec 32 := 8#32
  let v1539 : BitVec 32 := Scalar.muli v1538 c8_i32_693
  let v1540 : BitVec 32 := v1539
  let v1545 : Index := Scalar.indexCast v1540
  let c0_697 : Index := 0#32
  ![v1545.toNat, 0]
def k0_mult67 (k0_t5 : Fin k0_t5_loop.trips) : BitVec 32 :=
  let c0_i32_250 : BitVec 32 := 0#32
  let c1_i32_252 : BitVec 32 := 1#32
  let arg39 : BitVec 32 := Scf.iv c0_i32_250 c1_i32_252 k0_t5
  let c4_i32_698 : BitVec 32 := 4#32
  let v1549 : BitVec 32 := Scalar.muli arg39 c4_i32_698
  let c1_i32_699 : BitVec 32 := 1#32
  let v1550 : BitVec 32 := Scalar.addi v1549 c1_i32_699
  let c8_i32_700 : BitVec 32 := 8#32
  let v1551 : BitVec 32 := Scalar.muli v1550 c8_i32_700
  v1551
def k0_mult68 (k0_t5 : Fin k0_t5_loop.trips) : BitVec 32 :=
  let c0_i32_250 : BitVec 32 := 0#32
  let c1_i32_252 : BitVec 32 := 1#32
  let arg39 : BitVec 32 := Scf.iv c0_i32_250 c1_i32_252 k0_t5
  let c4_i32_705 : BitVec 32 := 4#32
  let v1561 : BitVec 32 := Scalar.muli arg39 c4_i32_705
  let c2_i32_706 : BitVec 32 := 2#32
  let v1562 : BitVec 32 := Scalar.addi v1561 c2_i32_706
  let c8_i32_707 : BitVec 32 := 8#32
  let v1563 : BitVec 32 := Scalar.muli v1562 c8_i32_707
  v1563
def k0_mult69 (k0_t5 : Fin k0_t5_loop.trips) : BitVec 32 :=
  let c0_i32_250 : BitVec 32 := 0#32
  let c1_i32_252 : BitVec 32 := 1#32
  let arg39 : BitVec 32 := Scf.iv c0_i32_250 c1_i32_252 k0_t5
  let c4_i32_712 : BitVec 32 := 4#32
  let v1573 : BitVec 32 := Scalar.muli arg39 c4_i32_712
  let c3_i32_713 : BitVec 32 := 3#32
  let v1574 : BitVec 32 := Scalar.addi v1573 c3_i32_713
  let c8_i32_714 : BitVec 32 := 8#32
  let v1575 : BitVec 32 := Scalar.muli v1574 c8_i32_714
  v1575
@[reducible] def k0_t6_loop : Scf.Loop 32 :=
  let c0_i32_102 : BitVec 32 := 0#32
  let c8_i32_103 : BitVec 32 := 8#32
  let v173 : BitVec 32 := Scalar.addi c0_i32_102 c8_i32_103
  let c1_i32_104 : BitVec 32 := 1#32
  ⟨c0_i32_102, v173, c1_i32_104⟩
@[reducible] def k0_t7_loop : Scf.Loop 32 :=
  let c0_i32_247 : BitVec 32 := 0#32
  let c2_i32_248 : BitVec 32 := 2#32
  let v499 : BitVec 32 := Scalar.addi c0_i32_247 c2_i32_248
  let c1_i32_249 : BitVec 32 := 1#32
  ⟨c0_i32_247, v499, c1_i32_249⟩
def k0_off51 (k0_t6 : Fin k0_t6_loop.trips) (k0_t7 : Fin k0_t7_loop.trips) : Fin 1 → Nat :=
  let c2_i32_380 : BitVec 32 := 2#32
  let c0_i32_102 : BitVec 32 := 0#32
  let c1_i32_104 : BitVec 32 := 1#32
  let arg38 : BitVec 32 := Scf.iv c0_i32_102 c1_i32_104 k0_t6
  let v749 : BitVec 32 := Scalar.muli c2_i32_380 arg38
  let c0_i32_247 : BitVec 32 := 0#32
  let c1_i32_249 : BitVec 32 := 1#32
  let arg39 : BitVec 32 := Scf.iv c0_i32_247 c1_i32_249 k0_t7
  let v750 : BitVec 32 := Scalar.addi v749 arg39
  let v751 : Index := Scalar.indexCast v750
  ![v751.toNat]
@[reducible] def k0_t8_loop : Scf.Loop 32 :=
  let c0_i32_382 : BitVec 32 := 0#32
  let c32_i32_383 : BitVec 32 := 32#32
  let v753 : BitVec 32 := Scalar.addi c0_i32_382 c32_i32_383
  let c1_i32_384 : BitVec 32 := 1#32
  ⟨c0_i32_382, v753, c1_i32_384⟩
def k0_off52 (v752 : BitVec 32) (k0_t8 : Fin k0_t8_loop.trips) : Fin 1 → Nat :=
  let c0_i32_382 : BitVec 32 := 0#32
  let c1_i32_384 : BitVec 32 := 1#32
  let arg40 : BitVec 32 := Scf.iv c0_i32_382 c1_i32_384 k0_t8
  let v755 : BitVec 32 := Scalar.addi v752 arg40
  let c511_i32 : BitVec 32 := 511#32
  let v756 : BitVec 32 := Scalar.minsi v755 c511_i32
  let v757 : Index := Scalar.indexCast v756
  ![v757.toNat]

def k0_chk1 (v752 : BitVec 32) : Prop :=
  (∀ k0_t8 : Fin k0_t8_loop.trips, ∀ a, (k0_off52 v752 k0_t8) a + S1.size a ≤ S512.size a)
theorem k0_off52_inb : ∀ (v752 : BitVec 32) (k0_hw1 : k0_chk1 v752) (k0_t8 : Fin k0_t8_loop.trips), ∀ a, (k0_off52 v752 k0_t8) a + S1.size a ≤ S512.size a := fun v752 k0_hw1 k0_t8 => k0_hw1 k0_t8

def k0_off53 (v758 : BitVec 32) : Fin 3 → Nat :=
  let c0_418 : Index := 0#32
  let c2_i32_386 : BitVec 32 := 2#32
  let v759 : BitVec 32 := Scalar.shrui v758 c2_i32_386
  let v822 : Index := Scalar.indexCast v759
  let c0_419 : Index := 0#32
  ![0, v822.toNat, 0]

def k0_off54 (k0_t7 : Fin k0_t7_loop.trips) (k0_t8 : Fin k0_t8_loop.trips) : Fin 3 → Nat :=
  let c0_420 : Index := 0#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v825 : Index := Scalar.indexCast v821
  let c0_421 : Index := 0#32
  ![0, v825.toNat, 0]
def k0_off55 (v758 : BitVec 32) : Fin 3 → Nat :=
  let c1_422 : Index := 1#32
  let c2_i32_386 : BitVec 32 := 2#32
  let v759 : BitVec 32 := Scalar.shrui v758 c2_i32_386
  let v829 : Index := Scalar.indexCast v759
  let c0_423 : Index := 0#32
  ![1, v829.toNat, 0]
def k0_off56 (k0_t7 : Fin k0_t7_loop.trips) (k0_t8 : Fin k0_t8_loop.trips) : Fin 3 → Nat :=
  let c1_424 : Index := 1#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v832 : Index := Scalar.indexCast v821
  let c0_425 : Index := 0#32
  ![1, v832.toNat, 0]
def k0_off57 (v758 : BitVec 32) : Fin 3 → Nat :=
  let c2_426 : Index := 2#32
  let c2_i32_386 : BitVec 32 := 2#32
  let v759 : BitVec 32 := Scalar.shrui v758 c2_i32_386
  let v836 : Index := Scalar.indexCast v759
  let c0_427 : Index := 0#32
  ![2, v836.toNat, 0]
def k0_off58 (k0_t7 : Fin k0_t7_loop.trips) (k0_t8 : Fin k0_t8_loop.trips) : Fin 3 → Nat :=
  let c2_428 : Index := 2#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v839 : Index := Scalar.indexCast v821
  let c0_429 : Index := 0#32
  ![2, v839.toNat, 0]
def k0_off59 (v758 : BitVec 32) : Fin 3 → Nat :=
  let c3_430 : Index := 3#32
  let c2_i32_386 : BitVec 32 := 2#32
  let v759 : BitVec 32 := Scalar.shrui v758 c2_i32_386
  let v843 : Index := Scalar.indexCast v759
  let c0_431 : Index := 0#32
  ![3, v843.toNat, 0]
def k0_off60 (k0_t7 : Fin k0_t7_loop.trips) (k0_t8 : Fin k0_t8_loop.trips) : Fin 3 → Nat :=
  let c3_432 : Index := 3#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v846 : Index := Scalar.indexCast v821
  let c0_433 : Index := 0#32
  ![3, v846.toNat, 0]
def k0_off61 (v758 : BitVec 32) : Fin 3 → Nat :=
  let c4_434 : Index := 4#32
  let c2_i32_386 : BitVec 32 := 2#32
  let v759 : BitVec 32 := Scalar.shrui v758 c2_i32_386
  let v850 : Index := Scalar.indexCast v759
  let c0_435 : Index := 0#32
  ![4, v850.toNat, 0]
def k0_off62 (k0_t7 : Fin k0_t7_loop.trips) (k0_t8 : Fin k0_t8_loop.trips) : Fin 3 → Nat :=
  let c4_436 : Index := 4#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v853 : Index := Scalar.indexCast v821
  let c0_437 : Index := 0#32
  ![4, v853.toNat, 0]
def k0_off63 (v758 : BitVec 32) : Fin 3 → Nat :=
  let c5_438 : Index := 5#32
  let c2_i32_386 : BitVec 32 := 2#32
  let v759 : BitVec 32 := Scalar.shrui v758 c2_i32_386
  let v857 : Index := Scalar.indexCast v759
  let c0_439 : Index := 0#32
  ![5, v857.toNat, 0]
def k0_off64 (k0_t7 : Fin k0_t7_loop.trips) (k0_t8 : Fin k0_t8_loop.trips) : Fin 3 → Nat :=
  let c5_440 : Index := 5#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v860 : Index := Scalar.indexCast v821
  let c0_441 : Index := 0#32
  ![5, v860.toNat, 0]
def k0_off65 (v758 : BitVec 32) : Fin 3 → Nat :=
  let c6_442 : Index := 6#32
  let c2_i32_386 : BitVec 32 := 2#32
  let v759 : BitVec 32 := Scalar.shrui v758 c2_i32_386
  let v864 : Index := Scalar.indexCast v759
  let c0_443 : Index := 0#32
  ![6, v864.toNat, 0]
def k0_off66 (k0_t7 : Fin k0_t7_loop.trips) (k0_t8 : Fin k0_t8_loop.trips) : Fin 3 → Nat :=
  let c6_444 : Index := 6#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v867 : Index := Scalar.indexCast v821
  let c0_445 : Index := 0#32
  ![6, v867.toNat, 0]
def k0_off67 (v758 : BitVec 32) : Fin 3 → Nat :=
  let c7_446 : Index := 7#32
  let c2_i32_386 : BitVec 32 := 2#32
  let v759 : BitVec 32 := Scalar.shrui v758 c2_i32_386
  let v871 : Index := Scalar.indexCast v759
  let c0_447 : Index := 0#32
  ![7, v871.toNat, 0]
def k0_off68 (k0_t7 : Fin k0_t7_loop.trips) (k0_t8 : Fin k0_t8_loop.trips) : Fin 3 → Nat :=
  let c7_448 : Index := 7#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v874 : Index := Scalar.indexCast v821
  let c0_449 : Index := 0#32
  ![7, v874.toNat, 0]
def k0_off69 (v758 : BitVec 32) : Fin 3 → Nat :=
  let c8_450 : Index := 8#32
  let c2_i32_386 : BitVec 32 := 2#32
  let v759 : BitVec 32 := Scalar.shrui v758 c2_i32_386
  let v878 : Index := Scalar.indexCast v759
  let c0_451 : Index := 0#32
  ![8, v878.toNat, 0]
def k0_off70 (k0_t7 : Fin k0_t7_loop.trips) (k0_t8 : Fin k0_t8_loop.trips) : Fin 3 → Nat :=
  let c8_452 : Index := 8#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v881 : Index := Scalar.indexCast v821
  let c0_453 : Index := 0#32
  ![8, v881.toNat, 0]
def k0_off71 (v758 : BitVec 32) : Fin 3 → Nat :=
  let c9_454 : Index := 9#32
  let c2_i32_386 : BitVec 32 := 2#32
  let v759 : BitVec 32 := Scalar.shrui v758 c2_i32_386
  let v885 : Index := Scalar.indexCast v759
  let c0_455 : Index := 0#32
  ![9, v885.toNat, 0]
def k0_off72 (k0_t7 : Fin k0_t7_loop.trips) (k0_t8 : Fin k0_t8_loop.trips) : Fin 3 → Nat :=
  let c9_456 : Index := 9#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v888 : Index := Scalar.indexCast v821
  let c0_457 : Index := 0#32
  ![9, v888.toNat, 0]
def k0_off73 (v758 : BitVec 32) : Fin 3 → Nat :=
  let c10_458 : Index := 10#32
  let c2_i32_386 : BitVec 32 := 2#32
  let v759 : BitVec 32 := Scalar.shrui v758 c2_i32_386
  let v892 : Index := Scalar.indexCast v759
  let c0_459 : Index := 0#32
  ![10, v892.toNat, 0]
def k0_off74 (k0_t7 : Fin k0_t7_loop.trips) (k0_t8 : Fin k0_t8_loop.trips) : Fin 3 → Nat :=
  let c10_460 : Index := 10#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v895 : Index := Scalar.indexCast v821
  let c0_461 : Index := 0#32
  ![10, v895.toNat, 0]
def k0_off75 (v758 : BitVec 32) : Fin 3 → Nat :=
  let c11_462 : Index := 11#32
  let c2_i32_386 : BitVec 32 := 2#32
  let v759 : BitVec 32 := Scalar.shrui v758 c2_i32_386
  let v899 : Index := Scalar.indexCast v759
  let c0_463 : Index := 0#32
  ![11, v899.toNat, 0]
def k0_off76 (k0_t7 : Fin k0_t7_loop.trips) (k0_t8 : Fin k0_t8_loop.trips) : Fin 3 → Nat :=
  let c11_464 : Index := 11#32
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v902 : Index := Scalar.indexCast v821
  let c0_465 : Index := 0#32
  ![11, v902.toNat, 0]
def k0_off77 (k0_t7 : Fin k0_t7_loop.trips) (k0_t8 : Fin k0_t8_loop.trips) : Fin 2 → Nat :=
  let c0_i32_247 : BitVec 32 := 0#32
  let c1_i32_249 : BitVec 32 := 1#32
  let arg39 : BitVec 32 := Scf.iv c0_i32_247 c1_i32_249 k0_t7
  let c32_i32_403 : BitVec 32 := 32#32
  let v791 : BitVec 32 := Scalar.muli arg39 c32_i32_403
  let c8_i32_410 : BitVec 32 := 8#32
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let c4_i32_404 : BitVec 32 := 4#32
  let c0_i32_405 : BitVec 32 := 0#32
  let v792 : BitVec 1 := Scalar.cmpi .eq c4_i32_404 c0_i32_405
  let c1_i32_406 : BitVec 32 := 1#32
  let v793 : BitVec 32 := Scalar.select v792 c1_i32_406 c4_i32_404
  let v794 : BitVec 32 := Scalar.remsi v790 v793
  let c0_i32_408 : BitVec 32 := 0#32
  let v796 : BitVec 1 := Scalar.cmpi .slt v794 c0_i32_408
  let c0_i32_409 : BitVec 32 := 0#32
  let v797 : BitVec 1 := Scalar.cmpi .slt v793 c0_i32_409
  let v798 : BitVec 1 := Scalar.xori v796 v797
  let c0_i32_407 : BitVec 32 := 0#32
  let v795 : BitVec 1 := Scalar.cmpi .ne v794 c0_i32_407
  let v799 : BitVec 1 := Scalar.andi v798 v795
  let v800 : BitVec 32 := Scalar.addi v794 v793
  let v801 : BitVec 32 := Scalar.select v799 v800 v794
  let v802 : BitVec 32 := Scalar.muli c8_i32_410 v801
  let v803 : BitVec 32 := Scalar.addi v791 v802
  let c0_i32_412 : BitVec 32 := 0#32
  let v805 : BitVec 1 := Scalar.cmpi .sgt v790 c0_i32_412
  let v806 : BitVec 32 := Scalar.extui v805
  let c0_i32_413 : BitVec 32 := 0#32
  let v807 : BitVec 1 := Scalar.cmpi .slt v790 c0_i32_413
  let v808 : BitVec 32 := Scalar.extui v807
  let v809 : BitVec 32 := Scalar.subi v806 v808
  let c4_i32_411 : BitVec 32 := 4#32
  let c0_i32_414 : BitVec 32 := 0#32
  let v810 : BitVec 1 := Scalar.cmpi .sgt c4_i32_411 c0_i32_414
  let v811 : BitVec 32 := Scalar.extui v810
  let c0_i32_415 : BitVec 32 := 0#32
  let v812 : BitVec 1 := Scalar.cmpi .slt c4_i32_411 c0_i32_415
  let v813 : BitVec 32 := Scalar.extui v812
  let v814 : BitVec 32 := Scalar.subi v811 v813
  let v815 : BitVec 1 := Scalar.cmpi .ne v809 v814
  let v816 : BitVec 32 := Scalar.remsi v790 c4_i32_411
  let c0_i32_416 : BitVec 32 := 0#32
  let v817 : BitVec 1 := Scalar.cmpi .ne v816 c0_i32_416
  let v818 : BitVec 1 := Scalar.andi v815 v817
  let v804 : BitVec 32 := Scalar.divsi v790 c4_i32_411
  let c1_i32_417 : BitVec 32 := 1#32
  let v819 : BitVec 32 := Scalar.subi v804 c1_i32_417
  let v820 : BitVec 32 := Scalar.select v818 v819 v804
  let v821 : BitVec 32 := Scalar.addi v803 v820
  let v909 : Index := Scalar.indexCast v821
  let c0_468 : Index := 0#32
  ![v909.toNat, 0]
def k0_off78 (v758 : BitVec 32) : Fin 2 → Nat :=
  let v915 : Index := Scalar.indexCast v758
  let c0_470 : Index := 0#32
  ![v915.toNat, 0]

def k0_chk2 (v758 : BitVec 32) : Prop :=
  (∀ a, (k0_off53 v758) a + S1x1x128.size a ≤ S12x2048x128.size a) ∧
  (∀ a, (k0_off55 v758) a + S1x1x128.size a ≤ S12x2048x128.size a) ∧
  (∀ a, (k0_off57 v758) a + S1x1x128.size a ≤ S12x2048x128.size a) ∧
  (∀ a, (k0_off59 v758) a + S1x1x128.size a ≤ S12x2048x128.size a) ∧
  (∀ a, (k0_off61 v758) a + S1x1x128.size a ≤ S12x2048x128.size a) ∧
  (∀ a, (k0_off63 v758) a + S1x1x128.size a ≤ S12x2048x128.size a) ∧
  (∀ a, (k0_off65 v758) a + S1x1x128.size a ≤ S12x2048x128.size a) ∧
  (∀ a, (k0_off67 v758) a + S1x1x128.size a ≤ S12x2048x128.size a) ∧
  (∀ a, (k0_off69 v758) a + S1x1x128.size a ≤ S12x2048x128.size a) ∧
  (∀ a, (k0_off71 v758) a + S1x1x128.size a ≤ S12x2048x128.size a) ∧
  (∀ a, (k0_off73 v758) a + S1x1x128.size a ≤ S12x2048x128.size a) ∧
  (∀ a, (k0_off75 v758) a + S1x1x128.size a ≤ S12x2048x128.size a) ∧
  (∀ a, (k0_off78 v758) a + S1x128.size a ≤ S8192x128.size a)
theorem k0_off53_inb : ∀ (v758 : BitVec 32) (k0_hw2 : k0_chk2 v758), ∀ a, (k0_off53 v758) a + S1x1x128.size a ≤ S12x2048x128.size a := fun v758 k0_hw2 => k0_hw2.1
theorem k0_off55_inb : ∀ (v758 : BitVec 32) (k0_hw2 : k0_chk2 v758), ∀ a, (k0_off55 v758) a + S1x1x128.size a ≤ S12x2048x128.size a := fun v758 k0_hw2 => k0_hw2.2.1
theorem k0_off57_inb : ∀ (v758 : BitVec 32) (k0_hw2 : k0_chk2 v758), ∀ a, (k0_off57 v758) a + S1x1x128.size a ≤ S12x2048x128.size a := fun v758 k0_hw2 => k0_hw2.2.2.1
theorem k0_off59_inb : ∀ (v758 : BitVec 32) (k0_hw2 : k0_chk2 v758), ∀ a, (k0_off59 v758) a + S1x1x128.size a ≤ S12x2048x128.size a := fun v758 k0_hw2 => k0_hw2.2.2.2.1
theorem k0_off61_inb : ∀ (v758 : BitVec 32) (k0_hw2 : k0_chk2 v758), ∀ a, (k0_off61 v758) a + S1x1x128.size a ≤ S12x2048x128.size a := fun v758 k0_hw2 => k0_hw2.2.2.2.2.1
theorem k0_off63_inb : ∀ (v758 : BitVec 32) (k0_hw2 : k0_chk2 v758), ∀ a, (k0_off63 v758) a + S1x1x128.size a ≤ S12x2048x128.size a := fun v758 k0_hw2 => k0_hw2.2.2.2.2.2.1
theorem k0_off65_inb : ∀ (v758 : BitVec 32) (k0_hw2 : k0_chk2 v758), ∀ a, (k0_off65 v758) a + S1x1x128.size a ≤ S12x2048x128.size a := fun v758 k0_hw2 => k0_hw2.2.2.2.2.2.2.1
theorem k0_off67_inb : ∀ (v758 : BitVec 32) (k0_hw2 : k0_chk2 v758), ∀ a, (k0_off67 v758) a + S1x1x128.size a ≤ S12x2048x128.size a := fun v758 k0_hw2 => k0_hw2.2.2.2.2.2.2.2.1
theorem k0_off69_inb : ∀ (v758 : BitVec 32) (k0_hw2 : k0_chk2 v758), ∀ a, (k0_off69 v758) a + S1x1x128.size a ≤ S12x2048x128.size a := fun v758 k0_hw2 => k0_hw2.2.2.2.2.2.2.2.2.1
theorem k0_off71_inb : ∀ (v758 : BitVec 32) (k0_hw2 : k0_chk2 v758), ∀ a, (k0_off71 v758) a + S1x1x128.size a ≤ S12x2048x128.size a := fun v758 k0_hw2 => k0_hw2.2.2.2.2.2.2.2.2.2.1
theorem k0_off73_inb : ∀ (v758 : BitVec 32) (k0_hw2 : k0_chk2 v758), ∀ a, (k0_off73 v758) a + S1x1x128.size a ≤ S12x2048x128.size a := fun v758 k0_hw2 => k0_hw2.2.2.2.2.2.2.2.2.2.2.1
theorem k0_off75_inb : ∀ (v758 : BitVec 32) (k0_hw2 : k0_chk2 v758), ∀ a, (k0_off75 v758) a + S1x1x128.size a ≤ S12x2048x128.size a := fun v758 k0_hw2 => k0_hw2.2.2.2.2.2.2.2.2.2.2.2.1
theorem k0_off78_inb : ∀ (v758 : BitVec 32) (k0_hw2 : k0_chk2 v758), ∀ a, (k0_off78 v758) a + S1x128.size a ≤ S8192x128.size a := fun v758 k0_hw2 => k0_hw2.2.2.2.2.2.2.2.2.2.2.2.2

def k0_off79 (k0_t6 : Fin k0_t6_loop.trips) (k0_t7 : Fin k0_t7_loop.trips) (k0_t8 : Fin k0_t8_loop.trips) : Fin 2 → Nat :=
  let c2_i32_380 : BitVec 32 := 2#32
  let c0_i32_102 : BitVec 32 := 0#32
  let c1_i32_104 : BitVec 32 := 1#32
  let arg38 : BitVec 32 := Scf.iv c0_i32_102 c1_i32_104 k0_t6
  let v749 : BitVec 32 := Scalar.muli c2_i32_380 arg38
  let c0_i32_247 : BitVec 32 := 0#32
  let c1_i32_249 : BitVec 32 := 1#32
  let arg39 : BitVec 32 := Scf.iv c0_i32_247 c1_i32_249 k0_t7
  let v750 : BitVec 32 := Scalar.addi v749 arg39
  let c32_i32_469 : BitVec 32 := 32#32
  let v913 : BitVec 32 := Scalar.muli v750 c32_i32_469
  let c0_i32_382 : BitVec 32 := 0#32
  let c1_i32_384 : BitVec 32 := 1#32
  let arg40 : BitVec 32 := Scf.iv c0_i32_382 c1_i32_384 k0_t8
  let c0_i32_388 : BitVec 32 := 0#32
  let v761 : BitVec 1 := Scalar.cmpi .sgt arg40 c0_i32_388
  let v762 : BitVec 32 := Scalar.extui v761
  let c0_i32_389 : BitVec 32 := 0#32
  let v763 : BitVec 1 := Scalar.cmpi .slt arg40 c0_i32_389
  let v764 : BitVec 32 := Scalar.extui v763
  let v765 : BitVec 32 := Scalar.subi v762 v764
  let c8_i32_387 : BitVec 32 := 8#32
  let c0_i32_390 : BitVec 32 := 0#32
  let v766 : BitVec 1 := Scalar.cmpi .sgt c8_i32_387 c0_i32_390
  let v767 : BitVec 32 := Scalar.extui v766
  let c0_i32_391 : BitVec 32 := 0#32
  let v768 : BitVec 1 := Scalar.cmpi .slt c8_i32_387 c0_i32_391
  let v769 : BitVec 32 := Scalar.extui v768
  let v770 : BitVec 32 := Scalar.subi v767 v769
  let v771 : BitVec 1 := Scalar.cmpi .ne v765 v770
  let v772 : BitVec 32 := Scalar.remsi arg40 c8_i32_387
  let c0_i32_392 : BitVec 32 := 0#32
  let v773 : BitVec 1 := Scalar.cmpi .ne v772 c0_i32_392
  let v774 : BitVec 1 := Scalar.andi v771 v773
  let v760 : BitVec 32 := Scalar.divsi arg40 c8_i32_387
  let c1_i32_393 : BitVec 32 := 1#32
  let v775 : BitVec 32 := Scalar.subi v760 c1_i32_393
  let v776 : BitVec 32 := Scalar.select v774 v775 v760
  let c8_i32_394 : BitVec 32 := 8#32
  let v777 : BitVec 32 := Scalar.muli v776 c8_i32_394
  let c8_i32_395 : BitVec 32 := 8#32
  let v778 : BitVec 32 := Scalar.addi v777 c8_i32_395
  let c1_i32_396 : BitVec 32 := 1#32
  let v779 : BitVec 32 := Scalar.subi v778 c1_i32_396
  let c8_i32_397 : BitVec 32 := 8#32
  let c0_i32_398 : BitVec 32 := 0#32
  let v780 : BitVec 1 := Scalar.cmpi .eq c8_i32_397 c0_i32_398
  let c1_i32_399 : BitVec 32 := 1#32
  let v781 : BitVec 32 := Scalar.select v780 c1_i32_399 c8_i32_397
  let v782 : BitVec 32 := Scalar.remsi arg40 v781
  let c0_i32_401 : BitVec 32 := 0#32
  let v784 : BitVec 1 := Scalar.cmpi .slt v782 c0_i32_401
  let c0_i32_402 : BitVec 32 := 0#32
  let v785 : BitVec 1 := Scalar.cmpi .slt v781 c0_i32_402
  let v786 : BitVec 1 := Scalar.xori v784 v785
  let c0_i32_400 : BitVec 32 := 0#32
  let v783 : BitVec 1 := Scalar.cmpi .ne v782 c0_i32_400
  let v787 : BitVec 1 := Scalar.andi v786 v783
  let v788 : BitVec 32 := Scalar.addi v782 v781
  let v789 : BitVec 32 := Scalar.select v787 v788 v782
  let v790 : BitVec 32 := Scalar.subi v779 v789
  let v914 : BitVec 32 := Scalar.addi v913 v790
  let v917 : Index := Scalar.indexCast v914
  let c0_471 : Index := 0#32
  ![v917.toNat, 0]
def k0_off80 (k0_t6 : Fin k0_t6_loop.trips) (k0_t7 : Fin k0_t7_loop.trips) (k0_t8 : Fin k0_t8_loop.trips) : Fin 2 → Nat :=
  let c2_i32_380 : BitVec 32 := 2#32
  let c0_i32_102 : BitVec 32 := 0#32
  let c1_i32_104 : BitVec 32 := 1#32
  let arg38 : BitVec 32 := Scf.iv c0_i32_102 c1_i32_104 k0_t6
  let v749 : BitVec 32 := Scalar.muli c2_i32_380 arg38
  let c0_i32_247 : BitVec 32 := 0#32
  let c1_i32_249 : BitVec 32 := 1#32
  let arg39 : BitVec 32 := Scf.iv c0_i32_247 c1_i32_249 k0_t7
  let v750 : BitVec 32 := Scalar.addi v749 arg39
  let c32_i32_477 : BitVec 32 := 32#32
  let v932 : BitVec 32 := Scalar.muli v750 c32_i32_477
  let c0_i32_382 : BitVec 32 := 0#32
  let c1_i32_384 : BitVec 32 := 1#32
  let arg40 : BitVec 32 := Scf.iv c0_i32_382 c1_i32_384 k0_t8
  let v933 : BitVec 32 := Scalar.addi v932 arg40
  let v934 : Index := Scalar.indexCast v933
  let c0_478 : Index := 0#32
  ![v934.toNat, 0]
@[reducible] def k0_t9_loop : Scf.Loop 32 :=
  let c0_i32_257 : BitVec 32 := 0#32
  let c12_i32_258 : BitVec 32 := 12#32
  let v504 : BitVec 32 := Scalar.addi c0_i32_257 c12_i32_258
  let c1_i32_259 : BitVec 32 := 1#32
  ⟨c0_i32_257, v504, c1_i32_259⟩
def k0_off81 (k0_t9 : Fin k0_t9_loop.trips) : Fin 3 → Nat :=
  let c0_i32_257 : BitVec 32 := 0#32
  let c1_i32_259 : BitVec 32 := 1#32
  let arg39 : BitVec 32 := Scf.iv c0_i32_257 c1_i32_259 k0_t9
  let v749 : Index := Scalar.indexCast arg39
  let c0_380 : Index := 0#32
  let c0_381 : Index := 0#32
  ![v749.toNat, 0, 0]
def k0_off82 (k0_t9 : Fin k0_t9_loop.trips) : Fin 3 → Nat :=
  let c0_i32_257 : BitVec 32 := 0#32
  let c1_i32_259 : BitVec 32 := 1#32
  let arg39 : BitVec 32 := Scf.iv c0_i32_257 c1_i32_259 k0_t9
  let v755 : Index := Scalar.indexCast arg39
  let c8_382 : Index := 8#32
  let c0_383 : Index := 0#32
  ![v755.toNat, 8, 0]
def k0_off83 (k0_t9 : Fin k0_t9_loop.trips) : Fin 3 → Nat :=
  let c0_i32_257 : BitVec 32 := 0#32
  let c1_i32_259 : BitVec 32 := 1#32
  let arg39 : BitVec 32 := Scf.iv c0_i32_257 c1_i32_259 k0_t9
  let v764 : Index := Scalar.indexCast arg39
  let c16_386 : Index := 16#32
  let c0_387 : Index := 0#32
  ![v764.toNat, 16, 0]
def k0_off84 (k0_t9 : Fin k0_t9_loop.trips) : Fin 3 → Nat :=
  let c0_i32_257 : BitVec 32 := 0#32
  let c1_i32_259 : BitVec 32 := 1#32
  let arg39 : BitVec 32 := Scf.iv c0_i32_257 c1_i32_259 k0_t9
  let v773 : Index := Scalar.indexCast arg39
  let c24_390 : Index := 24#32
  let c0_391 : Index := 0#32
  ![v773.toNat, 24, 0]
def k0_mult70 (k0_t6 : Fin k0_t6_loop.trips) : BitVec 32 :=
  let c2_i32_394 : BitVec 32 := 2#32
  let c0_i32_102 : BitVec 32 := 0#32
  let c1_i32_104 : BitVec 32 := 1#32
  let arg38 : BitVec 32 := Scf.iv c0_i32_102 c1_i32_104 k0_t6
  let v782 : BitVec 32 := Scalar.muli c2_i32_394 arg38
  let c0_i32_395 : BitVec 32 := 0#32
  let v783 : BitVec 32 := Scalar.addi v782 c0_i32_395
  let c8_i32_396 : BitVec 32 := 8#32
  let v784 : BitVec 32 := Scalar.muli v783 c8_i32_396
  v784
def k0_off85 (k0_t6 : Fin k0_t6_loop.trips) (k0_t9 : Fin k0_t9_loop.trips) : Fin 3 → Nat :=
  let c0_i32_257 : BitVec 32 := 0#32
  let c1_i32_259 : BitVec 32 := 1#32
  let arg39 : BitVec 32 := Scf.iv c0_i32_257 c1_i32_259 k0_t9
  let v786 : Index := Scalar.indexCast arg39
  let c2_i32_394 : BitVec 32 := 2#32
  let c0_i32_102 : BitVec 32 := 0#32
  let c1_i32_104 : BitVec 32 := 1#32
  let arg38 : BitVec 32 := Scf.iv c0_i32_102 c1_i32_104 k0_t6
  let v782 : BitVec 32 := Scalar.muli c2_i32_394 arg38
  let c0_i32_395 : BitVec 32 := 0#32
  let v783 : BitVec 32 := Scalar.addi v782 c0_i32_395
  let c8_i32_396 : BitVec 32 := 8#32
  let v784 : BitVec 32 := Scalar.muli v783 c8_i32_396
  let v785 : BitVec 32 := v784
  let v787 : Index := Scalar.indexCast v785
  let c0_397 : Index := 0#32
  ![v786.toNat, v787.toNat, 0]
@[reducible] def k0_t10_loop : Scf.Loop 32 :=
  let c0_i32_267 : BitVec 32 := 0#32
  let c12_i32_268 : BitVec 32 := 12#32
  let v509 : BitVec 32 := Scalar.addi c0_i32_267 c12_i32_268
  let c1_i32_269 : BitVec 32 := 1#32
  ⟨c0_i32_267, v509, c1_i32_269⟩
def k0_off86 (k0_t10 : Fin k0_t10_loop.trips) : Fin 3 → Nat :=
  let c0_i32_267 : BitVec 32 := 0#32
  let c1_i32_269 : BitVec 32 := 1#32
  let arg39 : BitVec 32 := Scf.iv c0_i32_267 c1_i32_269 k0_t10
  let v749 : Index := Scalar.indexCast arg39
  let c32_380 : Index := 32#32
  let c0_381 : Index := 0#32
  ![v749.toNat, 32, 0]
def k0_off87 (k0_t10 : Fin k0_t10_loop.trips) : Fin 3 → Nat :=
  let c0_i32_267 : BitVec 32 := 0#32
  let c1_i32_269 : BitVec 32 := 1#32
  let arg39 : BitVec 32 := Scf.iv c0_i32_267 c1_i32_269 k0_t10
  let v755 : Index := Scalar.indexCast arg39
  let c40_382 : Index := 40#32
  let c0_383 : Index := 0#32
  ![v755.toNat, 40, 0]
def k0_off88 (k0_t10 : Fin k0_t10_loop.trips) : Fin 3 → Nat :=
  let c0_i32_267 : BitVec 32 := 0#32
  let c1_i32_269 : BitVec 32 := 1#32
  let arg39 : BitVec 32 := Scf.iv c0_i32_267 c1_i32_269 k0_t10
  let v764 : Index := Scalar.indexCast arg39
  let c48_386 : Index := 48#32
  let c0_387 : Index := 0#32
  ![v764.toNat, 48, 0]
def k0_off89 (k0_t10 : Fin k0_t10_loop.trips) : Fin 3 → Nat :=
  let c0_i32_267 : BitVec 32 := 0#32
  let c1_i32_269 : BitVec 32 := 1#32
  let arg39 : BitVec 32 := Scf.iv c0_i32_267 c1_i32_269 k0_t10
  let v773 : Index := Scalar.indexCast arg39
  let c56_390 : Index := 56#32
  let c0_391 : Index := 0#32
  ![v773.toNat, 56, 0]
def k0_mult71 (k0_t6 : Fin k0_t6_loop.trips) : BitVec 32 :=
  let c2_i32_394 : BitVec 32 := 2#32
  let c0_i32_102 : BitVec 32 := 0#32
  let c1_i32_104 : BitVec 32 := 1#32
  let arg38 : BitVec 32 := Scf.iv c0_i32_102 c1_i32_104 k0_t6
  let v782 : BitVec 32 := Scalar.muli c2_i32_394 arg38
  let c1_i32_395 : BitVec 32 := 1#32
  let v783 : BitVec 32 := Scalar.addi v782 c1_i32_395
  let c8_i32_396 : BitVec 32 := 8#32
  let v784 : BitVec 32 := Scalar.muli v783 c8_i32_396
  v784
def k0_off90 (k0_t6 : Fin k0_t6_loop.trips) (k0_t10 : Fin k0_t10_loop.trips) : Fin 3 → Nat :=
  let c0_i32_267 : BitVec 32 := 0#32
  let c1_i32_269 : BitVec 32 := 1#32
  let arg39 : BitVec 32 := Scf.iv c0_i32_267 c1_i32_269 k0_t10
  let v786 : Index := Scalar.indexCast arg39
  let c2_i32_394 : BitVec 32 := 2#32
  let c0_i32_102 : BitVec 32 := 0#32
  let c1_i32_104 : BitVec 32 := 1#32
  let arg38 : BitVec 32 := Scf.iv c0_i32_102 c1_i32_104 k0_t6
  let v782 : BitVec 32 := Scalar.muli c2_i32_394 arg38
  let c1_i32_395 : BitVec 32 := 1#32
  let v783 : BitVec 32 := Scalar.addi v782 c1_i32_395
  let c8_i32_396 : BitVec 32 := 8#32
  let v784 : BitVec 32 := Scalar.muli v783 c8_i32_396
  let v785 : BitVec 32 := v784
  let v787 : Index := Scalar.indexCast v785
  let c0_397 : Index := 0#32
  ![v786.toNat, v787.toNat, 0]
def k0_mult72 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_271 : BitVec 32 := 2#32
  let v510 : BitVec 32 := Scalar.muli arg38 c2_i32_271
  let c8_i32_272 : BitVec 32 := 8#32
  let v511 : BitVec 32 := Scalar.muli v510 c8_i32_272
  v511
def k0_off91 (k0_t6 : Fin k0_t6_loop.trips) : Fin 3 → Nat :=
  let c0_273 : Index := 0#32
  let c0_i32_102 : BitVec 32 := 0#32
  let c1_i32_104 : BitVec 32 := 1#32
  let arg38 : BitVec 32 := Scf.iv c0_i32_102 c1_i32_104 k0_t6
  let c2_i32_271 : BitVec 32 := 2#32
  let v510 : BitVec 32 := Scalar.muli arg38 c2_i32_271
  let c8_i32_272 : BitVec 32 := 8#32
  let v511 : BitVec 32 := Scalar.muli v510 c8_i32_272
  let v512 : BitVec 32 := v511
  let v513 : Index := Scalar.indexCast v512
  let c0_274 : Index := 0#32
  ![0, v513.toNat, 0]
def k0_mult73 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_275 : BitVec 32 := 2#32
  let v517 : BitVec 32 := Scalar.muli arg38 c2_i32_275
  let c8_i32_276 : BitVec 32 := 8#32
  let v518 : BitVec 32 := Scalar.muli v517 c8_i32_276
  v518
def k0_off92 (k0_t6 : Fin k0_t6_loop.trips) : Fin 3 → Nat :=
  let c1_277 : Index := 1#32
  let c0_i32_102 : BitVec 32 := 0#32
  let c1_i32_104 : BitVec 32 := 1#32
  let arg38 : BitVec 32 := Scf.iv c0_i32_102 c1_i32_104 k0_t6
  let c2_i32_275 : BitVec 32 := 2#32
  let v517 : BitVec 32 := Scalar.muli arg38 c2_i32_275
  let c8_i32_276 : BitVec 32 := 8#32
  let v518 : BitVec 32 := Scalar.muli v517 c8_i32_276
  let v519 : BitVec 32 := v518
  let v520 : Index := Scalar.indexCast v519
  let c0_278 : Index := 0#32
  ![1, v520.toNat, 0]
def k0_mult74 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_279 : BitVec 32 := 2#32
  let v524 : BitVec 32 := Scalar.muli arg38 c2_i32_279
  let c8_i32_280 : BitVec 32 := 8#32
  let v525 : BitVec 32 := Scalar.muli v524 c8_i32_280
  v525
def k0_off93 (k0_t6 : Fin k0_t6_loop.trips) : Fin 3 → Nat :=
  let c2_281 : Index := 2#32
  let c0_i32_102 : BitVec 32 := 0#32
  let c1_i32_104 : BitVec 32 := 1#32
  let arg38 : BitVec 32 := Scf.iv c0_i32_102 c1_i32_104 k0_t6
  let c2_i32_279 : BitVec 32 := 2#32
  let v524 : BitVec 32 := Scalar.muli arg38 c2_i32_279
  let c8_i32_280 : BitVec 32 := 8#32
  let v525 : BitVec 32 := Scalar.muli v524 c8_i32_280
  let v526 : BitVec 32 := v525
  let v527 : Index := Scalar.indexCast v526
  let c0_282 : Index := 0#32
  ![2, v527.toNat, 0]
def k0_mult75 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_283 : BitVec 32 := 2#32
  let v531 : BitVec 32 := Scalar.muli arg38 c2_i32_283
  let c8_i32_284 : BitVec 32 := 8#32
  let v532 : BitVec 32 := Scalar.muli v531 c8_i32_284
  v532
def k0_off94 (k0_t6 : Fin k0_t6_loop.trips) : Fin 3 → Nat :=
  let c3_285 : Index := 3#32
  let c0_i32_102 : BitVec 32 := 0#32
  let c1_i32_104 : BitVec 32 := 1#32
  let arg38 : BitVec 32 := Scf.iv c0_i32_102 c1_i32_104 k0_t6
  let c2_i32_283 : BitVec 32 := 2#32
  let v531 : BitVec 32 := Scalar.muli arg38 c2_i32_283
  let c8_i32_284 : BitVec 32 := 8#32
  let v532 : BitVec 32 := Scalar.muli v531 c8_i32_284
  let v533 : BitVec 32 := v532
  let v534 : Index := Scalar.indexCast v533
  let c0_286 : Index := 0#32
  ![3, v534.toNat, 0]
def k0_mult76 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_287 : BitVec 32 := 2#32
  let v538 : BitVec 32 := Scalar.muli arg38 c2_i32_287
  let c8_i32_288 : BitVec 32 := 8#32
  let v539 : BitVec 32 := Scalar.muli v538 c8_i32_288
  v539
def k0_off95 (k0_t6 : Fin k0_t6_loop.trips) : Fin 3 → Nat :=
  let c4_289 : Index := 4#32
  let c0_i32_102 : BitVec 32 := 0#32
  let c1_i32_104 : BitVec 32 := 1#32
  let arg38 : BitVec 32 := Scf.iv c0_i32_102 c1_i32_104 k0_t6
  let c2_i32_287 : BitVec 32 := 2#32
  let v538 : BitVec 32 := Scalar.muli arg38 c2_i32_287
  let c8_i32_288 : BitVec 32 := 8#32
  let v539 : BitVec 32 := Scalar.muli v538 c8_i32_288
  let v540 : BitVec 32 := v539
  let v541 : Index := Scalar.indexCast v540
  let c0_290 : Index := 0#32
  ![4, v541.toNat, 0]
def k0_mult77 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_291 : BitVec 32 := 2#32
  let v545 : BitVec 32 := Scalar.muli arg38 c2_i32_291
  let c8_i32_292 : BitVec 32 := 8#32
  let v546 : BitVec 32 := Scalar.muli v545 c8_i32_292
  v546
def k0_off96 (k0_t6 : Fin k0_t6_loop.trips) : Fin 3 → Nat :=
  let c5 : Index := 5#32
  let c0_i32_102 : BitVec 32 := 0#32
  let c1_i32_104 : BitVec 32 := 1#32
  let arg38 : BitVec 32 := Scf.iv c0_i32_102 c1_i32_104 k0_t6
  let c2_i32_291 : BitVec 32 := 2#32
  let v545 : BitVec 32 := Scalar.muli arg38 c2_i32_291
  let c8_i32_292 : BitVec 32 := 8#32
  let v546 : BitVec 32 := Scalar.muli v545 c8_i32_292
  let v547 : BitVec 32 := v546
  let v548 : Index := Scalar.indexCast v547
  let c0_293 : Index := 0#32
  ![5, v548.toNat, 0]
def k0_mult78 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_294 : BitVec 32 := 2#32
  let v552 : BitVec 32 := Scalar.muli arg38 c2_i32_294
  let c8_i32_295 : BitVec 32 := 8#32
  let v553 : BitVec 32 := Scalar.muli v552 c8_i32_295
  v553
def k0_off97 (k0_t6 : Fin k0_t6_loop.trips) : Fin 3 → Nat :=
  let c6 : Index := 6#32
  let c0_i32_102 : BitVec 32 := 0#32
  let c1_i32_104 : BitVec 32 := 1#32
  let arg38 : BitVec 32 := Scf.iv c0_i32_102 c1_i32_104 k0_t6
  let c2_i32_294 : BitVec 32 := 2#32
  let v552 : BitVec 32 := Scalar.muli arg38 c2_i32_294
  let c8_i32_295 : BitVec 32 := 8#32
  let v553 : BitVec 32 := Scalar.muli v552 c8_i32_295
  let v554 : BitVec 32 := v553
  let v555 : Index := Scalar.indexCast v554
  let c0_296 : Index := 0#32
  ![6, v555.toNat, 0]
def k0_mult79 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_297 : BitVec 32 := 2#32
  let v559 : BitVec 32 := Scalar.muli arg38 c2_i32_297
  let c8_i32_298 : BitVec 32 := 8#32
  let v560 : BitVec 32 := Scalar.muli v559 c8_i32_298
  v560
def k0_off98 (k0_t6 : Fin k0_t6_loop.trips) : Fin 3 → Nat :=
  let c7_299 : Index := 7#32
  let c0_i32_102 : BitVec 32 := 0#32
  let c1_i32_104 : BitVec 32 := 1#32
  let arg38 : BitVec 32 := Scf.iv c0_i32_102 c1_i32_104 k0_t6
  let c2_i32_297 : BitVec 32 := 2#32
  let v559 : BitVec 32 := Scalar.muli arg38 c2_i32_297
  let c8_i32_298 : BitVec 32 := 8#32
  let v560 : BitVec 32 := Scalar.muli v559 c8_i32_298
  let v561 : BitVec 32 := v560
  let v562 : Index := Scalar.indexCast v561
  let c0_300 : Index := 0#32
  ![7, v562.toNat, 0]
def k0_mult80 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_301 : BitVec 32 := 2#32
  let v566 : BitVec 32 := Scalar.muli arg38 c2_i32_301
  let c8_i32_302 : BitVec 32 := 8#32
  let v567 : BitVec 32 := Scalar.muli v566 c8_i32_302
  v567
def k0_off99 (k0_t6 : Fin k0_t6_loop.trips) : Fin 3 → Nat :=
  let c8_303 : Index := 8#32
  let c0_i32_102 : BitVec 32 := 0#32
  let c1_i32_104 : BitVec 32 := 1#32
  let arg38 : BitVec 32 := Scf.iv c0_i32_102 c1_i32_104 k0_t6
  let c2_i32_301 : BitVec 32 := 2#32
  let v566 : BitVec 32 := Scalar.muli arg38 c2_i32_301
  let c8_i32_302 : BitVec 32 := 8#32
  let v567 : BitVec 32 := Scalar.muli v566 c8_i32_302
  let v568 : BitVec 32 := v567
  let v569 : Index := Scalar.indexCast v568
  let c0_304 : Index := 0#32
  ![8, v569.toNat, 0]
def k0_mult81 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_305 : BitVec 32 := 2#32
  let v573 : BitVec 32 := Scalar.muli arg38 c2_i32_305
  let c8_i32_306 : BitVec 32 := 8#32
  let v574 : BitVec 32 := Scalar.muli v573 c8_i32_306
  v574
def k0_off100 (k0_t6 : Fin k0_t6_loop.trips) : Fin 3 → Nat :=
  let c9 : Index := 9#32
  let c0_i32_102 : BitVec 32 := 0#32
  let c1_i32_104 : BitVec 32 := 1#32
  let arg38 : BitVec 32 := Scf.iv c0_i32_102 c1_i32_104 k0_t6
  let c2_i32_305 : BitVec 32 := 2#32
  let v573 : BitVec 32 := Scalar.muli arg38 c2_i32_305
  let c8_i32_306 : BitVec 32 := 8#32
  let v574 : BitVec 32 := Scalar.muli v573 c8_i32_306
  let v575 : BitVec 32 := v574
  let v576 : Index := Scalar.indexCast v575
  let c0_307 : Index := 0#32
  ![9, v576.toNat, 0]
def k0_mult82 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_308 : BitVec 32 := 2#32
  let v580 : BitVec 32 := Scalar.muli arg38 c2_i32_308
  let c8_i32_309 : BitVec 32 := 8#32
  let v581 : BitVec 32 := Scalar.muli v580 c8_i32_309
  v581
def k0_off101 (k0_t6 : Fin k0_t6_loop.trips) : Fin 3 → Nat :=
  let c10 : Index := 10#32
  let c0_i32_102 : BitVec 32 := 0#32
  let c1_i32_104 : BitVec 32 := 1#32
  let arg38 : BitVec 32 := Scf.iv c0_i32_102 c1_i32_104 k0_t6
  let c2_i32_308 : BitVec 32 := 2#32
  let v580 : BitVec 32 := Scalar.muli arg38 c2_i32_308
  let c8_i32_309 : BitVec 32 := 8#32
  let v581 : BitVec 32 := Scalar.muli v580 c8_i32_309
  let v582 : BitVec 32 := v581
  let v583 : Index := Scalar.indexCast v582
  let c0_310 : Index := 0#32
  ![10, v583.toNat, 0]
def k0_mult83 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_311 : BitVec 32 := 2#32
  let v587 : BitVec 32 := Scalar.muli arg38 c2_i32_311
  let c8_i32_312 : BitVec 32 := 8#32
  let v588 : BitVec 32 := Scalar.muli v587 c8_i32_312
  v588
def k0_off102 (k0_t6 : Fin k0_t6_loop.trips) : Fin 3 → Nat :=
  let c11 : Index := 11#32
  let c0_i32_102 : BitVec 32 := 0#32
  let c1_i32_104 : BitVec 32 := 1#32
  let arg38 : BitVec 32 := Scf.iv c0_i32_102 c1_i32_104 k0_t6
  let c2_i32_311 : BitVec 32 := 2#32
  let v587 : BitVec 32 := Scalar.muli arg38 c2_i32_311
  let c8_i32_312 : BitVec 32 := 8#32
  let v588 : BitVec 32 := Scalar.muli v587 c8_i32_312
  let v589 : BitVec 32 := v588
  let v590 : Index := Scalar.indexCast v589
  let c0_313 : Index := 0#32
  ![11, v590.toNat, 0]
def k0_mult84 (k0_t6 : Fin k0_t6_loop.trips) : BitVec 32 :=
  let c0_i32_102 : BitVec 32 := 0#32
  let c1_i32_104 : BitVec 32 := 1#32
  let arg38 : BitVec 32 := Scf.iv c0_i32_102 c1_i32_104 k0_t6
  let c2_i32_314 : BitVec 32 := 2#32
  let v595 : BitVec 32 := Scalar.muli arg38 c2_i32_314
  let c128_i32_315 : BitVec 32 := 128#32
  let v596 : BitVec 32 := Scalar.muli v595 c128_i32_315
  v596
def k0_off103 (k0_t6 : Fin k0_t6_loop.trips) : Fin 2 → Nat :=
  let c0_i32_102 : BitVec 32 := 0#32
  let c1_i32_104 : BitVec 32 := 1#32
  let arg38 : BitVec 32 := Scf.iv c0_i32_102 c1_i32_104 k0_t6
  let c2_i32_314 : BitVec 32 := 2#32
  let v595 : BitVec 32 := Scalar.muli arg38 c2_i32_314
  let c128_i32_315 : BitVec 32 := 128#32
  let v596 : BitVec 32 := Scalar.muli v595 c128_i32_315
  let v597 : BitVec 32 := v596
  let v598 : Index := Scalar.indexCast v597
  let c0_316 : Index := 0#32
  ![v598.toNat, 0]
def k0_off104 (k0_t6 : Fin k0_t6_loop.trips) (c0_i32_319 : BitVec 32) : Fin 2 → Nat :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let v603 : Index := Scalar.indexCast v602
  let c0_320 : Index := 0#32
  ![v603.toNat, 0]
def k0_mult85 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c32_i32_321 : BitVec 32 := 32#32
  let v607 : BitVec 32 := Scalar.muli v602 c32_i32_321
  let c0_i32_322 : BitVec 32 := 0#32
  let v608 : BitVec 32 := Scalar.addi v607 c0_i32_322
  v608
def k0_off105 (k0_t6 : Fin k0_t6_loop.trips) (c0_i32_319 : BitVec 32) (c0_i32_322 : BitVec 32) : Fin 2 → Nat :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let c32_i32_321 : BitVec 32 := 32#32
  let v607 : BitVec 32 := Scalar.muli v602 c32_i32_321
  let v608 : BitVec 32 := Scalar.addi v607 c0_i32_322
  let v609 : BitVec 32 := v608
  let v611 : Index := Scalar.indexCast v609
  let c0_323 : Index := 0#32
  ![v611.toNat, 0]
def k0_mult86 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c8_i32_325 : BitVec 32 := 8#32
  let v618 : BitVec 32 := Scalar.muli v602 c8_i32_325
  v618
def k0_off106 (k0_t6 : Fin k0_t6_loop.trips) (c0_i32_319 : BitVec 32) : Fin 3 → Nat :=
  let c0_326 : Index := 0#32
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let c8_i32_325 : BitVec 32 := 8#32
  let v618 : BitVec 32 := Scalar.muli v602 c8_i32_325
  let v619 : BitVec 32 := v618
  let v620 : Index := Scalar.indexCast v619
  let c0_327 : Index := 0#32
  ![0, v620.toNat, 0]
def k0_mult87 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c32_i32_328 : BitVec 32 := 32#32
  let v624 : BitVec 32 := Scalar.muli v602 c32_i32_328
  let c8_i32_329 : BitVec 32 := 8#32
  let v625 : BitVec 32 := Scalar.addi v624 c8_i32_329
  v625
def k0_mult88 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c8_i32_332 : BitVec 32 := 8#32
  let v635 : BitVec 32 := Scalar.muli v602 c8_i32_332
  v635
def k0_off107 (k0_t6 : Fin k0_t6_loop.trips) (c0_i32_319 : BitVec 32) : Fin 3 → Nat :=
  let c1_333 : Index := 1#32
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let c8_i32_332 : BitVec 32 := 8#32
  let v635 : BitVec 32 := Scalar.muli v602 c8_i32_332
  let v636 : BitVec 32 := v635
  let v637 : Index := Scalar.indexCast v636
  let c0_334 : Index := 0#32
  ![1, v637.toNat, 0]
def k0_mult89 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c32_i32_335 : BitVec 32 := 32#32
  let v641 : BitVec 32 := Scalar.muli v602 c32_i32_335
  let c16_i32_336 : BitVec 32 := 16#32
  let v642 : BitVec 32 := Scalar.addi v641 c16_i32_336
  v642
def k0_mult90 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c8_i32_339 : BitVec 32 := 8#32
  let v652 : BitVec 32 := Scalar.muli v602 c8_i32_339
  v652
def k0_off108 (k0_t6 : Fin k0_t6_loop.trips) (c0_i32_319 : BitVec 32) : Fin 3 → Nat :=
  let c2_340 : Index := 2#32
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let c8_i32_339 : BitVec 32 := 8#32
  let v652 : BitVec 32 := Scalar.muli v602 c8_i32_339
  let v653 : BitVec 32 := v652
  let v654 : Index := Scalar.indexCast v653
  let c0_341 : Index := 0#32
  ![2, v654.toNat, 0]
def k0_mult91 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c32_i32_342 : BitVec 32 := 32#32
  let v658 : BitVec 32 := Scalar.muli v602 c32_i32_342
  let c24_i32_343 : BitVec 32 := 24#32
  let v659 : BitVec 32 := Scalar.addi v658 c24_i32_343
  v659
def k0_mult92 (k0_t6 : Fin k0_t6_loop.trips) : BitVec 32 :=
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let c0_i32_319 : BitVec 32 := 0#32
  let v602 : BitVec 32 := Scalar.addi v601 c0_i32_319
  let c8_i32_346 : BitVec 32 := 8#32
  let v669 : BitVec 32 := Scalar.muli v602 c8_i32_346
  v669
def k0_off109 (k0_t6 : Fin k0_t6_loop.trips) (c0_i32_319 : BitVec 32) : Fin 3 → Nat :=
  let c3_347 : Index := 3#32
  let c2_i32_318 : BitVec 32 := 2#32
  let c0_i32_102 : BitVec 32 := 0#32
  let c1_i32_104 : BitVec 32 := 1#32
  let arg38 : BitVec 32 := Scf.iv c0_i32_102 c1_i32_104 k0_t6
  let v601 : BitVec 32 := Scalar.muli c2_i32_318 arg38
  let v602 : BitVec 32 := Scalar.addi v601 c0_i32_319
  let c8_i32_346 : BitVec 32 := 8#32
  let v669 : BitVec 32 := Scalar.muli v602 c8_i32_346
  let v670 : BitVec 32 := v669
  let v671 : Index := Scalar.indexCast v670
  let c0_348 : Index := 0#32
  ![3, v671.toNat, 0]
def k0_mult93 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c32_i32_352 : BitVec 32 := 32#32
  let v681 : BitVec 32 := Scalar.muli v676 c32_i32_352
  let c0_i32_353 : BitVec 32 := 0#32
  let v682 : BitVec 32 := Scalar.addi v681 c0_i32_353
  v682
def k0_mult94 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c8_i32_356 : BitVec 32 := 8#32
  let v692 : BitVec 32 := Scalar.muli v676 c8_i32_356
  v692
def k0_mult95 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c32_i32_359 : BitVec 32 := 32#32
  let v698 : BitVec 32 := Scalar.muli v676 c32_i32_359
  let c8_i32_360 : BitVec 32 := 8#32
  let v699 : BitVec 32 := Scalar.addi v698 c8_i32_360
  v699
def k0_mult96 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c8_i32_363 : BitVec 32 := 8#32
  let v709 : BitVec 32 := Scalar.muli v676 c8_i32_363
  v709
def k0_mult97 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c32_i32_366 : BitVec 32 := 32#32
  let v715 : BitVec 32 := Scalar.muli v676 c32_i32_366
  let c16_i32_367 : BitVec 32 := 16#32
  let v716 : BitVec 32 := Scalar.addi v715 c16_i32_367
  v716
def k0_mult98 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c8_i32_370 : BitVec 32 := 8#32
  let v726 : BitVec 32 := Scalar.muli v676 c8_i32_370
  v726
def k0_mult99 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c32_i32_373 : BitVec 32 := 32#32
  let v732 : BitVec 32 := Scalar.muli v676 c32_i32_373
  let c24_i32_374 : BitVec 32 := 24#32
  let v733 : BitVec 32 := Scalar.addi v732 c24_i32_374
  v733
def k0_mult100 (k0_t6 : Fin k0_t6_loop.trips) : BitVec 32 :=
  let c2_i32_349 : BitVec 32 := 2#32
  let c0_i32_102 : BitVec 32 := 0#32
  let c1_i32_104 : BitVec 32 := 1#32
  let arg38 : BitVec 32 := Scf.iv c0_i32_102 c1_i32_104 k0_t6
  let v675 : BitVec 32 := Scalar.muli c2_i32_349 arg38
  let c1_i32_350 : BitVec 32 := 1#32
  let v676 : BitVec 32 := Scalar.addi v675 c1_i32_350
  let c8_i32_377 : BitVec 32 := 8#32
  let v743 : BitVec 32 := Scalar.muli v676 c8_i32_377
  v743
@[reducible] def k0_t11_loop : Scf.Loop 32 :=
  let c0_i32_106 : BitVec 32 := 0#32
  let c4_i32_107 : BitVec 32 := 4#32
  let v174 : BitVec 32 := Scalar.addi c0_i32_106 c4_i32_107
  let c1_i32_108 : BitVec 32 := 1#32
  ⟨c0_i32_106, v174, c1_i32_108⟩
def k0_off110 (k0_t11 : Fin k0_t11_loop.trips) : Fin 3 → Nat :=
  let c0_i32_106 : BitVec 32 := 0#32
  let c1_i32_108 : BitVec 32 := 1#32
  let arg38 : BitVec 32 := Scf.iv c0_i32_106 c1_i32_108 k0_t11
  let v499 : Index := Scalar.indexCast arg38
  let c0_247 : Index := 0#32
  let c0_248 : Index := 0#32
  ![v499.toNat, 0, 0]
def k0_mult101 (k0_t11 : Fin k0_t11_loop.trips) : BitVec 32 :=
  let c0_i32_253 : BitVec 32 := 0#32
  let c0_i32_106 : BitVec 32 := 0#32
  let c1_i32_108 : BitVec 32 := 1#32
  let arg38 : BitVec 32 := Scf.iv c0_i32_106 c1_i32_108 k0_t11
  let c8_i32_252 : BitVec 32 := 8#32
  let v508 : BitVec 32 := Scalar.muli arg38 c8_i32_252
  let v509 : BitVec 32 := Scalar.addi c0_i32_253 v508
  v509
def k0_off111 (k0_t11 : Fin k0_t11_loop.trips) (c0_i32_253 : BitVec 32) : Fin 2 → Nat :=
  let c0_i32_106 : BitVec 32 := 0#32
  let c1_i32_108 : BitVec 32 := 1#32
  let arg38 : BitVec 32 := Scf.iv c0_i32_106 c1_i32_108 k0_t11
  let c8_i32_252 : BitVec 32 := 8#32
  let v508 : BitVec 32 := Scalar.muli arg38 c8_i32_252
  let v509 : BitVec 32 := Scalar.addi c0_i32_253 v508
  let v510 : BitVec 32 := v509
  let v513 : Index := Scalar.indexCast v510
  let c0_255 : Index := 0#32
  ![v513.toNat, 0]
def k0_mult102 (k0_t11 : Fin k0_t11_loop.trips) : BitVec 32 :=
  let c32_i32_257 : BitVec 32 := 32#32
  let c0_i32_106 : BitVec 32 := 0#32
  let c1_i32_108 : BitVec 32 := 1#32
  let arg38 : BitVec 32 := Scf.iv c0_i32_106 c1_i32_108 k0_t11
  let c8_i32_256 : BitVec 32 := 8#32
  let v516 : BitVec 32 := Scalar.muli arg38 c8_i32_256
  let v517 : BitVec 32 := Scalar.addi c32_i32_257 v516
  v517
def k0_mult103 (k0_t11 : Fin k0_t11_loop.trips) : BitVec 32 :=
  let c64_i32 : BitVec 32 := 64#32
  let c0_i32_106 : BitVec 32 := 0#32
  let c1_i32_108 : BitVec 32 := 1#32
  let arg38 : BitVec 32 := Scf.iv c0_i32_106 c1_i32_108 k0_t11
  let c8_i32_260 : BitVec 32 := 8#32
  let v524 : BitVec 32 := Scalar.muli arg38 c8_i32_260
  let v525 : BitVec 32 := Scalar.addi c64_i32 v524
  v525
def k0_mult104 (k0_t11 : Fin k0_t11_loop.trips) : BitVec 32 :=
  let c96_i32 : BitVec 32 := 96#32
  let c0_i32_106 : BitVec 32 := 0#32
  let c1_i32_108 : BitVec 32 := 1#32
  let arg38 : BitVec 32 := Scf.iv c0_i32_106 c1_i32_108 k0_t11
  let c8_i32_263 : BitVec 32 := 8#32
  let v532 : BitVec 32 := Scalar.muli arg38 c8_i32_263
  let v533 : BitVec 32 := Scalar.addi c96_i32 v532
  v533
def k0_mult105 (k0_t11 : Fin k0_t11_loop.trips) : BitVec 32 :=
  let c128_i32_267 : BitVec 32 := 128#32
  let c0_i32_106 : BitVec 32 := 0#32
  let c1_i32_108 : BitVec 32 := 1#32
  let arg38 : BitVec 32 := Scf.iv c0_i32_106 c1_i32_108 k0_t11
  let c8_i32_266 : BitVec 32 := 8#32
  let v540 : BitVec 32 := Scalar.muli arg38 c8_i32_266
  let v541 : BitVec 32 := Scalar.addi c128_i32_267 v540
  v541
def k0_mult106 (k0_t11 : Fin k0_t11_loop.trips) : BitVec 32 :=
  let c160_i32 : BitVec 32 := 160#32
  let c0_i32_106 : BitVec 32 := 0#32
  let c1_i32_108 : BitVec 32 := 1#32
  let arg38 : BitVec 32 := Scf.iv c0_i32_106 c1_i32_108 k0_t11
  let c8_i32_270 : BitVec 32 := 8#32
  let v548 : BitVec 32 := Scalar.muli arg38 c8_i32_270
  let v549 : BitVec 32 := Scalar.addi c160_i32 v548
  v549
def k0_mult107 (k0_t11 : Fin k0_t11_loop.trips) : BitVec 32 :=
  let c192_i32 : BitVec 32 := 192#32
  let c0_i32_106 : BitVec 32 := 0#32
  let c1_i32_108 : BitVec 32 := 1#32
  let arg38 : BitVec 32 := Scf.iv c0_i32_106 c1_i32_108 k0_t11
  let c8_i32_273 : BitVec 32 := 8#32
  let v556 : BitVec 32 := Scalar.muli arg38 c8_i32_273
  let v557 : BitVec 32 := Scalar.addi c192_i32 v556
  v557
def k0_mult108 (k0_t11 : Fin k0_t11_loop.trips) : BitVec 32 :=
  let c224_i32 : BitVec 32 := 224#32
  let c0_i32_106 : BitVec 32 := 0#32
  let c1_i32_108 : BitVec 32 := 1#32
  let arg38 : BitVec 32 := Scf.iv c0_i32_106 c1_i32_108 k0_t11
  let c8_i32_276 : BitVec 32 := 8#32
  let v564 : BitVec 32 := Scalar.muli arg38 c8_i32_276
  let v565 : BitVec 32 := Scalar.addi c224_i32 v564
  v565
def k0_mult109 (k0_t11 : Fin k0_t11_loop.trips) : BitVec 32 :=
  let c256_i32 : BitVec 32 := 256#32
  let c0_i32_106 : BitVec 32 := 0#32
  let c1_i32_108 : BitVec 32 := 1#32
  let arg38 : BitVec 32 := Scf.iv c0_i32_106 c1_i32_108 k0_t11
  let c8_i32_279 : BitVec 32 := 8#32
  let v572 : BitVec 32 := Scalar.muli arg38 c8_i32_279
  let v573 : BitVec 32 := Scalar.addi c256_i32 v572
  v573
def k0_mult110 (k0_t11 : Fin k0_t11_loop.trips) : BitVec 32 :=
  let c288_i32 : BitVec 32 := 288#32
  let c0_i32_106 : BitVec 32 := 0#32
  let c1_i32_108 : BitVec 32 := 1#32
  let arg38 : BitVec 32 := Scf.iv c0_i32_106 c1_i32_108 k0_t11
  let c8_i32_282 : BitVec 32 := 8#32
  let v580 : BitVec 32 := Scalar.muli arg38 c8_i32_282
  let v581 : BitVec 32 := Scalar.addi c288_i32 v580
  v581
def k0_mult111 (k0_t11 : Fin k0_t11_loop.trips) : BitVec 32 :=
  let c320_i32 : BitVec 32 := 320#32
  let c0_i32_106 : BitVec 32 := 0#32
  let c1_i32_108 : BitVec 32 := 1#32
  let arg38 : BitVec 32 := Scf.iv c0_i32_106 c1_i32_108 k0_t11
  let c8_i32_285 : BitVec 32 := 8#32
  let v588 : BitVec 32 := Scalar.muli arg38 c8_i32_285
  let v589 : BitVec 32 := Scalar.addi c320_i32 v588
  v589
def k0_mult112 (k0_t11 : Fin k0_t11_loop.trips) : BitVec 32 :=
  let c352_i32 : BitVec 32 := 352#32
  let c0_i32_106 : BitVec 32 := 0#32
  let c1_i32_108 : BitVec 32 := 1#32
  let arg38 : BitVec 32 := Scf.iv c0_i32_106 c1_i32_108 k0_t11
  let c8_i32_288 : BitVec 32 := 8#32
  let v596 : BitVec 32 := Scalar.muli arg38 c8_i32_288
  let v597 : BitVec 32 := Scalar.addi c352_i32 v596
  v597
def k0_mult113 (k0_t11 : Fin k0_t11_loop.trips) : BitVec 32 :=
  let c384_i32 : BitVec 32 := 384#32
  let c0_i32_106 : BitVec 32 := 0#32
  let c1_i32_108 : BitVec 32 := 1#32
  let arg38 : BitVec 32 := Scf.iv c0_i32_106 c1_i32_108 k0_t11
  let c8_i32_291 : BitVec 32 := 8#32
  let v604 : BitVec 32 := Scalar.muli arg38 c8_i32_291
  let v605 : BitVec 32 := Scalar.addi c384_i32 v604
  v605
def k0_mult114 (k0_t11 : Fin k0_t11_loop.trips) : BitVec 32 :=
  let c416_i32 : BitVec 32 := 416#32
  let c0_i32_106 : BitVec 32 := 0#32
  let c1_i32_108 : BitVec 32 := 1#32
  let arg38 : BitVec 32 := Scf.iv c0_i32_106 c1_i32_108 k0_t11
  let c8_i32_294 : BitVec 32 := 8#32
  let v612 : BitVec 32 := Scalar.muli arg38 c8_i32_294
  let v613 : BitVec 32 := Scalar.addi c416_i32 v612
  v613
def k0_mult115 (k0_t11 : Fin k0_t11_loop.trips) : BitVec 32 :=
  let c448_i32 : BitVec 32 := 448#32
  let c0_i32_106 : BitVec 32 := 0#32
  let c1_i32_108 : BitVec 32 := 1#32
  let arg38 : BitVec 32 := Scf.iv c0_i32_106 c1_i32_108 k0_t11
  let c8_i32_297 : BitVec 32 := 8#32
  let v620 : BitVec 32 := Scalar.muli arg38 c8_i32_297
  let v621 : BitVec 32 := Scalar.addi c448_i32 v620
  v621
def k0_mult116 (k0_t11 : Fin k0_t11_loop.trips) : BitVec 32 :=
  let c480_i32 : BitVec 32 := 480#32
  let c0_i32_106 : BitVec 32 := 0#32
  let c1_i32_108 : BitVec 32 := 1#32
  let arg38 : BitVec 32 := Scf.iv c0_i32_106 c1_i32_108 k0_t11
  let c8_i32_300 : BitVec 32 := 8#32
  let v628 : BitVec 32 := Scalar.muli arg38 c8_i32_300
  let v629 : BitVec 32 := Scalar.addi c480_i32 v628
  v629
def k0_off112 (k0_t11 : Fin k0_t11_loop.trips) : Fin 3 → Nat :=
  let c0_i32_106 : BitVec 32 := 0#32
  let c1_i32_108 : BitVec 32 := 1#32
  let arg38 : BitVec 32 := Scf.iv c0_i32_106 c1_i32_108 k0_t11
  let v636 : Index := Scalar.indexCast arg38
  let c0_303 : Index := 0#32
  let c0_304 : Index := 0#32
  ![v636.toNat, 0, 0]
def k0_off113 (k0_t11 : Fin k0_t11_loop.trips) : Fin 3 → Nat :=
  let c0_i32_106 : BitVec 32 := 0#32
  let c1_i32_108 : BitVec 32 := 1#32
  let arg38 : BitVec 32 := Scf.iv c0_i32_106 c1_i32_108 k0_t11
  let v653 : Index := Scalar.indexCast arg38
  let c0_312 : Index := 0#32
  let c0_313 : Index := 0#32
  ![v653.toNat, 0, 0]
@[reducible] def k0_t12_loop : Scf.Loop 32 :=
  let c0_i32_117 : BitVec 32 := 0#32
  let c8_i32_118 : BitVec 32 := 8#32
  let v184 : BitVec 32 := Scalar.addi c0_i32_117 c8_i32_118
  let c1_i32_119 : BitVec 32 := 1#32
  ⟨c0_i32_117, v184, c1_i32_119⟩
@[reducible] def k0_t13_loop : Scf.Loop 32 :=
  let c0_i32_287 : BitVec 32 := 0#32
  let c16_i32_288 : BitVec 32 := 16#32
  let v526 : BitVec 32 := Scalar.addi c0_i32_287 c16_i32_288
  let c1_i32_289 : BitVec 32 := 1#32
  ⟨c0_i32_287, v526, c1_i32_289⟩
def k0_off114 (k0_t12 : Fin k0_t12_loop.trips) (k0_t13 : Fin k0_t13_loop.trips) : Fin 2 → Nat :=
  let c0_i32_117 : BitVec 32 := 0#32
  let c1_i32_119 : BitVec 32 := 1#32
  let arg38 : BitVec 32 := Scf.iv c0_i32_117 c1_i32_119 k0_t12
  let c16_i32_247 : BitVec 32 := 16#32
  let v499 : BitVec 32 := Scalar.muli arg38 c16_i32_247
  let c0_i32_287 : BitVec 32 := 0#32
  let c1_i32_289 : BitVec 32 := 1#32
  let arg39 : BitVec 32 := Scf.iv c0_i32_287 c1_i32_289 k0_t13
  let v555 : BitVec 32 := Scalar.addi v499 arg39
  let v558 : Index := Scalar.indexCast v555
  let c0_318 : Index := 0#32
  ![v558.toNat, 0]
def k0_off115 (k0_t12 : Fin k0_t12_loop.trips) (k0_t13 : Fin k0_t13_loop.trips) : Fin 3 → Nat :=
  let c0_329 : Index := 0#32
  let c0_i32_117 : BitVec 32 := 0#32
  let c1_i32_119 : BitVec 32 := 1#32
  let arg38 : BitVec 32 := Scf.iv c0_i32_117 c1_i32_119 k0_t12
  let c16_i32_247 : BitVec 32 := 16#32
  let v499 : BitVec 32 := Scalar.muli arg38 c16_i32_247
  let c0_i32_287 : BitVec 32 := 0#32
  let c1_i32_289 : BitVec 32 := 1#32
  let arg39 : BitVec 32 := Scf.iv c0_i32_287 c1_i32_289 k0_t13
  let v555 : BitVec 32 := Scalar.addi v499 arg39
  let v582 : Index := Scalar.indexCast v555
  let c0_330 : Index := 0#32
  ![0, v582.toNat, 0]
def k0_off116 (k0_t12 : Fin k0_t12_loop.trips) (k0_t13 : Fin k0_t13_loop.trips) : Fin 3 → Nat :=
  let c1_333 : Index := 1#32
  let c0_i32_117 : BitVec 32 := 0#32
  let c1_i32_119 : BitVec 32 := 1#32
  let arg38 : BitVec 32 := Scf.iv c0_i32_117 c1_i32_119 k0_t12
  let c16_i32_247 : BitVec 32 := 16#32
  let v499 : BitVec 32 := Scalar.muli arg38 c16_i32_247
  let c0_i32_287 : BitVec 32 := 0#32
  let c1_i32_289 : BitVec 32 := 1#32
  let arg39 : BitVec 32 := Scf.iv c0_i32_287 c1_i32_289 k0_t13
  let v555 : BitVec 32 := Scalar.addi v499 arg39
  let v605 : Index := Scalar.indexCast v555
  let c0_334 : Index := 0#32
  ![1, v605.toNat, 0]
def k0_off117 (k0_t12 : Fin k0_t12_loop.trips) (k0_t13 : Fin k0_t13_loop.trips) : Fin 3 → Nat :=
  let c2_337 : Index := 2#32
  let c0_i32_117 : BitVec 32 := 0#32
  let c1_i32_119 : BitVec 32 := 1#32
  let arg38 : BitVec 32 := Scf.iv c0_i32_117 c1_i32_119 k0_t12
  let c16_i32_247 : BitVec 32 := 16#32
  let v499 : BitVec 32 := Scalar.muli arg38 c16_i32_247
  let c0_i32_287 : BitVec 32 := 0#32
  let c1_i32_289 : BitVec 32 := 1#32
  let arg39 : BitVec 32 := Scf.iv c0_i32_287 c1_i32_289 k0_t13
  let v555 : BitVec 32 := Scalar.addi v499 arg39
  let v628 : Index := Scalar.indexCast v555
  let c0_338 : Index := 0#32
  ![2, v628.toNat, 0]
def k0_off118 (k0_t12 : Fin k0_t12_loop.trips) (k0_t13 : Fin k0_t13_loop.trips) : Fin 3 → Nat :=
  let c3_341 : Index := 3#32
  let c0_i32_117 : BitVec 32 := 0#32
  let c1_i32_119 : BitVec 32 := 1#32
  let arg38 : BitVec 32 := Scf.iv c0_i32_117 c1_i32_119 k0_t12
  let c16_i32_247 : BitVec 32 := 16#32
  let v499 : BitVec 32 := Scalar.muli arg38 c16_i32_247
  let c0_i32_287 : BitVec 32 := 0#32
  let c1_i32_289 : BitVec 32 := 1#32
  let arg39 : BitVec 32 := Scf.iv c0_i32_287 c1_i32_289 k0_t13
  let v555 : BitVec 32 := Scalar.addi v499 arg39
  let v651 : Index := Scalar.indexCast v555
  let c0_342 : Index := 0#32
  ![3, v651.toNat, 0]
@[reducible] def k0_t14_loop : Scf.Loop 32 :=
  let c0_i32_227 : BitVec 32 := 0#32
  let c16_i32_228 : BitVec 32 := 16#32
  let v455 : BitVec 32 := Scalar.addi c0_i32_227 c16_i32_228
  let c1_i32_229 : BitVec 32 := 1#32
  ⟨c0_i32_227, v455, c1_i32_229⟩
def k0_off119 (k0_t14 : Fin k0_t14_loop.trips) : Fin 3 → Nat :=
  let c0_i32_227 : BitVec 32 := 0#32
  let c1_i32_229 : BitVec 32 := 1#32
  let arg38 : BitVec 32 := Scf.iv c0_i32_227 c1_i32_229 k0_t14
  let v499 : Index := Scalar.indexCast arg38
  let c0_247 : Index := 0#32
  let c0_248 : Index := 0#32
  ![v499.toNat, 0, 0]
def k0_off120 (k0_t14 : Fin k0_t14_loop.trips) : Fin 2 → Nat :=
  let c0_i32_227 : BitVec 32 := 0#32
  let c1_i32_229 : BitVec 32 := 1#32
  let arg38 : BitVec 32 := Scf.iv c0_i32_227 c1_i32_229 k0_t14
  let v525 : Index := Scalar.indexCast arg38
  let c0_256 : Index := 0#32
  ![v525.toNat, 0]
def k0_off121 (k0_t14 : Fin k0_t14_loop.trips) : Fin 1 → Nat :=
  let c0_i32_227 : BitVec 32 := 0#32
  let c1_i32_229 : BitVec 32 := 1#32
  let arg38 : BitVec 32 := Scf.iv c0_i32_227 c1_i32_229 k0_t14
  let v527 : Index := Scalar.indexCast arg38
  ![v527.toNat]
def k0_mult117 (k0_t14 : Fin k0_t14_loop.trips) : BitVec 32 :=
  let c0_i32_227 : BitVec 32 := 0#32
  let c1_i32_229 : BitVec 32 := 1#32
  let arg38 : BitVec 32 := Scf.iv c0_i32_227 c1_i32_229 k0_t14
  let c8_i32_259 : BitVec 32 := 8#32
  let v534 : BitVec 32 := Scalar.muli arg38 c8_i32_259
  v534
def k0_off122 (k0_t14 : Fin k0_t14_loop.trips) : Fin 2 → Nat :=
  let c0_i32_227 : BitVec 32 := 0#32
  let c1_i32_229 : BitVec 32 := 1#32
  let arg38 : BitVec 32 := Scf.iv c0_i32_227 c1_i32_229 k0_t14
  let c8_i32_259 : BitVec 32 := 8#32
  let v534 : BitVec 32 := Scalar.muli arg38 c8_i32_259
  let v535 : BitVec 32 := v534
  let v536 : Index := Scalar.indexCast v535
  let c0_260 : Index := 0#32
  ![v536.toNat, 0]
abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S512 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .smem S16 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .smem S16 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S16x65 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "ln_2" => some ((Real.log 2 : ℝ) : EReal)
  | "log2_e" => some (((Real.log 2)⁻¹ : ℝ) : EReal)
  | _ => none
-- ==== ReferenceIdeal.lean ====
abbrev S16x128x1536 : Shape := ⟨3, ![16, 128, 1536]⟩
abbrev S16x128 : Shape := ⟨2, ![16, 128]⟩
abbrev S1536x8192 : Shape := ⟨2, ![1536, 8192]⟩
abbrev S8192 : Shape := ⟨1, ![8192]⟩
abbrev S512 : Shape := ⟨1, ![512]⟩
abbrev S16 : Shape := ⟨1, ![16]⟩
abbrev S2048x1536 : Shape := ⟨2, ![2048, 1536]⟩
abbrev S2048x1 : Shape := ⟨2, ![2048, 1]⟩
abbrev S1x8192 : Shape := ⟨2, ![1, 8192]⟩
abbrev S2048x8192 : Shape := ⟨2, ![2048, 8192]⟩
abbrev S2048 : Shape := ⟨1, ![2048]⟩

abbrev nBuf : Space → Nat
  | .hbm => 14
  | .vmem => 6
  | .smem => 0
  | _ => 0

abbrev bufTy : (tb : Table) → Fin (tcTables nBuf tb) → BufTy
  | .hbm, ⟨0, _⟩ => ⟨S16x128x1536, .fp8e4m3⟩
  | .hbm, ⟨1, _⟩ => ⟨S16x128, .f32⟩
  | .hbm, ⟨2, _⟩ => ⟨S1536x8192, .i8⟩
  | .hbm, ⟨3, _⟩ => ⟨S8192, .f32⟩
  | .hbm, ⟨4, _⟩ => ⟨S8192, .f32⟩
  | .hbm, ⟨5, _⟩ => ⟨S512, .i32⟩
  | .hbm, ⟨6, _⟩ => ⟨S16, .i32⟩
  | .hbm, ⟨7, _⟩ => ⟨S16, .i32⟩
  | .hbm, ⟨8, _⟩ => ⟨S2048x1536, .fp8e4m3⟩
  | .hbm, ⟨9, _⟩ => ⟨S2048x1, .f32⟩
  | .hbm, ⟨10, _⟩ => ⟨S1x8192, .f32⟩
  | .hbm, ⟨11, _⟩ => ⟨S1x8192, .f32⟩
  | .hbm, ⟨12, _⟩ => ⟨S2048x1, .f32⟩
  | .hbm, ⟨13, _⟩ => ⟨S16x128, .f32⟩
  | .local _ .vmem, ⟨0, _⟩ => ⟨S2048x1536, .fp8e4m3⟩
  | .local _ .vmem, ⟨1, _⟩ => ⟨S2048x1, .f32⟩
  | .local _ .vmem, ⟨2, _⟩ => ⟨S1536x8192, .i8⟩
  | .local _ .vmem, ⟨3, _⟩ => ⟨S1x8192, .f32⟩
  | .local _ .vmem, ⟨4, _⟩ => ⟨S1x8192, .f32⟩
  | .local _ .vmem, ⟨5, _⟩ => ⟨S2048x1, .f32⟩
  | _, _ => ⟨S16x128x1536, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S2048x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x8192 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Pre.lean ====
module

public import proofs.«01_k».proof.Defs
public import Idealize.ShloMosaic.Lib.ReduceAll
public import Idealize.ShloMosaic.Lib.WordCmp

@[expose] public section

noncomputable section

namespace Cert.Proof

open Idealize.ShloMosaic
open Cert.Pre_labels_in_range

/-! What the precondition says, element by element. -/

private theorem word_lt {w : BitVec 32} {n : ℕ} (h0 : 0 ≤ w.toInt) (h1 : w.toInt < n) : w.toNat < n := by
  have h := BitVec.toInt_eq_toNat_cond w
  split at h <;> omega

variable {F : FTy → Type} [FloatOps F] [Facts]

/-- Every label is one of 0 … 8191 and every label length one of 0 … 32. -/
theorem pre_words (a0 : FVec F S16x128x1536 .fp8e4m3) (a1 : FVec F S16x128 .f32) (a2 : IVec S1536x8192 8) (a3 a4 : FVec F S8192 .f32)
    (a5 : IVec S512 32) (a6 a7 : IVec S16 32) (h : fn a0 a1 a2 a3 a4 a5 a6 a7 = fun _ => 1#1) :
    (∀ i, (a5 i).toNat < 8192) ∧ ∀ i, (a6 i).toNat ≤ 32 := by
  have h0 := congrFun h (fun a => a.elim0)
  obtain ⟨hl, hr⟩ := IntOp.andi_eq_one.mp h0
  haveI : Subsingleton S_.Idx := ⟨fun a b => funext fun i => i.elim0⟩
  constructor
  · intro i
    obtain ⟨h1, h2⟩ := IntOp.andi_eq_one.mp (Host.reduce_andi_all _ _ _ _ _ hl i)
    have h3 : (0 : ℤ) ≤ (a5 i).toInt := IntOp.cmpi_sge.1 h1
    have h4 : (a5 i).toInt < (8192#32 : BitVec 32).toInt := IntOp.cmpi_slt.1 h2
    exact word_lt h3 h4
  · intro i
    obtain ⟨h1, h2⟩ := IntOp.andi_eq_one.mp (Host.reduce_andi_all _ _ _ _ _ hr i)
    have h3 : (0 : ℤ) ≤ (a6 i).toInt := IntOp.cmpi_sge.1 h1
    have h4 : (a6 i).toInt ≤ (32#32 : BitVec 32).toInt := IntOp.cmpi_sle.1 h2
    have h5 : (a6 i).toInt < (33 : ℕ) := lt_of_le_of_lt h4 (by decide)
    exact Nat.lt_succ_iff.mp (word_lt h3 h5)

end Cert.Proof

end
-- ==== Proof.Kernel.Windows.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! The sixteen column blocks of `w_codes`, and the cells their transfers signal. -/

abbrev wOff (j : Fin 16) : Fin 2 → Nat := ![0, 512 * j.val]
theorem wOff_inb (j : Fin 16) : ∀ a, wOff j a + S1536x512.size a ≤ S1536x8192.size a := by
  have := j.isLt; intro a; fin_cases a
  · show 0 + 1536 ≤ 1536; omega
  · show 512 * j.val + 512 ≤ 8192; omega
abbrev wCellOff (j : Fin 16) : Fin 1 → Nat := ![j.val]
theorem wCellOff_inb (j : Fin 16) : ∀ a, wCellOff j a + S1.size a ≤ S16.size a := by
  have := j.isLt; intro a; fin_cases a; show j.val + 1 ≤ 16; omega
abbrev xOff (p : Fin 4) : Fin 2 → Nat := ![512 * p.val, 0]
theorem xOff_inb (p : Fin 4) : ∀ a, xOff p a + S512x1536.size a ≤ S2048x1536.size a := by
  have := p.isLt; intro a; fin_cases a
  · show 512 * p.val + 512 ≤ 2048; omega
  · show 0 + 1536 ≤ 1536; omega
abbrev xCellOff (p : Fin 4) : Fin 1 → Nat := ![p.val]
theorem xCellOff_inb (p : Fin 4) : ∀ a, xCellOff p a + S1.size a ≤ S4.size a := by
  have := p.isLt; intro a; fin_cases a; show p.val + 1 ≤ 4; omega

/-- Column block `j` of a matrix of the codes' shape. -/
def wwin {sp : Space} (M : Memref sig .tc sp S1536x8192 .i8) (j : Fin 16) : Memref sig .tc sp S1536x512 .i8 :=
  M.slice (Rect.unit (s := S1536x8192) (wOff j) S1536x512.size (wOff_inb j)) (fun _ => rfl)
/-- The cell block `j`'s transfer signals. -/
def wcell (S : DmaSems sig S16) (j : Fin 16) : DmaSems sig S_ :=
  (S.slice (Rect.unit (s := S16) (wCellOff j) S1.size (wCellOff_inb j))).squeeze S_ squeezes_S1_S_
/-- Row block `p` of a matrix of the inputs' shape. -/
def xwin {sp : Space} (M : Memref sig .tc sp S2048x1536 .fp8e4m3) (p : Fin 4) : Memref sig .tc sp S512x1536 .fp8e4m3 :=
  M.slice (Rect.unit (s := S2048x1536) (xOff p) S512x1536.size (xOff_inb p)) (fun _ => rfl)
/-- The cell row block `p`'s transfer signals. -/
def xcell (S : DmaSems sig S4) (p : Fin 4) : DmaSems sig S_ :=
  (S.slice (Rect.unit (s := S4) (xCellOff p) S1.size (xCellOff_inb p))).squeeze S_ squeezes_S1_S_

instance (j : Fin 16) : ClosedOff (wOff j) := ⟨wOff j, rfl⟩
instance (p : Fin 4) : ClosedOff (xOff p) := ⟨xOff p, rfl⟩

theorem wwin_congr {sp : Space} (M : Memref sig .tc sp S1536x8192 .i8) {off : Fin 2 → Nat} {j : Fin 16} (e : off = wOff j) (hh hs) :
    M.slice (Rect.unit (s := S1536x8192) off S1536x512.size hh) hs = wwin M j := Memref.slice_unit_congr _ e _ _ _ (fun _ => rfl)
theorem wcell_congr (S : DmaSems sig S16) {off : Fin 1 → Nat} {j : Fin 16} (e : off = wCellOff j) (hh) :
    (S.slice (Rect.unit (s := S16) off S1.size hh)).squeeze S_ squeezes_S1_S_ = wcell S j :=
  congrArg (fun A : DmaSems sig S1 => A.squeeze S_ squeezes_S1_S_) (SemArray.slice_unit_congr _ e _ _)
theorem xwin_congr {sp : Space} (M : Memref sig .tc sp S2048x1536 .fp8e4m3) {off : Fin 2 → Nat} {p : Fin 4} (e : off = xOff p) (hh hs) :
    M.slice (Rect.unit (s := S2048x1536) off S512x1536.size hh) hs = xwin M p := Memref.slice_unit_congr _ e _ _ _ (fun _ => rfl)
theorem xcell_congr (S : DmaSems sig S4) {off : Fin 1 → Nat} {p : Fin 4} (e : off = xCellOff p) (hh) :
    (S.slice (Rect.unit (s := S4) off S1.size hh)).squeeze S_ squeezes_S1_S_ = xcell S p :=
  congrArg (fun A : DmaSems sig S1 => A.squeeze S_ squeezes_S1_S_) (SemArray.slice_unit_congr _ e _ _)

@[sl_canon] theorem wwin_0 {sp : Space} (M : Memref sig .tc sp S1536x8192 .i8) (hh hs) : M.slice (Rect.unit (s := S1536x8192) ![0, 0] S1536x512.size hh) hs = wwin M 0 := wwin_congr _ (by decide) _ _
@[sl_canon] theorem wcell_0 (S : DmaSems sig S16) (hh) : (S.slice (Rect.unit (s := S16) ![0] S1.size hh)).squeeze S_ squeezes_S1_S_ = wcell S 0 := wcell_congr _ (by decide) _
@[sl_canon] theorem wwin_1 {sp : Space} (M : Memref sig .tc sp S1536x8192 .i8) (hh hs) : M.slice (Rect.unit (s := S1536x8192) ![0, 512] S1536x512.size hh) hs = wwin M 1 := wwin_congr _ (by decide) _ _
@[sl_canon] theorem wcell_1 (S : DmaSems sig S16) (hh) : (S.slice (Rect.unit (s := S16) ![1] S1.size hh)).squeeze S_ squeezes_S1_S_ = wcell S 1 := wcell_congr _ (by decide) _
@[sl_canon] theorem wwin_2 {sp : Space} (M : Memref sig .tc sp S1536x8192 .i8) (hh hs) : M.slice (Rect.unit (s := S1536x8192) ![0, 1024] S1536x512.size hh) hs = wwin M 2 := wwin_congr _ (by decide) _ _
@[sl_canon] theorem wcell_2 (S : DmaSems sig S16) (hh) : (S.slice (Rect.unit (s := S16) ![2] S1.size hh)).squeeze S_ squeezes_S1_S_ = wcell S 2 := wcell_congr _ (by decide) _
@[sl_canon] theorem wwin_3 {sp : Space} (M : Memref sig .tc sp S1536x8192 .i8) (hh hs) : M.slice (Rect.unit (s := S1536x8192) ![0, 1536] S1536x512.size hh) hs = wwin M 3 := wwin_congr _ (by decide) _ _
@[sl_canon] theorem wcell_3 (S : DmaSems sig S16) (hh) : (S.slice (Rect.unit (s := S16) ![3] S1.size hh)).squeeze S_ squeezes_S1_S_ = wcell S 3 := wcell_congr _ (by decide) _
@[sl_canon] theorem wwin_4 {sp : Space} (M : Memref sig .tc sp S1536x8192 .i8) (hh hs) : M.slice (Rect.unit (s := S1536x8192) ![0, 2048] S1536x512.size hh) hs = wwin M 4 := wwin_congr _ (by decide) _ _
@[sl_canon] theorem wcell_4 (S : DmaSems sig S16) (hh) : (S.slice (Rect.unit (s := S16) ![4] S1.size hh)).squeeze S_ squeezes_S1_S_ = wcell S 4 := wcell_congr _ (by decide) _
@[sl_canon] theorem wwin_5 {sp : Space} (M : Memref sig .tc sp S1536x8192 .i8) (hh hs) : M.slice (Rect.unit (s := S1536x8192) ![0, 2560] S1536x512.size hh) hs = wwin M 5 := wwin_congr _ (by decide) _ _
@[sl_canon] theorem wcell_5 (S : DmaSems sig S16) (hh) : (S.slice (Rect.unit (s := S16) ![5] S1.size hh)).squeeze S_ squeezes_S1_S_ = wcell S 5 := wcell_congr _ (by decide) _
@[sl_canon] theorem wwin_6 {sp : Space} (M : Memref sig .tc sp S1536x8192 .i8) (hh hs) : M.slice (Rect.unit (s := S1536x8192) ![0, 3072] S1536x512.size hh) hs = wwin M 6 := wwin_congr _ (by decide) _ _
@[sl_canon] theorem wcell_6 (S : DmaSems sig S16) (hh) : (S.slice (Rect.unit (s := S16) ![6] S1.size hh)).squeeze S_ squeezes_S1_S_ = wcell S 6 := wcell_congr _ (by decide) _
@[sl_canon] theorem wwin_7 {sp : Space} (M : Memref sig .tc sp S1536x8192 .i8) (hh hs) : M.slice (Rect.unit (s := S1536x8192) ![0, 3584] S1536x512.size hh) hs = wwin M 7 := wwin_congr _ (by decide) _ _
@[sl_canon] theorem wcell_7 (S : DmaSems sig S16) (hh) : (S.slice (Rect.unit (s := S16) ![7] S1.size hh)).squeeze S_ squeezes_S1_S_ = wcell S 7 := wcell_congr _ (by decide) _
@[sl_canon] theorem wwin_8 {sp : Space} (M : Memref sig .tc sp S1536x8192 .i8) (hh hs) : M.slice (Rect.unit (s := S1536x8192) ![0, 4096] S1536x512.size hh) hs = wwin M 8 := wwin_congr _ (by decide) _ _
@[sl_canon] theorem wcell_8 (S : DmaSems sig S16) (hh) : (S.slice (Rect.unit (s := S16) ![8] S1.size hh)).squeeze S_ squeezes_S1_S_ = wcell S 8 := wcell_congr _ (by decide) _
@[sl_canon] theorem wwin_9 {sp : Space} (M : Memref sig .tc sp S1536x8192 .i8) (hh hs) : M.slice (Rect.unit (s := S1536x8192) ![0, 4608] S1536x512.size hh) hs = wwin M 9 := wwin_congr _ (by decide) _ _
@[sl_canon] theorem wcell_9 (S : DmaSems sig S16) (hh) : (S.slice (Rect.unit (s := S16) ![9] S1.size hh)).squeeze S_ squeezes_S1_S_ = wcell S 9 := wcell_congr _ (by decide) _
@[sl_canon] theorem wwin_10 {sp : Space} (M : Memref sig .tc sp S1536x8192 .i8) (hh hs) : M.slice (Rect.unit (s := S1536x8192) ![0, 5120] S1536x512.size hh) hs = wwin M 10 := wwin_congr _ (by decide) _ _
@[sl_canon] theorem wcell_10 (S : DmaSems sig S16) (hh) : (S.slice (Rect.unit (s := S16) ![10] S1.size hh)).squeeze S_ squeezes_S1_S_ = wcell S 10 := wcell_congr _ (by decide) _
@[sl_canon] theorem wwin_11 {sp : Space} (M : Memref sig .tc sp S1536x8192 .i8) (hh hs) : M.slice (Rect.unit (s := S1536x8192) ![0, 5632] S1536x512.size hh) hs = wwin M 11 := wwin_congr _ (by decide) _ _
@[sl_canon] theorem wcell_11 (S : DmaSems sig S16) (hh) : (S.slice (Rect.unit (s := S16) ![11] S1.size hh)).squeeze S_ squeezes_S1_S_ = wcell S 11 := wcell_congr _ (by decide) _
@[sl_canon] theorem wwin_12 {sp : Space} (M : Memref sig .tc sp S1536x8192 .i8) (hh hs) : M.slice (Rect.unit (s := S1536x8192) ![0, 6144] S1536x512.size hh) hs = wwin M 12 := wwin_congr _ (by decide) _ _
@[sl_canon] theorem wcell_12 (S : DmaSems sig S16) (hh) : (S.slice (Rect.unit (s := S16) ![12] S1.size hh)).squeeze S_ squeezes_S1_S_ = wcell S 12 := wcell_congr _ (by decide) _
@[sl_canon] theorem wwin_13 {sp : Space} (M : Memref sig .tc sp S1536x8192 .i8) (hh hs) : M.slice (Rect.unit (s := S1536x8192) ![0, 6656] S1536x512.size hh) hs = wwin M 13 := wwin_congr _ (by decide) _ _
@[sl_canon] theorem wcell_13 (S : DmaSems sig S16) (hh) : (S.slice (Rect.unit (s := S16) ![13] S1.size hh)).squeeze S_ squeezes_S1_S_ = wcell S 13 := wcell_congr _ (by decide) _
@[sl_canon] theorem wwin_14 {sp : Space} (M : Memref sig .tc sp S1536x8192 .i8) (hh hs) : M.slice (Rect.unit (s := S1536x8192) ![0, 7168] S1536x512.size hh) hs = wwin M 14 := wwin_congr _ (by decide) _ _
@[sl_canon] theorem wcell_14 (S : DmaSems sig S16) (hh) : (S.slice (Rect.unit (s := S16) ![14] S1.size hh)).squeeze S_ squeezes_S1_S_ = wcell S 14 := wcell_congr _ (by decide) _
@[sl_canon] theorem wwin_15 {sp : Space} (M : Memref sig .tc sp S1536x8192 .i8) (hh hs) : M.slice (Rect.unit (s := S1536x8192) ![0, 7680] S1536x512.size hh) hs = wwin M 15 := wwin_congr _ (by decide) _ _
@[sl_canon] theorem wcell_15 (S : DmaSems sig S16) (hh) : (S.slice (Rect.unit (s := S16) ![15] S1.size hh)).squeeze S_ squeezes_S1_S_ = wcell S 15 := wcell_congr _ (by decide) _
@[sl_canon] theorem xwin_0 {sp : Space} (M : Memref sig .tc sp S2048x1536 .fp8e4m3) (hh hs) : M.slice (Rect.unit (s := S2048x1536) ![0, 0] S512x1536.size hh) hs = xwin M 0 := xwin_congr _ (by decide) _ _
@[sl_canon] theorem xcell_0 (S : DmaSems sig S4) (hh) : (S.slice (Rect.unit (s := S4) ![0] S1.size hh)).squeeze S_ squeezes_S1_S_ = xcell S 0 := xcell_congr _ (by decide) _
@[sl_canon] theorem xwin_1 {sp : Space} (M : Memref sig .tc sp S2048x1536 .fp8e4m3) (hh hs) : M.slice (Rect.unit (s := S2048x1536) ![512, 0] S512x1536.size hh) hs = xwin M 1 := xwin_congr _ (by decide) _ _
@[sl_canon] theorem xcell_1 (S : DmaSems sig S4) (hh) : (S.slice (Rect.unit (s := S4) ![1] S1.size hh)).squeeze S_ squeezes_S1_S_ = xcell S 1 := xcell_congr _ (by decide) _
@[sl_canon] theorem xwin_2 {sp : Space} (M : Memref sig .tc sp S2048x1536 .fp8e4m3) (hh hs) : M.slice (Rect.unit (s := S2048x1536) ![1024, 0] S512x1536.size hh) hs = xwin M 2 := xwin_congr _ (by decide) _ _
@[sl_canon] theorem xcell_2 (S : DmaSems sig S4) (hh) : (S.slice (Rect.unit (s := S4) ![2] S1.size hh)).squeeze S_ squeezes_S1_S_ = xcell S 2 := xcell_congr _ (by decide) _
@[sl_canon] theorem xwin_3 {sp : Space} (M : Memref sig .tc sp S2048x1536 .fp8e4m3) (hh hs) : M.slice (Rect.unit (s := S2048x1536) ![1536, 0] S512x1536.size hh) hs = xwin M 3 := xwin_congr _ (by decide) _ _
@[sl_canon] theorem xcell_3 (S : DmaSems sig S4) (hh) : (S.slice (Rect.unit (s := S4) ![3] S1.size hh)).squeeze S_ squeezes_S1_S_ = xcell S 3 := xcell_congr _ (by decide) _

/-- The block a trip of the tile loop waits for: the next one. -/
def nxt (t : Fin k0_t3_loop.trips) (h : t.val + 1 < 16) : Fin 16 := ⟨t.val + 1, h⟩

theorem cond1_lt : ∀ t : Fin k0_t3_loop.trips, k0_cond1 t = 1#1 → t.val + 1 < 16 := by decide +kernel
theorem cond1_ge : ∀ t : Fin k0_t3_loop.trips, t.val + 1 < 16 → k0_cond1 t = 1#1 := by decide +kernel

@[sl_canon] theorem wwin_t {sp : Space} (M : Memref sig .tc sp S1536x8192 .i8) (t : Fin k0_t3_loop.trips) (h : t.val + 1 < 16) (hh hs) :
    M.slice (Rect.unit (s := S1536x8192) (k0_off18 t) S1536x512.size hh) hs = wwin M ⟨t.val + 1, h⟩ :=
  wwin_congr _ (by rw [Gen.k0_off18_eq]; show _ = ![0, 512 * (t.val + 1)]; rw [Nat.mul_add]) _ _
@[sl_canon] theorem wcell_t (S : DmaSems sig S16) (t : Fin k0_t3_loop.trips) (h : t.val + 1 < 16) (hh) :
    (S.slice (Rect.unit (s := S16) (k0_off17 t) S1.size hh)).squeeze S_ squeezes_S1_S_ = wcell S ⟨t.val + 1, h⟩ :=
  wcell_congr _ (Gen.k0_off17_eq t) _

theorem wwin_set {sp : Space} (M : Memref sig .tc sp S1536x8192 .i8) (j : Fin 16) :
    (wwin M j).view.set = M.view.setOn (Rect.unit (s := S1536x8192) (wOff j) S1536x512.size (wOff_inb j)).set := View.set_slice _ _

/-- The piece of block 0 the first transpose's trip reads. -/
theorem in_wwin0 {sp : Space} (M : Memref sig .tc sp S1536x8192 .i8) (t : Fin k0_t2_loop.trips) :
    M.view.setOn (Rect.unit (s := S1536x8192) (k0_off2 t) S1536x128.size (k0_off2_inb t)).set ⊆ (wwin M 0).view.set := by
  rw [wwin_set]
  refine Finset.map_subset_map.2 fun y hy => ?_
  rw [Rect.mem_set_unit] at hy ⊢
  have ht : t.val < 4 := t.isLt
  have hy0 := hy 0; have hy1 := hy 1
  rw [Gen.k0_off2_eq] at hy0 hy1
  intro a; fin_cases a
  · exact hy0
  · have h1 : 128 * t.val ≤ (y 1).val ∧ (y 1).val < 128 * t.val + 128 := hy1
    show 512 * 0 ≤ (y 1).val ∧ (y 1).val < 512 * 0 + 512
    omega
/-- The piece of block `t + 1` a trip of the tile loop's transpose reads. -/
theorem in_wwint {sp : Space} (M : Memref sig .tc sp S1536x8192 .i8) (t3 : Fin k0_t3_loop.trips) (h : t3.val + 1 < 16)
    (hc : k0_cond1 t3 = 1#1) (t : Fin k0_t4_loop.trips) :
    M.view.setOn (Rect.unit (s := S1536x8192) (k0_off19 t3 t) S1536x128.size (k0_off19_inb t3 t hc)).set ⊆ (wwin M ⟨t3.val + 1, h⟩).view.set := by
  rw [wwin_set]
  refine Finset.map_subset_map.2 fun y hy => ?_
  rw [Rect.mem_set_unit] at hy ⊢
  have ht : t.val < 4 := t.isLt
  have hy0 := hy 0; have hy1 := hy 1
  rw [Gen.k0_off19_eq] at hy0 hy1
  intro a; fin_cases a
  · exact hy0
  · have h1 : 512 * t3.val + 128 * t.val + 512 ≤ (y 1).val ∧ (y 1).val < 512 * t3.val + 128 * t.val + 512 + 128 := hy1
    show 512 * (t3.val + 1) ≤ (y 1).val ∧ (y 1).val < 512 * (t3.val + 1) + 512
    omega

end Cert.Proof.Kernel
-- ==== Proof.Kernel.Flights.lean ====
module

public import proofs.«01_k».proof.Proof.Gen.Kernel.Loops
public import Idealize.ShloMosaic.Lib.Pipeline.FrameBody
public import Idealize.ShloMosaic.Lib.Tactic
public import proofs.«01_k».proof.Proof.Kernel.Windows
public import Idealize.ShloMosaic.Lib.Ring
public import Idealize.ShloMosaic.Lib.Transfers

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg1 : Memref sig .tc .hbm S1536x8192 .i8) (arg12 : Memref sig .tc .vmem S1536x8192 .i8) (arg36 : DmaSems sig S16)
  (X1 : BufTy.Contents (Elt F) arg1.view.ty)

/-- What block `j`'s transfer leaves over `f`: the block of `w_codes`. -/
abbrev landed (j : Fin 16) (f : BufTy.Contents (Elt F) (wwin arg12 j).view.ty) : BufTy.Contents (Elt F) (wwin arg12 j).view.ty :=
  (wwin arg12 j).view.writes (Elt F) f [⟨Rect.whole S1536x512, ReadAs.same.apply ((wwin arg1 j).view.read (Elt F) X1)⟩]
/-- Block `j` landed: its place in the buffer, its place in the array, its cell at zero. -/
abbrev landedP (j : Fin 16) : sProp 𝕄 :=
  iprop((∃ f, ((wwin arg12 j).view.loc (c : Thread nD τ) ↦[(wwin arg12 j).view.set]{fullShare} f)) ∗ ((wwin arg1 j).view.loc (c : Thread nD τ) ↦[(wwin arg1 j).view.set]{fullShare} X1) ∗ semVal ((c : Thread nD τ), SemLoc.dma (wcell arg36 j).sem) 0)
/-- Block `j` in flight. -/
abbrev flightP (j : Fin 16) : sProp 𝕄 :=
  iprop(∃ f, Transfers.Flight countersEmb (c : Thread nD τ) (SemLoc.dma (wcell arg36 j).sem) () 24576
    iprop(((wwin arg12 j).view.loc (c : Thread nD τ) ↦[(wwin arg12 j).view.set]{fullShare} landed arg1 arg12 X1 j f) ∗ ((wwin arg1 j).view.loc (c : Thread nD τ) ↦[(wwin arg1 j).view.set]{fullShare} X1)))
/-- Before trip `k` of the tile loop: blocks `0 … k` landed, the others in flight. -/
def blocksAt (k : ℕ) : sProp 𝕄 :=
  iprop(bigSep (Ring.rangeSet 16 0 (k + 1)) (landedP c arg1 arg12 arg36 X1) ∗ bigSep (Ring.rangeSet 16 (k + 1) 16) (flightP c arg1 arg12 arg36 X1))
/-- What trip `k` leaves alone: the blocks landed before, the flights behind the next. -/
def blocksRest (k : ℕ) : sProp 𝕄 :=
  iprop(bigSep (Ring.rangeSet 16 0 (k + 1)) (landedP c arg1 arg12 arg36 X1) ∗ bigSep (Ring.rangeSet 16 (k + 2) 16) (flightP c arg1 arg12 arg36 X1))

theorem blocks_here (k : ℕ) (h : k + 1 < 16) :
    blocksAt c arg1 arg12 arg36 X1 k ⊢ iprop(flightP c arg1 arg12 arg36 X1 ⟨k + 1, h⟩ ∗ blocksRest c arg1 arg12 arg36 X1 k) := by
  unfold blocksAt blocksRest
  rw [Ring.bigSep_rangeSet_head (lo := k + 1) (hi := 16) h h]
  iintro ⟨HL, HF, HR⟩
  isplitl [HF]; · iexact HF
  isplitl [HL]; · iexact HL
  iexact HR
theorem blocks_next (k : ℕ) (h : k + 1 < 16) :
    iprop(landedP c arg1 arg12 arg36 X1 ⟨k + 1, h⟩ ∗ blocksRest c arg1 arg12 arg36 X1 k) ⊢ blocksAt c arg1 arg12 arg36 X1 (k + 1) := by
  unfold blocksAt blocksRest
  rw [Ring.bigSep_rangeSet_last (lo := 0) (hi := k + 1 + 1) (by omega) (by omega)]
  iintro ⟨HF, HL, HR⟩
  isplitl [HF HL]
  · isplitl [HF]; · iexact HF
    iexact HL
  iexact HR
theorem blocks_last (k : ℕ) (h : ¬ k + 1 < 16) :
    blocksAt c arg1 arg12 arg36 X1 k ⊢ blocksAt c arg1 arg12 arg36 X1 (k + 1) := by
  unfold blocksAt
  have e1 : Ring.rangeSet 16 0 (k + 1) = Ring.rangeSet 16 0 (k + 1 + 1) := by
    ext b; simp only [Ring.mem_rangeSet]; have := b.isLt; omega
  have e2 : Ring.rangeSet 16 (k + 1) 16 = Ring.rangeSet 16 (k + 1 + 1) 16 := by
    ext b; simp only [Ring.mem_rangeSet]; have := b.isLt; omega
  rw [e1, e2]
end

end Cert.Proof.Kernel
-- ==== Proof.Kernel.Start.lean ====
module

public import proofs.«01_k».proof.Proof.Gen.Kernel.Loops
public import Idealize.ShloMosaic.Lib.Pipeline.FrameBody
public import Idealize.ShloMosaic.Lib.Tactic
public import proofs.«01_k».proof.Proof.Kernel.Flights

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! Starting the tile loop, and the four row blocks of the inputs. -/

section
variable (c : Dev nD) (arg1 : Memref sig .tc .hbm S1536x8192 .i8) (arg12 : Memref sig .tc .vmem S1536x8192 .i8) (arg36 : DmaSems sig S16)
  (X1 : BufTy.Contents (Elt F) arg1.view.ty)

theorem w16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

theorem blocks_start : iprop(landedP c arg1 arg12 arg36 X1 0 ∗ flightP c arg1 arg12 arg36 X1 1 ∗ flightP c arg1 arg12 arg36 X1 2 ∗ flightP c arg1 arg12 arg36 X1 3 ∗ flightP c arg1 arg12 arg36 X1 4 ∗ flightP c arg1 arg12 arg36 X1 5 ∗ flightP c arg1 arg12 arg36 X1 6 ∗ flightP c arg1 arg12 arg36 X1 7 ∗ flightP c arg1 arg12 arg36 X1 8 ∗ flightP c arg1 arg12 arg36 X1 9 ∗ flightP c arg1 arg12 arg36 X1 10 ∗ flightP c arg1 arg12 arg36 X1 11 ∗ flightP c arg1 arg12 arg36 X1 12 ∗ flightP c arg1 arg12 arg36 X1 13 ∗ flightP c arg1 arg12 arg36 X1 14 ∗ flightP c arg1 arg12 arg36 X1 15) ⊢ blocksAt c arg1 arg12 arg36 X1 0 := by
  unfold blocksAt
  rw [show Ring.rangeSet 16 0 (0 + 1) = [(0 : Fin 16)].toFinset from by decide, show Ring.rangeSet 16 (0 + 1) 16 = [(1 : Fin 16), 2, 3, 4, 5, 6, 7, 8, 9, 10, 11, 12, 13, 14, 15].toFinset from by decide,
    bigSep_eq_bigSepL _ (by decide), bigSep_eq_bigSepL _ (by decide)]
  exact .rfl
theorem blocks_end : blocksAt c arg1 arg12 arg36 X1 16 ⊢ bigSep Finset.univ (landedP c arg1 arg12 arg36 X1) := by
  unfold blocksAt
  rw [show Ring.rangeSet 16 0 (16 + 1) = Finset.univ from by decide]
  iintro ⟨H, -⟩
  iexact H
end

section
variable (c : Dev nD) (arg0 : Memref sig .tc .hbm S2048x1536 .fp8e4m3) (arg11 : Memref sig .tc .vmem S2048x1536 .fp8e4m3) (arg37 : DmaSems sig S4)
  (X0 : BufTy.Contents (Elt F) arg0.view.ty)
/-- Row block `p` at rest: its place in the buffer, its place in the array, its cell at zero. -/
abbrev xlandedP (p : Fin 4) : sProp 𝕄 :=
  iprop((∃ f, ((xwin arg11 p).view.loc (c : Thread nD τ) ↦[(xwin arg11 p).view.set]{fullShare} f)) ∗ ((xwin arg0 p).view.loc (c : Thread nD τ) ↦[(xwin arg0 p).view.set]{fullShare} X0) ∗ semVal ((c : Thread nD τ), SemLoc.dma (xcell arg37 p).sem) 0)
theorem x4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The places of row block `p`. -/
abbrev xset {sp : Space} (M : Memref sig .tc sp S2048x1536 .fp8e4m3) (p : Fin 4) : Finset M.view.ty.Idx :=
  M.view.setOn (Rect.unit (s := S2048x1536) (xOff p) S512x1536.size (xOff_inb p)).set
theorem xwin_set {sp : Space} (M : Memref sig .tc sp S2048x1536 .fp8e4m3) (p : Fin 4) : (xwin M p).view.set = xset M p := View.set_slice _ _
theorem mem_xset {sp : Space} (M : Memref sig .tc sp S2048x1536 .fp8e4m3) (p : Fin 4) (y : S2048x1536.Idx) :
    M.view.emb y ∈ xset M p ↔ (y 0).val / 512 = p.val := by
  rw [View.mem_setOn, Rect.mem_set_unit]
  have h1 : (y 1).val < 1536 := (y 1).isLt
  constructor
  · intro H; have a0 : 512 * p.val ≤ (y 0).val ∧ (y 0).val < 512 * p.val + 512 := H 0; omega
  · intro H i; fin_cases i
    · show 512 * p.val ≤ (y 0).val ∧ (y 0).val < 512 * p.val + 512; omega
    · show 0 ≤ (y 1).val ∧ (y 1).val < 0 + 1536; omega
theorem xset_disjoint {sp : Space} (M : Memref sig .tc sp S2048x1536 .fp8e4m3) : ∀ p ∈ (Finset.univ : Finset (Fin 4)), ∀ p' ∈ (Finset.univ : Finset (Fin 4)), p ≠ p' → Disjoint (xset M p) (xset M p') := by
  intro p _ p' _ hne
  rw [Finset.disjoint_left]
  intro i hi hi'
  obtain ⟨y, -, rfl⟩ := Finset.mem_map.mp hi
  exact hne (Fin.ext (((mem_xset M p y).mp hi).symm.trans ((mem_xset M p' y).mp hi')))
theorem xset_cover {sp : Space} (M : Memref sig .tc sp S2048x1536 .fp8e4m3) : Finset.univ.biUnion (xset M) = M.view.set := by
  ext i
  rw [Finset.mem_biUnion]
  constructor
  · rintro ⟨p, -, h⟩; exact M.view.setOn_subset_set _ h
  · intro h
    obtain ⟨y, -, rfl⟩ := Finset.mem_map.mp h
    have h0 : (y 0).val < 2048 := (y 0).isLt
    exact ⟨⟨(y 0).val / 512, by omega⟩, Finset.mem_univ _, (mem_xset M _ y).mpr rfl⟩
/-- A row block's points-to, at the whole buffer's location. -/
theorem xw_eq (p : Fin 4) (f : BufTy.Contents (Elt F) arg11.view.ty) :
    (((xwin arg11 p).view.loc (c : Thread nD τ) ↦[(xwin arg11 p).view.set]{fullShare} f) : sProp 𝕄)
      = (arg11.view.loc (c : Thread nD τ) ↦[xset arg11 p]{fullShare} f) :=
  congrArg (fun S : Finset arg11.view.ty.Idx => (arg11.view.loc (c : Thread nD τ) ↦[S]{fullShare} f : sProp 𝕄)) (xwin_set arg11 p)
/-- The whole buffer, row block by row block. -/
theorem x_split (f : BufTy.Contents (Elt F) arg11.view.ty) :
    (arg11.view.loc (c : Thread nD τ) ↦[arg11.view.set]{fullShare} f : sProp 𝕄)
      = bigSep Finset.univ (fun p : Fin 4 => (arg11.view.loc (c : Thread nD τ) ↦[xset arg11 p]{fullShare} f)) :=
  (congrArg (fun S : Finset arg11.view.ty.Idx => (arg11.view.loc (c : Thread nD τ) ↦[S]{fullShare} f : sProp 𝕄)) (xset_cover arg11).symm).trans
    (pointsTo_biUnion (q := fullShare) (ℓ := arg11.view.loc (c : Thread nD τ)) Finset.univ (xset arg11) (xset_disjoint arg11))
/-- and back, at contents that agree with each block's on it. -/
theorem x_join (fs : Fin 4 → BufTy.Contents (Elt F) arg11.view.ty) :
    bigSep Finset.univ (fun p : Fin 4 => (arg11.view.loc (c : Thread nD τ) ↦[xset arg11 p]{fullShare} fs p))
      ⊢ (iprop(∃ g : BufTy.Contents (Elt F) arg11.view.ty, ⌜∀ p : Fin 4, ∀ i ∈ xset arg11 p, g i = fs p i⌝ ∗ (arg11.view.loc (c : Thread nD τ) ↦[arg11.view.set]{fullShare} g)) : sProp 𝕄) := by
  have hj := (pointsTo_biUnion_join (Ix := Unit) (Name := ℕ) (U := Pipeline.UD sig nD τ) (Lvl := ℕ) (q := fullShare) (ℓ := arg11.view.loc (c : Thread nD τ)) Finset.univ (xset arg11) fs (fs 0) (xset_disjoint arg11))
  iintro H0
  icases hj $$ H0 with ⟨%g, %hg, H⟩

  iexists g
  isplitr
  · ipureintro; exact fun p i hi => hg p (Finset.mem_univ p) i hi
  · rw [xset_cover]; iexact H
/-- Row block `p` come in: its place holds the array's rows. -/
abbrev xdoneP (p : Fin 4) : sProp 𝕄 :=
  iprop(∃ f : BufTy.Contents (Elt F) arg11.view.ty, ⌜∀ y, (xwin arg11 p).view.read (Elt F) f y = (xwin arg0 p).view.read (Elt F) X0 y⌝ ∗
    ((xwin arg11 p).view.loc (c : Thread nD τ) ↦[(xwin arg11 p).view.set]{fullShare} f))
/-- The four row blocks come in are the whole array come in. -/
theorem x_collect :
    iprop(xdoneP c arg0 arg11 X0 0 ∗ xdoneP c arg0 arg11 X0 1 ∗ xdoneP c arg0 arg11 X0 2 ∗ xdoneP c arg0 arg11 X0 3)
      ⊢ (iprop(∃ g : BufTy.Contents (Elt F) arg11.view.ty, ⌜∀ y, arg11.view.read (Elt F) g y = arg0.view.read (Elt F) X0 y⌝ ∗ (arg11.view.loc (c : Thread nD τ) ↦[arg11.view.set]{fullShare} g)) : sProp 𝕄) := by
  iintro ⟨⟨%f0, %h0, H0⟩, ⟨%f1, %h1, H1⟩, ⟨%f2, %h2, H2⟩, ⟨%f3, %h3, H3⟩⟩
  have hf : ∀ p : Fin 4, ∀ y, (xwin arg11 p).view.read (Elt F) ((![f0, f1, f2, f3] : Fin 4 → BufTy.Contents (Elt F) arg11.view.ty) p) y = (xwin arg0 p).view.read (Elt F) X0 y := by
    intro p; fin_cases p
    · exact h0
    · exact h1
    · exact h2
    · exact h3
  ihave HJ := (x_join c arg11 (![f0, f1, f2, f3] : Fin 4 → BufTy.Contents (Elt F) arg11.view.ty)) $$ [H0 H1 H2 H3]
  · rw [x4, ← xw_eq, ← xw_eq, ← xw_eq, ← xw_eq]
    isplitl [H0]; · iexact H0
    isplitl [H1]; · iexact H1
    isplitl [H2]; · iexact H2
    iexact H3
  icases HJ with ⟨%g, %hg, H⟩
  iexists g
  isplitr
  · ipureintro
    intro y
    have hy0 : (y 0).val < 2048 := (y 0).isLt
    obtain ⟨p, hp⟩ : ∃ p : Fin 4, (y 0).val / 512 = p.val := ⟨⟨(y 0).val / 512, by omega⟩, rfl⟩
    have hm := (mem_xset arg11 p y).mpr hp
    obtain ⟨x, hx⟩ := LoadRect.exists_idx_of_mem _ ((View.mem_setOn arg11.view).mp hm)
    rw [← hx] at hm ⊢
    refine Eq.trans ?_ (hf p x)
    refine View.read_congr_at (v := arg11.view) _ ?_
    exact hg p _ hm
  · iexact H
/-- The whole buffer, the array's blocks and the cells at zero are the four row blocks at rest. -/
theorem x_home (f : BufTy.Contents (Elt F) arg11.view.ty) :
    iprop((arg11.view.loc (c : Thread nD τ) ↦[arg11.view.set]{fullShare} f) ∗ ((xwin arg0 0).view.loc (c : Thread nD τ) ↦[(xwin arg0 0).view.set]{fullShare} X0) ∗ ((xwin arg0 1).view.loc (c : Thread nD τ) ↦[(xwin arg0 1).view.set]{fullShare} X0) ∗ ((xwin arg0 2).view.loc (c : Thread nD τ) ↦[(xwin arg0 2).view.set]{fullShare} X0) ∗ ((xwin arg0 3).view.loc (c : Thread nD τ) ↦[(xwin arg0 3).view.set]{fullShare} X0) ∗ semVal ((c : Thread nD τ), SemLoc.dma (xcell arg37 0).sem) 0 ∗ semVal ((c : Thread nD τ), SemLoc.dma (xcell arg37 1).sem) 0 ∗ semVal ((c : Thread nD τ), SemLoc.dma (xcell arg37 2).sem) 0 ∗ semVal ((c : Thread nD τ), SemLoc.dma (xcell arg37 3).sem) 0) ⊢ (bigSep Finset.univ (xlandedP c arg0 arg11 arg37 X0) : sProp 𝕄) := by
  rw [x_split, x4, x4, ← xw_eq, ← xw_eq, ← xw_eq, ← xw_eq]
  iintro ⟨⟨Hx0, Hx1, Hx2, Hx3⟩, Hy0, Hy1, Hy2, Hy3, Hd0, Hd1, Hd2, Hd3⟩
  isplitl [Hx0 Hy0 Hd0]
  · isplitl [Hx0]; · iexists _; iexact Hx0
    isplitl [Hy0]; · iexact Hy0
    iexact Hd0
  isplitl [Hx1 Hy1 Hd1]
  · isplitl [Hx1]; · iexists _; iexact Hx1
    isplitl [Hy1]; · iexact Hy1
    iexact Hd1
  isplitl [Hx2 Hy2 Hd2]
  · isplitl [Hx2]; · iexists _; iexact Hx2
    isplitl [Hy2]; · iexact Hy2
    iexact Hd2
  isplitl [Hx3]; · iexists _; iexact Hx3
  isplitl [Hy3]; · iexact Hy3
  iexact Hd3
end

end Cert.Proof.Kernel
-- ==== Proof.Kernel.Facts.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! What the precondition says of the staged words, and the side conditions that follow from it. -/

/-- Every label names a column. -/
def LabOK (arg5 : Memref sig .tc .smem S512 .i32) (X : BufTy.Contents (Elt F) arg5.view.ty) : Prop :=
  ∀ i, BitVec.toNat (arg5.view.read (Elt F) X i) < 8192
/-- Every label length is at most 32. -/
def LenOK (arg6 : Memref sig .tc .smem S16 .i32) (X : BufTy.Contents (Elt F) arg6.view.ty) : Prop :=
  ∀ i, BitVec.toNat (arg6.view.read (Elt F) X i) ≤ 32
/-- Every offset of a batch's labels is at most 480. -/
def OffOK (arg35 : Memref sig .tc .smem S16 .i32) (X : BufTy.Contents (Elt F) arg35.view.ty) : Prop :=
  ∀ i, BitVec.toNat (arg35.view.read (Elt F) X i) ≤ 480

/-- An offset at most 480 keeps every label's place inside the array. -/
theorem chk1_of_le (v : BitVec 32) (h : v.toNat ≤ 480) : k0_chk1 v := by
  intro t a
  have ht : t.val < 32 := t.isLt
  have e : (Scf.iv 0#32 1#32 t.val).toNat = t.val := by
    revert t; decide
  fin_cases a
  show (Scalar.minsi (Scalar.addi v (Scf.iv 0#32 1#32 t.val)) 511#32).toNat + 1 ≤ 512
  have e2 : (Scalar.addi v (Scf.iv 0#32 1#32 t.val)).toNat = v.toNat + t.val := by
    simp only [Scalar.addi, IntOp.addi, BitVec.toNat_add, e]; omega
  generalize Scalar.addi v (Scf.iv 0#32 1#32 t.val) = w at *
  simp only [Scalar.minsi, IntOp.minsi]
  split
  · omega
  · decide

/-- A label below 8192 keeps every row it selects inside its table. -/
theorem chk2_of_lt (v : BitVec 32) (h : v.toNat < 8192) : k0_chk2 v := by
  have e : (Scalar.shrui v 2#32).toNat < 2048 := by
    simp [Scalar.shrui, IntOp.shrui]; omega
  have h1 : ∀ (n : Nat) (hn : n < 12), ∀ a, (![n, (Scalar.shrui v 2#32).toNat, 0] : Fin 3 → Nat) a + S1x1x128.size a ≤ S12x2048x128.size a := by
    intro n hn a
    fin_cases a
    · show n + 1 ≤ 12; omega
    · show (Scalar.shrui v 2#32).toNat + 1 ≤ 2048; omega
    · show 0 + 128 ≤ 128; omega
  refine ⟨h1 0 (by decide), h1 1 (by decide), h1 2 (by decide), h1 3 (by decide), h1 4 (by decide), h1 5 (by decide),
    h1 6 (by decide), h1 7 (by decide), h1 8 (by decide), h1 9 (by decide), h1 10 (by decide), h1 11 (by decide), ?_⟩
  intro a
  fin_cases a
  · show v.toNat + 1 ≤ 8192; omega
  · show 0 + 128 ≤ 128; omega

end Cert.Proof.Kernel
-- ==== Proof.Kernel.T1.lean ====
module

public import proofs.«01_k».proof.Proof.Gen.Kernel.Loops
public import Idealize.ShloMosaic.Lib.Pipeline.FrameBody
public import Idealize.ShloMosaic.Lib.Tactic
public import Idealize.ShloMosaic.Lib.CellWrites
public import proofs.«01_k».proof.Proof.Kernel.Facts

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before trip `k`: the running offset is at most `32 k`, and the offsets stored so far are at most 480. -/
abbrev inv_k0_t1 (X6 : BufTy.Contents (Elt F) arg6.view.ty) (X7 : BufTy.Contents (Elt F) arg7.view.ty) (k : ℕ) (acc : BitVec 32 × IVec S8x128 32 × IVec S8x128 32) : sProp 𝕄 :=
  iprop(⌜LenOK arg6 X6⌝ ∗ ⌜BitVec.toNat acc.1 ≤ 32 * k⌝ ∗ (arg6.view.loc (c : Thread nD τ) ↦[arg6.view.set]{fullShare} X6) ∗ (arg7.view.loc (c : Thread nD τ) ↦[arg7.view.set]{fullShare} X7)
    ∗ (∃ f, (arg35.view.loc (c : Thread nD τ) ↦[arg35.view.set]{fullShare} f) ∗ ⌜∀ i : S16.Idx, (i 0).val < k → BitVec.toNat (arg35.view.read (Elt F) f i) ≤ 480⌝))

set_option maxHeartbeats 4000000 in
/-- One trip of `k0_t1`. -/
theorem step_k0_t1 (v124 : IVec S8x128 32) (v125 : IVec S8x128 32) (v126 : IVec S8x128 32) (c0_i32_58 : BitVec 32) (c0_i32_59 : BitVec 32) (X6 : BufTy.Contents (Elt F) arg6.view.ty) (X7 : BufTy.Contents (Elt F) arg7.view.ty) (k : Fin k0_t1_loop.trips) (acc : BitVec 32 × IVec S8x128 32 × IVec S8x128 32) :
    inv_k0_t1 (F := F) c arg6 arg7 arg35 X6 X7 k.val acc ⊢ wp frame (wpE (defs₀ (F := F)) Variants.none (c : Thread nD τ) none) Set.univ
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 k acc) (fun acc' => inv_k0_t1 (F := F) c arg6 arg7 arg35 X6 X7 (k.val + 1) acc') := by
  obtain ⟨a1, a2, a3⟩ := acc
  unfold k0_t1_body
  iintro ⟨%hL, %ha, H6, H7, ⟨%f35, H35, %h35⟩⟩
  sl_exec
  sl_step
  isplitr; · ipureintro; exact hL
  isplitr
  · ipureintro
    have key : ∀ x : S1.Idx, BitVec.toNat (arg6.view.readAt (Elt F) (Rect.unit (s := S16) (k0_off1 k) S1.size (k0_off1_inb k)).toLoadRect X6 x) ≤ 32 :=
      fun x => by rw [View.readAt_apply]; exact hL _
    have h6 := key (Shape.Idx.first (s := S1) (by decide))
    show BitVec.toNat (Scalar.addi a1 (arg6.view.readAt (Elt F) (Rect.unit (s := S16) (k0_off1 k) S1.size (k0_off1_inb k)).toLoadRect X6 (Shape.Idx.first (s := S1) (by decide)))) ≤ _
    simp only [Scalar.addi, IntOp.addi, BitVec.toNat_add]
    exact Nat.le_trans (Nat.mod_le _ _) (Nat.le_trans (Nat.add_le_add ha h6) (by omega))
  isplitl [H6]; · iexact H6
  isplitl [H7]; · iexact H7
  iexists _
  isplitl [H35]; · iexact H35
  ipureintro
  intro i hi
  rw [View.read_writes_cons_cell]
  have hk : k.val < 16 := k.isLt
  split
  · simp only at ha; omega
  · rename_i hne
    refine h35 i ?_
    rw [Gen.k0_off1_eq] at hne
    simp only [Matrix.cons_val_zero] at hne
    omega

set_option warn.classDefReducibility false in
/-- Loop `k0_t1` at its invariant. -/
@[sl_loop] def loopInv_k0_t1 (v124 : IVec S8x128 32) (v125 : IVec S8x128 32) (v126 : IVec S8x128 32) (c0_i32_58 : BitVec 32) (c0_i32_59 : BitVec 32) (init : BitVec 32 × IVec S8x128 32 × IVec S8x128 32) (X6 : BufTy.Contents (Elt F) arg6.view.ty) (X7 : BufTy.Contents (Elt F) arg7.view.ty) :
    Gen.LoopInvTy_k0_t1 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 init where
  inv k acc := inv_k0_t1 (F := F) c arg6 arg7 arg35 X6 X7 k acc
  step k acc := step_k0_t1 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 X6 X7 k acc

end
end Cert.Proof.Kernel
-- ==== Proof.Kernel.T2.lean ====
module

public import proofs.«01_k».proof.Proof.Gen.Kernel.Loops
public import Idealize.ShloMosaic.Lib.Pipeline.FrameBody
public import Idealize.ShloMosaic.Lib.Tactic
public import proofs.«01_k».proof.Proof.Kernel.Windows

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip: the block of codes and the two rows' tables at their contents, the three transposed tables at any. -/
abbrev inv_k0_t2 (X12 : BufTy.Contents (Elt F) (wwin arg12 0).view.ty) (X3 : BufTy.Contents (Elt F) arg3.view.ty) (X4 : BufTy.Contents (Elt F) arg4.view.ty) : sProp 𝕄 :=
  iprop(((wwin arg12 0).view.loc (c : Thread nD τ) ↦[(wwin arg12 0).view.set]{fullShare} X12) ∗ (arg3.view.loc (c : Thread nD τ) ↦[arg3.view.set]{fullShare} X3) ∗ (arg4.view.loc (c : Thread nD τ) ↦[arg4.view.set]{fullShare} X4) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

set_option maxHeartbeats 4000000 in
/-- One trip of `k0_t2`. -/
theorem step_k0_t2 (v124 : IVec S8x128 32) (v145 : IVec S8x128 32) (X12 : BufTy.Contents (Elt F) (wwin arg12 0).view.ty) (X3 : BufTy.Contents (Elt F) arg3.view.ty) (X4 : BufTy.Contents (Elt F) arg4.view.ty) (k : Fin k0_t2_loop.trips) (acc : Unit) :
    inv_k0_t2 (F := F) c arg3 arg4 arg12 arg13 arg14 arg15 X12 X3 X4 ⊢ wp frame (wpE (defs₀ (F := F)) Variants.none (c : Thread nD τ) none) Set.univ
      (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t2 (F := F) c arg3 arg4 arg12 arg13 arg14 arg15 X12 X3 X4) := by
  have hin := in_wwin0 arg12 k
  unfold k0_t2_body
  iintro ⟨H12, H3, H4, ⟨%f13, H13⟩, ⟨%f14, H14⟩, ⟨%f15, H15⟩⟩
  sl_exec
  sl_step
  sl_close

set_option warn.classDefReducibility false in
/-- Loop `k0_t2` at its invariant. -/
@[sl_loop] def loopInv_k0_t2 (v124 : IVec S8x128 32) (v145 : IVec S8x128 32) (X12 : BufTy.Contents (Elt F) (wwin arg12 0).view.ty) (X3 : BufTy.Contents (Elt F) arg3.view.ty) (X4 : BufTy.Contents (Elt F) arg4.view.ty) :
    Gen.LoopInvTy_k0_t2 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t2 (F := F) c arg3 arg4 arg12 arg13 arg14 arg15 X12 X3 X4
  step k acc := step_k0_t2 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X12 X3 X4 k acc

end
end Cert.Proof.Kernel
-- ==== Proof.Kernel.T4.lean ====
module

public import proofs.«01_k».proof.Proof.Gen.Kernel.Loops
public import Idealize.ShloMosaic.Lib.Pipeline.FrameBody
public import Idealize.ShloMosaic.Lib.Tactic
public import proofs.«01_k».proof.Proof.Kernel.Windows

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip: the block of codes and the two rows' tables at their contents, the three transposed tables at any. -/
abbrev inv_k0_t4 (k0_t3 : Fin k0_t3_loop.trips) (h : k0_t3.val + 1 < 16) (X12 : BufTy.Contents (Elt F) (wwin arg12 ⟨k0_t3.val + 1, h⟩).view.ty) (X3 : BufTy.Contents (Elt F) arg3.view.ty) (X4 : BufTy.Contents (Elt F) arg4.view.ty) : sProp 𝕄 :=
  iprop(((wwin arg12 ⟨k0_t3.val + 1, h⟩).view.loc (c : Thread nD τ) ↦[(wwin arg12 ⟨k0_t3.val + 1, h⟩).view.set]{fullShare} X12) ∗ (arg3.view.loc (c : Thread nD τ) ↦[arg3.view.set]{fullShare} X3) ∗ (arg4.view.loc (c : Thread nD τ) ↦[arg4.view.set]{fullShare} X4) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)))

set_option maxHeartbeats 4000000 in
/-- One trip of `k0_t4`. -/
theorem step_k0_t4 (v124 : IVec S8x128 32) (v145 : IVec S8x128 32) (k0_t3 : Fin k0_t3_loop.trips) (k0_h1 : k0_cond1 k0_t3 = 1#1) (v504 : BitVec 32) (h : k0_t3.val + 1 < 16) (X12 : BufTy.Contents (Elt F) (wwin arg12 ⟨k0_t3.val + 1, h⟩).view.ty) (X3 : BufTy.Contents (Elt F) arg3.view.ty) (X4 : BufTy.Contents (Elt F) arg4.view.ty) (k : Fin k0_t4_loop.trips) (acc : Unit) :
    inv_k0_t4 (F := F) c arg3 arg4 arg12 arg13 arg14 arg15 k0_t3 h X12 X3 X4 ⊢ wp frame (wpE (defs₀ (F := F)) Variants.none (c : Thread nD τ) none) Set.univ
      (k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 k acc) (fun _ => inv_k0_t4 (F := F) c arg3 arg4 arg12 arg13 arg14 arg15 k0_t3 h X12 X3 X4) := by
  have hin := in_wwint arg12 k0_t3 h k0_h1 k
  unfold k0_t4_body
  iintro ⟨H12, H3, H4, ⟨%f13, H13⟩, ⟨%f14, H14⟩, ⟨%f15, H15⟩⟩
  sl_exec
  sl_step
  sl_close

set_option warn.classDefReducibility false in
/-- Loop `k0_t4` at its invariant. -/
@[sl_loop] def loopInv_k0_t4 (v124 : IVec S8x128 32) (v145 : IVec S8x128 32) (k0_t3 : Fin k0_t3_loop.trips) (k0_h1 : k0_cond1 k0_t3 = 1#1) (v504 : BitVec 32) (h : k0_t3.val + 1 < 16) (X12 : BufTy.Contents (Elt F) (wwin arg12 ⟨k0_t3.val + 1, h⟩).view.ty) (X3 : BufTy.Contents (Elt F) arg3.view.ty) (X4 : BufTy.Contents (Elt F) arg4.view.ty) :
    Gen.LoopInvTy_k0_t4 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 where
  inv k acc := inv_k0_t4 (F := F) c arg3 arg4 arg12 arg13 arg14 arg15 k0_t3 h X12 X3 X4
  step k acc := step_k0_t4 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 h X12 X3 X4 k acc

end
end Cert.Proof.Kernel
-- ==== Proof.Kernel.T5.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t5`: what it reads at its contents, what it writes at any contents. -/
abbrev inv_k0_t5 (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) : sProp 𝕄 :=
  iprop((arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg19.view.loc (c : Thread nD τ) ↦[arg19.view.set]{fullShare} X19) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg27.view.loc (c : Thread nD τ) ↦[arg27.view.set]{fullShare} f)))

set_option maxHeartbeats 4000000 in
/-- One trip of `k0_t5`. -/
theorem step_k0_t5 (v124 : IVec S8x128 32) (v145 : IVec S8x128 32) (k0_t3 : Fin k0_t3_loop.trips) (arg38 : BitVec 32) (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) (k : Fin k0_t5_loop.trips) (acc : Unit) :
    inv_k0_t5 (F := F) c arg11 arg13 arg14 arg15 arg16 arg17 arg18 arg19 arg27 X11 X13 X14 X15 X19 ⊢ wp frame (wpE (defs₀ (F := F)) Variants.none (c : Thread nD τ) none) Set.univ
      (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 k acc) (fun _ => inv_k0_t5 (F := F) c arg11 arg13 arg14 arg15 arg16 arg17 arg18 arg19 arg27 X11 X13 X14 X15 X19) := by
  unfold k0_t5_body
  iintro ⟨H11, H13, H14, H15, H19, ⟨%f16, H16⟩, ⟨%f17, H17⟩, ⟨%f18, H18⟩, ⟨%f27, H27⟩⟩
  sl_exec
  sl_step
  sl_close

set_option warn.classDefReducibility false in
/-- Loop `k0_t5` at its invariant. -/
@[sl_loop] def loopInv_k0_t5 (v124 : IVec S8x128 32) (v145 : IVec S8x128 32) (k0_t3 : Fin k0_t3_loop.trips) (arg38 : BitVec 32) (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) :
    Gen.LoopInvTy_k0_t5 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 where
  inv k acc := inv_k0_t5 (F := F) c arg11 arg13 arg14 arg15 arg16 arg17 arg18 arg19 arg27 X11 X13 X14 X15 X19
  step k acc := step_k0_t5 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 X11 X13 X14 X15 X19 k acc

end
end Cert.Proof.Kernel
-- ==== Proof.Kernel.T3.lean ====
module

public import proofs.«01_k».proof.Proof.Gen.Kernel.Loops
public import Idealize.ShloMosaic.Lib.Pipeline.FrameBody
public import Idealize.ShloMosaic.Lib.Tactic
public import proofs.«01_k».proof.Proof.Kernel.Flights
public import proofs.«01_k».proof.Proof.Kernel.T4
public import proofs.«01_k».proof.Proof.Kernel.T5

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before trip `k` of the tile loop. -/
abbrev inv_k0_t3 (X1 : BufTy.Contents (Elt F) arg1.view.ty) (X3 : BufTy.Contents (Elt F) arg3.view.ty) (X4 : BufTy.Contents (Elt F) arg4.view.ty) (X11 : BufTy.Contents (Elt F) arg11.view.ty) (X19 : BufTy.Contents (Elt F) arg19.view.ty) (k : ℕ) : sProp 𝕄 :=
  iprop((∃ W, owes (c : Thread nD τ) 0 W) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg19.view.loc (c : Thread nD τ) ↦[arg19.view.set]{fullShare} X19) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg27.view.loc (c : Thread nD τ) ↦[arg27.view.set]{fullShare} f)) ∗ blocksAt c arg1 arg12 arg36 X1 k)

set_option maxHeartbeats 4000000 in
/-- One trip of the tile loop. -/
theorem step_k0_t3 (v124 : IVec S8x128 32) (v145 : IVec S8x128 32) (X1 : BufTy.Contents (Elt F) arg1.view.ty) (X3 : BufTy.Contents (Elt F) arg3.view.ty) (X4 : BufTy.Contents (Elt F) arg4.view.ty) (X11 : BufTy.Contents (Elt F) arg11.view.ty) (X19 : BufTy.Contents (Elt F) arg19.view.ty) (k : Fin k0_t3_loop.trips) (acc : Unit) :
    inv_k0_t3 (F := F) c arg1 arg3 arg4 arg11 arg12 arg13 arg14 arg15 arg16 arg17 arg18 arg19 arg27 arg36 X1 X3 X4 X11 X19 k.val ⊢ wp frame (wpE (defs₀ (F := F)) Variants.none (c : Thread nD τ) none) Set.univ
      (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t3 (F := F) c arg1 arg3 arg4 arg11 arg12 arg13 arg14 arg15 arg16 arg17 arg18 arg19 arg27 arg36 X1 X3 X4 X11 X19 (k.val + 1)) := by
  by_cases h : k.val + 1 < 16
  · have hc := cond1_ge k h
    unfold k0_t3_body
    iintro ⟨⟨%W, HW⟩, H3, H4, H11, H19, ⟨%f13, H13⟩, ⟨%f14, H14⟩, ⟨%f15, H15⟩, ⟨%f16, H16⟩, ⟨%f17, H17⟩, ⟨%f18, H18⟩, ⟨%f27, H27⟩, HB⟩
    ihave HB' := (blocks_here c arg1 arg12 arg36 X1 k.val h) $$ HB
    icases HB' with ⟨⟨%f0, HF⟩, HR⟩
    sl_exec
    sl_step
    isplitl [HW]; · iexists _; iexact HW
    isplitl [H3]; · iexact H3
    isplitl [H4]; · iexact H4
    isplitl [H11]; · iexact H11
    isplitl [H19]; · iexact H19
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H27]; · iexists _; iexact H27
    iapply (blocks_next c arg1 arg12 arg36 X1 k.val h)
    isplitl [HF HF_dst HF_src]
    · isplitl [HF_dst]; · iexists _; iexact HF_dst
      isplitl [HF_src]; · iexact HF_src
      iexact HF
    iexact HR
  · have hc : ¬ k0_cond1 k = 1#1 := fun e => h (cond1_lt k e)
    unfold k0_t3_body
    iintro ⟨⟨%W, HW⟩, H3, H4, H11, H19, ⟨%f13, H13⟩, ⟨%f14, H14⟩, ⟨%f15, H15⟩, ⟨%f16, H16⟩, ⟨%f17, H17⟩, ⟨%f18, H18⟩, ⟨%f27, H27⟩, HB⟩
    sl_exec
    sl_step
    isplitl [HW]; · iexists _; iexact HW
    isplitl [H3]; · iexact H3
    isplitl [H4]; · iexact H4
    isplitl [H11]; · iexact H11
    isplitl [H19]; · iexact H19
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H27]; · iexists _; iexact H27
    iapply (blocks_last c arg1 arg12 arg36 X1 k.val h)
    iexact HB

set_option warn.classDefReducibility false in
/-- Loop `k0_t3` at its invariant. -/
@[reducible] def loopInv_k0_t3 (v124 : IVec S8x128 32) (v145 : IVec S8x128 32) (X1 : BufTy.Contents (Elt F) arg1.view.ty) (X3 : BufTy.Contents (Elt F) arg3.view.ty) (X4 : BufTy.Contents (Elt F) arg4.view.ty) (X11 : BufTy.Contents (Elt F) arg11.view.ty) (X19 : BufTy.Contents (Elt F) arg19.view.ty) :
    Gen.LoopInvTy_k0_t3 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t3 (F := F) c arg1 arg3 arg4 arg11 arg12 arg13 arg14 arg15 arg16 arg17 arg18 arg19 arg27 arg36 X1 X3 X4 X11 X19 k
  step k acc := step_k0_t3 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X1 X3 X4 X11 X19 k acc

end
end Cert.Proof.Kernel
-- ==== Proof.Kernel.T8.lean ====
module

public import proofs.«01_k».proof.Proof.Gen.Kernel.Loops
public import Idealize.ShloMosaic.Lib.Pipeline.FrameBody
public import Idealize.ShloMosaic.Lib.Tactic
public import proofs.«01_k».proof.Proof.Kernel.Facts

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)
instance (a : Fin k0_t7_loop.trips) (b : Fin k0_t8_loop.trips) : ClosedOff (k0_off54 a b) :=
  ⟨![0, (k0_off54 a b) 1, 0], by funext i; fin_cases i <;> rfl⟩
instance (a : Fin k0_t7_loop.trips) (b : Fin k0_t8_loop.trips) : ClosedOff (k0_off56 a b) :=
  ⟨![1, (k0_off54 a b) 1, 0], by funext i; fin_cases i <;> rfl⟩
instance (a : Fin k0_t7_loop.trips) (b : Fin k0_t8_loop.trips) : ClosedOff (k0_off58 a b) :=
  ⟨![2, (k0_off54 a b) 1, 0], by funext i; fin_cases i <;> rfl⟩
instance (a : Fin k0_t7_loop.trips) (b : Fin k0_t8_loop.trips) : ClosedOff (k0_off60 a b) :=
  ⟨![3, (k0_off54 a b) 1, 0], by funext i; fin_cases i <;> rfl⟩
instance (a : Fin k0_t7_loop.trips) (b : Fin k0_t8_loop.trips) : ClosedOff (k0_off62 a b) :=
  ⟨![4, (k0_off54 a b) 1, 0], by funext i; fin_cases i <;> rfl⟩
instance (a : Fin k0_t7_loop.trips) (b : Fin k0_t8_loop.trips) : ClosedOff (k0_off64 a b) :=
  ⟨![5, (k0_off54 a b) 1, 0], by funext i; fin_cases i <;> rfl⟩
instance (a : Fin k0_t7_loop.trips) (b : Fin k0_t8_loop.trips) : ClosedOff (k0_off66 a b) :=
  ⟨![6, (k0_off54 a b) 1, 0], by funext i; fin_cases i <;> rfl⟩
instance (a : Fin k0_t7_loop.trips) (b : Fin k0_t8_loop.trips) : ClosedOff (k0_off68 a b) :=
  ⟨![7, (k0_off54 a b) 1, 0], by funext i; fin_cases i <;> rfl⟩
instance (a : Fin k0_t7_loop.trips) (b : Fin k0_t8_loop.trips) : ClosedOff (k0_off70 a b) :=
  ⟨![8, (k0_off54 a b) 1, 0], by funext i; fin_cases i <;> rfl⟩
instance (a : Fin k0_t7_loop.trips) (b : Fin k0_t8_loop.trips) : ClosedOff (k0_off72 a b) :=
  ⟨![9, (k0_off54 a b) 1, 0], by funext i; fin_cases i <;> rfl⟩
instance (a : Fin k0_t7_loop.trips) (b : Fin k0_t8_loop.trips) : ClosedOff (k0_off74 a b) :=
  ⟨![10, (k0_off54 a b) 1, 0], by funext i; fin_cases i <;> rfl⟩
instance (a : Fin k0_t7_loop.trips) (b : Fin k0_t8_loop.trips) : ClosedOff (k0_off76 a b) :=
  ⟨![11, (k0_off54 a b) 1, 0], by funext i; fin_cases i <;> rfl⟩

/-- Before any trip of `k0_t8`: what it reads at its contents, what it writes at any contents. -/
abbrev inv_k0_t8 (X5 : BufTy.Contents (Elt F) arg5.view.ty) (X13 : BufTy.Contents (Elt F) arg13.view.ty) (X14 : BufTy.Contents (Elt F) arg14.view.ty) (X15 : BufTy.Contents (Elt F) arg15.view.ty) : sProp 𝕄 :=
  iprop(⌜LabOK arg5 X5⌝ ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))

set_option maxHeartbeats 4000000 in
/-- One trip of `k0_t8`. -/
theorem step_k0_t8 (c0_i32_102 : BitVec 32) (c1_i32_104 : BitVec 32) (k0_t6 : Fin k0_t6_loop.trips) (k0_t7 : Fin k0_t7_loop.trips) (arg39 : BitVec 32) (v752 : Elt F .i32) (k0_hw1 : k0_chk1 v752) (X5 : BufTy.Contents (Elt F) arg5.view.ty) (X13 : BufTy.Contents (Elt F) arg13.view.ty) (X14 : BufTy.Contents (Elt F) arg14.view.ty) (X15 : BufTy.Contents (Elt F) arg15.view.ty) (k : Fin k0_t8_loop.trips) (acc : BitVec 32) :
    inv_k0_t8 (F := F) c arg5 arg13 arg14 arg15 arg20 arg21 arg23 arg24 arg25 X5 X13 X14 X15 ⊢ wp frame (wpE (defs₀ (F := F)) Variants.none (c : Thread nD τ) none) Set.univ
      (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 k acc) (fun _ => inv_k0_t8 (F := F) c arg5 arg13 arg14 arg15 arg20 arg21 arg23 arg24 arg25 X5 X13 X14 X15) := by
  unfold k0_t8_body
  iintro ⟨%hf, H5, H13, H14, H15, ⟨%f20, H20⟩, ⟨%f21, H21⟩, ⟨%f23, H23⟩, ⟨%f24, H24⟩, ⟨%f25, H25⟩⟩
  sl_exec
  have hchk : k0_chk2 (step_k0_t8.sl.r arg5 v752 k0_hw1 X5 k) := chk2_of_lt _ (by
    exact hf _)
  sl_exec
  sl_step
  sl_close

set_option warn.classDefReducibility false in
/-- Loop `k0_t8` at its invariant. -/
@[sl_loop] def loopInv_k0_t8 (c0_i32_102 : BitVec 32) (c1_i32_104 : BitVec 32) (k0_t6 : Fin k0_t6_loop.trips) (k0_t7 : Fin k0_t7_loop.trips) (arg39 : BitVec 32) (v752 : Elt F .i32) (k0_hw1 : k0_chk1 v752) (init : BitVec 32) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t8 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 init where
  inv k acc := inv_k0_t8 (F := F) c arg5 arg13 arg14 arg15 arg20 arg21 arg23 arg24 arg25 X5 X13 X14 X15
  step k acc := step_k0_t8 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 X5 X13 X14 X15 k acc

end
end Cert.Proof.Kernel
-- ==== Proof.Kernel.T7.lean ====
module

public import proofs.«01_k».proof.Proof.Gen.Kernel.Loops
public import Idealize.ShloMosaic.Lib.Pipeline.FrameBody
public import Idealize.ShloMosaic.Lib.Tactic
public import proofs.«01_k».proof.Proof.Kernel.T8

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t7`: what it reads at its contents, what it writes at any contents. -/
abbrev inv_k0_t7 (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) : sProp 𝕄 :=
  iprop(⌜LabOK arg5 X5 ∧ OffOK arg35 X35⌝ ∗ (arg35.view.loc (c : Thread nD τ) ↦[arg35.view.set]{fullShare} X35) ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))

set_option maxHeartbeats 4000000 in
/-- One trip of `k0_t7`. -/
theorem step_k0_t7 (c0_i32_102 : BitVec 32) (c1_i32_104 : BitVec 32) (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (k : Fin k0_t7_loop.trips) (acc : Unit) :
    inv_k0_t7 (F := F) c arg5 arg13 arg14 arg15 arg20 arg21 arg23 arg24 arg25 arg35 X35 X5 X13 X14 X15 ⊢ wp frame (wpE (defs₀ (F := F)) Variants.none (c : Thread nD τ) none) Set.univ
      (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k acc) (fun _ => inv_k0_t7 (F := F) c arg5 arg13 arg14 arg15 arg20 arg21 arg23 arg24 arg25 arg35 X35 X5 X13 X14 X15) := by
  unfold k0_t7_body
  iintro ⟨%hf, H35, H5, H13, H14, H15, ⟨%f20, H20⟩, ⟨%f21, H21⟩, ⟨%f23, H23⟩, ⟨%f24, H24⟩, ⟨%f25, H25⟩⟩
  have hl : LabOK arg5 X5 := hf.1
  sl_exec
  have hchk : k0_chk1 (step_k0_t7.sl.r arg35 k0_t6 X35 k) := chk1_of_le _ (by
    exact hf.2 _)
  sl_exec
  sl_step
  sl_close

set_option warn.classDefReducibility false in
/-- Loop `k0_t7` at its invariant. -/
@[sl_loop] def loopInv_k0_t7 (c0_i32_102 : BitVec 32) (c1_i32_104 : BitVec 32) (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t7 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 where
  inv k acc := inv_k0_t7 (F := F) c arg5 arg13 arg14 arg15 arg20 arg21 arg23 arg24 arg25 arg35 X35 X5 X13 X14 X15
  step k acc := step_k0_t7 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 X35 X5 X13 X14 X15 k acc

end
end Cert.Proof.Kernel
-- ==== Proof.Kernel.T9.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t9`: what it reads at its contents, what it writes at any contents. -/
abbrev inv_k0_t9 (X20 : BufTy.Contents (Elt F) arg20.view.ty) : sProp 𝕄 :=
  iprop((arg20.view.loc (c : Thread nD τ) ↦[arg20.view.set]{fullShare} X20) ∗ (∃ f, (arg22.view.loc (c : Thread nD τ) ↦[arg22.view.set]{fullShare} f)))

set_option maxHeartbeats 4000000 in
/-- One trip of `k0_t9`. -/
theorem step_k0_t9 (c0_i32_102 : BitVec 32) (c1_i32_104 : BitVec 32) (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) (k : Fin k0_t9_loop.trips) (acc : Unit) :
    inv_k0_t9 (F := F) c arg20 arg22 X20 ⊢ wp frame (wpE (defs₀ (F := F)) Variants.none (c : Thread nD τ) none) Set.univ
      (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 k acc) (fun _ => inv_k0_t9 (F := F) c arg20 arg22 X20) := by
  unfold k0_t9_body
  iintro ⟨H20, ⟨%f22, H22⟩⟩
  sl_exec
  sl_step
  sl_close

set_option warn.classDefReducibility false in
/-- Loop `k0_t9` at its invariant. -/
@[sl_loop] def loopInv_k0_t9 (c0_i32_102 : BitVec 32) (c1_i32_104 : BitVec 32) (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) :
    Gen.LoopInvTy_k0_t9 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 where
  inv k acc := inv_k0_t9 (F := F) c arg20 arg22 X20
  step k acc := step_k0_t9 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 X20 k acc

/-- Before any trip of `k0_t10`: what it reads at its contents, what it writes at any contents. -/
abbrev inv_k0_t10 (X20 : BufTy.Contents (Elt F) arg20.view.ty) : sProp 𝕄 :=
  iprop((arg20.view.loc (c : Thread nD τ) ↦[arg20.view.set]{fullShare} X20) ∗ (∃ f, (arg22.view.loc (c : Thread nD τ) ↦[arg22.view.set]{fullShare} f)))

set_option maxHeartbeats 4000000 in
/-- One trip of `k0_t10`. -/
theorem step_k0_t10 (c0_i32_102 : BitVec 32) (c1_i32_104 : BitVec 32) (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) (k : Fin k0_t10_loop.trips) (acc : Unit) :
    inv_k0_t10 (F := F) c arg20 arg22 X20 ⊢ wp frame (wpE (defs₀ (F := F)) Variants.none (c : Thread nD τ) none) Set.univ
      (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 k acc) (fun _ => inv_k0_t10 (F := F) c arg20 arg22 X20) := by
  unfold k0_t10_body
  iintro ⟨H20, ⟨%f22, H22⟩⟩
  sl_exec
  sl_step
  sl_close

set_option warn.classDefReducibility false in
/-- Loop `k0_t10` at its invariant. -/
@[sl_loop] def loopInv_k0_t10 (c0_i32_102 : BitVec 32) (c1_i32_104 : BitVec 32) (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) :
    Gen.LoopInvTy_k0_t10 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 where
  inv k acc := inv_k0_t10 (F := F) c arg20 arg22 X20
  step k acc := step_k0_t10 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 X20 k acc

end
end Cert.Proof.Kernel
-- ==== Proof.Kernel.T6.lean ====
module

public import proofs.«01_k».proof.Proof.Gen.Kernel.Loops
public import Idealize.ShloMosaic.Lib.Pipeline.FrameBody
public import Idealize.ShloMosaic.Lib.Tactic
public import proofs.«01_k».proof.Proof.Kernel.T7
public import proofs.«01_k».proof.Proof.Kernel.T9

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t6`: what it reads at its contents, what it writes at any contents. -/
abbrev inv_k0_t6 (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) : sProp 𝕄 :=
  iprop(⌜LabOK arg5 X5 ∧ OffOK arg35 X35⌝ ∗ (arg35.view.loc (c : Thread nD τ) ↦[arg35.view.set]{fullShare} X35) ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg11.view.loc (c : Thread nD τ) ↦[arg11.view.set]{fullShare} X11) ∗ (arg19.view.loc (c : Thread nD τ) ↦[arg19.view.set]{fullShare} X19) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)))

set_option warn.classDefReducibility false in
/-- Loop `k0_t7` as the group calls it. -/
@[sl_loop] def loopInv_k0_t7_here (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t7 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 :=
  loopInv_k0_t7 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 X35 X5 X13 X14 X15

set_option warn.classDefReducibility false in
/-- Loop `k0_t9` as the group calls it. -/
@[sl_loop] def loopInv_k0_t9_here (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) :
    Gen.LoopInvTy_k0_t9 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v500 v501 v502 v503 :=
  loopInv_k0_t9 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v500 v501 v502 v503 X20

set_option warn.classDefReducibility false in
/-- Loop `k0_t10` as the group calls it. -/
@[sl_loop] def loopInv_k0_t10_here (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) :
    Gen.LoopInvTy_k0_t10 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v505 v506 v507 v508 :=
  loopInv_k0_t10 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v505 v506 v507 v508 X20

set_option maxHeartbeats 4000000 in
/-- One trip of `k0_t6`. -/
theorem step_k0_t6 (v124 : IVec S8x128 32) (v145 : IVec S8x128 32) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) (k : Fin k0_t6_loop.trips) (acc : Unit) :
    inv_k0_t6 (F := F) c arg5 arg11 arg13 arg14 arg15 arg19 arg20 arg21 arg22 arg23 arg24 arg25 arg26 arg35 X35 X5 X13 X14 X15 X11 X19 ⊢ wp frame (wpE (defs₀ (F := F)) Variants.none (c : Thread nD τ) none) Set.univ
      (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t6 (F := F) c arg5 arg11 arg13 arg14 arg15 arg19 arg20 arg21 arg22 arg23 arg24 arg25 arg26 arg35 X35 X5 X13 X14 X15 X11 X19) := by
  unfold k0_t6_body
  iintro ⟨%hf, H35, H5, H13, H14, H15, H11, H19, ⟨%f20, H20⟩, ⟨%f21, H21⟩, ⟨%f22, H22⟩, ⟨%f23, H23⟩, ⟨%f24, H24⟩, ⟨%f25, H25⟩, ⟨%f26, H26⟩⟩
  sl_exec
  sl_step
  sl_close

set_option warn.classDefReducibility false in
/-- Loop `k0_t6` at its invariant. -/
@[sl_loop] def loopInv_k0_t6 (v124 : IVec S8x128 32) (v145 : IVec S8x128 32) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) :
    Gen.LoopInvTy_k0_t6 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t6 (F := F) c arg5 arg11 arg13 arg14 arg15 arg19 arg20 arg21 arg22 arg23 arg24 arg25 arg26 arg35 X35 X5 X13 X14 X15 X11 X19
  step k acc := step_k0_t6 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X35 X5 X13 X14 X15 X11 X19 k acc

end
end Cert.Proof.Kernel
-- ==== Proof.Kernel.T11.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t11`: what it reads at its contents, what it writes at any contents. -/
abbrev inv_k0_t11 (X26 : BufTy.Contents (Elt F) arg26.view.ty) (X25 : BufTy.Contents (Elt F) arg25.view.ty) : sProp 𝕄 :=
  iprop((arg26.view.loc (c : Thread nD τ) ↦[arg26.view.set]{fullShare} X26) ∗ (arg25.view.loc (c : Thread nD τ) ↦[arg25.view.set]{fullShare} X25) ∗ (∃ f, (arg28.view.loc (c : Thread nD τ) ↦[arg28.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)))

set_option maxHeartbeats 4000000 in
/-- One trip of `k0_t11`. -/
theorem step_k0_t11 (v124 : IVec S8x128 32) (v145 : IVec S8x128 32) (X26 : BufTy.Contents (Elt F) arg26.view.ty) (X25 : BufTy.Contents (Elt F) arg25.view.ty) (k : Fin k0_t11_loop.trips) (acc : Unit) :
    inv_k0_t11 (F := F) c arg25 arg26 arg28 arg30 arg31 arg32 X26 X25 ⊢ wp frame (wpE (defs₀ (F := F)) Variants.none (c : Thread nD τ) none) Set.univ
      (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t11 (F := F) c arg25 arg26 arg28 arg30 arg31 arg32 X26 X25) := by
  unfold k0_t11_body
  iintro ⟨H26, H25, ⟨%f28, H28⟩, ⟨%f30, H30⟩, ⟨%f31, H31⟩, ⟨%f32, H32⟩⟩
  sl_exec
  sl_step
  sl_close

set_option warn.classDefReducibility false in
/-- Loop `k0_t11` at its invariant. -/
@[sl_loop] def loopInv_k0_t11 (v124 : IVec S8x128 32) (v145 : IVec S8x128 32) (X26 : BufTy.Contents (Elt F) arg26.view.ty) (X25 : BufTy.Contents (Elt F) arg25.view.ty) :
    Gen.LoopInvTy_k0_t11 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t11 (F := F) c arg25 arg26 arg28 arg30 arg31 arg32 X26 X25
  step k acc := step_k0_t11 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X26 X25 k acc

end
end Cert.Proof.Kernel
-- ==== Proof.Kernel.T13.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t13`: what it reads at its contents, what it writes at any contents. -/
abbrev inv_k0_t13 (X28 : BufTy.Contents (Elt F) arg28.view.ty) (X29 : BufTy.Contents (Elt F) arg29.view.ty) : sProp 𝕄 :=
  iprop((arg28.view.loc (c : Thread nD τ) ↦[arg28.view.set]{fullShare} X28) ∗ (arg29.view.loc (c : Thread nD τ) ↦[arg29.view.set]{fullShare} X29))

set_option maxHeartbeats 4000000 in
/-- One trip of `k0_t13`. -/
theorem step_k0_t13 (v130 : IVec S8x128 32) (v145 : IVec S8x128 32) (k0_t12 : Fin k0_t12_loop.trips) (v499 : BitVec 32) (v501 : FVec F S8x128 .f32) (v503 : FVec F S8x128 .f32) (v505 : FVec F S8x128 .f32) (v507 : FVec F S8x128 .f32) (v509 : FVec F S8x128 .f32) (v511 : FVec F S8x128 .f32) (v513 : FVec F S8x128 .f32) (v515 : FVec F S8x128 .f32) (v517 : FVec F S8x128 .f32) (v519 : FVec F S8x128 .f32) (v521 : FVec F S8x128 .f32) (v522 : Vec F S1x8x128 .f32) (v524 : Vec F S1x8x128 .f32) (X28 : BufTy.Contents (Elt F) arg28.view.ty) (X29 : BufTy.Contents (Elt F) arg29.view.ty) (k : Fin k0_t13_loop.trips) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    inv_k0_t13 (F := F) c arg28 arg29 X28 X29 ⊢ wp frame (wpE (defs₀ (F := F)) Variants.none (c : Thread nD τ) none) Set.univ
      (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 k acc) (fun _ => inv_k0_t13 (F := F) c arg28 arg29 X28 X29) := by
  unfold k0_t13_body
  iintro ⟨H28, H29⟩
  sl_exec
  sl_step
  sl_close

set_option warn.classDefReducibility false in
/-- Loop `k0_t13` at its invariant. -/
@[sl_loop] def loopInv_k0_t13 (v130 : IVec S8x128 32) (v145 : IVec S8x128 32) (k0_t12 : Fin k0_t12_loop.trips) (v499 : BitVec 32) (v501 : FVec F S8x128 .f32) (v503 : FVec F S8x128 .f32) (v505 : FVec F S8x128 .f32) (v507 : FVec F S8x128 .f32) (v509 : FVec F S8x128 .f32) (v511 : FVec F S8x128 .f32) (v513 : FVec F S8x128 .f32) (v515 : FVec F S8x128 .f32) (v517 : FVec F S8x128 .f32) (v519 : FVec F S8x128 .f32) (v521 : FVec F S8x128 .f32) (v522 : Vec F S1x8x128 .f32) (v524 : Vec F S1x8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X28 : BufTy.Contents (Elt F) arg28.view.ty) (X29 : BufTy.Contents (Elt F) arg29.view.ty) :
    Gen.LoopInvTy_k0_t13 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 init where
  inv k acc := inv_k0_t13 (F := F) c arg28 arg29 X28 X29
  step k acc := step_k0_t13 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 X28 X29 k acc

end
end Cert.Proof.Kernel
-- ==== Proof.Kernel.T12.lean ====
module

public import proofs.«01_k».proof.Proof.Gen.Kernel.Loops
public import Idealize.ShloMosaic.Lib.Pipeline.FrameBody
public import Idealize.ShloMosaic.Lib.Tactic
public import proofs.«01_k».proof.Proof.Kernel.T13

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t12`: what it reads at its contents, what it writes at any contents. -/
abbrev inv_k0_t12 (X30 : BufTy.Contents (Elt F) arg30.view.ty) (X28 : BufTy.Contents (Elt F) arg28.view.ty) (X29 : BufTy.Contents (Elt F) arg29.view.ty) : sProp 𝕄 :=
  iprop((arg30.view.loc (c : Thread nD τ) ↦[arg30.view.set]{fullShare} X30) ∗ (arg28.view.loc (c : Thread nD τ) ↦[arg28.view.set]{fullShare} X28) ∗ (arg29.view.loc (c : Thread nD τ) ↦[arg29.view.set]{fullShare} X29) ∗ (∃ f, (arg31.view.loc (c : Thread nD τ) ↦[arg31.view.set]{fullShare} f)) ∗ (∃ f, (arg32.view.loc (c : Thread nD τ) ↦[arg32.view.set]{fullShare} f)))

set_option maxHeartbeats 4000000 in
/-- One trip of `k0_t12`. -/
theorem step_k0_t12 (v130 : IVec S8x128 32) (v145 : IVec S8x128 32) (X30 : BufTy.Contents (Elt F) arg30.view.ty) (X28 : BufTy.Contents (Elt F) arg28.view.ty) (X29 : BufTy.Contents (Elt F) arg29.view.ty) (k : Fin k0_t12_loop.trips) (acc : Unit) :
    inv_k0_t12 (F := F) c arg28 arg29 arg30 arg31 arg32 X30 X28 X29 ⊢ wp frame (wpE (defs₀ (F := F)) Variants.none (c : Thread nD τ) none) Set.univ
      (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k acc) (fun _ => inv_k0_t12 (F := F) c arg28 arg29 arg30 arg31 arg32 X30 X28 X29) := by
  unfold k0_t12_body
  iintro ⟨H30, H28, H29, ⟨%f31, H31⟩, ⟨%f32, H32⟩⟩
  sl_exec
  sl_step
  sl_close

set_option warn.classDefReducibility false in
/-- Loop `k0_t12` at its invariant. -/
@[sl_loop] def loopInv_k0_t12 (v130 : IVec S8x128 32) (v145 : IVec S8x128 32) (X30 : BufTy.Contents (Elt F) arg30.view.ty) (X28 : BufTy.Contents (Elt F) arg28.view.ty) (X29 : BufTy.Contents (Elt F) arg29.view.ty) :
    Gen.LoopInvTy_k0_t12 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 where
  inv k acc := inv_k0_t12 (F := F) c arg28 arg29 arg30 arg31 arg32 X30 X28 X29
  step k acc := step_k0_t12 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 X30 X28 X29 k acc

end
end Cert.Proof.Kernel
-- ==== Proof.Kernel.T14.lean ====
module

public import proofs.«01_k».proof.Proof.Gen.Kernel.Loops
public import Idealize.ShloMosaic.Lib.Pipeline.FrameBody
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t14`: what it reads at its contents, what it writes at any contents. -/
abbrev inv_k0_t14 (X17 : BufTy.Contents (Elt F) arg17.view.ty) (X18 : BufTy.Contents (Elt F) arg18.view.ty) (X7 : BufTy.Contents (Elt F) arg7.view.ty) : sProp 𝕄 :=
  iprop((arg17.view.loc (c : Thread nD τ) ↦[arg17.view.set]{fullShare} X17) ∗ (arg18.view.loc (c : Thread nD τ) ↦[arg18.view.set]{fullShare} X18) ∗ (arg7.view.loc (c : Thread nD τ) ↦[arg7.view.set]{fullShare} X7) ∗ (∃ f, (arg9.view.loc (c : Thread nD τ) ↦[arg9.view.set]{fullShare} f)) ∗ (∃ f, (arg34.view.loc (c : Thread nD τ) ↦[arg34.view.set]{fullShare} f)))

set_option maxHeartbeats 4000000 in
/-- One trip of `k0_t14`. -/
theorem step_k0_t14 (v445 : FVec F S8x128 .f32) (v454 : IVec S8x128 32) (c0_i32_227 : BitVec 32) (X17 : BufTy.Contents (Elt F) arg17.view.ty) (X18 : BufTy.Contents (Elt F) arg18.view.ty) (X7 : BufTy.Contents (Elt F) arg7.view.ty) (k : Fin k0_t14_loop.trips) (acc : Unit) :
    inv_k0_t14 (F := F) c arg7 arg9 arg17 arg18 arg34 X17 X18 X7 ⊢ wp frame (wpE (defs₀ (F := F)) Variants.none (c : Thread nD τ) none) Set.univ
      (k0_t14_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 k acc) (fun _ => inv_k0_t14 (F := F) c arg7 arg9 arg17 arg18 arg34 X17 X18 X7) := by
  unfold k0_t14_body
  iintro ⟨H17, H18, H7, ⟨%f9, H9⟩, ⟨%f34, H34⟩⟩
  sl_exec
  sl_step
  sl_close

set_option warn.classDefReducibility false in
/-- Loop `k0_t14` at its invariant. -/
@[sl_loop] def loopInv_k0_t14 (v445 : FVec F S8x128 .f32) (v454 : IVec S8x128 32) (c0_i32_227 : BitVec 32) (X17 : BufTy.Contents (Elt F) arg17.view.ty) (X18 : BufTy.Contents (Elt F) arg18.view.ty) (X7 : BufTy.Contents (Elt F) arg7.view.ty) :
    Gen.LoopInvTy_k0_t14 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 where
  inv k acc := inv_k0_t14 (F := F) c arg7 arg9 arg17 arg18 arg34 X17 X18 X7
  step k acc := step_k0_t14 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 X17 X18 X7 k acc

end
end Cert.Proof.Kernel
-- ==== Proof.Kernel.Body.lean ====
module

public import proofs.«01_k».proof.Proof.Gen.Kernel.Loops
public import Idealize.ShloMosaic.Lib.Pipeline.FrameBody
public import Idealize.ShloMosaic.Lib.Tactic
public import proofs.«01_k».proof.Proof.Kernel.Start
public import proofs.«01_k».proof.Proof.Kernel.T1
public import proofs.«01_k».proof.Proof.Kernel.T2
public import proofs.«01_k».proof.Proof.Kernel.T3
public import proofs.«01_k».proof.Proof.Kernel.T6
public import proofs.«01_k».proof.Proof.Kernel.T11
public import proofs.«01_k».proof.Proof.Kernel.T12
public import proofs.«01_k».proof.Proof.Kernel.T14

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- What the body is handed, and hands back: the staged operands at their contents, the results and the scratch at any,
the blocks of the two arrays it copies at rest. -/
abbrev bodyRes (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) : sProp 𝕄 := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ bigSep Finset.univ (xlandedP c arg0 arg11 arg37 X0) ∗ bigSep Finset.univ (landedP c arg1 arg12 arg36 X1) ∗ (∃ W, owes (c : Thread nD τ) 0 W))

attribute [local irreducible] blocksAt in
set_option maxHeartbeats 16000000 in
theorem body_run (X0 : BufTy.Contents (Elt F) arg0.view.ty) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (hlab : LabOK arg5 X5) (hlen : LenOK arg6 X6) :
    bodyRes (F := F) c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 X0 X1 X2 X3 X4 X5 X6 X7 ⊢ wp frame (wpE (defs₀ (F := F)) Variants.none (c : Thread nD τ) none) Set.univ
      (cc0_ctc_head (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37) (fun _ => bodyRes (F := F) c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 X0 X1 X2 X3 X4 X5 X6 X7) := by
  rw [cc0_ctc_head_eq_skeleton]
  unfold cc0_ctc_head_skel
  generalize hQ : (fun _ : PUnit => bodyRes (F := F) c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 X0 X1 X2 X3 X4 X5 X6 X7) = Q
  unfold bodyRes
  rw [w16, x4]
  iintro ⟨H2, H3, H4, H5, H6, H7, ⟨%f8, H8⟩, ⟨%f9, H9⟩, ⟨%f10, H10⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, Hx, Hw, ⟨%W, HW⟩⟩
  icases Hw with ⟨⟨⟨%g0, Hw0⟩, Hv0, Hc0⟩, ⟨⟨%g1, Hw1⟩, Hv1, Hc1⟩, ⟨⟨%g2, Hw2⟩, Hv2, Hc2⟩, ⟨⟨%g3, Hw3⟩, Hv3, Hc3⟩, ⟨⟨%g4, Hw4⟩, Hv4, Hc4⟩, ⟨⟨%g5, Hw5⟩, Hv5, Hc5⟩, ⟨⟨%g6, Hw6⟩, Hv6, Hc6⟩, ⟨⟨%g7, Hw7⟩, Hv7, Hc7⟩, ⟨⟨%g8, Hw8⟩, Hv8, Hc8⟩, ⟨⟨%g9, Hw9⟩, Hv9, Hc9⟩, ⟨⟨%g10, Hw10⟩, Hv10, Hc10⟩, ⟨⟨%g11, Hw11⟩, Hv11, Hc11⟩, ⟨⟨%g12, Hw12⟩, Hv12, Hc12⟩, ⟨⟨%g13, Hw13⟩, Hv13, Hc13⟩, ⟨⟨%g14, Hw14⟩, Hv14, Hc14⟩, ⟨⟨%g15, Hw15⟩, Hv15, Hc15⟩⟩
  icases Hx with ⟨⟨⟨%u0, Hx0⟩, Hy0, Hd0⟩, ⟨⟨%u1, Hx1⟩, Hy1, Hd1⟩, ⟨⟨%u2, Hx2⟩, Hy2, Hd2⟩, ⟨⟨%u3, Hx3⟩, Hy3, Hd3⟩⟩
  sl_exec
  have hoff : OffOK arg35 fL0 := fun i => hL5 i (lt_of_lt_of_eq (i 0).isLt (by decide))
  ihave HX := (x_collect c arg0 arg11 X0) $$ [Hx0 Hx1 Hx2 Hx3]
  · isplitl [Hx0]
    · iexists _
      isplitr; rotate_left
      · iexact Hx0
      · ipureintro; intro y; rw [View.read_writes_whole]; rfl
    isplitl [Hx1]
    · iexists _
      isplitr; rotate_left
      · iexact Hx1
      · ipureintro; intro y; rw [View.read_writes_whole]; rfl
    isplitl [Hx2]
    · iexists _
      isplitr; rotate_left
      · iexact Hx2
      · ipureintro; intro y; rw [View.read_writes_whole]; rfl
    iexists _
    isplitr; rotate_left
    · iexact Hx3
    · ipureintro; intro y; rw [View.read_writes_whole]; rfl
  icases HX with ⟨%gx, %hgx, H11⟩
  ihave HB := (blocks_start c arg1 arg12 arg36 X1) $$ [Hw0 Hv0 Hc0 Hc1 Hc2 Hc3 Hc4 Hc5 Hc6 Hc7 Hc8 Hc9 Hc10 Hc11 Hc12 Hc13 Hc14 Hc15]
  · isplitl [Hw0 Hv0 Hc0]
    · isplitl [Hw0]; · iexists _; iexact Hw0
      isplitl [Hv0]; · iexact Hv0
      iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexists _; iexact Hc5
    isplitl [Hc6]; · iexists _; iexact Hc6
    isplitl [Hc7]; · iexists _; iexact Hc7
    isplitl [Hc8]; · iexists _; iexact Hc8
    isplitl [Hc9]; · iexists _; iexact Hc9
    isplitl [Hc10]; · iexists _; iexact Hc10
    isplitl [Hc11]; · iexists _; iexact Hc11
    isplitl [Hc12]; · iexists _; iexact Hc12
    isplitl [Hc13]; · iexists _; iexact Hc13
    isplitl [Hc14]; · iexists _; iexact Hc14
    iexists _; iexact Hc15
  have hlo : LabOK arg5 X5 ∧ OffOK arg35 fL0 := ⟨hlab, hoff⟩
  let L := loopInv_k0_t3 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 body_run.sl.v124 body_run.sl.v145 X1 X3 X4 gx (arg19.view.writes (Elt F) arg19.view.junk (body_run.sl.H19_1 arg2 X2))
  sl_exec

  sl_step
  subst hQ
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H11 Hy0 Hy1 Hy2 Hy3 Hd0 Hd1 Hd2 Hd3]
  · iapply (x_home c arg0 arg11 arg37 X0 gx)
    isplitl [H11]; · iexact H11
    isplitl [Hy0]; · iexact Hy0
    isplitl [Hy1]; · iexact Hy1
    isplitl [Hy2]; · iexact Hy2
    isplitl [Hy3]; · iexact Hy3
    isplitl [Hd0]; · iexact Hd0
    isplitl [Hd1]; · iexact Hd1
    isplitl [Hd2]; · iexact Hd2
    iexact Hd3
  isplitl [HB]
  · iapply (blocks_end c arg1 arg12 arg36 X1)
    iexact HB
  iexists _; iexact HW

end
end Cert.Proof.Kernel
-- ==== Proof.Kernel.Parts.lean ====
module

public import proofs.«01_k».proof.Proof.Kernel.Start

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! A buffer cut into the blocks its transfers move, and put together again: sixteen column blocks, four row blocks. -/

section
variable (c : Dev nD)

/-- The places of column block `j`. -/
abbrev wset {sp : Space} (M : Memref sig .tc sp S1536x8192 .i8) (j : Fin 16) : Finset M.view.ty.Idx :=
  M.view.setOn (Rect.unit (s := S1536x8192) (wOff j) S1536x512.size (wOff_inb j)).set
theorem mem_wset {sp : Space} (M : Memref sig .tc sp S1536x8192 .i8) (j : Fin 16) (y : S1536x8192.Idx) :
    M.view.emb y ∈ wset M j ↔ (y 1).val / 512 = j.val := by
  rw [View.mem_setOn, Rect.mem_set_unit]
  have h1 : (y 0).val < 1536 := (y 0).isLt
  constructor
  · intro H; have a0 : 512 * j.val ≤ (y 1).val ∧ (y 1).val < 512 * j.val + 512 := H 1; omega
  · intro H i; fin_cases i
    · show 0 ≤ (y 0).val ∧ (y 0).val < 0 + 1536; omega
    · show 512 * j.val ≤ (y 1).val ∧ (y 1).val < 512 * j.val + 512; omega
theorem wset_disjoint {sp : Space} (M : Memref sig .tc sp S1536x8192 .i8) : ∀ p ∈ (Finset.univ : Finset (Fin 16)), ∀ p' ∈ (Finset.univ : Finset (Fin 16)), p ≠ p' → Disjoint (wset M p) (wset M p') := by
  intro p _ p' _ hne
  rw [Finset.disjoint_left]
  intro i hi hi'
  obtain ⟨y, -, rfl⟩ := Finset.mem_map.mp hi
  exact hne (Fin.ext (((mem_wset M p y).mp hi).symm.trans ((mem_wset M p' y).mp hi')))
theorem wset_cover {sp : Space} (M : Memref sig .tc sp S1536x8192 .i8) : Finset.univ.biUnion (wset M) = M.view.set := by
  ext i
  rw [Finset.mem_biUnion]
  constructor
  · rintro ⟨p, -, h⟩; exact M.view.setOn_subset_set _ h
  · intro h
    obtain ⟨y, -, rfl⟩ := Finset.mem_map.mp h
    have h0 : (y 1).val < 8192 := (y 1).isLt
    exact ⟨⟨(y 1).val / 512, by omega⟩, Finset.mem_univ _, (mem_wset M _ y).mpr rfl⟩

theorem wpt_eq {sp : Space} (M : Memref sig .tc sp S1536x8192 .i8) (p : Fin 16) (f : BufTy.Contents (Elt F) M.view.ty) :
    (((wwin M p).view.loc (c : Thread nD τ) ↦[(wwin M p).view.set]{fullShare} f) : sProp 𝕄)
      = (M.view.loc (c : Thread nD τ) ↦[wset M p]{fullShare} f) :=
  congrArg (fun S : Finset M.view.ty.Idx => (M.view.loc (c : Thread nD τ) ↦[S]{fullShare} f : sProp 𝕄)) (wwin_set M p)
theorem wpt_split {sp : Space} (M : Memref sig .tc sp S1536x8192 .i8) (f : BufTy.Contents (Elt F) M.view.ty) :
    (M.view.loc (c : Thread nD τ) ↦[M.view.set]{fullShare} f : sProp 𝕄)
      = bigSep Finset.univ (fun p : Fin 16 => ((wwin M p).view.loc (c : Thread nD τ) ↦[(wwin M p).view.set]{fullShare} f)) := by
  refine ((congrArg (fun S : Finset M.view.ty.Idx => (M.view.loc (c : Thread nD τ) ↦[S]{fullShare} f : sProp 𝕄)) (wset_cover M).symm).trans
    (pointsTo_biUnion (q := fullShare) (ℓ := M.view.loc (c : Thread nD τ)) Finset.univ (wset M) (wset_disjoint M))).trans ?_
  exact bigSep_congr fun p _ => (wpt_eq c M p f).symm
theorem wpt_join {sp : Space} (M : Memref sig .tc sp S1536x8192 .i8) :
    bigSep Finset.univ (fun p : Fin 16 => iprop(∃ f, ((wwin M p).view.loc (c : Thread nD τ) ↦[(wwin M p).view.set]{fullShare} f)))
      ⊢ (iprop(∃ g : BufTy.Contents (Elt F) M.view.ty, (M.view.loc (c : Thread nD τ) ↦[M.view.set]{fullShare} g)) : sProp 𝕄) := by
  refine (bigSep_exists_pi (Y := fun _ => BufTy.Contents (Elt F) M.view.ty) Finset.univ (fun p f => ((wwin M p).view.loc (c : Thread nD τ) ↦[(wwin M p).view.set]{fullShare} f : sProp 𝕄))).trans ?_
  iintro ⟨%fs, H⟩
  have hj := (pointsTo_biUnion_join (Ix := Unit) (Name := ℕ) (U := Pipeline.UD sig nD τ) (Lvl := ℕ) (q := fullShare) (ℓ := M.view.loc (c : Thread nD τ)) Finset.univ (wset M) fs (fs 0) (wset_disjoint M))
  have he : bigSep Finset.univ (fun p : Fin 16 => ((wwin M p).view.loc (c : Thread nD τ) ↦[(wwin M p).view.set]{fullShare} fs p : sProp 𝕄))
      ⊢ bigSep Finset.univ (fun p : Fin 16 => (M.view.loc (c : Thread nD τ) ↦[wset M p]{fullShare} fs p : sProp 𝕄)) := Entails.of_eq (bigSep_congr fun p _ => wpt_eq c M p (fs p))
  ihave H' := he $$ H
  icases hj $$ H' with ⟨%g, %hg, H⟩
  iexists g
  rw [wset_cover]; iexact H

theorem xpt_eq {sp : Space} (M : Memref sig .tc sp S2048x1536 .fp8e4m3) (p : Fin 4) (f : BufTy.Contents (Elt F) M.view.ty) :
    (((xwin M p).view.loc (c : Thread nD τ) ↦[(xwin M p).view.set]{fullShare} f) : sProp 𝕄)
      = (M.view.loc (c : Thread nD τ) ↦[xset M p]{fullShare} f) :=
  congrArg (fun S : Finset M.view.ty.Idx => (M.view.loc (c : Thread nD τ) ↦[S]{fullShare} f : sProp 𝕄)) (xwin_set M p)
theorem xpt_split {sp : Space} (M : Memref sig .tc sp S2048x1536 .fp8e4m3) (f : BufTy.Contents (Elt F) M.view.ty) :
    (M.view.loc (c : Thread nD τ) ↦[M.view.set]{fullShare} f : sProp 𝕄)
      = bigSep Finset.univ (fun p : Fin 4 => ((xwin M p).view.loc (c : Thread nD τ) ↦[(xwin M p).view.set]{fullShare} f)) := by
  refine ((congrArg (fun S : Finset M.view.ty.Idx => (M.view.loc (c : Thread nD τ) ↦[S]{fullShare} f : sProp 𝕄)) (xset_cover M).symm).trans
    (pointsTo_biUnion (q := fullShare) (ℓ := M.view.loc (c : Thread nD τ)) Finset.univ (xset M) (xset_disjoint M))).trans ?_
  exact bigSep_congr fun p _ => (xpt_eq c M p f).symm
theorem xpt_join {sp : Space} (M : Memref sig .tc sp S2048x1536 .fp8e4m3) :
    bigSep Finset.univ (fun p : Fin 4 => iprop(∃ f, ((xwin M p).view.loc (c : Thread nD τ) ↦[(xwin M p).view.set]{fullShare} f)))
      ⊢ (iprop(∃ g : BufTy.Contents (Elt F) M.view.ty, (M.view.loc (c : Thread nD τ) ↦[M.view.set]{fullShare} g)) : sProp 𝕄) := by
  refine (bigSep_exists_pi (Y := fun _ => BufTy.Contents (Elt F) M.view.ty) Finset.univ (fun p f => ((xwin M p).view.loc (c : Thread nD τ) ↦[(xwin M p).view.set]{fullShare} f : sProp 𝕄))).trans ?_
  iintro ⟨%fs, H⟩
  have hj := (pointsTo_biUnion_join (Ix := Unit) (Name := ℕ) (U := Pipeline.UD sig nD τ) (Lvl := ℕ) (q := fullShare) (ℓ := M.view.loc (c : Thread nD τ)) Finset.univ (xset M) fs (fs 0) (xset_disjoint M))
  have he : bigSep Finset.univ (fun p : Fin 4 => ((xwin M p).view.loc (c : Thread nD τ) ↦[(xwin M p).view.set]{fullShare} fs p : sProp 𝕄))
      ⊢ bigSep Finset.univ (fun p : Fin 4 => (M.view.loc (c : Thread nD τ) ↦[xset M p]{fullShare} fs p : sProp 𝕄)) := Entails.of_eq (bigSep_congr fun p _ => xpt_eq c M p (fs p))
  ihave H' := he $$ H
  icases hj $$ H' with ⟨%g, %hg, H⟩
  iexists g
  rw [xset_cover]; iexact H

/-- A buffer at any contents, the array and the cells at zero are the blocks at rest. -/
theorem w_rest (arg1 : Memref sig .tc .hbm S1536x8192 .i8) (arg12 : Memref sig .tc .vmem S1536x8192 .i8) (arg36 : DmaSems sig S16) (X1 : BufTy.Contents (Elt F) arg1.view.ty) :
    iprop((∃ f, (arg12.view.loc (c : Thread nD τ) ↦[arg12.view.set]{fullShare} f)) ∗ (arg1.view.loc (c : Thread nD τ) ↦[arg1.view.set]{fullShare} X1) ∗ bigSep Finset.univ (fun p : Fin 16 => semVal ((c : Thread nD τ), SemLoc.dma (wcell arg36 p).sem) 0))
      ⊢ (bigSep Finset.univ (landedP c arg1 arg12 arg36 X1) : sProp 𝕄) := by
  rw [wpt_split c arg1, bigSep_sep', bigSep_sep']
  iintro ⟨⟨%f, H⟩, HA, HC⟩
  isplitl [H]
  · have he : bigSep Finset.univ (fun p : Fin 16 => ((wwin arg12 p).view.loc (c : Thread nD τ) ↦[(wwin arg12 p).view.set]{fullShare} f : sProp 𝕄))
        ⊢ bigSep Finset.univ (fun p : Fin 16 => (iprop(∃ f, ((wwin arg12 p).view.loc (c : Thread nD τ) ↦[(wwin arg12 p).view.set]{fullShare} f)) : sProp 𝕄)) :=
      bigSep_mono fun p _ => exists_intro (Φ := fun f => ((wwin arg12 p).view.loc (c : Thread nD τ) ↦[(wwin arg12 p).view.set]{fullShare} f : sProp 𝕄)) f
    have hs := Entails.of_eq (wpt_split c arg12 f)
    ihave H1 := hs $$ H
    ihave H' := he $$ H1
    iexact H'
  isplitl [HA]; · iexact HA
  iexact HC
theorem w_unrest (arg1 : Memref sig .tc .hbm S1536x8192 .i8) (arg12 : Memref sig .tc .vmem S1536x8192 .i8) (arg36 : DmaSems sig S16) (X1 : BufTy.Contents (Elt F) arg1.view.ty) :
    bigSep Finset.univ (landedP c arg1 arg12 arg36 X1)
      ⊢ (iprop((∃ f, (arg12.view.loc (c : Thread nD τ) ↦[arg12.view.set]{fullShare} f)) ∗ (arg1.view.loc (c : Thread nD τ) ↦[arg1.view.set]{fullShare} X1) ∗ bigSep Finset.univ (fun p : Fin 16 => semVal ((c : Thread nD τ), SemLoc.dma (wcell arg36 p).sem) 0)) : sProp 𝕄) := by
  rw [wpt_split c arg1]
  rw [bigSep_sep', bigSep_sep']
  iintro ⟨H, HA, HC⟩
  ihave H' := (wpt_join c arg12) $$ H
  isplitl [H']; · iexact H'
  isplitl [HA]; · iexact HA
  iexact HC

/-- A buffer at any contents, the array and the cells at zero are the blocks at rest. -/
theorem x_rest (arg0 : Memref sig .tc .hbm S2048x1536 .fp8e4m3) (arg11 : Memref sig .tc .vmem S2048x1536 .fp8e4m3) (arg37 : DmaSems sig S4) (X0 : BufTy.Contents (Elt F) arg0.view.ty) :
    iprop((∃ f, (arg11.view.loc (c : Thread nD τ) ↦[arg11.view.set]{fullShare} f)) ∗ (arg0.view.loc (c : Thread nD τ) ↦[arg0.view.set]{fullShare} X0) ∗ bigSep Finset.univ (fun p : Fin 4 => semVal ((c : Thread nD τ), SemLoc.dma (xcell arg37 p).sem) 0))
      ⊢ (bigSep Finset.univ (xlandedP c arg0 arg11 arg37 X0) : sProp 𝕄) := by
  rw [xpt_split c arg0, bigSep_sep', bigSep_sep']
  iintro ⟨⟨%f, H⟩, HA, HC⟩
  isplitl [H]
  · have he : bigSep Finset.univ (fun p : Fin 4 => ((xwin arg11 p).view.loc (c : Thread nD τ) ↦[(xwin arg11 p).view.set]{fullShare} f : sProp 𝕄))
        ⊢ bigSep Finset.univ (fun p : Fin 4 => (iprop(∃ f, ((xwin arg11 p).view.loc (c : Thread nD τ) ↦[(xwin arg11 p).view.set]{fullShare} f)) : sProp 𝕄)) :=
      bigSep_mono fun p _ => exists_intro (Φ := fun f => ((xwin arg11 p).view.loc (c : Thread nD τ) ↦[(xwin arg11 p).view.set]{fullShare} f : sProp 𝕄)) f
    have hs := Entails.of_eq (xpt_split c arg11 f)
    ihave H1 := hs $$ H
    ihave H' := he $$ H1
    iexact H'
  isplitl [HA]; · iexact HA
  iexact HC
theorem x_unrest (arg0 : Memref sig .tc .hbm S2048x1536 .fp8e4m3) (arg11 : Memref sig .tc .vmem S2048x1536 .fp8e4m3) (arg37 : DmaSems sig S4) (X0 : BufTy.Contents (Elt F) arg0.view.ty) :
    bigSep Finset.univ (xlandedP c arg0 arg11 arg37 X0)
      ⊢ (iprop((∃ f, (arg11.view.loc (c : Thread nD τ) ↦[arg11.view.set]{fullShare} f)) ∗ (arg0.view.loc (c : Thread nD τ) ↦[arg0.view.set]{fullShare} X0) ∗ bigSep Finset.univ (fun p : Fin 4 => semVal ((c : Thread nD τ), SemLoc.dma (xcell arg37 p).sem) 0)) : sProp 𝕄) := by
  rw [xpt_split c arg0]
  rw [bigSep_sep', bigSep_sep']
  iintro ⟨H, HA, HC⟩
  ihave H' := (xpt_join c arg11) $$ H
  isplitl [H']; · iexact H'
  isplitl [HA]; · iexact HA
  iexact HC
end

end Cert.Proof.Kernel
-- ==== Proof.Kernel.Launch.lean ====
module

public import proofs.«01_k».proof.Proof.Kernel.Body
public import proofs.«01_k».proof.Proof.Kernel.Parts
public import proofs.«01_k».proof.Proof.Gen.Kernel.Frame
public import proofs.«01_k».proof.Proof.Gen.Kernel.Skeleton
public import Idealize.ShloMosaic.Lib.Pipeline.Frame

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The kernel's own semaphores, and the two arrays it copies -/

abbrev osem0 : Fin 20 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28] : Fin 20 → SemLoc sig) j
theorem ownSemFacts0 : Pipeline.OwnSemFacts spec0 osem0 := by decide
theorem wsem_0 : (wcell cc0_scratch25 0).sem = 9 := by decide +kernel
theorem wsem_1 : (wcell cc0_scratch25 1).sem = 10 := by decide +kernel
theorem wsem_2 : (wcell cc0_scratch25 2).sem = 11 := by decide +kernel
theorem wsem_3 : (wcell cc0_scratch25 3).sem = 12 := by decide +kernel
theorem wsem_4 : (wcell cc0_scratch25 4).sem = 13 := by decide +kernel
theorem wsem_5 : (wcell cc0_scratch25 5).sem = 14 := by decide +kernel
theorem wsem_6 : (wcell cc0_scratch25 6).sem = 15 := by decide +kernel
theorem wsem_7 : (wcell cc0_scratch25 7).sem = 16 := by decide +kernel
theorem wsem_8 : (wcell cc0_scratch25 8).sem = 17 := by decide +kernel
theorem wsem_9 : (wcell cc0_scratch25 9).sem = 18 := by decide +kernel
theorem wsem_10 : (wcell cc0_scratch25 10).sem = 19 := by decide +kernel
theorem wsem_11 : (wcell cc0_scratch25 11).sem = 20 := by decide +kernel
theorem wsem_12 : (wcell cc0_scratch25 12).sem = 21 := by decide +kernel
theorem wsem_13 : (wcell cc0_scratch25 13).sem = 22 := by decide +kernel
theorem wsem_14 : (wcell cc0_scratch25 14).sem = 23 := by decide +kernel
theorem wsem_15 : (wcell cc0_scratch25 15).sem = 24 := by decide +kernel
theorem xsem_0 : (xcell cc0_scratch26 0).sem = 25 := by decide +kernel
theorem xsem_1 : (xcell cc0_scratch26 1).sem = 26 := by decide +kernel
theorem xsem_2 : (xcell cc0_scratch26 2).sem = 27 := by decide +kernel
theorem xsem_3 : (xcell cc0_scratch26 3).sem = 28 := by decide +kernel
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (wcell cc0_scratch25 0).sem) 0 ∗ semVal ((c : Thread nD τ), SemLoc.dma (wcell cc0_scratch25 1).sem) 0 ∗ semVal ((c : Thread nD τ), SemLoc.dma (wcell cc0_scratch25 2).sem) 0 ∗ semVal ((c : Thread nD τ), SemLoc.dma (wcell cc0_scratch25 3).sem) 0 ∗ semVal ((c : Thread nD τ), SemLoc.dma (wcell cc0_scratch25 4).sem) 0 ∗ semVal ((c : Thread nD τ), SemLoc.dma (wcell cc0_scratch25 5).sem) 0 ∗ semVal ((c : Thread nD τ), SemLoc.dma (wcell cc0_scratch25 6).sem) 0 ∗ semVal ((c : Thread nD τ), SemLoc.dma (wcell cc0_scratch25 7).sem) 0 ∗ semVal ((c : Thread nD τ), SemLoc.dma (wcell cc0_scratch25 8).sem) 0 ∗ semVal ((c : Thread nD τ), SemLoc.dma (wcell cc0_scratch25 9).sem) 0 ∗ semVal ((c : Thread nD τ), SemLoc.dma (wcell cc0_scratch25 10).sem) 0 ∗ semVal ((c : Thread nD τ), SemLoc.dma (wcell cc0_scratch25 11).sem) 0 ∗ semVal ((c : Thread nD τ), SemLoc.dma (wcell cc0_scratch25 12).sem) 0 ∗ semVal ((c : Thread nD τ), SemLoc.dma (wcell cc0_scratch25 13).sem) 0 ∗ semVal ((c : Thread nD τ), SemLoc.dma (wcell cc0_scratch25 14).sem) 0 ∗ semVal ((c : Thread nD τ), SemLoc.dma (wcell cc0_scratch25 15).sem) 0 ∗ semVal ((c : Thread nD τ), SemLoc.dma (xcell cc0_scratch26 0).sem) 0 ∗ semVal ((c : Thread nD τ), SemLoc.dma (xcell cc0_scratch26 1).sem) 0 ∗ semVal ((c : Thread nD τ), SemLoc.dma (xcell cc0_scratch26 2).sem) 0 ∗ semVal ((c : Thread nD τ), SemLoc.dma (xcell cc0_scratch26 3).sem) 0) := by
  rw [Pipeline.ownSems0_eq_of_list c osem0 [0, 1, 2, 3, 4, 5, 6, 7, 8, 9, 10, 11, 12, 13, 14, 15, 16, 17, 18, 19] (by decide) (by decide)]
  rw [wsem_0, wsem_1, wsem_2, wsem_3, wsem_4, wsem_5, wsem_6, wsem_7, wsem_8, wsem_9, wsem_10, wsem_11, wsem_12, wsem_13, wsem_14, wsem_15, xsem_0, xsem_1, xsem_2, xsem_3]
  rfl
/-- The inputs and the codes, left where they are: no window's arrays. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg2) ↦{fullShare} V m c main_arg2)) := by
  rw [BI.bigSep_eq_bigSepL_of_eq [main_v0, main_arg2] (by decide) (by decide)]; rfl

/-- The invariant, conjunct by conjunct. -/
theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d) ∗ (∃ d, owns (c : Thread nD τ) (Memref.whole cc0_scratch18) fullShare d) ∗ (∃ d, owns (c : Thread nD τ) (Memref.whole cc0_scratch19) fullShare d) ∗ (∃ d, owns (c : Thread nD τ) (Memref.whole cc0_scratch20) fullShare d) ∗ (∃ d, owns (c : Thread nD τ) (Memref.whole cc0_scratch21) fullShare d) ∗ (∃ d, owns (c : Thread nD τ) (Memref.whole cc0_scratch22) fullShare d) ∗ (∃ d, owns (c : Thread nD τ) (Memref.whole cc0_scratch23) fullShare d) ∗ (∃ d, owns (c : Thread nD τ) (Memref.whole cc0_scratch24) fullShare d)) ∗ (∃ r, prngReg c r)
          ∗ iprop(semVal ((c : Thread nD τ), SemLoc.dma (wcell cc0_scratch25 0).sem) 0 ∗ semVal ((c : Thread nD τ), SemLoc.dma (wcell cc0_scratch25 1).sem) 0 ∗ semVal ((c : Thread nD τ), SemLoc.dma (wcell cc0_scratch25 2).sem) 0 ∗ semVal ((c : Thread nD τ), SemLoc.dma (wcell cc0_scratch25 3).sem) 0 ∗ semVal ((c : Thread nD τ), SemLoc.dma (wcell cc0_scratch25 4).sem) 0 ∗ semVal ((c : Thread nD τ), SemLoc.dma (wcell cc0_scratch25 5).sem) 0 ∗ semVal ((c : Thread nD τ), SemLoc.dma (wcell cc0_scratch25 6).sem) 0 ∗ semVal ((c : Thread nD τ), SemLoc.dma (wcell cc0_scratch25 7).sem) 0 ∗ semVal ((c : Thread nD τ), SemLoc.dma (wcell cc0_scratch25 8).sem) 0 ∗ semVal ((c : Thread nD τ), SemLoc.dma (wcell cc0_scratch25 9).sem) 0 ∗ semVal ((c : Thread nD τ), SemLoc.dma (wcell cc0_scratch25 10).sem) 0 ∗ semVal ((c : Thread nD τ), SemLoc.dma (wcell cc0_scratch25 11).sem) 0 ∗ semVal ((c : Thread nD τ), SemLoc.dma (wcell cc0_scratch25 12).sem) 0 ∗ semVal ((c : Thread nD τ), SemLoc.dma (wcell cc0_scratch25 13).sem) 0 ∗ semVal ((c : Thread nD τ), SemLoc.dma (wcell cc0_scratch25 14).sem) 0 ∗ semVal ((c : Thread nD τ), SemLoc.dma (wcell cc0_scratch25 15).sem) 0 ∗ semVal ((c : Thread nD τ), SemLoc.dma (xcell cc0_scratch26 0).sem) 0 ∗ semVal ((c : Thread nD τ), SemLoc.dma (xcell cc0_scratch26 1).sem) 0 ∗ semVal ((c : Thread nD τ), SemLoc.dma (xcell cc0_scratch26 2).sem) 0 ∗ semVal ((c : Thread nD τ), SemLoc.dma (xcell cc0_scratch26 3).sem) 0)
          ∗ iprop(owns (c : Thread nD τ) (Memref.whole main_v0) fullShare (V m c main_v0) ∗ owns (c : Thread nD τ) (Memref.whole main_arg2) fullShare (V m c main_arg2))) := by
  rw [Pipeline.ΦD_eq, scopedRest0_eq, ownSems00_eq, hbmPts0_eq]; simp only [owns_whole]; try rfl

/-! ## The proof data -/

/-- The results, of which a frame says nothing. -/
def forgets0 : Fin 9 → Bool := fun w => decide (6 ≤ w.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | w => Pipeline.Dat.unnamed (cfg := cfg0) w t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by show iblk m c 1 t = _; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by show iblk m c 2 t = _; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by show iblk m c 3 t = _; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by show iblk m c 4 t = _; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by show iblk m c 5 t = _; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ X, owns (c : Thread nD τ) (st0_7 t) fullShare X) ∗ (∃ X, owns (c : Thread nD τ) (st0_8 t) fullShare X))
def bodyPost (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ X, owns (c : Thread nD τ) (st0_6 t) fullShare X) ∗ (∃ X, owns (c : Thread nD τ) (st0_7 t) fullShare X) ∗ (∃ X, owns (c : Thread nD τ) (st0_8 t) fullShare X))

/-- What the launch asks of the staged labels and lengths. -/
abbrev WordsOK : Prop := ∀ c : Dev nD, (∀ t i, BitVec.toNat (iblk m c 3 t i) < 8192) ∧ ∀ t i, BitVec.toNat (iblk m c 4 t i) ≤ 32

set_option maxHeartbeats 4000000 in
/-- The body at the point: the invariant opened, the blocks laid out, `body_run`, everything put back. -/
theorem sound_body (hp : WordsOK m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  simp only [before0_0, before0_1, before0_2, before0_3, before0_4, before0_5]
  unfold owns
  iintro ⟨⟨⟨⟨%d0, %f0, -, Hs0⟩, ⟨%d1, %f1, -, Hs1⟩, ⟨%d2, %f2, -, Hs2⟩, ⟨%d3, %f3, -, Hs3⟩, ⟨%d4, %f4, -, Hs4⟩, ⟨%d5, %f5, -, Hs5⟩, ⟨%d6, %f6, -, Hs6⟩, ⟨%d7, %f7, -, Hs7⟩, ⟨%d8, %f8, -, Hs8⟩, ⟨%d9, %f9, -, Hs9⟩, ⟨%d10, %f10, -, Hs10⟩, ⟨%d11, %f11, -, Hs11⟩, ⟨%d12, %f12, -, Hs12⟩, ⟨%d13, %f13, -, Hs13⟩, ⟨%d14, %f14, -, Hs14⟩, ⟨%d15, %f15, -, Hs15⟩, ⟨%d16, %f16, -, Hs16⟩, ⟨%d17, %f17, -, Hs17⟩, ⟨%d18, %f18, -, Hs18⟩, ⟨%d19, %f19, -, Hs19⟩, ⟨%d20, %f20, -, Hs20⟩, ⟨%d21, %f21, -, Hs21⟩, ⟨%d22, %f22, -, Hs22⟩, ⟨%d23, %f23, -, Hs23⟩, ⟨%d24, %f24, -, Hs24⟩⟩, Hg, ⟨Hc0, Hc1, Hc2, Hc3, Hc4, Hc5, Hc6, Hc7, Hc8, Hc9, Hc10, Hc11, Hc12, Hc13, Hc14, Hc15, Hd0, Hd1, Hd2, Hd3⟩, ⟨⟨%X0, %e0, Hx⟩, ⟨%X1, %e1, Hw⟩⟩⟩, ⟨%W, %hW, HO⟩, ⟨%dd0, %X2, %e2, H2⟩, ⟨%dd1, %X3, %e3, H3⟩, ⟨%dd2, %X4, %e4, H4⟩, ⟨%dd3, %X5, %e5, H5⟩, ⟨%dd4, %X6, %e6, H6⟩, ⟨%dd5, %X7, %e7, H7⟩, ⟨%dd6, %g8, -, H8⟩, ⟨%dd7, %g9, -, H9⟩, ⟨%dd8, %g10, -, H10⟩⟩
  ihave HX := (x_rest c (Memref.whole main_v0) (Memref.whole cc0_scratch0) cc0_scratch26 X0) $$ [Hs0 Hx Hd0 Hd1 Hd2 Hd3]
  · isplitl [Hs0]; · iexists _; iexact Hs0
    isplitl [Hx]; · iexact Hx
    rw [x4]
    isplitl [Hd0]; · iexact Hd0
    isplitl [Hd1]; · iexact Hd1
    isplitl [Hd2]; · iexact Hd2
    iexact Hd3
  ihave HWB := (w_rest c (Memref.whole main_arg2) (Memref.whole cc0_scratch1) cc0_scratch25 X1) $$ [Hs1 Hw Hc0 Hc1 Hc2 Hc3 Hc4 Hc5 Hc6 Hc7 Hc8 Hc9 Hc10 Hc11 Hc12 Hc13 Hc14 Hc15]
  · isplitl [Hs1]; · iexists _; iexact Hs1
    isplitl [Hw]; · iexact Hw
    rw [w16]
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact Hc15
  have hlab : LabOK (st0_3 t) X5 := fun i => by rw [e5]; exact (hp c).1 t i
  have hlen : LenOK (st0_4 t) X6 := fun i => by rw [e6]; exact (hp c).2 t i
  have hr := body_run (F := F) c (Memref.whole main_v0) (Memref.isWhole_whole _) (Memref.whole main_arg2) (Memref.isWhole_whole _) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 X0 X1 X2 X3 X4 X5 X6 X7 hlab hlen
  ihave HR := hr $$ [H2 H3 H4 H5 H6 H7 H8 H9 H10 Hs2 Hs3 Hs4 Hs5 Hs6 Hs7 Hs8 Hs9 Hs10 Hs11 Hs12 Hs13 Hs14 Hs15 Hs16 Hs17 Hs18 Hs19 Hs20 Hs21 Hs22 Hs23 Hs24 HX HWB HO]
  · isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    isplitl [Hs16]; · iexists _; iexact Hs16
    isplitl [Hs17]; · iexists _; iexact Hs17
    isplitl [Hs18]; · iexists _; iexact Hs18
    isplitl [Hs19]; · iexists _; iexact Hs19
    isplitl [Hs20]; · iexists _; iexact Hs20
    isplitl [Hs21]; · iexists _; iexact Hs21
    isplitl [Hs22]; · iexists _; iexact Hs22
    isplitl [Hs23]; · iexists _; iexact Hs23
    isplitl [Hs24]; · iexists _; iexact Hs24
    isplitl [HX]; · iexact HX
    isplitl [HWB]; · iexact HWB
    iexists _; iexact HO
  ihave HR2 := (wp_wand _ _ _) $$ HR
  iapply HR2
  iintro %u
  iintro ⟨H2, H3, H4, H5, H6, H7, ⟨%g8, H8⟩, ⟨%g9, H9⟩, ⟨%g10, H10⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, ⟨%f14, Hs14⟩, ⟨%f15, Hs15⟩, ⟨%f16, Hs16⟩, ⟨%f17, Hs17⟩, ⟨%f18, Hs18⟩, ⟨%f19, Hs19⟩, ⟨%f20, Hs20⟩, ⟨%f21, Hs21⟩, ⟨%f22, Hs22⟩, ⟨%f23, Hs23⟩, ⟨%f24, Hs24⟩, HX, HWB, ⟨%W2, HO⟩⟩
  ihave HX2 := (x_unrest c (Memref.whole main_v0) (Memref.whole cc0_scratch0) cc0_scratch26 X0) $$ HX
  ihave HW2 := (w_unrest c (Memref.whole main_arg2) (Memref.whole cc0_scratch1) cc0_scratch25 X1) $$ HWB
  rw [x4, w16]
  icases HX2 with ⟨⟨%f0, Hs0⟩, Hx, Hd0, Hd1, Hd2, Hd3⟩
  icases HW2 with ⟨⟨%f1, Hs1⟩, Hw, Hc0, Hc1, Hc2, Hc3, Hc4, Hc5, Hc6, Hc7, Hc8, Hc9, Hc10, Hc11, Hc12, Hc13, Hc14, Hc15⟩
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hg Hc0 Hc1 Hc2 Hc3 Hc4 Hc5 Hc6 Hc7 Hc8 Hc9 Hc10 Hc11 Hc12 Hc13 Hc14 Hc15 Hd0 Hd1 Hd2 Hd3 Hx Hw]
  · isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24]
    · isplitl [Hs0]
      · iexists _, _; isplitr; swap; · iexact Hs0
        ipureintro; rfl
      isplitl [Hs1]
      · iexists _, _; isplitr; swap; · iexact Hs1
        ipureintro; rfl
      isplitl [Hs2]
      · iexists _, _; isplitr; swap; · iexact Hs2
        ipureintro; rfl
      isplitl [Hs3]
      · iexists _, _; isplitr; swap; · iexact Hs3
        ipureintro; rfl
      isplitl [Hs4]
      · iexists _, _; isplitr; swap; · iexact Hs4
        ipureintro; rfl
      isplitl [Hs5]
      · iexists _, _; isplitr; swap; · iexact Hs5
        ipureintro; rfl
      isplitl [Hs6]
      · iexists _, _; isplitr; swap; · iexact Hs6
        ipureintro; rfl
      isplitl [Hs7]
      · iexists _, _; isplitr; swap; · iexact Hs7
        ipureintro; rfl
      isplitl [Hs8]
      · iexists _, _; isplitr; swap; · iexact Hs8
        ipureintro; rfl
      isplitl [Hs9]
      · iexists _, _; isplitr; swap; · iexact Hs9
        ipureintro; rfl
      isplitl [Hs10]
      · iexists _, _; isplitr; swap; · iexact Hs10
        ipureintro; rfl
      isplitl [Hs11]
      · iexists _, _; isplitr; swap; · iexact Hs11
        ipureintro; rfl
      isplitl [Hs12]
      · iexists _, _; isplitr; swap; · iexact Hs12
        ipureintro; rfl
      isplitl [Hs13]
      · iexists _, _; isplitr; swap; · iexact Hs13
        ipureintro; rfl
      isplitl [Hs14]
      · iexists _, _; isplitr; swap; · iexact Hs14
        ipureintro; rfl
      isplitl [Hs15]
      · iexists _, _; isplitr; swap; · iexact Hs15
        ipureintro; rfl
      isplitl [Hs16]
      · iexists _, _; isplitr; swap; · iexact Hs16
        ipureintro; rfl
      isplitl [Hs17]
      · iexists _, _; isplitr; swap; · iexact Hs17
        ipureintro; rfl
      isplitl [Hs18]
      · iexists _, _; isplitr; swap; · iexact Hs18
        ipureintro; rfl
      isplitl [Hs19]
      · iexists _, _; isplitr; swap; · iexact Hs19
        ipureintro; rfl
      isplitl [Hs20]
      · iexists _, _; isplitr; swap; · iexact Hs20
        ipureintro; rfl
      isplitl [Hs21]
      · iexists _, _; isplitr; swap; · iexact Hs21
        ipureintro; rfl
      isplitl [Hs22]
      · iexists _, _; isplitr; swap; · iexact Hs22
        ipureintro; rfl
      isplitl [Hs23]
      · iexists _, _; isplitr; swap; · iexact Hs23
        ipureintro; rfl
      iexists _, _; isplitr; swap; · iexact Hs24
      ipureintro; rfl
    isplitl [Hg]; · iexact Hg
    isplitl [Hc0 Hc1 Hc2 Hc3 Hc4 Hc5 Hc6 Hc7 Hc8 Hc9 Hc10 Hc11 Hc12 Hc13 Hc14 Hc15 Hd0 Hd1 Hd2 Hd3]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hd0]; · iexact Hd0
      isplitl [Hd1]; · iexact Hd1
      isplitl [Hd2]; · iexact Hd2
      iexact Hd3
    isplitl [Hx]
    · iexists X0; isplitr; swap; · iexact Hx
      ipureintro; exact e0
    iexists X1; isplitr; swap; · iexact Hw
    ipureintro; exact e1
  isplitl [HO]
  · iexists W2; isplitr; · ipureintro; exact fun _ _ => Or.inl trivial
    iexact HO
  isplitl [H2]
  · iexists X2; isplitr; swap; · iexact H2
    ipureintro; exact e2
  isplitl [H3]
  · iexists X3; isplitr; swap; · iexact H3
    ipureintro; exact e3
  isplitl [H4]
  · iexists X4; isplitr; swap; · iexact H4
    ipureintro; exact e4
  isplitl [H5]
  · iexists X5; isplitr; swap; · iexact H5
    ipureintro; exact e5
  isplitl [H6]
  · iexists X6; isplitr; swap; · iexact H6
    ipureintro; exact e6
  isplitl [H7]
  · iexists X7; isplitr; swap; · iexact H7
    ipureintro; exact e7
  isplitl [H8]
  · iexists _, _; isplitr; swap; · iexact H8
    ipureintro; rfl
  isplitl [H9]
  · iexists _, _; isplitr; swap; · iexact H9
    ipureintro; rfl
  iexists _, _; isplitr; swap; · iexact H10
  ipureintro; rfl

theorem defs₀_row (t : Fin cfg0.N) : defs₀ (F := F) .tc cfg0.body (cfg0.bodyArgs t (cfg0.slots t)) = bodyAt0 t := by
  unfold defs₀; rw [Defs.onTc_tc]

theorem body_obligation (hp : WordsOK m) (c : Dev nD) :
    BodyObligation (dats (F := F) m 0 c) (defs₀ (F := F)) Variants.none () Set.univ forgets0 := fun t => by
  rw [bigSep_W0, bigSep_W0, defs₀_row]
  exact triple_restated (sound_body m hp c t) rfl .rfl fun _ => .rfl

/-! ## The launch -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every weakly fair execution terminates, at the contents `FramePost` names, every semaphore at zero. -/
theorem run_main [∀ e, Nonempty (Elt F e)] (hp : WordsOK m) :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m hp c).loose) (hshare := fun c => (dats m 0 c).share_full fun _ => rfl)
    (howed := fun _ _ => rfl) (V := V m) (hmain := hmainD m Variants.none) (hA := A_eq m)
    (hin := fun _ => .rfl) (hout := fun _ => .rfl)

variable {m ρ}

/-- The arguments end at what they held at launch. -/
theorem final_args [∀ e, Nonempty (Elt F e)] {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   (((dats m 0 c).toRForget_arrAt_iff (by decide) _ _).mp ((h c).1 0)).trans (((dats m 0 c).arrAt_in 0 rfl _).trans ((A_eq m c 0).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (((dats m 0 c).toRForget_arrAt_iff (by decide) _ _).mp ((h c).1 3)).trans (((dats m 0 c).arrAt_in 3 rfl _).trans ((A_eq m c 3).trans (V_main_arg5 m c))),
   (((dats m 0 c).toRForget_arrAt_iff (by decide) _ _).mp ((h c).1 4)).trans (((dats m 0 c).arrAt_in 4 rfl _).trans ((A_eq m c 4).trans (V_main_arg6 m c))),
   (((dats m 0 c).toRForget_arrAt_iff (by decide) _ _).mp ((h c).1 5)).trans (((dats m 0 c).arrAt_in 5 rfl _).trans ((A_eq m c 5).trans (V_main_arg7 m c)))⟩

end Cert.Proof.Kernel

end
-- ==== Proof.KernelIdeal.Windows.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! The sixteen column blocks of `w_codes`, and the cells their transfers signal. -/

abbrev wOff (j : Fin 16) : Fin 2 → Nat := ![0, 512 * j.val]
theorem wOff_inb (j : Fin 16) : ∀ a, wOff j a + S1536x512.size a ≤ S1536x8192.size a := by
  have := j.isLt; intro a; fin_cases a
  · show 0 + 1536 ≤ 1536; omega
  · show 512 * j.val + 512 ≤ 8192; omega
abbrev wCellOff (j : Fin 16) : Fin 1 → Nat := ![j.val]
theorem wCellOff_inb (j : Fin 16) : ∀ a, wCellOff j a + S1.size a ≤ S16.size a := by
  have := j.isLt; intro a; fin_cases a; show j.val + 1 ≤ 16; omega
abbrev xOff (p : Fin 4) : Fin 2 → Nat := ![512 * p.val, 0]
theorem xOff_inb (p : Fin 4) : ∀ a, xOff p a + S512x1536.size a ≤ S2048x1536.size a := by
  have := p.isLt; intro a; fin_cases a
  · show 512 * p.val + 512 ≤ 2048; omega
  · show 0 + 1536 ≤ 1536; omega
abbrev xCellOff (p : Fin 4) : Fin 1 → Nat := ![p.val]
theorem xCellOff_inb (p : Fin 4) : ∀ a, xCellOff p a + S1.size a ≤ S4.size a := by
  have := p.isLt; intro a; fin_cases a; show p.val + 1 ≤ 4; omega

/-- Column block `j` of a matrix of the codes' shape. -/
def wwin {sp : Space} (M : Memref sig .tc sp S1536x8192 .i8) (j : Fin 16) : Memref sig .tc sp S1536x512 .i8 :=
  M.slice (Rect.unit (s := S1536x8192) (wOff j) S1536x512.size (wOff_inb j)) (fun _ => rfl)
/-- The cell block `j`'s transfer signals. -/
def wcell (S : DmaSems sig S16) (j : Fin 16) : DmaSems sig S_ :=
  (S.slice (Rect.unit (s := S16) (wCellOff j) S1.size (wCellOff_inb j))).squeeze S_ squeezes_S1_S_
/-- Row block `p` of a matrix of the inputs' shape. -/
def xwin {sp : Space} (M : Memref sig .tc sp S2048x1536 .fp8e4m3) (p : Fin 4) : Memref sig .tc sp S512x1536 .fp8e4m3 :=
  M.slice (Rect.unit (s := S2048x1536) (xOff p) S512x1536.size (xOff_inb p)) (fun _ => rfl)
/-- The cell row block `p`'s transfer signals. -/
def xcell (S : DmaSems sig S4) (p : Fin 4) : DmaSems sig S_ :=
  (S.slice (Rect.unit (s := S4) (xCellOff p) S1.size (xCellOff_inb p))).squeeze S_ squeezes_S1_S_

instance (j : Fin 16) : ClosedOff (wOff j) := ⟨wOff j, rfl⟩
instance (p : Fin 4) : ClosedOff (xOff p) := ⟨xOff p, rfl⟩

theorem wwin_congr {sp : Space} (M : Memref sig .tc sp S1536x8192 .i8) {off : Fin 2 → Nat} {j : Fin 16} (e : off = wOff j) (hh hs) :
    M.slice (Rect.unit (s := S1536x8192) off S1536x512.size hh) hs = wwin M j := Memref.slice_unit_congr _ e _ _ _ (fun _ => rfl)
theorem wcell_congr (S : DmaSems sig S16) {off : Fin 1 → Nat} {j : Fin 16} (e : off = wCellOff j) (hh) :
    (S.slice (Rect.unit (s := S16) off S1.size hh)).squeeze S_ squeezes_S1_S_ = wcell S j :=
  congrArg (fun A : DmaSems sig S1 => A.squeeze S_ squeezes_S1_S_) (SemArray.slice_unit_congr _ e _ _)
theorem xwin_congr {sp : Space} (M : Memref sig .tc sp S2048x1536 .fp8e4m3) {off : Fin 2 → Nat} {p : Fin 4} (e : off = xOff p) (hh hs) :
    M.slice (Rect.unit (s := S2048x1536) off S512x1536.size hh) hs = xwin M p := Memref.slice_unit_congr _ e _ _ _ (fun _ => rfl)
theorem xcell_congr (S : DmaSems sig S4) {off : Fin 1 → Nat} {p : Fin 4} (e : off = xCellOff p) (hh) :
    (S.slice (Rect.unit (s := S4) off S1.size hh)).squeeze S_ squeezes_S1_S_ = xcell S p :=
  congrArg (fun A : DmaSems sig S1 => A.squeeze S_ squeezes_S1_S_) (SemArray.slice_unit_congr _ e _ _)

@[sl_canon] theorem wwin_0 {sp : Space} (M : Memref sig .tc sp S1536x8192 .i8) (hh hs) : M.slice (Rect.unit (s := S1536x8192) ![0, 0] S1536x512.size hh) hs = wwin M 0 := wwin_congr _ (by decide) _ _
@[sl_canon] theorem wcell_0 (S : DmaSems sig S16) (hh) : (S.slice (Rect.unit (s := S16) ![0] S1.size hh)).squeeze S_ squeezes_S1_S_ = wcell S 0 := wcell_congr _ (by decide) _
@[sl_canon] theorem wwin_1 {sp : Space} (M : Memref sig .tc sp S1536x8192 .i8) (hh hs) : M.slice (Rect.unit (s := S1536x8192) ![0, 512] S1536x512.size hh) hs = wwin M 1 := wwin_congr _ (by decide) _ _
@[sl_canon] theorem wcell_1 (S : DmaSems sig S16) (hh) : (S.slice (Rect.unit (s := S16) ![1] S1.size hh)).squeeze S_ squeezes_S1_S_ = wcell S 1 := wcell_congr _ (by decide) _
@[sl_canon] theorem wwin_2 {sp : Space} (M : Memref sig .tc sp S1536x8192 .i8) (hh hs) : M.slice (Rect.unit (s := S1536x8192) ![0, 1024] S1536x512.size hh) hs = wwin M 2 := wwin_congr _ (by decide) _ _
@[sl_canon] theorem wcell_2 (S : DmaSems sig S16) (hh) : (S.slice (Rect.unit (s := S16) ![2] S1.size hh)).squeeze S_ squeezes_S1_S_ = wcell S 2 := wcell_congr _ (by decide) _
@[sl_canon] theorem wwin_3 {sp : Space} (M : Memref sig .tc sp S1536x8192 .i8) (hh hs) : M.slice (Rect.unit (s := S1536x8192) ![0, 1536] S1536x512.size hh) hs = wwin M 3 := wwin_congr _ (by decide) _ _
@[sl_canon] theorem wcell_3 (S : DmaSems sig S16) (hh) : (S.slice (Rect.unit (s := S16) ![3] S1.size hh)).squeeze S_ squeezes_S1_S_ = wcell S 3 := wcell_congr _ (by decide) _
@[sl_canon] theorem wwin_4 {sp : Space} (M : Memref sig .tc sp S1536x8192 .i8) (hh hs) : M.slice (Rect.unit (s := S1536x8192) ![0, 2048] S1536x512.size hh) hs = wwin M 4 := wwin_congr _ (by decide) _ _
@[sl_canon] theorem wcell_4 (S : DmaSems sig S16) (hh) : (S.slice (Rect.unit (s := S16) ![4] S1.size hh)).squeeze S_ squeezes_S1_S_ = wcell S 4 := wcell_congr _ (by decide) _
@[sl_canon] theorem wwin_5 {sp : Space} (M : Memref sig .tc sp S1536x8192 .i8) (hh hs) : M.slice (Rect.unit (s := S1536x8192) ![0, 2560] S1536x512.size hh) hs = wwin M 5 := wwin_congr _ (by decide) _ _
@[sl_canon] theorem wcell_5 (S : DmaSems sig S16) (hh) : (S.slice (Rect.unit (s := S16) ![5] S1.size hh)).squeeze S_ squeezes_S1_S_ = wcell S 5 := wcell_congr _ (by decide) _
@[sl_canon] theorem wwin_6 {sp : Space} (M : Memref sig .tc sp S1536x8192 .i8) (hh hs) : M.slice (Rect.unit (s := S1536x8192) ![0, 3072] S1536x512.size hh) hs = wwin M 6 := wwin_congr _ (by decide) _ _
@[sl_canon] theorem wcell_6 (S : DmaSems sig S16) (hh) : (S.slice (Rect.unit (s := S16) ![6] S1.size hh)).squeeze S_ squeezes_S1_S_ = wcell S 6 := wcell_congr _ (by decide) _
@[sl_canon] theorem wwin_7 {sp : Space} (M : Memref sig .tc sp S1536x8192 .i8) (hh hs) : M.slice (Rect.unit (s := S1536x8192) ![0, 3584] S1536x512.size hh) hs = wwin M 7 := wwin_congr _ (by decide) _ _
@[sl_canon] theorem wcell_7 (S : DmaSems sig S16) (hh) : (S.slice (Rect.unit (s := S16) ![7] S1.size hh)).squeeze S_ squeezes_S1_S_ = wcell S 7 := wcell_congr _ (by decide) _
@[sl_canon] theorem wwin_8 {sp : Space} (M : Memref sig .tc sp S1536x8192 .i8) (hh hs) : M.slice (Rect.unit (s := S1536x8192) ![0, 4096] S1536x512.size hh) hs = wwin M 8 := wwin_congr _ (by decide) _ _
@[sl_canon] theorem wcell_8 (S : DmaSems sig S16) (hh) : (S.slice (Rect.unit (s := S16) ![8] S1.size hh)).squeeze S_ squeezes_S1_S_ = wcell S 8 := wcell_congr _ (by decide) _
@[sl_canon] theorem wwin_9 {sp : Space} (M : Memref sig .tc sp S1536x8192 .i8) (hh hs) : M.slice (Rect.unit (s := S1536x8192) ![0, 4608] S1536x512.size hh) hs = wwin M 9 := wwin_congr _ (by decide) _ _
@[sl_canon] theorem wcell_9 (S : DmaSems sig S16) (hh) : (S.slice (Rect.unit (s := S16) ![9] S1.size hh)).squeeze S_ squeezes_S1_S_ = wcell S 9 := wcell_congr _ (by decide) _
@[sl_canon] theorem wwin_10 {sp : Space} (M : Memref sig .tc sp S1536x8192 .i8) (hh hs) : M.slice (Rect.unit (s := S1536x8192) ![0, 5120] S1536x512.size hh) hs = wwin M 10 := wwin_congr _ (by decide) _ _
@[sl_canon] theorem wcell_10 (S : DmaSems sig S16) (hh) : (S.slice (Rect.unit (s := S16) ![10] S1.size hh)).squeeze S_ squeezes_S1_S_ = wcell S 10 := wcell_congr _ (by decide) _
@[sl_canon] theorem wwin_11 {sp : Space} (M : Memref sig .tc sp S1536x8192 .i8) (hh hs) : M.slice (Rect.unit (s := S1536x8192) ![0, 5632] S1536x512.size hh) hs = wwin M 11 := wwin_congr _ (by decide) _ _
@[sl_canon] theorem wcell_11 (S : DmaSems sig S16) (hh) : (S.slice (Rect.unit (s := S16) ![11] S1.size hh)).squeeze S_ squeezes_S1_S_ = wcell S 11 := wcell_congr _ (by decide) _
@[sl_canon] theorem wwin_12 {sp : Space} (M : Memref sig .tc sp S1536x8192 .i8) (hh hs) : M.slice (Rect.unit (s := S1536x8192) ![0, 6144] S1536x512.size hh) hs = wwin M 12 := wwin_congr _ (by decide) _ _
@[sl_canon] theorem wcell_12 (S : DmaSems sig S16) (hh) : (S.slice (Rect.unit (s := S16) ![12] S1.size hh)).squeeze S_ squeezes_S1_S_ = wcell S 12 := wcell_congr _ (by decide) _
@[sl_canon] theorem wwin_13 {sp : Space} (M : Memref sig .tc sp S1536x8192 .i8) (hh hs) : M.slice (Rect.unit (s := S1536x8192) ![0, 6656] S1536x512.size hh) hs = wwin M 13 := wwin_congr _ (by decide) _ _
@[sl_canon] theorem wcell_13 (S : DmaSems sig S16) (hh) : (S.slice (Rect.unit (s := S16) ![13] S1.size hh)).squeeze S_ squeezes_S1_S_ = wcell S 13 := wcell_congr _ (by decide) _
@[sl_canon] theorem wwin_14 {sp : Space} (M : Memref sig .tc sp S1536x8192 .i8) (hh hs) : M.slice (Rect.unit (s := S1536x8192) ![0, 7168] S1536x512.size hh) hs = wwin M 14 := wwin_congr _ (by decide) _ _
@[sl_canon] theorem wcell_14 (S : DmaSems sig S16) (hh) : (S.slice (Rect.unit (s := S16) ![14] S1.size hh)).squeeze S_ squeezes_S1_S_ = wcell S 14 := wcell_congr _ (by decide) _
@[sl_canon] theorem wwin_15 {sp : Space} (M : Memref sig .tc sp S1536x8192 .i8) (hh hs) : M.slice (Rect.unit (s := S1536x8192) ![0, 7680] S1536x512.size hh) hs = wwin M 15 := wwin_congr _ (by decide) _ _
@[sl_canon] theorem wcell_15 (S : DmaSems sig S16) (hh) : (S.slice (Rect.unit (s := S16) ![15] S1.size hh)).squeeze S_ squeezes_S1_S_ = wcell S 15 := wcell_congr _ (by decide) _
@[sl_canon] theorem xwin_0 {sp : Space} (M : Memref sig .tc sp S2048x1536 .fp8e4m3) (hh hs) : M.slice (Rect.unit (s := S2048x1536) ![0, 0] S512x1536.size hh) hs = xwin M 0 := xwin_congr _ (by decide) _ _
@[sl_canon] theorem xcell_0 (S : DmaSems sig S4) (hh) : (S.slice (Rect.unit (s := S4) ![0] S1.size hh)).squeeze S_ squeezes_S1_S_ = xcell S 0 := xcell_congr _ (by decide) _
@[sl_canon] theorem xwin_1 {sp : Space} (M : Memref sig .tc sp S2048x1536 .fp8e4m3) (hh hs) : M.slice (Rect.unit (s := S2048x1536) ![512, 0] S512x1536.size hh) hs = xwin M 1 := xwin_congr _ (by decide) _ _
@[sl_canon] theorem xcell_1 (S : DmaSems sig S4) (hh) : (S.slice (Rect.unit (s := S4) ![1] S1.size hh)).squeeze S_ squeezes_S1_S_ = xcell S 1 := xcell_congr _ (by decide) _
@[sl_canon] theorem xwin_2 {sp : Space} (M : Memref sig .tc sp S2048x1536 .fp8e4m3) (hh hs) : M.slice (Rect.unit (s := S2048x1536) ![1024, 0] S512x1536.size hh) hs = xwin M 2 := xwin_congr _ (by decide) _ _
@[sl_canon] theorem xcell_2 (S : DmaSems sig S4) (hh) : (S.slice (Rect.unit (s := S4) ![2] S1.size hh)).squeeze S_ squeezes_S1_S_ = xcell S 2 := xcell_congr _ (by decide) _
@[sl_canon] theorem xwin_3 {sp : Space} (M : Memref sig .tc sp S2048x1536 .fp8e4m3) (hh hs) : M.slice (Rect.unit (s := S2048x1536) ![1536, 0] S512x1536.size hh) hs = xwin M 3 := xwin_congr _ (by decide) _ _
@[sl_canon] theorem xcell_3 (S : DmaSems sig S4) (hh) : (S.slice (Rect.unit (s := S4) ![3] S1.size hh)).squeeze S_ squeezes_S1_S_ = xcell S 3 := xcell_congr _ (by decide) _

/-- The block a trip of the tile loop waits for: the next one. -/
def nxt (t : Fin k0_t3_loop.trips) (h : t.val + 1 < 16) : Fin 16 := ⟨t.val + 1, h⟩

theorem cond1_lt : ∀ t : Fin k0_t3_loop.trips, k0_cond1 t = 1#1 → t.val + 1 < 16 := by decide +kernel
theorem cond1_ge : ∀ t : Fin k0_t3_loop.trips, t.val + 1 < 16 → k0_cond1 t = 1#1 := by decide +kernel

@[sl_canon] theorem wwin_t {sp : Space} (M : Memref sig .tc sp S1536x8192 .i8) (t : Fin k0_t3_loop.trips) (h : t.val + 1 < 16) (hh hs) :
    M.slice (Rect.unit (s := S1536x8192) (k0_off18 t) S1536x512.size hh) hs = wwin M ⟨t.val + 1, h⟩ :=
  wwin_congr _ (by rw [Gen.k0_off18_eq]; show _ = ![0, 512 * (t.val + 1)]; rw [Nat.mul_add]) _ _
@[sl_canon] theorem wcell_t (S : DmaSems sig S16) (t : Fin k0_t3_loop.trips) (h : t.val + 1 < 16) (hh) :
    (S.slice (Rect.unit (s := S16) (k0_off17 t) S1.size hh)).squeeze S_ squeezes_S1_S_ = wcell S ⟨t.val + 1, h⟩ :=
  wcell_congr _ (Gen.k0_off17_eq t) _

theorem wwin_set {sp : Space} (M : Memref sig .tc sp S1536x8192 .i8) (j : Fin 16) :
    (wwin M j).view.set = M.view.setOn (Rect.unit (s := S1536x8192) (wOff j) S1536x512.size (wOff_inb j)).set := View.set_slice _ _

/-- The piece of block 0 the first transpose's trip reads. -/
theorem in_wwin0 {sp : Space} (M : Memref sig .tc sp S1536x8192 .i8) (t : Fin k0_t2_loop.trips) :
    M.view.setOn (Rect.unit (s := S1536x8192) (k0_off2 t) S1536x128.size (k0_off2_inb t)).set ⊆ (wwin M 0).view.set := by
  rw [wwin_set]
  refine Finset.map_subset_map.2 fun y hy => ?_
  rw [Rect.mem_set_unit] at hy ⊢
  have ht : t.val < 4 := t.isLt
  have hy0 := hy 0; have hy1 := hy 1
  rw [Gen.k0_off2_eq] at hy0 hy1
  intro a; fin_cases a
  · exact hy0
  · have h1 : 128 * t.val ≤ (y 1).val ∧ (y 1).val < 128 * t.val + 128 := hy1
    show 512 * 0 ≤ (y 1).val ∧ (y 1).val < 512 * 0 + 512
    omega
/-- The piece of block `t + 1` a trip of the tile loop's transpose reads. -/
theorem in_wwint {sp : Space} (M : Memref sig .tc sp S1536x8192 .i8) (t3 : Fin k0_t3_loop.trips) (h : t3.val + 1 < 16)
    (hc : k0_cond1 t3 = 1#1) (t : Fin k0_t4_loop.trips) :
    M.view.setOn (Rect.unit (s := S1536x8192) (k0_off19 t3 t) S1536x128.size (k0_off19_inb t3 t hc)).set ⊆ (wwin M ⟨t3.val + 1, h⟩).view.set := by
  rw [wwin_set]
  refine Finset.map_subset_map.2 fun y hy => ?_
  rw [Rect.mem_set_unit] at hy ⊢
  have ht : t.val < 4 := t.isLt
  have hy0 := hy 0; have hy1 := hy 1
  rw [Gen.k0_off19_eq] at hy0 hy1
  intro a; fin_cases a
  · exact hy0
  · have h1 : 512 * t3.val + 128 * t.val + 512 ≤ (y 1).val ∧ (y 1).val < 512 * t3.val + 128 * t.val + 512 + 128 := hy1
    show 512 * (t3.val + 1) ≤ (y 1).val ∧ (y 1).val < 512 * (t3.val + 1) + 512
    omega

end Cert.Proof.KernelIdeal
-- ==== Proof.KernelIdeal.Flights.lean ====
module

public import proofs.«01_k».proof.Proof.Gen.KernelIdeal.Loops
public import Idealize.ShloMosaic.Lib.Pipeline.FrameBody
public import Idealize.ShloMosaic.Lib.Tactic
public import proofs.«01_k».proof.Proof.KernelIdeal.Windows
public import Idealize.ShloMosaic.Lib.Ring
public import Idealize.ShloMosaic.Lib.Transfers

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg1 : Memref sig .tc .hbm S1536x8192 .i8) (arg12 : Memref sig .tc .vmem S1536x8192 .i8) (arg36 : DmaSems sig S16)
  (X1 : BufTy.Contents (Elt F) arg1.view.ty)

/-- What block `j`'s transfer leaves over `f`: the block of `w_codes`. -/
abbrev landed (j : Fin 16) (f : BufTy.Contents (Elt F) (wwin arg12 j).view.ty) : BufTy.Contents (Elt F) (wwin arg12 j).view.ty :=
  (wwin arg12 j).view.writes (Elt F) f [⟨Rect.whole S1536x512, ReadAs.same.apply ((wwin arg1 j).view.read (Elt F) X1)⟩]
/-- Block `j` landed: its place in the buffer, its place in the array, its cell at zero. -/
abbrev landedP (j : Fin 16) : sProp 𝕄 :=
  iprop((∃ f, ((wwin arg12 j).view.loc (c : Thread nD τ) ↦[(wwin arg12 j).view.set]{fullShare} f)) ∗ ((wwin arg1 j).view.loc (c : Thread nD τ) ↦[(wwin arg1 j).view.set]{fullShare} X1) ∗ semVal ((c : Thread nD τ), SemLoc.dma (wcell arg36 j).sem) 0)
/-- Block `j` in flight. -/
abbrev flightP (j : Fin 16) : sProp 𝕄 :=
  iprop(∃ f, Transfers.Flight countersEmb (c : Thread nD τ) (SemLoc.dma (wcell arg36 j).sem) () 24576
    iprop(((wwin arg12 j).view.loc (c : Thread nD τ) ↦[(wwin arg12 j).view.set]{fullShare} landed arg1 arg12 X1 j f) ∗ ((wwin arg1 j).view.loc (c : Thread nD τ) ↦[(wwin arg1 j).view.set]{fullShare} X1)))
/-- Before trip `k` of the tile loop: blocks `0 … k` landed, the others in flight. -/
def blocksAt (k : ℕ) : sProp 𝕄 :=
  iprop(bigSep (Ring.rangeSet 16 0 (k + 1)) (landedP c arg1 arg12 arg36 X1) ∗ bigSep (Ring.rangeSet 16 (k + 1) 16) (flightP c arg1 arg12 arg36 X1))
/-- What trip `k` leaves alone: the blocks landed before, the flights behind the next. -/
def blocksRest (k : ℕ) : sProp 𝕄 :=
  iprop(bigSep (Ring.rangeSet 16 0 (k + 1)) (landedP c arg1 arg12 arg36 X1) ∗ bigSep (Ring.rangeSet 16 (k + 2) 16) (flightP c arg1 arg12 arg36 X1))

theorem blocks_here (k : ℕ) (h : k + 1 < 16) :
    blocksAt c arg1 arg12 arg36 X1 k ⊢ iprop(flightP c arg1 arg12 arg36 X1 ⟨k + 1, h⟩ ∗ blocksRest c arg1 arg12 arg36 X1 k) := by
  unfold blocksAt blocksRest
  rw [Ring.bigSep_rangeSet_head (lo := k + 1) (hi := 16) h h]
  iintro ⟨HL, HF, HR⟩
  isplitl [HF]; · iexact HF
  isplitl [HL]; · iexact HL
  iexact HR
theorem blocks_next (k : ℕ) (h : k + 1 < 16) :
    iprop(landedP c arg1 arg12 arg36 X1 ⟨k + 1, h⟩ ∗ blocksRest c arg1 arg12 arg36 X1 k) ⊢ blocksAt c arg1 arg12 arg36 X1 (k + 1) := by
  unfold blocksAt blocksRest
  rw [Ring.bigSep_rangeSet_last (lo := 0) (hi := k + 1 + 1) (by omega) (by omega)]
  iintro ⟨HF, HL, HR⟩
  isplitl [HF HL]
  · isplitl [HF]; · iexact HF
    iexact HL
  iexact HR
theorem blocks_last (k : ℕ) (h : ¬ k + 1 < 16) :
    blocksAt c arg1 arg12 arg36 X1 k ⊢ blocksAt c arg1 arg12 arg36 X1 (k + 1) := by
  unfold blocksAt
  have e1 : Ring.rangeSet 16 0 (k + 1) = Ring.rangeSet 16 0 (k + 1 + 1) := by
    ext b; simp only [Ring.mem_rangeSet]; have := b.isLt; omega
  have e2 : Ring.rangeSet 16 (k + 1) 16 = Ring.rangeSet 16 (k + 1 + 1) 16 := by
    ext b; simp only [Ring.mem_rangeSet]; have := b.isLt; omega
  rw [e1, e2]
end

end Cert.Proof.KernelIdeal
-- ==== Proof.KernelIdeal.Start.lean ====
module

public import proofs.«01_k».proof.Proof.Gen.KernelIdeal.Loops
public import Idealize.ShloMosaic.Lib.Pipeline.FrameBody
public import Idealize.ShloMosaic.Lib.Tactic
public import proofs.«01_k».proof.Proof.KernelIdeal.Flights

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! Starting the tile loop, and the four row blocks of the inputs. -/

section
variable (c : Dev nD) (arg1 : Memref sig .tc .hbm S1536x8192 .i8) (arg12 : Memref sig .tc .vmem S1536x8192 .i8) (arg36 : DmaSems sig S16)
  (X1 : BufTy.Contents (Elt F) arg1.view.ty)

theorem w16 (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [(0 : Fin 16), 1, 2, 3, 4, 5, 6, 7, 8, 9, 10, 11, 12, 13, 14, 15] (by decide) (by decide) Φ

theorem blocks_start : iprop(landedP c arg1 arg12 arg36 X1 0 ∗ flightP c arg1 arg12 arg36 X1 1 ∗ flightP c arg1 arg12 arg36 X1 2 ∗ flightP c arg1 arg12 arg36 X1 3 ∗ flightP c arg1 arg12 arg36 X1 4 ∗ flightP c arg1 arg12 arg36 X1 5 ∗ flightP c arg1 arg12 arg36 X1 6 ∗ flightP c arg1 arg12 arg36 X1 7 ∗ flightP c arg1 arg12 arg36 X1 8 ∗ flightP c arg1 arg12 arg36 X1 9 ∗ flightP c arg1 arg12 arg36 X1 10 ∗ flightP c arg1 arg12 arg36 X1 11 ∗ flightP c arg1 arg12 arg36 X1 12 ∗ flightP c arg1 arg12 arg36 X1 13 ∗ flightP c arg1 arg12 arg36 X1 14 ∗ flightP c arg1 arg12 arg36 X1 15) ⊢ blocksAt c arg1 arg12 arg36 X1 0 := by
  unfold blocksAt
  rw [show Ring.rangeSet 16 0 (0 + 1) = [(0 : Fin 16)].toFinset from by decide, show Ring.rangeSet 16 (0 + 1) 16 = [(1 : Fin 16), 2, 3, 4, 5, 6, 7, 8, 9, 10, 11, 12, 13, 14, 15].toFinset from by decide,
    bigSep_eq_bigSepL _ (by decide), bigSep_eq_bigSepL _ (by decide)]
  exact .rfl
theorem blocks_end : blocksAt c arg1 arg12 arg36 X1 16 ⊢ bigSep Finset.univ (landedP c arg1 arg12 arg36 X1) := by
  unfold blocksAt
  rw [show Ring.rangeSet 16 0 (16 + 1) = Finset.univ from by decide]
  iintro ⟨H, -⟩
  iexact H
end

section
variable (c : Dev nD) (arg0 : Memref sig .tc .hbm S2048x1536 .fp8e4m3) (arg11 : Memref sig .tc .vmem S2048x1536 .fp8e4m3) (arg37 : DmaSems sig S4)
  (X0 : BufTy.Contents (Elt F) arg0.view.ty)
/-- Row block `p` at rest: its place in the buffer, its place in the array, its cell at zero. -/
abbrev xlandedP (p : Fin 4) : sProp 𝕄 :=
  iprop((∃ f, ((xwin arg11 p).view.loc (c : Thread nD τ) ↦[(xwin arg11 p).view.set]{fullShare} f)) ∗ ((xwin arg0 p).view.loc (c : Thread nD τ) ↦[(xwin arg0 p).view.set]{fullShare} X0) ∗ semVal ((c : Thread nD τ), SemLoc.dma (xcell arg37 p).sem) 0)
theorem x4 (Φ : Fin 4 → sProp 𝕄) : bigSep Finset.univ Φ = iprop(Φ 0 ∗ Φ 1 ∗ Φ 2 ∗ Φ 3) :=
  bigSep_univ_eq_bigSepL [(0 : Fin 4), 1, 2, 3] (by decide) (by decide) Φ

/-- The places of row block `p`. -/
abbrev xset {sp : Space} (M : Memref sig .tc sp S2048x1536 .fp8e4m3) (p : Fin 4) : Finset M.view.ty.Idx :=
  M.view.setOn (Rect.unit (s := S2048x1536) (xOff p) S512x1536.size (xOff_inb p)).set
theorem xwin_set {sp : Space} (M : Memref sig .tc sp S2048x1536 .fp8e4m3) (p : Fin 4) : (xwin M p).view.set = xset M p := View.set_slice _ _
theorem mem_xset {sp : Space} (M : Memref sig .tc sp S2048x1536 .fp8e4m3) (p : Fin 4) (y : S2048x1536.Idx) :
    M.view.emb y ∈ xset M p ↔ (y 0).val / 512 = p.val := by
  rw [View.mem_setOn, Rect.mem_set_unit]
  have h1 : (y 1).val < 1536 := (y 1).isLt
  constructor
  · intro H; have a0 : 512 * p.val ≤ (y 0).val ∧ (y 0).val < 512 * p.val + 512 := H 0; omega
  · intro H i; fin_cases i
    · show 512 * p.val ≤ (y 0).val ∧ (y 0).val < 512 * p.val + 512; omega
    · show 0 ≤ (y 1).val ∧ (y 1).val < 0 + 1536; omega
theorem xset_disjoint {sp : Space} (M : Memref sig .tc sp S2048x1536 .fp8e4m3) : ∀ p ∈ (Finset.univ : Finset (Fin 4)), ∀ p' ∈ (Finset.univ : Finset (Fin 4)), p ≠ p' → Disjoint (xset M p) (xset M p') := by
  intro p _ p' _ hne
  rw [Finset.disjoint_left]
  intro i hi hi'
  obtain ⟨y, -, rfl⟩ := Finset.mem_map.mp hi
  exact hne (Fin.ext (((mem_xset M p y).mp hi).symm.trans ((mem_xset M p' y).mp hi')))
theorem xset_cover {sp : Space} (M : Memref sig .tc sp S2048x1536 .fp8e4m3) : Finset.univ.biUnion (xset M) = M.view.set := by
  ext i
  rw [Finset.mem_biUnion]
  constructor
  · rintro ⟨p, -, h⟩; exact M.view.setOn_subset_set _ h
  · intro h
    obtain ⟨y, -, rfl⟩ := Finset.mem_map.mp h
    have h0 : (y 0).val < 2048 := (y 0).isLt
    exact ⟨⟨(y 0).val / 512, by omega⟩, Finset.mem_univ _, (mem_xset M _ y).mpr rfl⟩
/-- A row block's points-to, at the whole buffer's location. -/
theorem xw_eq (p : Fin 4) (f : BufTy.Contents (Elt F) arg11.view.ty) :
    (((xwin arg11 p).view.loc (c : Thread nD τ) ↦[(xwin arg11 p).view.set]{fullShare} f) : sProp 𝕄)
      = (arg11.view.loc (c : Thread nD τ) ↦[xset arg11 p]{fullShare} f) :=
  congrArg (fun S : Finset arg11.view.ty.Idx => (arg11.view.loc (c : Thread nD τ) ↦[S]{fullShare} f : sProp 𝕄)) (xwin_set arg11 p)
/-- The whole buffer, row block by row block. -/
theorem x_split (f : BufTy.Contents (Elt F) arg11.view.ty) :
    (arg11.view.loc (c : Thread nD τ) ↦[arg11.view.set]{fullShare} f : sProp 𝕄)
      = bigSep Finset.univ (fun p : Fin 4 => (arg11.view.loc (c : Thread nD τ) ↦[xset arg11 p]{fullShare} f)) :=
  (congrArg (fun S : Finset arg11.view.ty.Idx => (arg11.view.loc (c : Thread nD τ) ↦[S]{fullShare} f : sProp 𝕄)) (xset_cover arg11).symm).trans
    (pointsTo_biUnion (q := fullShare) (ℓ := arg11.view.loc (c : Thread nD τ)) Finset.univ (xset arg11) (xset_disjoint arg11))
/-- and back, at contents that agree with each block's on it. -/
theorem x_join (fs : Fin 4 → BufTy.Contents (Elt F) arg11.view.ty) :
    bigSep Finset.univ (fun p : Fin 4 => (arg11.view.loc (c : Thread nD τ) ↦[xset arg11 p]{fullShare} fs p))
      ⊢ (iprop(∃ g : BufTy.Contents (Elt F) arg11.view.ty, ⌜∀ p : Fin 4, ∀ i ∈ xset arg11 p, g i = fs p i⌝ ∗ (arg11.view.loc (c : Thread nD τ) ↦[arg11.view.set]{fullShare} g)) : sProp 𝕄) := by
  have hj := (pointsTo_biUnion_join (Ix := Unit) (Name := ℕ) (U := Pipeline.UD sig nD τ) (Lvl := ℕ) (q := fullShare) (ℓ := arg11.view.loc (c : Thread nD τ)) Finset.univ (xset arg11) fs (fs 0) (xset_disjoint arg11))
  iintro H0
  icases hj $$ H0 with ⟨%g, %hg, H⟩

  iexists g
  isplitr
  · ipureintro; exact fun p i hi => hg p (Finset.mem_univ p) i hi
  · rw [xset_cover]; iexact H
/-- Row block `p` come in: its place holds the array's rows. -/
abbrev xdoneP (p : Fin 4) : sProp 𝕄 :=
  iprop(∃ f : BufTy.Contents (Elt F) arg11.view.ty, ⌜∀ y, (xwin arg11 p).view.read (Elt F) f y = (xwin arg0 p).view.read (Elt F) X0 y⌝ ∗
    ((xwin arg11 p).view.loc (c : Thread nD τ) ↦[(xwin arg11 p).view.set]{fullShare} f))
/-- The four row blocks come in are the whole array come in. -/
theorem x_collect :
    iprop(xdoneP c arg0 arg11 X0 0 ∗ xdoneP c arg0 arg11 X0 1 ∗ xdoneP c arg0 arg11 X0 2 ∗ xdoneP c arg0 arg11 X0 3)
      ⊢ (iprop(∃ g : BufTy.Contents (Elt F) arg11.view.ty, ⌜∀ y, arg11.view.read (Elt F) g y = arg0.view.read (Elt F) X0 y⌝ ∗ (arg11.view.loc (c : Thread nD τ) ↦[arg11.view.set]{fullShare} g)) : sProp 𝕄) := by
  iintro ⟨⟨%f0, %h0, H0⟩, ⟨%f1, %h1, H1⟩, ⟨%f2, %h2, H2⟩, ⟨%f3, %h3, H3⟩⟩
  have hf : ∀ p : Fin 4, ∀ y, (xwin arg11 p).view.read (Elt F) ((![f0, f1, f2, f3] : Fin 4 → BufTy.Contents (Elt F) arg11.view.ty) p) y = (xwin arg0 p).view.read (Elt F) X0 y := by
    intro p; fin_cases p
    · exact h0
    · exact h1
    · exact h2
    · exact h3
  ihave HJ := (x_join c arg11 (![f0, f1, f2, f3] : Fin 4 → BufTy.Contents (Elt F) arg11.view.ty)) $$ [H0 H1 H2 H3]
  · rw [x4, ← xw_eq, ← xw_eq, ← xw_eq, ← xw_eq]
    isplitl [H0]; · iexact H0
    isplitl [H1]; · iexact H1
    isplitl [H2]; · iexact H2
    iexact H3
  icases HJ with ⟨%g, %hg, H⟩
  iexists g
  isplitr
  · ipureintro
    intro y
    have hy0 : (y 0).val < 2048 := (y 0).isLt
    obtain ⟨p, hp⟩ : ∃ p : Fin 4, (y 0).val / 512 = p.val := ⟨⟨(y 0).val / 512, by omega⟩, rfl⟩
    have hm := (mem_xset arg11 p y).mpr hp
    obtain ⟨x, hx⟩ := LoadRect.exists_idx_of_mem _ ((View.mem_setOn arg11.view).mp hm)
    rw [← hx] at hm ⊢
    refine Eq.trans ?_ (hf p x)
    refine View.read_congr_at (v := arg11.view) _ ?_
    exact hg p _ hm
  · iexact H
/-- The whole buffer, the array's blocks and the cells at zero are the four row blocks at rest. -/
theorem x_home (f : BufTy.Contents (Elt F) arg11.view.ty) :
    iprop((arg11.view.loc (c : Thread nD τ) ↦[arg11.view.set]{fullShare} f) ∗ ((xwin arg0 0).view.loc (c : Thread nD τ) ↦[(xwin arg0 0).view.set]{fullShare} X0) ∗ ((xwin arg0 1).view.loc (c : Thread nD τ) ↦[(xwin arg0 1).view.set]{fullShare} X0) ∗ ((xwin arg0 2).view.loc (c : Thread nD τ) ↦[(xwin arg0 2).view.set]{fullShare} X0) ∗ ((xwin arg0 3).view.loc (c : Thread nD τ) ↦[(xwin arg0 3).view.set]{fullShare} X0) ∗ semVal ((c : Thread nD τ), SemLoc.dma (xcell arg37 0).sem) 0 ∗ semVal ((c : Thread nD τ), SemLoc.dma (xcell arg37 1).sem) 0 ∗ semVal ((c : Thread nD τ), SemLoc.dma (xcell arg37 2).sem) 0 ∗ semVal ((c : Thread nD τ), SemLoc.dma (xcell arg37 3).sem) 0) ⊢ (bigSep Finset.univ (xlandedP c arg0 arg11 arg37 X0) : sProp 𝕄) := by
  rw [x_split, x4, x4, ← xw_eq, ← xw_eq, ← xw_eq, ← xw_eq]
  iintro ⟨⟨Hx0, Hx1, Hx2, Hx3⟩, Hy0, Hy1, Hy2, Hy3, Hd0, Hd1, Hd2, Hd3⟩
  isplitl [Hx0 Hy0 Hd0]
  · isplitl [Hx0]; · iexists _; iexact Hx0
    isplitl [Hy0]; · iexact Hy0
    iexact Hd0
  isplitl [Hx1 Hy1 Hd1]
  · isplitl [Hx1]; · iexists _; iexact Hx1
    isplitl [Hy1]; · iexact Hy1
    iexact Hd1
  isplitl [Hx2 Hy2 Hd2]
  · isplitl [Hx2]; · iexists _; iexact Hx2
    isplitl [Hy2]; · iexact Hy2
    iexact Hd2
  isplitl [Hx3]; · iexists _; iexact Hx3
  isplitl [Hy3]; · iexact Hy3
  iexact Hd3
end

end Cert.Proof.KernelIdeal
-- ==== Proof.KernelIdeal.Spec.lean ====
/-
  What the kernel computes on the way to the log-sums, as functions of plain numbers: the logits, a tile's greatest
  logit, the running maximum and the running sum of a sublane.
-/
module

public import Idealize.ShloMosaic.PureOps.Ideal
public import Idealize.ShloMosaic.PureOps.Ideal.Laws

@[expose] public section

noncomputable section

namespace Cert.Proof.KernelIdeal

open Idealize.ShloMosaic

/-- The logit of column `v` at step `t` of row `b`, in base two: the codes' product, the two scales, the bias. -/
def lg (w x xs : ℕ → ℕ → EReal) (ws bs : ℕ → EReal) (v b t : ℕ) : EReal :=
  (∑ d : Fin 1536, w d.val v * x (128 * b + t) d.val) * ws v * xs b t + bs v

/-- The greatest logit of tile `n` in sublane `s`. -/
def tmax (l : ℕ → ℕ → ℕ → EReal) (n b s t : ℕ) : EReal :=
  Finset.univ.sup fun e : Fin 8 => Finset.univ.sup fun q : Fin 8 => l (512 * n + 64 * e.val + 8 * q.val + s) b t

/-- The running maximum after `n` tiles, from the kernel's finite start. -/
def Mr (l : ℕ → ℕ → ℕ → EReal) : ℕ → ℕ → ℕ → ℕ → EReal
  | 0, _, _, _ => Ideal.ofBits .f32 0xF149F2CA#32
  | n + 1, b, s, t => max (Mr l n b s t) (tmax l n b s t)

/-- The running sum after `n` tiles. -/
def Sr (l : ℕ → ℕ → ℕ → EReal) : ℕ → ℕ → ℕ → ℕ → EReal
  | 0, _, _, _ => 0
  | n + 1, b, s, t => Sr l n b s t * Ideal.exp2 (Mr l n b s t - Mr l (n + 1) b s t)
      + ∑ e : Fin 8, ∑ q : Fin 8, Ideal.exp2 (l (512 * n + 64 * e.val + 8 * q.val + s) b t - Mr l (n + 1) b s t)

end Cert.Proof.KernelIdeal
-- ==== Proof.KernelIdeal.Unit.lean ====
/-
  The steps of one tile's log-sum-exp at single entries: maxima and sums over the rows of a block of sublanes.
-/
module

public import proofs.«01_k».proof.KernelIdeal
public import proofs.«01_k».proof.Proof.KernelIdeal.Spec
public import Idealize.ShloMosaic.Lib.Pointwise
public import Idealize.ShloMosaic.PureOps.Reduce

@[expose] public section

noncomputable section

namespace Cert.Proof.KernelIdeal

open Cert.KernelIdeal Idealize.ShloMosaic

/-- The bits of minus infinity. -/
theorem neg_inf : Ideal.ofBits .f32 0xFF800000#32 = ⊥ := by
  simp [Ideal.ofBits, Ideal.ieee]

/-- Eight rows of sublanes: the greatest of a sublane's eight values. -/
theorem part_max (X : FVec Ideal S64x128 .f32) (h1 : S64x128.ShapeCasts S8x8x128) (h2 : S8x8x128.Reduces [0] S8x128)
    (h3 : FKind.Formats .f32) (h4 : 0xFF800000#32 = FKind.maximumf.neutral .f32 h3) (s : Fin 8) (t : Fin 128) :
    multiReduction .maximumf [0] S8x128 (shapeCast S8x8x128 X h1) 0xFF800000#32 h2 h3 h4 (ix2 s t)
      = Finset.univ.sup fun q : Fin 8 => X (ix2 ⟨8 * q.val + s.val, by omega⟩ t) := by
  rw [multiReduction_maximumf_eq_fold]
  refine (h2.fold_filter_drop_single _ _ _ _).trans ?_
  have e : ∀ q : Fin 8, shapeCast S8x8x128 X h1 (ix3 q s t) = X (ix2 ⟨8 * q.val + s.val, by omega⟩ t) := fun q => by
    pointwise []
    simp only [Nat.mul_comm]
  have el : ∀ q : Fin 8, h2.lift (ix2 s t) q = ix3 q s t := fun q => by
    funext a
    apply Fin.ext
    match a with
    | ⟨0, _⟩ => rfl
    | ⟨1, _⟩ => rfl
    | ⟨2, _⟩ => rfl
  have e0 : (FloatOps.ofBits (F := Ideal) .f32 4286578688#32 : EReal) = ⊥ := neg_inf
  rw [e0]
  show Finset.fold max ⊥ (fun q : Fin 8 => shapeCast S8x8x128 X h1 (h2.lift (ix2 s t) q)) Finset.univ = _
  simp only [el, e]
  rfl

/-- The same eight, each less a value, raised to base two and added. -/
theorem part_sum (X : FVec Ideal S64x128 .f32) (M : FVec Ideal S8x128 .f32) (h1 : S64x128.ShapeCasts S8x8x128)
    (h5 : S8x128.ShapeCasts S1x8x128) (h6 : S1x8x128.Broadcasts S8x8x128)
    (h2 : S8x8x128.Reduces [0] S8x128) (h3 : FKind.Formats .f32) (h4 : 0#32 = FKind.add.neutral .f32 h3) (s : Fin 8) (t : Fin 128) :
    multiReduction .add [0] S8x128
        (exp2 (subf (shapeCast S8x8x128 X h1) (broadcastTo S8x8x128 (shapeCast S1x8x128 M h5) h6))) 0#32 h2 h3 h4 (ix2 s t)
      = ∑ q : Fin 8, Ideal.exp2 (X (ix2 ⟨8 * q.val + s.val, by omega⟩ t) - M (ix2 s t)) := by
  pointwise []
  refine Finset.sum_congr rfl fun q _ => ?_
  simp only [Nat.mul_comm]
  rfl

/-- Eight parts of a tile: their greatest values together, against the running one. -/
theorem tile_max (l : ℕ → ℕ → ℕ → EReal) (j b : ℕ) (X0 X1 X2 X3 X4 X5 X6 X7 : FVec Ideal S64x128 .f32) (mo : FVec Ideal S8x128 .f32)
    (h1 : S64x128.ShapeCasts S8x8x128) (h2 : S8x8x128.Reduces [0] S8x128)
    (h3 : FKind.Formats .f32) (h4 : 0xFF800000#32 = FKind.maximumf.neutral .f32 h3)
    (H : ∀ (r : Fin 64) (t : Fin 128), X0 (ix2 r t) = l (512 * j + r.val) b t ∧ X1 (ix2 r t) = l (512 * j + 64 + r.val) b t
      ∧ X2 (ix2 r t) = l (512 * j + 128 + r.val) b t ∧ X3 (ix2 r t) = l (512 * j + 192 + r.val) b t
      ∧ X4 (ix2 r t) = l (512 * j + 256 + r.val) b t ∧ X5 (ix2 r t) = l (512 * j + 320 + r.val) b t
      ∧ X6 (ix2 r t) = l (512 * j + 384 + r.val) b t ∧ X7 (ix2 r t) = l (512 * j + 448 + r.val) b t)
    (s : Fin 8) (t : Fin 128) :
    maximumf mo (maximumf (maximumf (maximumf (maximumf (maximumf (maximumf (maximumf
        (multiReduction .maximumf [0] S8x128 (shapeCast S8x8x128 X0 h1) 0xFF800000#32 h2 h3 h4)
        (multiReduction .maximumf [0] S8x128 (shapeCast S8x8x128 X1 h1) 0xFF800000#32 h2 h3 h4))
        (multiReduction .maximumf [0] S8x128 (shapeCast S8x8x128 X2 h1) 0xFF800000#32 h2 h3 h4))
        (multiReduction .maximumf [0] S8x128 (shapeCast S8x8x128 X3 h1) 0xFF800000#32 h2 h3 h4))
        (multiReduction .maximumf [0] S8x128 (shapeCast S8x8x128 X4 h1) 0xFF800000#32 h2 h3 h4))
        (multiReduction .maximumf [0] S8x128 (shapeCast S8x8x128 X5 h1) 0xFF800000#32 h2 h3 h4))
        (multiReduction .maximumf [0] S8x128 (shapeCast S8x8x128 X6 h1) 0xFF800000#32 h2 h3 h4))
        (multiReduction .maximumf [0] S8x128 (shapeCast S8x8x128 X7 h1) 0xFF800000#32 h2 h3 h4)) (ix2 s t)
      = max (mo (ix2 s t)) (tmax l j b s t) := by
  simp only [maximumf_apply]
  rw [part_max, part_max, part_max, part_max, part_max, part_max, part_max, part_max]
  refine congrArg (max (mo (ix2 s t))) ?_
  have e : (Finset.univ : Finset (Fin 8)) = {0, 1, 2, 3, 4, 5, 6, 7} := rfl
  have hs : ∀ f : Fin 8 → EReal, Finset.univ.sup f = max (max (max (max (max (max (max (f 0) (f 1)) (f 2)) (f 3)) (f 4)) (f 5)) (f 6)) (f 7) := fun f => by
    rw [e]; simp [max_assoc]
  unfold tmax
  rw [hs fun e : Fin 8 => Finset.univ.sup fun q : Fin 8 => l (512 * j + 64 * e.val + 8 * q.val + s) b t]
  have hh := fun q : Fin 8 => H ⟨8 * q.val + s.val, by omega⟩ t
  rw [show (Finset.univ.sup fun q : Fin 8 => X0 (ix2 ⟨8 * q.val + s.val, by omega⟩ t)) = Finset.univ.sup fun q : Fin 8 => l (512 * j + 64 * ((0 : Fin 8)).val + 8 * q.val + s) b t from
    Finset.sup_congr rfl fun q _ => ((hh q).1).trans (congrArg (l · b t) (by show 512 * j + (8 * q.val + s.val) = 512 * j + 64 * 0 + 8 * q.val + s.val; omega))]
  rw [show (Finset.univ.sup fun q : Fin 8 => X1 (ix2 ⟨8 * q.val + s.val, by omega⟩ t)) = Finset.univ.sup fun q : Fin 8 => l (512 * j + 64 * ((1 : Fin 8)).val + 8 * q.val + s) b t from
    Finset.sup_congr rfl fun q _ => ((hh q).2.1).trans (congrArg (l · b t) (by show 512 * j + 64 + (8 * q.val + s.val) = 512 * j + 64 * 1 + 8 * q.val + s.val; omega))]
  rw [show (Finset.univ.sup fun q : Fin 8 => X2 (ix2 ⟨8 * q.val + s.val, by omega⟩ t)) = Finset.univ.sup fun q : Fin 8 => l (512 * j + 64 * ((2 : Fin 8)).val + 8 * q.val + s) b t from
    Finset.sup_congr rfl fun q _ => ((hh q).2.2.1).trans (congrArg (l · b t) (by show 512 * j + 128 + (8 * q.val + s.val) = 512 * j + 64 * 2 + 8 * q.val + s.val; omega))]
  rw [show (Finset.univ.sup fun q : Fin 8 => X3 (ix2 ⟨8 * q.val + s.val, by omega⟩ t)) = Finset.univ.sup fun q : Fin 8 => l (512 * j + 64 * ((3 : Fin 8)).val + 8 * q.val + s) b t from
    Finset.sup_congr rfl fun q _ => ((hh q).2.2.2.1).trans (congrArg (l · b t) (by show 512 * j + 192 + (8 * q.val + s.val) = 512 * j + 64 * 3 + 8 * q.val + s.val; omega))]
  rw [show (Finset.univ.sup fun q : Fin 8 => X4 (ix2 ⟨8 * q.val + s.val, by omega⟩ t)) = Finset.univ.sup fun q : Fin 8 => l (512 * j + 64 * ((4 : Fin 8)).val + 8 * q.val + s) b t from
    Finset.sup_congr rfl fun q _ => ((hh q).2.2.2.2.1).trans (congrArg (l · b t) (by show 512 * j + 256 + (8 * q.val + s.val) = 512 * j + 64 * 4 + 8 * q.val + s.val; omega))]
  rw [show (Finset.univ.sup fun q : Fin 8 => X5 (ix2 ⟨8 * q.val + s.val, by omega⟩ t)) = Finset.univ.sup fun q : Fin 8 => l (512 * j + 64 * ((5 : Fin 8)).val + 8 * q.val + s) b t from
    Finset.sup_congr rfl fun q _ => ((hh q).2.2.2.2.2.1).trans (congrArg (l · b t) (by show 512 * j + 320 + (8 * q.val + s.val) = 512 * j + 64 * 5 + 8 * q.val + s.val; omega))]
  rw [show (Finset.univ.sup fun q : Fin 8 => X6 (ix2 ⟨8 * q.val + s.val, by omega⟩ t)) = Finset.univ.sup fun q : Fin 8 => l (512 * j + 64 * ((6 : Fin 8)).val + 8 * q.val + s) b t from
    Finset.sup_congr rfl fun q _ => ((hh q).2.2.2.2.2.2.1).trans (congrArg (l · b t) (by show 512 * j + 384 + (8 * q.val + s.val) = 512 * j + 64 * 6 + 8 * q.val + s.val; omega))]
  rw [show (Finset.univ.sup fun q : Fin 8 => X7 (ix2 ⟨8 * q.val + s.val, by omega⟩ t)) = Finset.univ.sup fun q : Fin 8 => l (512 * j + 64 * ((7 : Fin 8)).val + 8 * q.val + s) b t from
    Finset.sup_congr rfl fun q _ => ((hh q).2.2.2.2.2.2.2).trans (congrArg (l · b t) (by show 512 * j + 448 + (8 * q.val + s.val) = 512 * j + 64 * 7 + 8 * q.val + s.val; omega))]
  rfl

/-- The same parts' powers, added to the rescaled running sum. -/
theorem tile_sum (l : ℕ → ℕ → ℕ → EReal) (j b : ℕ) (X0 X1 X2 X3 X4 X5 X6 X7 : FVec Ideal S64x128 .f32) (mo so M : FVec Ideal S8x128 .f32)
    (h1 : S64x128.ShapeCasts S8x8x128) (h5 : S8x128.ShapeCasts S1x8x128) (h6 : S1x8x128.Broadcasts S8x8x128) (h2 : S8x8x128.Reduces [0] S8x128)
    (h3 : FKind.Formats .f32) (h4 : 0#32 = FKind.add.neutral .f32 h3)
    (H : ∀ (r : Fin 64) (t : Fin 128), X0 (ix2 r t) = l (512 * j + r.val) b t ∧ X1 (ix2 r t) = l (512 * j + 64 + r.val) b t
      ∧ X2 (ix2 r t) = l (512 * j + 128 + r.val) b t ∧ X3 (ix2 r t) = l (512 * j + 192 + r.val) b t
      ∧ X4 (ix2 r t) = l (512 * j + 256 + r.val) b t ∧ X5 (ix2 r t) = l (512 * j + 320 + r.val) b t
      ∧ X6 (ix2 r t) = l (512 * j + 384 + r.val) b t ∧ X7 (ix2 r t) = l (512 * j + 448 + r.val) b t)
    (s : Fin 8) (t : Fin 128) :
    addf (addf (addf (addf (addf (addf (addf (addf (mulf so (exp2 (subf mo M)))
        (multiReduction .add [0] S8x128 (exp2 (subf (shapeCast S8x8x128 X0 h1) (broadcastTo S8x8x128 (shapeCast S1x8x128 M h5) h6))) 0#32 h2 h3 h4))
        (multiReduction .add [0] S8x128 (exp2 (subf (shapeCast S8x8x128 X1 h1) (broadcastTo S8x8x128 (shapeCast S1x8x128 M h5) h6))) 0#32 h2 h3 h4))
        (multiReduction .add [0] S8x128 (exp2 (subf (shapeCast S8x8x128 X2 h1) (broadcastTo S8x8x128 (shapeCast S1x8x128 M h5) h6))) 0#32 h2 h3 h4))
        (multiReduction .add [0] S8x128 (exp2 (subf (shapeCast S8x8x128 X3 h1) (broadcastTo S8x8x128 (shapeCast S1x8x128 M h5) h6))) 0#32 h2 h3 h4))
        (multiReduction .add [0] S8x128 (exp2 (subf (shapeCast S8x8x128 X4 h1) (broadcastTo S8x8x128 (shapeCast S1x8x128 M h5) h6))) 0#32 h2 h3 h4))
        (multiReduction .add [0] S8x128 (exp2 (subf (shapeCast S8x8x128 X5 h1) (broadcastTo S8x8x128 (shapeCast S1x8x128 M h5) h6))) 0#32 h2 h3 h4))
        (multiReduction .add [0] S8x128 (exp2 (subf (shapeCast S8x8x128 X6 h1) (broadcastTo S8x8x128 (shapeCast S1x8x128 M h5) h6))) 0#32 h2 h3 h4))
        (multiReduction .add [0] S8x128 (exp2 (subf (shapeCast S8x8x128 X7 h1) (broadcastTo S8x8x128 (shapeCast S1x8x128 M h5) h6))) 0#32 h2 h3 h4) (ix2 s t)
      = so (ix2 s t) * Ideal.exp2 (mo (ix2 s t) - M (ix2 s t))
        + ∑ e : Fin 8, ∑ q : Fin 8, Ideal.exp2 (l (512 * j + 64 * e.val + 8 * q.val + s) b t - M (ix2 s t)) := by
  simp only [addf_apply]
  rw [part_sum, part_sum, part_sum, part_sum, part_sum, part_sum, part_sum, part_sum]
  have hh := fun q : Fin 8 => H ⟨8 * q.val + s.val, by omega⟩ t
  rw [show (∑ q : Fin 8, Ideal.exp2 (X0 (ix2 ⟨8 * q.val + s.val, by omega⟩ t) - M (ix2 s t))) = ∑ q : Fin 8, Ideal.exp2 (l (512 * j + 64 * ((0 : Fin 8)).val + 8 * q.val + s) b t - M (ix2 s t)) from
    Finset.sum_congr rfl fun q _ => by
      refine congrArg (fun z => Ideal.exp2 (z - M (ix2 s t))) ((hh q).1.trans (congrArg (l · b t) ?_))
      show 512 * j + (8 * q.val + s.val) = 512 * j + 64 * 0 + 8 * q.val + s.val
      omega]
  rw [show (∑ q : Fin 8, Ideal.exp2 (X1 (ix2 ⟨8 * q.val + s.val, by omega⟩ t) - M (ix2 s t))) = ∑ q : Fin 8, Ideal.exp2 (l (512 * j + 64 * ((1 : Fin 8)).val + 8 * q.val + s) b t - M (ix2 s t)) from
    Finset.sum_congr rfl fun q _ => by
      refine congrArg (fun z => Ideal.exp2 (z - M (ix2 s t))) ((hh q).2.1.trans (congrArg (l · b t) ?_))
      show 512 * j + 64 + (8 * q.val + s.val) = 512 * j + 64 * 1 + 8 * q.val + s.val
      omega]
  rw [show (∑ q : Fin 8, Ideal.exp2 (X2 (ix2 ⟨8 * q.val + s.val, by omega⟩ t) - M (ix2 s t))) = ∑ q : Fin 8, Ideal.exp2 (l (512 * j + 64 * ((2 : Fin 8)).val + 8 * q.val + s) b t - M (ix2 s t)) from
    Finset.sum_congr rfl fun q _ => by
      refine congrArg (fun z => Ideal.exp2 (z - M (ix2 s t))) ((hh q).2.2.1.trans (congrArg (l · b t) ?_))
      show 512 * j + 128 + (8 * q.val + s.val) = 512 * j + 64 * 2 + 8 * q.val + s.val
      omega]
  rw [show (∑ q : Fin 8, Ideal.exp2 (X3 (ix2 ⟨8 * q.val + s.val, by omega⟩ t) - M (ix2 s t))) = ∑ q : Fin 8, Ideal.exp2 (l (512 * j + 64 * ((3 : Fin 8)).val + 8 * q.val + s) b t - M (ix2 s t)) from
    Finset.sum_congr rfl fun q _ => by
      refine congrArg (fun z => Ideal.exp2 (z - M (ix2 s t))) ((hh q).2.2.2.1.trans (congrArg (l · b t) ?_))
      show 512 * j + 192 + (8 * q.val + s.val) = 512 * j + 64 * 3 + 8 * q.val + s.val
      omega]
  rw [show (∑ q : Fin 8, Ideal.exp2 (X4 (ix2 ⟨8 * q.val + s.val, by omega⟩ t) - M (ix2 s t))) = ∑ q : Fin 8, Ideal.exp2 (l (512 * j + 64 * ((4 : Fin 8)).val + 8 * q.val + s) b t - M (ix2 s t)) from
    Finset.sum_congr rfl fun q _ => by
      refine congrArg (fun z => Ideal.exp2 (z - M (ix2 s t))) ((hh q).2.2.2.2.1.trans (congrArg (l · b t) ?_))
      show 512 * j + 256 + (8 * q.val + s.val) = 512 * j + 64 * 4 + 8 * q.val + s.val
      omega]
  rw [show (∑ q : Fin 8, Ideal.exp2 (X5 (ix2 ⟨8 * q.val + s.val, by omega⟩ t) - M (ix2 s t))) = ∑ q : Fin 8, Ideal.exp2 (l (512 * j + 64 * ((5 : Fin 8)).val + 8 * q.val + s) b t - M (ix2 s t)) from
    Finset.sum_congr rfl fun q _ => by
      refine congrArg (fun z => Ideal.exp2 (z - M (ix2 s t))) ((hh q).2.2.2.2.2.1.trans (congrArg (l · b t) ?_))
      show 512 * j + 320 + (8 * q.val + s.val) = 512 * j + 64 * 5 + 8 * q.val + s.val
      omega]
  rw [show (∑ q : Fin 8, Ideal.exp2 (X6 (ix2 ⟨8 * q.val + s.val, by omega⟩ t) - M (ix2 s t))) = ∑ q : Fin 8, Ideal.exp2 (l (512 * j + 64 * ((6 : Fin 8)).val + 8 * q.val + s) b t - M (ix2 s t)) from
    Finset.sum_congr rfl fun q _ => by
      refine congrArg (fun z => Ideal.exp2 (z - M (ix2 s t))) ((hh q).2.2.2.2.2.2.1.trans (congrArg (l · b t) ?_))
      show 512 * j + 384 + (8 * q.val + s.val) = 512 * j + 64 * 6 + 8 * q.val + s.val
      omega]
  rw [show (∑ q : Fin 8, Ideal.exp2 (X7 (ix2 ⟨8 * q.val + s.val, by omega⟩ t) - M (ix2 s t))) = ∑ q : Fin 8, Ideal.exp2 (l (512 * j + 64 * ((7 : Fin 8)).val + 8 * q.val + s) b t - M (ix2 s t)) from
    Finset.sum_congr rfl fun q _ => by
      refine congrArg (fun z => Ideal.exp2 (z - M (ix2 s t))) ((hh q).2.2.2.2.2.2.2.trans (congrArg (l · b t) ?_))
      show 512 * j + 448 + (8 * q.val + s.val) = 512 * j + 64 * 7 + 8 * q.val + s.val
      omega]
  rw [Fin.sum_univ_eight fun e : Fin 8 => ∑ q : Fin 8, Ideal.exp2 (l (512 * j + 64 * e.val + 8 * q.val + s) b t - M (ix2 s t))]
  simp only [← add_assoc]
  rfl

/-- One part's logits from the products, the two scales and the bias. -/
theorem part_logit (A : FVec Ideal S512x512 .f32) (B C : FVec Ideal S64x128 .f32) (X : FVec Ideal S1x128 .f32) (o1 o2 : ℕ)
    (h : S512x512.Slices ![o1, o2] S64x128) (hx : S1x128.Broadcasts S64x128) (r : Fin 64) (t : Fin 128) (r' c' : Fin 512)
    (hr : r'.val = o1 + r.val) (hc : c'.val = o2 + t.val) :
    addf (mulf (mulf (extractStridedSlice S64x128 ![o1, o2] A h) B) (broadcastTo S64x128 X hx)) C (ix2 r t)
      = A (ix2 r' c') * B (ix2 r t) * X (ix2 0 t) + C (ix2 r t) := by
  pointwise []
  have e1 : r' = ⟨o1 + r.val, by omega⟩ := Fin.ext hr
  have e2 : c' = ⟨o2 + t.val, by omega⟩ := Fin.ext hc
  rw [e1, e2]

end Cert.Proof.KernelIdeal
-- ==== Proof.KernelIdeal.Bytes.lean ====
/-
  Words of four bytes: unpacked into bytes and packed from them, entry by entry.
-/
module

public import proofs.«01_k».proof.KernelIdeal
public import Idealize.ShloMosaic.Lib.BitcastFour
public import Idealize.ShloMosaic.Lib.Pointwise

@[expose] public section

noncomputable section

namespace Cert.Proof.KernelIdeal

open Cert.KernelIdeal Idealize.ShloMosaic

/-- A word read as its four bytes: row `r` is byte `r % 4` of row `r / 4`. -/
theorem bytes_of_word {R r n : ℕ} (x : (⟨2, ![r, n]⟩ : Shape).Idx → BitVec 32)
    (h : (⟨2, ![r, n]⟩ : Shape).Bitcasts 32 ⟨2, ![R, n]⟩ 8) (a : Fin R) (b : Fin r) (l : Fin n) (hb : b.val = a.val / 4) :
    bitcast ⟨2, ![R, n]⟩ 8 x h (ix2 a l) = (x (ix2 b l)).extractLsb' (8 * (a.val % 4)) 8 := by
  apply BitVec.eq_of_getLsbD_eq
  intro q hq
  have er : (⟨2, ![R, n]⟩ : Shape).row (ix2 a l) = a.val := rfl
  rw [bitcast_getLsbD x h _ q hq (by decide), BitVec.getLsbD_extractLsb']
  have e1 : (a.val * 8 + q) / 32 = a.val / 4 := by omega
  have e2 : (a.val * 8 + q) % 32 = 8 * (a.val % 4) + q := by omega
  simp only [er, e2, hq, decide_true, Bool.true_and]
  congr 2
  funext c
  match c with
  | ⟨0, _⟩ => exact Fin.ext ((h.srcIdx_row _ _ _ ⟨0, Nat.zero_lt_two⟩ rfl).trans (by rw [er]; exact e1.trans hb.symm))
  | ⟨1, _⟩ => exact Fin.ext (h.srcIdx_other _ _ _ ⟨1, Nat.one_lt_two⟩ (by show ¬ 1 + 2 = 2; omega))

/-- Byte `q` of the word of four bytes is the byte of row `4 b + q`. -/
theorem byte_of_bytes {R r n : ℕ} (x : (⟨2, ![R, n]⟩ : Shape).Idx → BitVec 8)
    (h : (⟨2, ![R, n]⟩ : Shape).Bitcasts 8 ⟨2, ![r, n]⟩ 32) (b : Fin r) (l : Fin n) (q : ℕ) (hq : q < 4) (a : Fin R)
    (ha : a.val = 4 * b.val + q) :
    (bitcast ⟨2, ![r, n]⟩ 32 x h (ix2 b l)).extractLsb' (8 * q) 8 = x (ix2 a l) := by
  apply BitVec.eq_of_getLsbD_eq
  intro i hi
  rw [BitVec.getLsbD_extractLsb']
  have e : (ix2 b l : (⟨2, ![r, n]⟩ : Shape).Idx) = ValueIdx.ix2 b l := by funext c; match c with | ⟨0, _⟩ => rfl | ⟨1, _⟩ => rfl
  have e' : (ix2 a l : (⟨2, ![R, n]⟩ : Shape).Idx) = ValueIdx.ix2 a l := by funext c; match c with | ⟨0, _⟩ => rfl | ⟨1, _⟩ => rfl
  rw [e, e', bitcast_8_32_getLsbD_ix2 x h b l (8 * q + i) (by omega) a (by omega)]
  simp only [hi, decide_true, Bool.true_and]
  congr 1; omega

end Cert.Proof.KernelIdeal
-- ==== Proof.KernelIdeal.T5.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t5`: what it reads at its contents, what it writes at any contents. -/
abbrev inv_k0_t5 (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) : sProp 𝕄 :=
  iprop((arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg19.view.loc (c : Thread nD τ) ↦[arg19.view.set]{fullShare} X19) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg27.view.loc (c : Thread nD τ) ↦[arg27.view.set]{fullShare} f)))

set_option maxHeartbeats 4000000 in
/-- One trip of `k0_t5`. -/
theorem step_k0_t5 (v124 : IVec S8x128 32) (v145 : IVec S8x128 32) (k0_t3 : Fin k0_t3_loop.trips) (arg38 : BitVec 32) (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) (k : Fin k0_t5_loop.trips) (acc : Unit) :
    inv_k0_t5 (F := F) c arg11 arg13 arg14 arg15 arg16 arg17 arg18 arg19 arg27 X11 X13 X14 X15 X19 ⊢ wp frame (wpE (defs₀ (F := F)) Variants.none (c : Thread nD τ) none) Set.univ
      (k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 k acc) (fun _ => inv_k0_t5 (F := F) c arg11 arg13 arg14 arg15 arg16 arg17 arg18 arg19 arg27 X11 X13 X14 X15 X19) := by
  unfold k0_t5_body
  iintro ⟨H11, H13, H14, H15, H19, ⟨%f16, H16⟩, ⟨%f17, H17⟩, ⟨%f18, H18⟩, ⟨%f27, H27⟩⟩
  sl_exec
  sl_step
  sl_close

set_option warn.classDefReducibility false in
/-- Loop `k0_t5` at its invariant. -/
@[reducible] def loopInv_k0_t5 (v124 : IVec S8x128 32) (v145 : IVec S8x128 32) (k0_t3 : Fin k0_t3_loop.trips) (arg38 : BitVec 32) (X11 : BufTy.Contents (Elt F) arg11.view.ty) (X13 : BufTy.Contents (Elt F) arg13.view.ty) (X14 : BufTy.Contents (Elt F) arg14.view.ty) (X15 : BufTy.Contents (Elt F) arg15.view.ty) (X19 : BufTy.Contents (Elt F) arg19.view.ty) :
    Gen.LoopInvTy_k0_t5 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 where
  inv k acc := inv_k0_t5 (F := F) c arg11 arg13 arg14 arg15 arg16 arg17 arg18 arg19 arg27 X11 X13 X14 X15 X19
  step k acc := step_k0_t5 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 X11 X13 X14 X15 X19 k acc

end
end Cert.Proof.KernelIdeal
-- ==== Proof.KernelIdeal.UnitVals.lean ====
/-
  What the scratch arrays are said to hold (`Has…`), and the codes and products of a tile read from them.
-/
module

public import proofs.«01_k».proof.Proof.KernelIdeal.Unit
public import proofs.«01_k».proof.Proof.KernelIdeal.Bytes
public import proofs.«01_k».proof.Proof.KernelIdeal.T5

@[expose] public section

set_option maxRecDepth 16384

noncomputable section

namespace Cert.Proof.KernelIdeal

open Cert.KernelIdeal Cert.KernelIdeal.Gen Idealize.ShloMosaic

section
variable (w x xs : ℕ → ℕ → EReal) (ws bs : ℕ → EReal)

/-- The code rows of `x`, read. -/
def Has11 (arg11 : Memref sig .tc .vmem S2048x1536 .fp8e4m3) (X : BufTy.Contents (Elt Ideal) arg11.view.ty) : Prop :=
  ∀ (r : Fin 2048) (d : Fin 1536), arg11.view.read (Elt Ideal) X (ix2 r d) = x r.val d.val

/-- The first `n` word rows of the transposed codes: byte `q` of word row `i` is column `4 i + q`. -/
def Has13 (arg13 : Memref sig .tc .vmem S12x2048x128 .i32) (X : BufTy.Contents (Elt Ideal) arg13.view.ty) (n : ℕ) : Prop :=
  ∀ (g : Fin 12) (i : Fin 2048) (l : Fin 128) (q : ℕ), q < 4 → i.val < n →
    Ideal.ofBits .fp8e4m3 ((show BitVec 32 from arg13.view.read (Elt Ideal) X (ix3 g i l)).extractLsb' (8 * q) 8)
      = w (128 * g.val + l.val) (4 * i.val + q)

/-- The first `n` rows of a table of one value per column. -/
def HasCol (y : ℕ → EReal) (arg14 : Memref sig .tc .vmem S8192x128 .f32) (X : BufTy.Contents (Elt Ideal) arg14.view.ty) (n : ℕ) : Prop :=
  ∀ (v : Fin 8192) (t : Fin 128), v.val < n → arg14.view.read (Elt Ideal) X (ix2 v t) = y v.val

/-- The steps' scales. -/
def Has19 (arg19 : Memref sig .tc .vmem S16x128 .f32) (X : BufTy.Contents (Elt Ideal) arg19.view.ty) : Prop :=
  ∀ (b : Fin 16) (t : Fin 128), arg19.view.read (Elt Ideal) X (ix2 b t) = xs b.val t.val

variable {w x xs ws bs}

/-- One plane of the codes of a tile. -/
theorem plane_codes {arg13 : Memref sig .tc .vmem S12x2048x128 .i32} {X13 : BufTy.Contents (Elt Ideal) arg13.view.ty} {n : ℕ} (H : Has13 w arg13 X13 n)
    (off : Fin 3 → ℕ) (inb : ∀ a, off a + S1x128x128.size a ≤ S12x2048x128.size a) (g : Fin 12) (j : ℕ) (hj : 128 * j + 128 ≤ n)
    (ho : off = ![g.val, 128 * j, 0]) (h : S1x128x128.ShapeCasts S128x128) (h' : S128x128.Bitcasts 32 S512x128 8)
    (r : Fin 512) (l : Fin 128) :
    bitcastToFloat (F := Ideal) .fp8e4m3 (bitcast S512x128 8 (shapeCast S128x128 (View.readAt (Elt Ideal) arg13.view (Rect.unit (s := S12x2048x128) off S1x128x128.size inb).toLoadRect X13) h) h') (ix2 r l)
      = w (128 * g.val + l.val) (512 * j + r.val) := by
  show Ideal.ofBits .fp8e4m3 (bitcast S512x128 8 _ h' (ix2 r l)) = _
  rw [bytes_of_word _ h' r ⟨r.val / 4, by omega⟩ l rfl]
  have hb : 128 * j + 128 ≤ 2048 := by
    have := inb 1; subst ho; exact this
  have e : shapeCast S128x128 (View.readAt (Elt Ideal) arg13.view (Rect.unit (s := S12x2048x128) off S1x128x128.size inb).toLoadRect X13) h (ix2 ⟨r.val / 4, by omega⟩ l)
      = arg13.view.read (Elt Ideal) X13 (ix3 g ⟨128 * j + r.val / 4, by omega⟩ l) := by
    have e1 : ∀ Y : S1x128x128.Idx → BitVec 32, shapeCast S128x128 Y h (ix2 ⟨r.val / 4, by omega⟩ l) = Y (ix3 0 ⟨r.val / 4, by omega⟩ l) := fun Y => by
      pointwise []
    refine (e1 _).trans ?_
    subst ho
    show arg13.view.read (Elt Ideal) X13 _ = _
    congr 1
    funext a
    match a with
    | ⟨0, _⟩ => exact Fin.ext (by show g.val + 1 * 0 = g.val; omega)
    | ⟨1, _⟩ => exact Fin.ext (by show 128 * j + 1 * (r.val / 4) = 128 * j + r.val / 4; omega)
    | ⟨2, _⟩ => exact Fin.ext (by show 0 + 1 * l.val = l.val; omega)
  rw [e]
  refine (H g ⟨128 * j + r.val / 4, by omega⟩ l (r.val % 4) (by omega) (by show 128 * j + r.val / 4 < n; omega)).trans ?_
  show w _ (4 * (128 * j + r.val / 4) + r.val % 4) = _
  congr 1
  omega

theorem off34 (j : Fin k0_t3_loop.trips) : k0_off34 j = ![0, 128 * j.val, 0] ∧ k0_off35 j = ![1, 128 * j.val, 0] ∧ k0_off36 j = ![2, 128 * j.val, 0]
    ∧ k0_off37 j = ![3, 128 * j.val, 0] ∧ k0_off38 j = ![4, 128 * j.val, 0] ∧ k0_off39 j = ![5, 128 * j.val, 0] ∧ k0_off40 j = ![6, 128 * j.val, 0]
    ∧ k0_off41 j = ![7, 128 * j.val, 0] ∧ k0_off42 j = ![8, 128 * j.val, 0] ∧ k0_off43 j = ![9, 128 * j.val, 0] ∧ k0_off44 j = ![10, 128 * j.val, 0]
    ∧ k0_off45 j = ![11, 128 * j.val, 0] := by
  revert j; decide

theorem off46 (p : Fin k0_t5_loop.trips) : k0_off46 p = ![512 * p.val, 0] := by revert p; decide

theorem dite_both {α : Type} {p : Prop} [Decidable p] {t : p → α} {e : ¬p → α} {v : α} (ht : ∀ h, t h = v) (he : ∀ h, e h = v) : dite p t e = v := by
  by_cases h : p
  · rw [dif_pos h]; exact ht h
  · rw [dif_neg h]; exact he h

set_option maxHeartbeats 4000000 in
/-- The codes of a tile as one array. -/
theorem codes_eq {arg13 : Memref sig .tc .vmem S12x2048x128 .i32} {X13 : BufTy.Contents (Elt Ideal) arg13.view.ty} (k0_t3 : Fin k0_t3_loop.trips) {n : ℕ}
    (H : Has13 w arg13 X13 n) (hn : 128 * k0_t3.val + 128 ≤ n) (r : Fin 512) (d : Fin 1536) :
    step_k0_t5.sl.v558 (F := Ideal) arg13 k0_t3 X13 (ix2 r d) = w d.val (512 * k0_t3.val + r.val) := by
  unfold step_k0_t5.sl.v558
  have P := plane_codes H
  obtain ⟨o0, o1, o2, o3, o4, o5, o6, o7, o8, o9, o10, o11⟩ := off34 k0_t3
  pointwise []
  refine dite_both (fun h => ?_) fun h0 => ?_
  · exact (P _ _ 0 _ hn o0 _ _ _ _).trans (congrArg (w · _) (show 128 * 0 + (d.val) = d.val by omega))
  refine dite_both (fun h => ?_) fun h1 => ?_
  · exact (P _ _ 1 _ hn o1 _ _ _ _).trans (congrArg (w · _) (show 128 * 1 + (d.val - 128) = d.val by omega))
  refine dite_both (fun h => ?_) fun h2 => ?_
  · exact (P _ _ 2 _ hn o2 _ _ _ _).trans (congrArg (w · _) (show 128 * 2 + (d.val - 128 - 128) = d.val by omega))
  refine dite_both (fun h => ?_) fun h3 => ?_
  · exact (P _ _ 3 _ hn o3 _ _ _ _).trans (congrArg (w · _) (show 128 * 3 + (d.val - 128 - 128 - 128) = d.val by omega))
  refine dite_both (fun h => ?_) fun h4 => ?_
  · exact (P _ _ 4 _ hn o4 _ _ _ _).trans (congrArg (w · _) (show 128 * 4 + (d.val - 128 - 128 - 128 - 128) = d.val by omega))
  refine dite_both (fun h => ?_) fun h5 => ?_
  · exact (P _ _ 5 _ hn o5 _ _ _ _).trans (congrArg (w · _) (show 128 * 5 + (d.val - 128 - 128 - 128 - 128 - 128) = d.val by omega))
  refine dite_both (fun h => ?_) fun h6 => ?_
  · exact (P _ _ 6 _ hn o6 _ _ _ _).trans (congrArg (w · _) (show 128 * 6 + (d.val - 128 - 128 - 128 - 128 - 128 - 128) = d.val by omega))
  refine dite_both (fun h => ?_) fun h7 => ?_
  · exact (P _ _ 7 _ hn o7 _ _ _ _).trans (congrArg (w · _) (show 128 * 7 + (d.val - 128 - 128 - 128 - 128 - 128 - 128 - 128) = d.val by omega))
  refine dite_both (fun h => ?_) fun h8 => ?_
  · exact (P _ _ 8 _ hn o8 _ _ _ _).trans (congrArg (w · _) (show 128 * 8 + (d.val - 128 - 128 - 128 - 128 - 128 - 128 - 128 - 128) = d.val by omega))
  refine dite_both (fun h => ?_) fun h9 => ?_
  · exact (P _ _ 9 _ hn o9 _ _ _ _).trans (congrArg (w · _) (show 128 * 9 + (d.val - 128 - 128 - 128 - 128 - 128 - 128 - 128 - 128 - 128) = d.val by omega))
  refine dite_both (fun h => ?_) fun h10 => ?_
  · exact (P _ _ 10 _ hn o10 _ _ _ _).trans (congrArg (w · _) (show 128 * 10 + (d.val - 128 - 128 - 128 - 128 - 128 - 128 - 128 - 128 - 128 - 128) = d.val by omega))
  exact (P _ _ 11 _ hn o11 _ _ _ _).trans (congrArg (w · _) (show 128 * 11 + (d.val - 128 - 128 - 128 - 128 - 128 - 128 - 128 - 128 - 128 - 128 - 128) = d.val by omega))

/-- The products of a tile and a group of rows. -/
theorem acc_eq {arg11 : Memref sig .tc .vmem S2048x1536 .fp8e4m3} {X11 : BufTy.Contents (Elt Ideal) arg11.view.ty}
    {arg13 : Memref sig .tc .vmem S12x2048x128 .i32} {X13 : BufTy.Contents (Elt Ideal) arg13.view.ty} (k0_t3 : Fin k0_t3_loop.trips) {n : ℕ}
    (H11 : Has11 x arg11 X11) (H : Has13 w arg13 X13 n) (hn : 128 * k0_t3.val + 128 ≤ n) (k : Fin k0_t5_loop.trips) (r c : Fin 512) :
    step_k0_t5.sl.v561 (F := Ideal) arg11 arg13 k0_t3 X11 X13 k (ix2 r c)
      = ∑ d : Fin 1536, w d.val (512 * k0_t3.val + r.val) * x (512 * k.val + c.val) d.val := by
  unfold step_k0_t5.sl.v561
  pointwise []
  have e0 : (step_k0_t5.sl.cst_276 (F := Ideal) (ix2 r c) : EReal) = 0 := Ideal.ofBits_zero_f32
  rw [e0, zero_add]
  refine Finset.sum_congr rfl fun d _ => ?_
  rw [codes_eq k0_t3 H hn r d]
  refine congrArg (w d.val (512 * k0_t3.val + r.val) * ·) ?_
  have hk : k.val < 4 := k.isLt
  refine Eq.trans ?_ (H11 ⟨512 * k.val + c.val, by omega⟩ d)
  refine congrArg (arg11.view.read (Elt Ideal) X11) ?_
  have o := off46 k
  funext a
  match a with
  | ⟨0, _⟩ => exact Fin.ext (by show k0_off46 k 0 + 1 * c.val = 512 * k.val + c.val; rw [o]; show 512 * k.val + 1 * c.val = _; omega)
  | ⟨1, _⟩ => exact Fin.ext (by show k0_off46 k 1 + 1 * d.val = d.val; rw [o]; show 0 + 1 * d.val = _; omega)

end
end Cert.Proof.KernelIdeal
-- ==== Proof.KernelIdeal.UnitParts.lean ====
/-
  The parts of one unit of work (four blocks of eight): the logits each stores, and that they read back.
-/
module

public import proofs.«01_k».proof.Proof.KernelIdeal.UnitVals
public import Idealize.ShloMosaic.Lib.Pipeline.ReadBack

@[expose] public section

set_option maxRecDepth 16384

noncomputable section

namespace Cert.Proof.KernelIdeal

open Cert.KernelIdeal Cert.KernelIdeal.Gen Idealize.ShloMosaic

theorem off47 (j : Fin k0_t3_loop.trips) : k0_off47 j 0#32 = ![512 * j.val, 0] ∧ k0_off47 j 64#32 = ![512 * j.val + 64, 0]
    ∧ k0_off47 j 128#32 = ![512 * j.val + 128, 0] ∧ k0_off47 j 192#32 = ![512 * j.val + 192, 0] ∧ k0_off47 j 256#32 = ![512 * j.val + 256, 0]
    ∧ k0_off47 j 320#32 = ![512 * j.val + 320, 0] ∧ k0_off47 j 384#32 = ![512 * j.val + 384, 0] ∧ k0_off47 j 448#32 = ![512 * j.val + 448, 0] := by
  revert j; decide

theorem off48 (p : Fin k0_t5_loop.trips) : k0_off48 p 0#32 = ![4 * p.val, 0] ∧ k0_off48 p 1#32 = ![4 * p.val + 1, 0]
    ∧ k0_off48 p 2#32 = ![4 * p.val + 2, 0] ∧ k0_off48 p 3#32 = ![4 * p.val + 3, 0] := by revert p; decide

theorem off49 (p : Fin k0_t5_loop.trips) : k0_off49 p 0#32 = ![4 * p.val, 0, 0] ∧ k0_off49 p 1#32 = ![4 * p.val + 1, 0, 0]
    ∧ k0_off49 p 2#32 = ![4 * p.val + 2, 0, 0] ∧ k0_off49 p 3#32 = ![4 * p.val + 3, 0, 0] := by revert p; decide

section
variable {w x xs : ℕ → ℕ → EReal} {ws bs : ℕ → EReal}
variable {arg11 : Memref sig .tc .vmem S2048x1536 .fp8e4m3} {X11 : BufTy.Contents (Elt Ideal) arg11.view.ty}
  {arg13 : Memref sig .tc .vmem S12x2048x128 .i32} {X13 : BufTy.Contents (Elt Ideal) arg13.view.ty}
  {arg14 : Memref sig .tc .vmem S8192x128 .f32} {X14 : BufTy.Contents (Elt Ideal) arg14.view.ty}
  {arg15 : Memref sig .tc .vmem S8192x128 .f32} {X15 : BufTy.Contents (Elt Ideal) arg15.view.ty}
  {arg19 : Memref sig .tc .vmem S16x128 .f32} {X19 : BufTy.Contents (Elt Ideal) arg19.view.ty}
  (arg16 : Memref sig .tc .vmem S4x512x128 .f32)

/-- One part's logits, from the tables. -/
theorem part_lg (k0_t3 : Fin k0_t3_loop.trips) (k : Fin k0_t5_loop.trips) {n : ℕ} (hn : 512 * k0_t3.val + 512 ≤ n)
    (H14 : HasCol ws arg14 X14 n) (H15 : HasCol bs arg15 X15 n) (H19 : Has19 xs arg19 X19)
    (A : FVec Ideal S512x512 .f32) (hA : ∀ r c : Fin 512, A (ix2 r c) = ∑ d : Fin 1536, w d.val (512 * k0_t3.val + r.val) * x (512 * k.val + c.val) d.val)
    (o1 i : ℕ) (ho1 : o1 + 64 ≤ 512) (hi : i < 4)
    (h : S512x512.Slices ![o1, 128 * i] S64x128) (hx : S1x128.Broadcasts S64x128) (off off' : Fin 2 → ℕ)
    (inb : ∀ a, off a + S64x128.size a ≤ S8192x128.size a) (inb' : ∀ a, off' a + S1x128.size a ≤ S16x128.size a)
    (ho : off = ![512 * k0_t3.val + o1, 0]) (ho' : off' = ![4 * k.val + i, 0]) (r : Fin 64) (t : Fin 128) :
    addf (mulf (mulf (extractStridedSlice S64x128 ![o1, 128 * i] A h)
        (View.readAt (Elt Ideal) arg14.view (Rect.unit (s := S8192x128) off S64x128.size inb).toLoadRect X14))
        (broadcastTo S64x128 (View.readAt (Elt Ideal) arg19.view (Rect.unit (s := S16x128) off' S1x128.size inb').toLoadRect X19) hx))
        (View.readAt (Elt Ideal) arg15.view (Rect.unit (s := S8192x128) off S64x128.size inb).toLoadRect X15) (ix2 r t)
      = lg w x xs ws bs (512 * k0_t3.val + o1 + r.val) (4 * k.val + i) t.val := by
  have hk : k.val < 4 := k.isLt
  have hj : k0_t3.val < 16 := k0_t3.isLt
  subst ho ho'
  refine (part_logit A _ _ _ o1 (128 * i) h hx r t ⟨o1 + r.val, by omega⟩ ⟨128 * i + t.val, by omega⟩ rfl rfl).trans ?_
  have ei : (Rect.unit (s := S8192x128) ![512 * k0_t3.val + o1, 0] S64x128.size inb).toLoadRect.idx (ix2 r t) = ix2 ⟨512 * k0_t3.val + o1 + r.val, by omega⟩ t := by
    funext a
    match a with
    | ⟨0, _⟩ => exact Fin.ext (by show 512 * k0_t3.val + o1 + 1 * r.val = 512 * k0_t3.val + o1 + r.val; omega)
    | ⟨1, _⟩ => exact Fin.ext (by show 0 + 1 * t.val = t.val; omega)
  have ei' : (Rect.unit (s := S16x128) ![4 * k.val + i, 0] S1x128.size inb').toLoadRect.idx (ix2 0 t) = ix2 ⟨4 * k.val + i, by omega⟩ t := by
    funext a
    match a with
    | ⟨0, _⟩ => exact Fin.ext (by show 4 * k.val + i + 1 * 0 = 4 * k.val + i; omega)
    | ⟨1, _⟩ => exact Fin.ext (by show 0 + 1 * t.val = t.val; omega)
  have e4 := (congrArg (arg14.view.read (Elt Ideal) X14) ei).trans (H14 ⟨512 * k0_t3.val + o1 + r.val, by omega⟩ t (by show 512 * k0_t3.val + o1 + r.val < n; omega))
  have e5 := (congrArg (arg15.view.read (Elt Ideal) X15) ei).trans (H15 ⟨512 * k0_t3.val + o1 + r.val, by omega⟩ t (by show 512 * k0_t3.val + o1 + r.val < n; omega))
  have e9 := (congrArg (arg19.view.read (Elt Ideal) X19) ei').trans (H19 ⟨4 * k.val + i, by omega⟩ t)
  have eA : A (ix2 ⟨o1 + r.val, by omega⟩ ⟨128 * i + t.val, by omega⟩) = ∑ d : Fin 1536, w d.val (512 * k0_t3.val + o1 + r.val) * x (128 * (4 * k.val + i) + t.val) d.val := by
    refine (hA _ _).trans (Finset.sum_congr rfl fun d _ => ?_)
    refine congrArg₂ (· * ·) (congrArg (w d.val) ?_) (congrArg (x · d.val) ?_)
    · show 512 * k0_t3.val + (o1 + r.val) = _; omega
    · show 512 * k.val + (128 * i + t.val) = _; omega
  unfold lg
  exact congrArg₂ (· + ·) (congrArg₂ (· * ·) (congrArg₂ (· * ·) eA e4) e9) e5

/-- What a part of the logits buffer reads back. -/
theorem cast_back (X : FVec Ideal S64x128 .f32) (h : S64x128.ShapeCasts S1x64x128) (h' : S1x64x128.ShapeCasts S64x128) :
    shapeCast S64x128 (shapeCast S1x64x128 X h) h' = X := by
  funext i
  idx_vars i
  pointwise []

/-- The eight parts of block 0 of a unit. -/
theorem parts_0 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (r : Fin 64) (t : Fin 128) :
    step_k0_t5.sl.v576 (F := Ideal) arg11 arg13 arg14 arg15 arg19 k0_t3 X11 X13 X14 X15 X19 k (ix2 r t) = lg w x xs ws bs (512 * k0_t3.val + r.val) (4 * k.val) t.val
      ∧ step_k0_t5.sl.v594 (F := Ideal) arg11 arg13 arg14 arg15 arg19 k0_t3 X11 X13 X14 X15 X19 k (ix2 r t) = lg w x xs ws bs (512 * k0_t3.val + 64 + r.val) (4 * k.val) t.val
      ∧ step_k0_t5.sl.v613 (F := Ideal) arg11 arg13 arg14 arg15 arg19 k0_t3 X11 X13 X14 X15 X19 k (ix2 r t) = lg w x xs ws bs (512 * k0_t3.val + 128 + r.val) (4 * k.val) t.val
      ∧ step_k0_t5.sl.v632 (F := Ideal) arg11 arg13 arg14 arg15 arg19 k0_t3 X11 X13 X14 X15 X19 k (ix2 r t) = lg w x xs ws bs (512 * k0_t3.val + 192 + r.val) (4 * k.val) t.val
      ∧ step_k0_t5.sl.v651 (F := Ideal) arg11 arg13 arg14 arg15 arg19 k0_t3 X11 X13 X14 X15 X19 k (ix2 r t) = lg w x xs ws bs (512 * k0_t3.val + 256 + r.val) (4 * k.val) t.val
      ∧ step_k0_t5.sl.v670 (F := Ideal) arg11 arg13 arg14 arg15 arg19 k0_t3 X11 X13 X14 X15 X19 k (ix2 r t) = lg w x xs ws bs (512 * k0_t3.val + 320 + r.val) (4 * k.val) t.val
      ∧ step_k0_t5.sl.v689 (F := Ideal) arg11 arg13 arg14 arg15 arg19 k0_t3 X11 X13 X14 X15 X19 k (ix2 r t) = lg w x xs ws bs (512 * k0_t3.val + 384 + r.val) (4 * k.val) t.val
      ∧ step_k0_t5.sl.v708 (F := Ideal) arg11 arg13 arg14 arg15 arg19 k0_t3 X11 X13 X14 X15 X19 k (ix2 r t) = lg w x xs ws bs (512 * k0_t3.val + 448 + r.val) (4 * k.val) t.val := by
  have A := acc_eq k0_t3 H11 H13 (by omega) k
  have hn' : 512 * k0_t3.val + 512 ≤ 512 * (k0_t3.val + 1) := by omega
  have o := off47 k0_t3
  have o' := off48 k
  exact ⟨part_lg k0_t3 k hn' H14 H15 H19 _ A 0 0 (by decide) (by decide) _ _ _ _ _ _ o.1 o'.1 r t,
    part_lg k0_t3 k hn' H14 H15 H19 _ A 64 0 (by decide) (by decide) _ _ _ _ _ _ o.2.1 o'.1 r t,
    part_lg k0_t3 k hn' H14 H15 H19 _ A 128 0 (by decide) (by decide) _ _ _ _ _ _ o.2.2.1 o'.1 r t,
    part_lg k0_t3 k hn' H14 H15 H19 _ A 192 0 (by decide) (by decide) _ _ _ _ _ _ o.2.2.2.1 o'.1 r t,
    part_lg k0_t3 k hn' H14 H15 H19 _ A 256 0 (by decide) (by decide) _ _ _ _ _ _ o.2.2.2.2.1 o'.1 r t,
    part_lg k0_t3 k hn' H14 H15 H19 _ A 320 0 (by decide) (by decide) _ _ _ _ _ _ o.2.2.2.2.2.1 o'.1 r t,
    part_lg k0_t3 k hn' H14 H15 H19 _ A 384 0 (by decide) (by decide) _ _ _ _ _ _ o.2.2.2.2.2.2.1 o'.1 r t,
    part_lg k0_t3 k hn' H14 H15 H19 _ A 448 0 (by decide) (by decide) _ _ _ _ _ _ o.2.2.2.2.2.2.2 o'.1 r t⟩

set_option maxHeartbeats 400000 in
/-- Read back, they are the same parts. -/
theorem back_0 (k0_t3 : Fin k0_t3_loop.trips) (k : Fin k0_t5_loop.trips) :
    step_k0_t5.sl.v730 (F := Ideal) arg11 arg13 arg14 arg15 arg16 arg19 k0_t3 X11 X13 X14 X15 X19 k = step_k0_t5.sl.v576 arg11 arg13 arg14 arg15 arg19 k0_t3 X11 X13 X14 X15 X19 k
      ∧ step_k0_t5.sl.v739 (F := Ideal) arg11 arg13 arg14 arg15 arg16 arg19 k0_t3 X11 X13 X14 X15 X19 k = step_k0_t5.sl.v594 arg11 arg13 arg14 arg15 arg19 k0_t3 X11 X13 X14 X15 X19 k
      ∧ step_k0_t5.sl.v748 (F := Ideal) arg11 arg13 arg14 arg15 arg16 arg19 k0_t3 X11 X13 X14 X15 X19 k = step_k0_t5.sl.v613 arg11 arg13 arg14 arg15 arg19 k0_t3 X11 X13 X14 X15 X19 k
      ∧ step_k0_t5.sl.v757 (F := Ideal) arg11 arg13 arg14 arg15 arg16 arg19 k0_t3 X11 X13 X14 X15 X19 k = step_k0_t5.sl.v632 arg11 arg13 arg14 arg15 arg19 k0_t3 X11 X13 X14 X15 X19 k
      ∧ step_k0_t5.sl.v766 (F := Ideal) arg11 arg13 arg14 arg15 arg16 arg19 k0_t3 X11 X13 X14 X15 X19 k = step_k0_t5.sl.v651 arg11 arg13 arg14 arg15 arg19 k0_t3 X11 X13 X14 X15 X19 k
      ∧ step_k0_t5.sl.v775 (F := Ideal) arg11 arg13 arg14 arg15 arg16 arg19 k0_t3 X11 X13 X14 X15 X19 k = step_k0_t5.sl.v670 arg11 arg13 arg14 arg15 arg19 k0_t3 X11 X13 X14 X15 X19 k
      ∧ step_k0_t5.sl.v784 (F := Ideal) arg11 arg13 arg14 arg15 arg16 arg19 k0_t3 X11 X13 X14 X15 X19 k = step_k0_t5.sl.v689 arg11 arg13 arg14 arg15 arg19 k0_t3 X11 X13 X14 X15 X19 k
      ∧ step_k0_t5.sl.v793 (F := Ideal) arg11 arg13 arg14 arg15 arg16 arg19 k0_t3 X11 X13 X14 X15 X19 k = step_k0_t5.sl.v708 arg11 arg13 arg14 arg15 arg19 k0_t3 X11 X13 X14 X15 X19 k := by
  refine ⟨?_, ?_, ?_, ?_, ?_, ?_, ?_, ?_⟩
  · unfold step_k0_t5.sl.v730 step_k0_t5.sl.v729 step_k0_t5.sl.H16_8
    simp (disch := decide) only [↓ View.readCov_skip, ↓ View.readCov_cons_toLoadRect, ↓ View.readCov_fill]
    exact cast_back _ _ _
  · unfold step_k0_t5.sl.v739 step_k0_t5.sl.v738 step_k0_t5.sl.H16_8
    simp (disch := decide) only [↓ View.readCov_skip, ↓ View.readCov_cons_toLoadRect, ↓ View.readCov_fill]
    exact cast_back _ _ _
  · unfold step_k0_t5.sl.v748 step_k0_t5.sl.v747 step_k0_t5.sl.H16_8
    simp (disch := decide) only [↓ View.readCov_skip, ↓ View.readCov_cons_toLoadRect, ↓ View.readCov_fill]
    exact cast_back _ _ _
  · unfold step_k0_t5.sl.v757 step_k0_t5.sl.v756 step_k0_t5.sl.H16_8
    simp (disch := decide) only [↓ View.readCov_skip, ↓ View.readCov_cons_toLoadRect, ↓ View.readCov_fill]
    exact cast_back _ _ _
  · unfold step_k0_t5.sl.v766 step_k0_t5.sl.v765 step_k0_t5.sl.H16_8
    simp (disch := decide) only [↓ View.readCov_skip, ↓ View.readCov_cons_toLoadRect, ↓ View.readCov_fill]
    exact cast_back _ _ _
  · unfold step_k0_t5.sl.v775 step_k0_t5.sl.v774 step_k0_t5.sl.H16_8
    simp (disch := decide) only [↓ View.readCov_skip, ↓ View.readCov_cons_toLoadRect, ↓ View.readCov_fill]
    exact cast_back _ _ _
  · unfold step_k0_t5.sl.v784 step_k0_t5.sl.v783 step_k0_t5.sl.H16_8
    simp (disch := decide) only [↓ View.readCov_skip, ↓ View.readCov_cons_toLoadRect, ↓ View.readCov_fill]
    exact cast_back _ _ _
  · unfold step_k0_t5.sl.v793 step_k0_t5.sl.v792 step_k0_t5.sl.H16_8
    simp (disch := decide) only [↓ View.readCov_skip, ↓ View.readCov_cons_toLoadRect, ↓ View.readCov_fill]
    exact cast_back _ _ _

/-- The eight parts of block 1 of a unit. -/
theorem parts_1 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (r : Fin 64) (t : Fin 128) :
    step_k0_t5.sl.v819 (F := Ideal) arg11 arg13 arg14 arg15 arg19 k0_t3 X11 X13 X14 X15 X19 k (ix2 r t) = lg w x xs ws bs (512 * k0_t3.val + r.val) (4 * k.val + 1) t.val
      ∧ step_k0_t5.sl.v837 (F := Ideal) arg11 arg13 arg14 arg15 arg19 k0_t3 X11 X13 X14 X15 X19 k (ix2 r t) = lg w x xs ws bs (512 * k0_t3.val + 64 + r.val) (4 * k.val + 1) t.val
      ∧ step_k0_t5.sl.v856 (F := Ideal) arg11 arg13 arg14 arg15 arg19 k0_t3 X11 X13 X14 X15 X19 k (ix2 r t) = lg w x xs ws bs (512 * k0_t3.val + 128 + r.val) (4 * k.val + 1) t.val
      ∧ step_k0_t5.sl.v875 (F := Ideal) arg11 arg13 arg14 arg15 arg19 k0_t3 X11 X13 X14 X15 X19 k (ix2 r t) = lg w x xs ws bs (512 * k0_t3.val + 192 + r.val) (4 * k.val + 1) t.val
      ∧ step_k0_t5.sl.v894 (F := Ideal) arg11 arg13 arg14 arg15 arg19 k0_t3 X11 X13 X14 X15 X19 k (ix2 r t) = lg w x xs ws bs (512 * k0_t3.val + 256 + r.val) (4 * k.val + 1) t.val
      ∧ step_k0_t5.sl.v913 (F := Ideal) arg11 arg13 arg14 arg15 arg19 k0_t3 X11 X13 X14 X15 X19 k (ix2 r t) = lg w x xs ws bs (512 * k0_t3.val + 320 + r.val) (4 * k.val + 1) t.val
      ∧ step_k0_t5.sl.v932 (F := Ideal) arg11 arg13 arg14 arg15 arg19 k0_t3 X11 X13 X14 X15 X19 k (ix2 r t) = lg w x xs ws bs (512 * k0_t3.val + 384 + r.val) (4 * k.val + 1) t.val
      ∧ step_k0_t5.sl.v951 (F := Ideal) arg11 arg13 arg14 arg15 arg19 k0_t3 X11 X13 X14 X15 X19 k (ix2 r t) = lg w x xs ws bs (512 * k0_t3.val + 448 + r.val) (4 * k.val + 1) t.val := by
  have A := acc_eq k0_t3 H11 H13 (by omega) k
  have hn' : 512 * k0_t3.val + 512 ≤ 512 * (k0_t3.val + 1) := by omega
  have o := off47 k0_t3
  have o' := off48 k
  exact ⟨part_lg k0_t3 k hn' H14 H15 H19 _ A 0 1 (by decide) (by decide) _ _ _ _ _ _ o.1 o'.2.1 r t,
    part_lg k0_t3 k hn' H14 H15 H19 _ A 64 1 (by decide) (by decide) _ _ _ _ _ _ o.2.1 o'.2.1 r t,
    part_lg k0_t3 k hn' H14 H15 H19 _ A 128 1 (by decide) (by decide) _ _ _ _ _ _ o.2.2.1 o'.2.1 r t,
    part_lg k0_t3 k hn' H14 H15 H19 _ A 192 1 (by decide) (by decide) _ _ _ _ _ _ o.2.2.2.1 o'.2.1 r t,
    part_lg k0_t3 k hn' H14 H15 H19 _ A 256 1 (by decide) (by decide) _ _ _ _ _ _ o.2.2.2.2.1 o'.2.1 r t,
    part_lg k0_t3 k hn' H14 H15 H19 _ A 320 1 (by decide) (by decide) _ _ _ _ _ _ o.2.2.2.2.2.1 o'.2.1 r t,
    part_lg k0_t3 k hn' H14 H15 H19 _ A 384 1 (by decide) (by decide) _ _ _ _ _ _ o.2.2.2.2.2.2.1 o'.2.1 r t,
    part_lg k0_t3 k hn' H14 H15 H19 _ A 448 1 (by decide) (by decide) _ _ _ _ _ _ o.2.2.2.2.2.2.2 o'.2.1 r t⟩

set_option maxHeartbeats 400000 in
/-- Read back, they are the same parts. -/
theorem back_1 (k0_t3 : Fin k0_t3_loop.trips) (k : Fin k0_t5_loop.trips) :
    step_k0_t5.sl.v973 (F := Ideal) arg11 arg13 arg14 arg15 arg16 arg19 k0_t3 X11 X13 X14 X15 X19 k = step_k0_t5.sl.v819 arg11 arg13 arg14 arg15 arg19 k0_t3 X11 X13 X14 X15 X19 k
      ∧ step_k0_t5.sl.v982 (F := Ideal) arg11 arg13 arg14 arg15 arg16 arg19 k0_t3 X11 X13 X14 X15 X19 k = step_k0_t5.sl.v837 arg11 arg13 arg14 arg15 arg19 k0_t3 X11 X13 X14 X15 X19 k
      ∧ step_k0_t5.sl.v991 (F := Ideal) arg11 arg13 arg14 arg15 arg16 arg19 k0_t3 X11 X13 X14 X15 X19 k = step_k0_t5.sl.v856 arg11 arg13 arg14 arg15 arg19 k0_t3 X11 X13 X14 X15 X19 k
      ∧ step_k0_t5.sl.v1000 (F := Ideal) arg11 arg13 arg14 arg15 arg16 arg19 k0_t3 X11 X13 X14 X15 X19 k = step_k0_t5.sl.v875 arg11 arg13 arg14 arg15 arg19 k0_t3 X11 X13 X14 X15 X19 k
      ∧ step_k0_t5.sl.v1009 (F := Ideal) arg11 arg13 arg14 arg15 arg16 arg19 k0_t3 X11 X13 X14 X15 X19 k = step_k0_t5.sl.v894 arg11 arg13 arg14 arg15 arg19 k0_t3 X11 X13 X14 X15 X19 k
      ∧ step_k0_t5.sl.v1018 (F := Ideal) arg11 arg13 arg14 arg15 arg16 arg19 k0_t3 X11 X13 X14 X15 X19 k = step_k0_t5.sl.v913 arg11 arg13 arg14 arg15 arg19 k0_t3 X11 X13 X14 X15 X19 k
      ∧ step_k0_t5.sl.v1027 (F := Ideal) arg11 arg13 arg14 arg15 arg16 arg19 k0_t3 X11 X13 X14 X15 X19 k = step_k0_t5.sl.v932 arg11 arg13 arg14 arg15 arg19 k0_t3 X11 X13 X14 X15 X19 k
      ∧ step_k0_t5.sl.v1036 (F := Ideal) arg11 arg13 arg14 arg15 arg16 arg19 k0_t3 X11 X13 X14 X15 X19 k = step_k0_t5.sl.v951 arg11 arg13 arg14 arg15 arg19 k0_t3 X11 X13 X14 X15 X19 k := by
  refine ⟨?_, ?_, ?_, ?_, ?_, ?_, ?_, ?_⟩
  · unfold step_k0_t5.sl.v973 step_k0_t5.sl.v972 step_k0_t5.sl.H16_16
    simp (disch := decide) only [↓ View.readCov_skip, ↓ View.readCov_cons_toLoadRect, ↓ View.readCov_fill]
    exact cast_back _ _ _
  · unfold step_k0_t5.sl.v982 step_k0_t5.sl.v981 step_k0_t5.sl.H16_16
    simp (disch := decide) only [↓ View.readCov_skip, ↓ View.readCov_cons_toLoadRect, ↓ View.readCov_fill]
    exact cast_back _ _ _
  · unfold step_k0_t5.sl.v991 step_k0_t5.sl.v990 step_k0_t5.sl.H16_16
    simp (disch := decide) only [↓ View.readCov_skip, ↓ View.readCov_cons_toLoadRect, ↓ View.readCov_fill]
    exact cast_back _ _ _
  · unfold step_k0_t5.sl.v1000 step_k0_t5.sl.v999 step_k0_t5.sl.H16_16
    simp (disch := decide) only [↓ View.readCov_skip, ↓ View.readCov_cons_toLoadRect, ↓ View.readCov_fill]
    exact cast_back _ _ _
  · unfold step_k0_t5.sl.v1009 step_k0_t5.sl.v1008 step_k0_t5.sl.H16_16
    simp (disch := decide) only [↓ View.readCov_skip, ↓ View.readCov_cons_toLoadRect, ↓ View.readCov_fill]
    exact cast_back _ _ _
  · unfold step_k0_t5.sl.v1018 step_k0_t5.sl.v1017 step_k0_t5.sl.H16_16
    simp (disch := decide) only [↓ View.readCov_skip, ↓ View.readCov_cons_toLoadRect, ↓ View.readCov_fill]
    exact cast_back _ _ _
  · unfold step_k0_t5.sl.v1027 step_k0_t5.sl.v1026 step_k0_t5.sl.H16_16
    simp (disch := decide) only [↓ View.readCov_skip, ↓ View.readCov_cons_toLoadRect, ↓ View.readCov_fill]
    exact cast_back _ _ _
  · unfold step_k0_t5.sl.v1036 step_k0_t5.sl.v1035 step_k0_t5.sl.H16_16
    simp (disch := decide) only [↓ View.readCov_skip, ↓ View.readCov_cons_toLoadRect, ↓ View.readCov_fill]
    exact cast_back _ _ _

/-- The eight parts of block 2 of a unit. -/
theorem parts_2 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (r : Fin 64) (t : Fin 128) :
    step_k0_t5.sl.v1062 (F := Ideal) arg11 arg13 arg14 arg15 arg19 k0_t3 X11 X13 X14 X15 X19 k (ix2 r t) = lg w x xs ws bs (512 * k0_t3.val + r.val) (4 * k.val + 2) t.val
      ∧ step_k0_t5.sl.v1080 (F := Ideal) arg11 arg13 arg14 arg15 arg19 k0_t3 X11 X13 X14 X15 X19 k (ix2 r t) = lg w x xs ws bs (512 * k0_t3.val + 64 + r.val) (4 * k.val + 2) t.val
      ∧ step_k0_t5.sl.v1099 (F := Ideal) arg11 arg13 arg14 arg15 arg19 k0_t3 X11 X13 X14 X15 X19 k (ix2 r t) = lg w x xs ws bs (512 * k0_t3.val + 128 + r.val) (4 * k.val + 2) t.val
      ∧ step_k0_t5.sl.v1118 (F := Ideal) arg11 arg13 arg14 arg15 arg19 k0_t3 X11 X13 X14 X15 X19 k (ix2 r t) = lg w x xs ws bs (512 * k0_t3.val + 192 + r.val) (4 * k.val + 2) t.val
      ∧ step_k0_t5.sl.v1137 (F := Ideal) arg11 arg13 arg14 arg15 arg19 k0_t3 X11 X13 X14 X15 X19 k (ix2 r t) = lg w x xs ws bs (512 * k0_t3.val + 256 + r.val) (4 * k.val + 2) t.val
      ∧ step_k0_t5.sl.v1156 (F := Ideal) arg11 arg13 arg14 arg15 arg19 k0_t3 X11 X13 X14 X15 X19 k (ix2 r t) = lg w x xs ws bs (512 * k0_t3.val + 320 + r.val) (4 * k.val + 2) t.val
      ∧ step_k0_t5.sl.v1175 (F := Ideal) arg11 arg13 arg14 arg15 arg19 k0_t3 X11 X13 X14 X15 X19 k (ix2 r t) = lg w x xs ws bs (512 * k0_t3.val + 384 + r.val) (4 * k.val + 2) t.val
      ∧ step_k0_t5.sl.v1194 (F := Ideal) arg11 arg13 arg14 arg15 arg19 k0_t3 X11 X13 X14 X15 X19 k (ix2 r t) = lg w x xs ws bs (512 * k0_t3.val + 448 + r.val) (4 * k.val + 2) t.val := by
  have A := acc_eq k0_t3 H11 H13 (by omega) k
  have hn' : 512 * k0_t3.val + 512 ≤ 512 * (k0_t3.val + 1) := by omega
  have o := off47 k0_t3
  have o' := off48 k
  exact ⟨part_lg k0_t3 k hn' H14 H15 H19 _ A 0 2 (by decide) (by decide) _ _ _ _ _ _ o.1 o'.2.2.1 r t,
    part_lg k0_t3 k hn' H14 H15 H19 _ A 64 2 (by decide) (by decide) _ _ _ _ _ _ o.2.1 o'.2.2.1 r t,
    part_lg k0_t3 k hn' H14 H15 H19 _ A 128 2 (by decide) (by decide) _ _ _ _ _ _ o.2.2.1 o'.2.2.1 r t,
    part_lg k0_t3 k hn' H14 H15 H19 _ A 192 2 (by decide) (by decide) _ _ _ _ _ _ o.2.2.2.1 o'.2.2.1 r t,
    part_lg k0_t3 k hn' H14 H15 H19 _ A 256 2 (by decide) (by decide) _ _ _ _ _ _ o.2.2.2.2.1 o'.2.2.1 r t,
    part_lg k0_t3 k hn' H14 H15 H19 _ A 320 2 (by decide) (by decide) _ _ _ _ _ _ o.2.2.2.2.2.1 o'.2.2.1 r t,
    part_lg k0_t3 k hn' H14 H15 H19 _ A 384 2 (by decide) (by decide) _ _ _ _ _ _ o.2.2.2.2.2.2.1 o'.2.2.1 r t,
    part_lg k0_t3 k hn' H14 H15 H19 _ A 448 2 (by decide) (by decide) _ _ _ _ _ _ o.2.2.2.2.2.2.2 o'.2.2.1 r t⟩

set_option maxHeartbeats 400000 in
/-- Read back, they are the same parts. -/
theorem back_2 (k0_t3 : Fin k0_t3_loop.trips) (k : Fin k0_t5_loop.trips) :
    step_k0_t5.sl.v1216 (F := Ideal) arg11 arg13 arg14 arg15 arg16 arg19 k0_t3 X11 X13 X14 X15 X19 k = step_k0_t5.sl.v1062 arg11 arg13 arg14 arg15 arg19 k0_t3 X11 X13 X14 X15 X19 k
      ∧ step_k0_t5.sl.v1225 (F := Ideal) arg11 arg13 arg14 arg15 arg16 arg19 k0_t3 X11 X13 X14 X15 X19 k = step_k0_t5.sl.v1080 arg11 arg13 arg14 arg15 arg19 k0_t3 X11 X13 X14 X15 X19 k
      ∧ step_k0_t5.sl.v1234 (F := Ideal) arg11 arg13 arg14 arg15 arg16 arg19 k0_t3 X11 X13 X14 X15 X19 k = step_k0_t5.sl.v1099 arg11 arg13 arg14 arg15 arg19 k0_t3 X11 X13 X14 X15 X19 k
      ∧ step_k0_t5.sl.v1243 (F := Ideal) arg11 arg13 arg14 arg15 arg16 arg19 k0_t3 X11 X13 X14 X15 X19 k = step_k0_t5.sl.v1118 arg11 arg13 arg14 arg15 arg19 k0_t3 X11 X13 X14 X15 X19 k
      ∧ step_k0_t5.sl.v1252 (F := Ideal) arg11 arg13 arg14 arg15 arg16 arg19 k0_t3 X11 X13 X14 X15 X19 k = step_k0_t5.sl.v1137 arg11 arg13 arg14 arg15 arg19 k0_t3 X11 X13 X14 X15 X19 k
      ∧ step_k0_t5.sl.v1261 (F := Ideal) arg11 arg13 arg14 arg15 arg16 arg19 k0_t3 X11 X13 X14 X15 X19 k = step_k0_t5.sl.v1156 arg11 arg13 arg14 arg15 arg19 k0_t3 X11 X13 X14 X15 X19 k
      ∧ step_k0_t5.sl.v1270 (F := Ideal) arg11 arg13 arg14 arg15 arg16 arg19 k0_t3 X11 X13 X14 X15 X19 k = step_k0_t5.sl.v1175 arg11 arg13 arg14 arg15 arg19 k0_t3 X11 X13 X14 X15 X19 k
      ∧ step_k0_t5.sl.v1279 (F := Ideal) arg11 arg13 arg14 arg15 arg16 arg19 k0_t3 X11 X13 X14 X15 X19 k = step_k0_t5.sl.v1194 arg11 arg13 arg14 arg15 arg19 k0_t3 X11 X13 X14 X15 X19 k := by
  refine ⟨?_, ?_, ?_, ?_, ?_, ?_, ?_, ?_⟩
  · unfold step_k0_t5.sl.v1216 step_k0_t5.sl.v1215 step_k0_t5.sl.H16_24
    simp (disch := decide) only [↓ View.readCov_skip, ↓ View.readCov_cons_toLoadRect, ↓ View.readCov_fill]
    exact cast_back _ _ _
  · unfold step_k0_t5.sl.v1225 step_k0_t5.sl.v1224 step_k0_t5.sl.H16_24
    simp (disch := decide) only [↓ View.readCov_skip, ↓ View.readCov_cons_toLoadRect, ↓ View.readCov_fill]
    exact cast_back _ _ _
  · unfold step_k0_t5.sl.v1234 step_k0_t5.sl.v1233 step_k0_t5.sl.H16_24
    simp (disch := decide) only [↓ View.readCov_skip, ↓ View.readCov_cons_toLoadRect, ↓ View.readCov_fill]
    exact cast_back _ _ _
  · unfold step_k0_t5.sl.v1243 step_k0_t5.sl.v1242 step_k0_t5.sl.H16_24
    simp (disch := decide) only [↓ View.readCov_skip, ↓ View.readCov_cons_toLoadRect, ↓ View.readCov_fill]
    exact cast_back _ _ _
  · unfold step_k0_t5.sl.v1252 step_k0_t5.sl.v1251 step_k0_t5.sl.H16_24
    simp (disch := decide) only [↓ View.readCov_skip, ↓ View.readCov_cons_toLoadRect, ↓ View.readCov_fill]
    exact cast_back _ _ _
  · unfold step_k0_t5.sl.v1261 step_k0_t5.sl.v1260 step_k0_t5.sl.H16_24
    simp (disch := decide) only [↓ View.readCov_skip, ↓ View.readCov_cons_toLoadRect, ↓ View.readCov_fill]
    exact cast_back _ _ _
  · unfold step_k0_t5.sl.v1270 step_k0_t5.sl.v1269 step_k0_t5.sl.H16_24
    simp (disch := decide) only [↓ View.readCov_skip, ↓ View.readCov_cons_toLoadRect, ↓ View.readCov_fill]
    exact cast_back _ _ _
  · unfold step_k0_t5.sl.v1279 step_k0_t5.sl.v1278 step_k0_t5.sl.H16_24
    simp (disch := decide) only [↓ View.readCov_skip, ↓ View.readCov_cons_toLoadRect, ↓ View.readCov_fill]
    exact cast_back _ _ _

/-- The eight parts of block 3 of a unit. -/
theorem parts_3 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (r : Fin 64) (t : Fin 128) :
    step_k0_t5.sl.v1305 (F := Ideal) arg11 arg13 arg14 arg15 arg19 k0_t3 X11 X13 X14 X15 X19 k (ix2 r t) = lg w x xs ws bs (512 * k0_t3.val + r.val) (4 * k.val + 3) t.val
      ∧ step_k0_t5.sl.v1323 (F := Ideal) arg11 arg13 arg14 arg15 arg19 k0_t3 X11 X13 X14 X15 X19 k (ix2 r t) = lg w x xs ws bs (512 * k0_t3.val + 64 + r.val) (4 * k.val + 3) t.val
      ∧ step_k0_t5.sl.v1342 (F := Ideal) arg11 arg13 arg14 arg15 arg19 k0_t3 X11 X13 X14 X15 X19 k (ix2 r t) = lg w x xs ws bs (512 * k0_t3.val + 128 + r.val) (4 * k.val + 3) t.val
      ∧ step_k0_t5.sl.v1361 (F := Ideal) arg11 arg13 arg14 arg15 arg19 k0_t3 X11 X13 X14 X15 X19 k (ix2 r t) = lg w x xs ws bs (512 * k0_t3.val + 192 + r.val) (4 * k.val + 3) t.val
      ∧ step_k0_t5.sl.v1380 (F := Ideal) arg11 arg13 arg14 arg15 arg19 k0_t3 X11 X13 X14 X15 X19 k (ix2 r t) = lg w x xs ws bs (512 * k0_t3.val + 256 + r.val) (4 * k.val + 3) t.val
      ∧ step_k0_t5.sl.v1399 (F := Ideal) arg11 arg13 arg14 arg15 arg19 k0_t3 X11 X13 X14 X15 X19 k (ix2 r t) = lg w x xs ws bs (512 * k0_t3.val + 320 + r.val) (4 * k.val + 3) t.val
      ∧ step_k0_t5.sl.v1418 (F := Ideal) arg11 arg13 arg14 arg15 arg19 k0_t3 X11 X13 X14 X15 X19 k (ix2 r t) = lg w x xs ws bs (512 * k0_t3.val + 384 + r.val) (4 * k.val + 3) t.val
      ∧ step_k0_t5.sl.v1437 (F := Ideal) arg11 arg13 arg14 arg15 arg19 k0_t3 X11 X13 X14 X15 X19 k (ix2 r t) = lg w x xs ws bs (512 * k0_t3.val + 448 + r.val) (4 * k.val + 3) t.val := by
  have A := acc_eq k0_t3 H11 H13 (by omega) k
  have hn' : 512 * k0_t3.val + 512 ≤ 512 * (k0_t3.val + 1) := by omega
  have o := off47 k0_t3
  have o' := off48 k
  exact ⟨part_lg k0_t3 k hn' H14 H15 H19 _ A 0 3 (by decide) (by decide) _ _ _ _ _ _ o.1 o'.2.2.2 r t,
    part_lg k0_t3 k hn' H14 H15 H19 _ A 64 3 (by decide) (by decide) _ _ _ _ _ _ o.2.1 o'.2.2.2 r t,
    part_lg k0_t3 k hn' H14 H15 H19 _ A 128 3 (by decide) (by decide) _ _ _ _ _ _ o.2.2.1 o'.2.2.2 r t,
    part_lg k0_t3 k hn' H14 H15 H19 _ A 192 3 (by decide) (by decide) _ _ _ _ _ _ o.2.2.2.1 o'.2.2.2 r t,
    part_lg k0_t3 k hn' H14 H15 H19 _ A 256 3 (by decide) (by decide) _ _ _ _ _ _ o.2.2.2.2.1 o'.2.2.2 r t,
    part_lg k0_t3 k hn' H14 H15 H19 _ A 320 3 (by decide) (by decide) _ _ _ _ _ _ o.2.2.2.2.2.1 o'.2.2.2 r t,
    part_lg k0_t3 k hn' H14 H15 H19 _ A 384 3 (by decide) (by decide) _ _ _ _ _ _ o.2.2.2.2.2.2.1 o'.2.2.2 r t,
    part_lg k0_t3 k hn' H14 H15 H19 _ A 448 3 (by decide) (by decide) _ _ _ _ _ _ o.2.2.2.2.2.2.2 o'.2.2.2 r t⟩

set_option maxHeartbeats 400000 in
/-- Read back, they are the same parts. -/
theorem back_3 (k0_t3 : Fin k0_t3_loop.trips) (k : Fin k0_t5_loop.trips) :
    step_k0_t5.sl.v1459 (F := Ideal) arg11 arg13 arg14 arg15 arg16 arg19 k0_t3 X11 X13 X14 X15 X19 k = step_k0_t5.sl.v1305 arg11 arg13 arg14 arg15 arg19 k0_t3 X11 X13 X14 X15 X19 k
      ∧ step_k0_t5.sl.v1468 (F := Ideal) arg11 arg13 arg14 arg15 arg16 arg19 k0_t3 X11 X13 X14 X15 X19 k = step_k0_t5.sl.v1323 arg11 arg13 arg14 arg15 arg19 k0_t3 X11 X13 X14 X15 X19 k
      ∧ step_k0_t5.sl.v1477 (F := Ideal) arg11 arg13 arg14 arg15 arg16 arg19 k0_t3 X11 X13 X14 X15 X19 k = step_k0_t5.sl.v1342 arg11 arg13 arg14 arg15 arg19 k0_t3 X11 X13 X14 X15 X19 k
      ∧ step_k0_t5.sl.v1486 (F := Ideal) arg11 arg13 arg14 arg15 arg16 arg19 k0_t3 X11 X13 X14 X15 X19 k = step_k0_t5.sl.v1361 arg11 arg13 arg14 arg15 arg19 k0_t3 X11 X13 X14 X15 X19 k
      ∧ step_k0_t5.sl.v1495 (F := Ideal) arg11 arg13 arg14 arg15 arg16 arg19 k0_t3 X11 X13 X14 X15 X19 k = step_k0_t5.sl.v1380 arg11 arg13 arg14 arg15 arg19 k0_t3 X11 X13 X14 X15 X19 k
      ∧ step_k0_t5.sl.v1504 (F := Ideal) arg11 arg13 arg14 arg15 arg16 arg19 k0_t3 X11 X13 X14 X15 X19 k = step_k0_t5.sl.v1399 arg11 arg13 arg14 arg15 arg19 k0_t3 X11 X13 X14 X15 X19 k
      ∧ step_k0_t5.sl.v1513 (F := Ideal) arg11 arg13 arg14 arg15 arg16 arg19 k0_t3 X11 X13 X14 X15 X19 k = step_k0_t5.sl.v1418 arg11 arg13 arg14 arg15 arg19 k0_t3 X11 X13 X14 X15 X19 k
      ∧ shapeCast S64x128 (step_k0_t5.sl.v1521 (F := Ideal) arg11 arg13 arg14 arg15 arg16 arg19 k0_t3 X11 X13 X14 X15 X19 k) shapeCasts_S1x64x128_S64x128 = step_k0_t5.sl.v1437 arg11 arg13 arg14 arg15 arg19 k0_t3 X11 X13 X14 X15 X19 k := by
  refine ⟨?_, ?_, ?_, ?_, ?_, ?_, ?_, ?_⟩
  · unfold step_k0_t5.sl.v1459 step_k0_t5.sl.v1458 step_k0_t5.sl.H16_32
    simp (disch := decide) only [↓ View.readCov_skip, ↓ View.readCov_cons_toLoadRect, ↓ View.readCov_fill]
    exact cast_back _ _ _
  · unfold step_k0_t5.sl.v1468 step_k0_t5.sl.v1467 step_k0_t5.sl.H16_32
    simp (disch := decide) only [↓ View.readCov_skip, ↓ View.readCov_cons_toLoadRect, ↓ View.readCov_fill]
    exact cast_back _ _ _
  · unfold step_k0_t5.sl.v1477 step_k0_t5.sl.v1476 step_k0_t5.sl.H16_32
    simp (disch := decide) only [↓ View.readCov_skip, ↓ View.readCov_cons_toLoadRect, ↓ View.readCov_fill]
    exact cast_back _ _ _
  · unfold step_k0_t5.sl.v1486 step_k0_t5.sl.v1485 step_k0_t5.sl.H16_32
    simp (disch := decide) only [↓ View.readCov_skip, ↓ View.readCov_cons_toLoadRect, ↓ View.readCov_fill]
    exact cast_back _ _ _
  · unfold step_k0_t5.sl.v1495 step_k0_t5.sl.v1494 step_k0_t5.sl.H16_32
    simp (disch := decide) only [↓ View.readCov_skip, ↓ View.readCov_cons_toLoadRect, ↓ View.readCov_fill]
    exact cast_back _ _ _
  · unfold step_k0_t5.sl.v1504 step_k0_t5.sl.v1503 step_k0_t5.sl.H16_32
    simp (disch := decide) only [↓ View.readCov_skip, ↓ View.readCov_cons_toLoadRect, ↓ View.readCov_fill]
    exact cast_back _ _ _
  · unfold step_k0_t5.sl.v1513 step_k0_t5.sl.v1512 step_k0_t5.sl.H16_32
    simp (disch := decide) only [↓ View.readCov_skip, ↓ View.readCov_cons_toLoadRect, ↓ View.readCov_fill]
    exact cast_back _ _ _
  · unfold step_k0_t5.sl.v1521 step_k0_t5.sl.H16_32
    simp (disch := decide) only [↓ View.readCov_skip, ↓ View.readCov_cons_toLoadRect, ↓ View.readCov_fill]
    exact cast_back _ _ _

end
end Cert.Proof.KernelIdeal
-- ==== Proof.KernelIdeal.UnitStep.lean ====
/-
  One unit of work carries the running maxima and sums of its batch row one tile on.
-/
module

public import proofs.«01_k».proof.Proof.KernelIdeal.UnitParts
public import Idealize.ShloMosaic.Lib.WritesUnit

@[expose] public section

set_option maxRecDepth 16384

noncomputable section

namespace Cert.Proof.KernelIdeal

open Cert.KernelIdeal Cert.KernelIdeal.Gen Idealize.ShloMosaic Idealize.ShloMosaic.TcCoe

/-- A running value per row, sublane and step: after `cnt b` tiles at row `b`. -/
def HasRun (R : ℕ → ℕ → ℕ → ℕ → EReal) (arg17 : Memref sig .tc .vmem S16x8x128 .f32) (f : BufTy.Contents (Elt Ideal) arg17.view.ty) (cnt : ℕ → ℕ) : Prop :=
  ∀ (b : Fin 16) (s : Fin 8) (t : Fin 128), arg17.view.read (Elt Ideal) f (ix3 b s t) = R (cnt b.val) b.val s.val t.val

theorem row_read (arg17 : Memref sig .tc .vmem S16x8x128 .f32) (f : BufTy.Contents (Elt Ideal) arg17.view.ty) (off : Fin 3 → ℕ)
    (inb : ∀ a, off a + S1x8x128.size a ≤ S16x8x128.size a) (b : Fin 16) (ho : off = ![b.val, 0, 0]) (h : S1x8x128.ShapeCasts S8x128) (s : Fin 8) (t : Fin 128) :
    shapeCast S8x128 (View.readAt (Elt Ideal) arg17.view (Rect.unit (s := S16x8x128) off S1x8x128.size inb).toLoadRect f) h (ix2 s t)
      = arg17.view.read (Elt Ideal) f (ix3 b s t) := by
  have e1 : ∀ Y : FVec Ideal S1x8x128 .f32, shapeCast S8x128 Y h (ix2 s t) = Y (ix3 0 s t) := fun Y => by
    pointwise []
  refine (e1 _).trans ?_
  subst ho
  show arg17.view.read (Elt Ideal) f _ = _
  congr 1
  funext a
  match a with
  | ⟨0, _⟩ => exact Fin.ext (by show b.val + 1 * 0 = b.val; omega)
  | ⟨1, _⟩ => exact Fin.ext (by show 0 + 1 * s.val = s.val; omega)
  | ⟨2, _⟩ => exact Fin.ext (by show 0 + 1 * t.val = t.val; omega)

theorem row_cast (Y : FVec Ideal S8x128 .f32) (h : S8x128.ShapeCasts S1x8x128) (s : Fin 8) (t : Fin 128) :
    shapeCast S1x8x128 Y h (ix3 0 s t) = Y (ix2 s t) := by
  pointwise []

/-- Four rows replaced in an array of rows. -/
theorem rows_written (arg17 : Memref sig .tc .vmem S16x8x128 .f32) (f : BufTy.Contents (Elt Ideal) arg17.view.ty) (p : ℕ) (hp : p < 4)
    (o0 o1 o2 o3 : Fin 3 → ℕ) (i0 : ∀ a, o0 a + S1x8x128.size a ≤ S16x8x128.size a) (i1 : ∀ a, o1 a + S1x8x128.size a ≤ S16x8x128.size a)
    (i2 : ∀ a, o2 a + S1x8x128.size a ≤ S16x8x128.size a) (i3 : ∀ a, o3 a + S1x8x128.size a ≤ S16x8x128.size a)
    (h0 : o0 = ![4 * p, 0, 0]) (h1 : o1 = ![4 * p + 1, 0, 0]) (h2 : o2 = ![4 * p + 2, 0, 0]) (h3 : o3 = ![4 * p + 3, 0, 0])
    (Y0 Y1 Y2 Y3 : FVec Ideal S1x8x128 .f32) (R : ℕ → ℕ → ℕ → ℕ → EReal) (j : ℕ)
    (H : HasRun R arg17 f fun b => if b < 4 * p then j + 1 else j)
    (H0 : ∀ (s : Fin 8) (t : Fin 128), Y0 (ix3 0 s t) = R (j + 1) (4 * p) s.val t.val)
    (H1 : ∀ (s : Fin 8) (t : Fin 128), Y1 (ix3 0 s t) = R (j + 1) (4 * p + 1) s.val t.val)
    (H2 : ∀ (s : Fin 8) (t : Fin 128), Y2 (ix3 0 s t) = R (j + 1) (4 * p + 2) s.val t.val)
    (H3 : ∀ (s : Fin 8) (t : Fin 128), Y3 (ix3 0 s t) = R (j + 1) (4 * p + 3) s.val t.val) :
    HasRun R arg17 (arg17.view.writes (Elt Ideal) f [⟨Rect.unit (s := S16x8x128) o3 S1x8x128.size i3, Y3⟩, ⟨Rect.unit (s := S16x8x128) o2 S1x8x128.size i2, Y2⟩,
      ⟨Rect.unit (s := S16x8x128) o1 S1x8x128.size i1, Y1⟩, ⟨Rect.unit (s := S16x8x128) o0 S1x8x128.size i0, Y0⟩])
      fun b => if b < 4 * (p + 1) then j + 1 else j := by
  subst h0 h1 h2 h3
  intro b s t
  by_cases c3 : b.val = 4 * p + 3
  · rw [View.read_writes_cons_unit_of_mem arg17.view f i3 Y3 _ (ix3 b s t) (ix3 0 s t) rfl (by
      intro a
      match a with
      | ⟨0, _⟩ => show b.val = 4 * p + 3 + 0; omega
      | ⟨1, _⟩ => show s.val = 0 + s.val; omega
      | ⟨2, _⟩ => show t.val = 0 + t.val; omega), H3, c3]
    exact congrArg (R · _ _ _) (if_pos (by omega)).symm
  rw [View.read_writes_cons_unit_of_not_mem arg17.view f i3 Y3 _ (ix3 b s t) rfl 0 (by show b.val < 4 * p + 3 ∨ 4 * p + 3 + 1 ≤ b.val; omega)]
  by_cases c2 : b.val = 4 * p + 2
  · rw [View.read_writes_cons_unit_of_mem arg17.view f i2 Y2 _ (ix3 b s t) (ix3 0 s t) rfl (by
      intro a
      match a with
      | ⟨0, _⟩ => show b.val = 4 * p + 2 + 0; omega
      | ⟨1, _⟩ => show s.val = 0 + s.val; omega
      | ⟨2, _⟩ => show t.val = 0 + t.val; omega), H2, c2]
    exact congrArg (R · _ _ _) (if_pos (by omega)).symm
  rw [View.read_writes_cons_unit_of_not_mem arg17.view f i2 Y2 _ (ix3 b s t) rfl 0 (by show b.val < 4 * p + 2 ∨ 4 * p + 2 + 1 ≤ b.val; omega)]
  by_cases c1 : b.val = 4 * p + 1
  · rw [View.read_writes_cons_unit_of_mem arg17.view f i1 Y1 _ (ix3 b s t) (ix3 0 s t) rfl (by
      intro a
      match a with
      | ⟨0, _⟩ => show b.val = 4 * p + 1 + 0; omega
      | ⟨1, _⟩ => show s.val = 0 + s.val; omega
      | ⟨2, _⟩ => show t.val = 0 + t.val; omega), H1, c1]
    exact congrArg (R · _ _ _) (if_pos (by omega)).symm
  rw [View.read_writes_cons_unit_of_not_mem arg17.view f i1 Y1 _ (ix3 b s t) rfl 0 (by show b.val < 4 * p + 1 ∨ 4 * p + 1 + 1 ≤ b.val; omega)]
  by_cases c0 : b.val = 4 * p
  · rw [View.read_writes_cons_unit_of_mem arg17.view f i0 Y0 _ (ix3 b s t) (ix3 0 s t) rfl (by
      intro a
      match a with
      | ⟨0, _⟩ => show b.val = 4 * p + 0; omega
      | ⟨1, _⟩ => show s.val = 0 + s.val; omega
      | ⟨2, _⟩ => show t.val = 0 + t.val; omega), H0, c0]
    exact congrArg (R · _ _ _) (if_pos (by omega)).symm
  rw [View.read_writes_cons_unit_of_not_mem arg17.view f i0 Y0 _ (ix3 b s t) rfl 0 (by show b.val < 4 * p ∨ 4 * p + 1 ≤ b.val; omega)]
  refine (H b s t).trans ?_
  refine congrArg (R · _ _ _) ?_
  by_cases hb : b.val < 4 * p
  · exact (if_pos hb).trans (if_pos (by omega)).symm
  · exact (if_neg hb).trans (if_neg (by omega)).symm

section
variable {w x xs : ℕ → ℕ → EReal} {ws bs : ℕ → EReal} (c : Dev nD)
variable {arg11 : Memref sig .tc .vmem S2048x1536 .fp8e4m3} {X11 : BufTy.Contents (Elt Ideal) arg11.view.ty}
  {arg13 : Memref sig .tc .vmem S12x2048x128 .i32} {X13 : BufTy.Contents (Elt Ideal) arg13.view.ty}
  {arg14 : Memref sig .tc .vmem S8192x128 .f32} {X14 : BufTy.Contents (Elt Ideal) arg14.view.ty}
  {arg15 : Memref sig .tc .vmem S8192x128 .f32} {X15 : BufTy.Contents (Elt Ideal) arg15.view.ty}
  {arg19 : Memref sig .tc .vmem S16x128 .f32} {X19 : BufTy.Contents (Elt Ideal) arg19.view.ty}
  {arg16 : Memref sig .tc .vmem S4x512x128 .f32} {arg17 arg18 : Memref sig .tc .vmem S16x8x128 .f32}
  {f17 : Buf (Elt Ideal) (View.loc (c : Thread nD τ) arg17.view)} {f18 : Buf (Elt Ideal) (View.loc (c : Thread nD τ) arg18.view)}

/-- The new maximum of row 0 of a unit. -/
theorem max_0 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (s : Fin 8) (t : Fin 128) :
    step_k0_t5.sl.v718 (F := Ideal) c arg11 arg13 arg14 arg15 arg17 arg19 k0_t3 X11 X13 X14 X15 X19 k f17 (ix2 s t) = Mr (lg w x xs ws bs) (k0_t3.val + 1) (4 * k.val) s.val t.val := by
  have hk : k.val < 4 := k.isLt
  refine (tile_max (lg w x xs ws bs) k0_t3.val (4 * k.val) _ _ _ _ _ _ _ _ (step_k0_t5.sl.v717 c arg17 k f17) _ _ _ _
    (fun r t => parts_0 k0_t3 k H11 H13 H14 H15 H19 r t) s t).trans ?_
  refine congrArg (max · _) ?_
  refine (row_read arg17 f17 _ _ ⟨4 * k.val, by omega⟩ (off49 k).1 _ s t).trans ?_
  refine (H17 _ s t).trans ?_
  exact congrArg (Mr _ · _ _ _) (if_neg (by show ¬ 4 * k.val < 4 * k.val; omega))

set_option maxHeartbeats 1000000 in
/-- The new sum of row 0 of a unit. -/
theorem sum_0 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (H18 : HasRun (Sr (lg w x xs ws bs)) arg18 f18 fun b => if b < 4 * k.val then k0_t3.val + 1 else k0_t3.val)
    (s : Fin 8) (t : Fin 128) :
    (step_k0_t5.sl.v804 (F := Ideal) c arg11 arg13 arg14 arg15 arg16 arg17 arg18 arg19 k0_t3 X11 X13 X14 X15 X19 k f17 f18) (ix3 0 s t) = Sr (lg w x xs ws bs) (k0_t3.val + 1) (4 * k.val) s.val t.val := by
  have hk : k.val < 4 := k.isLt
  refine (row_cast _ _ s t).trans ?_
  obtain ⟨b0, b1, b2, b3, b4, b5, b6, b7⟩ := back_0 (X11 := X11) (X13 := X13) (X14 := X14) (X15 := X15) (X19 := X19) arg16 k0_t3 k
  refine (tile_sum (lg w x xs ws bs) k0_t3.val (4 * k.val) _ _ _ _ _ _ _ _ (step_k0_t5.sl.v717 c arg17 k f17) (step_k0_t5.sl.v725 c arg18 k f18)
    (step_k0_t5.sl.v718 c arg11 arg13 arg14 arg15 arg17 arg19 k0_t3 X11 X13 X14 X15 X19 k f17) _ _ _ _ _ _
    (fun r t => by rw [b0, b1, b2, b3, b4, b5, b6, b7]; exact parts_0 k0_t3 k H11 H13 H14 H15 H19 r t) s t).trans ?_
  have em := max_0 c k0_t3 k H11 H13 H14 H15 H19 H17 s t
  have eo : step_k0_t5.sl.v717 c arg17 k f17 (ix2 s t) = Mr (lg w x xs ws bs) k0_t3.val (4 * k.val) s.val t.val := by
    refine (row_read arg17 f17 _ _ ⟨4 * k.val, by omega⟩ (off49 k).1 _ s t).trans ?_
    refine (H17 _ s t).trans ?_
    exact congrArg (Mr _ · _ _ _) (if_neg (by show ¬ 4 * k.val < 4 * k.val; omega))
  have es : step_k0_t5.sl.v725 c arg18 k f18 (ix2 s t) = Sr (lg w x xs ws bs) k0_t3.val (4 * k.val) s.val t.val := by
    refine (row_read arg18 f18 _ _ ⟨4 * k.val, by omega⟩ (off49 k).1 _ s t).trans ?_
    refine (H18 _ s t).trans ?_
    exact congrArg (Sr _ · _ _ _) (if_neg (by show ¬ 4 * k.val < 4 * k.val; omega))
  rw [em, eo, es]
  rfl

/-- The new maximum of row 1 of a unit. -/
theorem max_1 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (s : Fin 8) (t : Fin 128) :
    step_k0_t5.sl.v961 (F := Ideal) c arg11 arg13 arg14 arg15 arg17 arg19 k0_t3 X11 X13 X14 X15 X19 k f17 (ix2 s t) = Mr (lg w x xs ws bs) (k0_t3.val + 1) (4 * k.val + 1) s.val t.val := by
  have hk : k.val < 4 := k.isLt
  refine (tile_max (lg w x xs ws bs) k0_t3.val (4 * k.val + 1) _ _ _ _ _ _ _ _ (step_k0_t5.sl.v960 c arg17 k f17) _ _ _ _
    (fun r t => parts_1 k0_t3 k H11 H13 H14 H15 H19 r t) s t).trans ?_
  refine congrArg (max · _) ?_
  refine (row_read arg17 f17 _ _ ⟨4 * k.val + 1, by omega⟩ (off49 k).2.1 _ s t).trans ?_
  refine (H17 _ s t).trans ?_
  exact congrArg (Mr _ · _ _ _) (if_neg (by show ¬ 4 * k.val + 1 < 4 * k.val; omega))

set_option maxHeartbeats 1000000 in
/-- The new sum of row 1 of a unit. -/
theorem sum_1 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (H18 : HasRun (Sr (lg w x xs ws bs)) arg18 f18 fun b => if b < 4 * k.val then k0_t3.val + 1 else k0_t3.val)
    (s : Fin 8) (t : Fin 128) :
    (step_k0_t5.sl.v1047 (F := Ideal) c arg11 arg13 arg14 arg15 arg16 arg17 arg18 arg19 k0_t3 X11 X13 X14 X15 X19 k f17 f18) (ix3 0 s t) = Sr (lg w x xs ws bs) (k0_t3.val + 1) (4 * k.val + 1) s.val t.val := by
  have hk : k.val < 4 := k.isLt
  refine (row_cast _ _ s t).trans ?_
  obtain ⟨b0, b1, b2, b3, b4, b5, b6, b7⟩ := back_1 (X11 := X11) (X13 := X13) (X14 := X14) (X15 := X15) (X19 := X19) arg16 k0_t3 k
  refine (tile_sum (lg w x xs ws bs) k0_t3.val (4 * k.val + 1) _ _ _ _ _ _ _ _ (step_k0_t5.sl.v960 c arg17 k f17) (step_k0_t5.sl.v968 c arg18 k f18)
    (step_k0_t5.sl.v961 c arg11 arg13 arg14 arg15 arg17 arg19 k0_t3 X11 X13 X14 X15 X19 k f17) _ _ _ _ _ _
    (fun r t => by rw [b0, b1, b2, b3, b4, b5, b6, b7]; exact parts_1 k0_t3 k H11 H13 H14 H15 H19 r t) s t).trans ?_
  have em := max_1 c k0_t3 k H11 H13 H14 H15 H19 H17 s t
  have eo : step_k0_t5.sl.v960 c arg17 k f17 (ix2 s t) = Mr (lg w x xs ws bs) k0_t3.val (4 * k.val + 1) s.val t.val := by
    refine (row_read arg17 f17 _ _ ⟨4 * k.val + 1, by omega⟩ (off49 k).2.1 _ s t).trans ?_
    refine (H17 _ s t).trans ?_
    exact congrArg (Mr _ · _ _ _) (if_neg (by show ¬ 4 * k.val + 1 < 4 * k.val; omega))
  have es : step_k0_t5.sl.v968 c arg18 k f18 (ix2 s t) = Sr (lg w x xs ws bs) k0_t3.val (4 * k.val + 1) s.val t.val := by
    refine (row_read arg18 f18 _ _ ⟨4 * k.val + 1, by omega⟩ (off49 k).2.1 _ s t).trans ?_
    refine (H18 _ s t).trans ?_
    exact congrArg (Sr _ · _ _ _) (if_neg (by show ¬ 4 * k.val + 1 < 4 * k.val; omega))
  rw [em, eo, es]
  rfl

/-- The new maximum of row 2 of a unit. -/
theorem max_2 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (s : Fin 8) (t : Fin 128) :
    step_k0_t5.sl.v1204 (F := Ideal) c arg11 arg13 arg14 arg15 arg17 arg19 k0_t3 X11 X13 X14 X15 X19 k f17 (ix2 s t) = Mr (lg w x xs ws bs) (k0_t3.val + 1) (4 * k.val + 2) s.val t.val := by
  have hk : k.val < 4 := k.isLt
  refine (tile_max (lg w x xs ws bs) k0_t3.val (4 * k.val + 2) _ _ _ _ _ _ _ _ (step_k0_t5.sl.v1203 c arg17 k f17) _ _ _ _
    (fun r t => parts_2 k0_t3 k H11 H13 H14 H15 H19 r t) s t).trans ?_
  refine congrArg (max · _) ?_
  refine (row_read arg17 f17 _ _ ⟨4 * k.val + 2, by omega⟩ (off49 k).2.2.1 _ s t).trans ?_
  refine (H17 _ s t).trans ?_
  exact congrArg (Mr _ · _ _ _) (if_neg (by show ¬ 4 * k.val + 2 < 4 * k.val; omega))

set_option maxHeartbeats 1000000 in
/-- The new sum of row 2 of a unit. -/
theorem sum_2 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (H18 : HasRun (Sr (lg w x xs ws bs)) arg18 f18 fun b => if b < 4 * k.val then k0_t3.val + 1 else k0_t3.val)
    (s : Fin 8) (t : Fin 128) :
    (step_k0_t5.sl.v1290 (F := Ideal) c arg11 arg13 arg14 arg15 arg16 arg17 arg18 arg19 k0_t3 X11 X13 X14 X15 X19 k f17 f18) (ix3 0 s t) = Sr (lg w x xs ws bs) (k0_t3.val + 1) (4 * k.val + 2) s.val t.val := by
  have hk : k.val < 4 := k.isLt
  refine (row_cast _ _ s t).trans ?_
  obtain ⟨b0, b1, b2, b3, b4, b5, b6, b7⟩ := back_2 (X11 := X11) (X13 := X13) (X14 := X14) (X15 := X15) (X19 := X19) arg16 k0_t3 k
  refine (tile_sum (lg w x xs ws bs) k0_t3.val (4 * k.val + 2) _ _ _ _ _ _ _ _ (step_k0_t5.sl.v1203 c arg17 k f17) (step_k0_t5.sl.v1211 c arg18 k f18)
    (step_k0_t5.sl.v1204 c arg11 arg13 arg14 arg15 arg17 arg19 k0_t3 X11 X13 X14 X15 X19 k f17) _ _ _ _ _ _
    (fun r t => by rw [b0, b1, b2, b3, b4, b5, b6, b7]; exact parts_2 k0_t3 k H11 H13 H14 H15 H19 r t) s t).trans ?_
  have em := max_2 c k0_t3 k H11 H13 H14 H15 H19 H17 s t
  have eo : step_k0_t5.sl.v1203 c arg17 k f17 (ix2 s t) = Mr (lg w x xs ws bs) k0_t3.val (4 * k.val + 2) s.val t.val := by
    refine (row_read arg17 f17 _ _ ⟨4 * k.val + 2, by omega⟩ (off49 k).2.2.1 _ s t).trans ?_
    refine (H17 _ s t).trans ?_
    exact congrArg (Mr _ · _ _ _) (if_neg (by show ¬ 4 * k.val + 2 < 4 * k.val; omega))
  have es : step_k0_t5.sl.v1211 c arg18 k f18 (ix2 s t) = Sr (lg w x xs ws bs) k0_t3.val (4 * k.val + 2) s.val t.val := by
    refine (row_read arg18 f18 _ _ ⟨4 * k.val + 2, by omega⟩ (off49 k).2.2.1 _ s t).trans ?_
    refine (H18 _ s t).trans ?_
    exact congrArg (Sr _ · _ _ _) (if_neg (by show ¬ 4 * k.val + 2 < 4 * k.val; omega))
  rw [em, eo, es]
  rfl

/-- The new maximum of row 3 of a unit. -/
theorem max_3 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (s : Fin 8) (t : Fin 128) :
    step_k0_t5.sl.v1447 (F := Ideal) c arg11 arg13 arg14 arg15 arg17 arg19 k0_t3 X11 X13 X14 X15 X19 k f17 (ix2 s t) = Mr (lg w x xs ws bs) (k0_t3.val + 1) (4 * k.val + 3) s.val t.val := by
  have hk : k.val < 4 := k.isLt
  refine (tile_max (lg w x xs ws bs) k0_t3.val (4 * k.val + 3) _ _ _ _ _ _ _ _ (step_k0_t5.sl.v1446 c arg17 k f17) _ _ _ _
    (fun r t => parts_3 k0_t3 k H11 H13 H14 H15 H19 r t) s t).trans ?_
  refine congrArg (max · _) ?_
  refine (row_read arg17 f17 _ _ ⟨4 * k.val + 3, by omega⟩ (off49 k).2.2.2 _ s t).trans ?_
  refine (H17 _ s t).trans ?_
  exact congrArg (Mr _ · _ _ _) (if_neg (by show ¬ 4 * k.val + 3 < 4 * k.val; omega))

set_option maxHeartbeats 1000000 in
/-- The new sum of row 3 of a unit. -/
theorem sum_3 (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (H18 : HasRun (Sr (lg w x xs ws bs)) arg18 f18 fun b => if b < 4 * k.val then k0_t3.val + 1 else k0_t3.val)
    (s : Fin 8) (t : Fin 128) :
    (k0_pay278 (F := Ideal) (step_k0_t5.sl.v1447 c arg11 arg13 arg14 arg15 arg17 arg19 k0_t3 X11 X13 X14 X15 X19 k f17) (step_k0_t5.sl.v1511 c arg11 arg13 arg14 arg15 arg16 arg17 arg18 arg19 k0_t3 X11 X13 X14 X15 X19 k f17 f18) (step_k0_t5.sl.v1517 c arg11 arg13 arg14 arg15 arg16 arg17 arg19 k0_t3 X11 X13 X14 X15 X19 k f17) (step_k0_t5.sl.v1521 arg11 arg13 arg14 arg15 arg16 arg19 k0_t3 X11 X13 X14 X15 X19 k)) (ix3 0 s t) = Sr (lg w x xs ws bs) (k0_t3.val + 1) (4 * k.val + 3) s.val t.val := by
  have hk : k.val < 4 := k.isLt
  unfold k0_pay278
  refine (row_cast _ _ s t).trans ?_
  obtain ⟨b0, b1, b2, b3, b4, b5, b6, b7⟩ := back_3 (X11 := X11) (X13 := X13) (X14 := X14) (X15 := X15) (X19 := X19) arg16 k0_t3 k
  refine (tile_sum (lg w x xs ws bs) k0_t3.val (4 * k.val + 3) _ _ _ _ _ _ _ _ (step_k0_t5.sl.v1446 c arg17 k f17) (step_k0_t5.sl.v1454 c arg18 k f18)
    (step_k0_t5.sl.v1447 c arg11 arg13 arg14 arg15 arg17 arg19 k0_t3 X11 X13 X14 X15 X19 k f17) _ _ _ _ _ _
    (fun r t => by rw [b0, b1, b2, b3, b4, b5, b6, b7]; exact parts_3 k0_t3 k H11 H13 H14 H15 H19 r t) s t).trans ?_
  have em := max_3 c k0_t3 k H11 H13 H14 H15 H19 H17 s t
  have eo : step_k0_t5.sl.v1446 c arg17 k f17 (ix2 s t) = Mr (lg w x xs ws bs) k0_t3.val (4 * k.val + 3) s.val t.val := by
    refine (row_read arg17 f17 _ _ ⟨4 * k.val + 3, by omega⟩ (off49 k).2.2.2 _ s t).trans ?_
    refine (H17 _ s t).trans ?_
    exact congrArg (Mr _ · _ _ _) (if_neg (by show ¬ 4 * k.val + 3 < 4 * k.val; omega))
  have es : step_k0_t5.sl.v1454 c arg18 k f18 (ix2 s t) = Sr (lg w x xs ws bs) k0_t3.val (4 * k.val + 3) s.val t.val := by
    refine (row_read arg18 f18 _ _ ⟨4 * k.val + 3, by omega⟩ (off49 k).2.2.2 _ s t).trans ?_
    refine (H18 _ s t).trans ?_
    exact congrArg (Sr _ · _ _ _) (if_neg (by show ¬ 4 * k.val + 3 < 4 * k.val; omega))
  rw [em, eo, es]
  rfl

/-- A unit's new maxima. -/
theorem unit_max (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val) :
    HasRun (Mr (lg w x xs ws bs)) arg17 (arg17.view.writes (Elt Ideal) f17 (step_k0_t5.sl.H17_4 (F := Ideal) c arg11 arg13 arg14 arg15 arg17 arg19 k0_t3 X11 X13 X14 X15 X19 k f17))
      fun b => if b < 4 * (k.val + 1) then k0_t3.val + 1 else k0_t3.val :=
  rows_written arg17 f17 k.val k.isLt _ _ _ _ _ _ _ _ (off49 k).1 (off49 k).2.1 (off49 k).2.2.1 (off49 k).2.2.2 _ _ _ _ _ _ H17
    (fun s t => (row_cast _ _ s t).trans (max_0 c k0_t3 k H11 H13 H14 H15 H19 H17 s t))
    (fun s t => (row_cast _ _ s t).trans (max_1 c k0_t3 k H11 H13 H14 H15 H19 H17 s t))
    (fun s t => (row_cast _ _ s t).trans (max_2 c k0_t3 k H11 H13 H14 H15 H19 H17 s t))
    (fun s t => (row_cast _ _ s t).trans (max_3 c k0_t3 k H11 H13 H14 H15 H19 H17 s t))

/-- A unit's new sums. -/
theorem unit_sum (k0_t3 : Fin k0_t3_loop.trips) (k : Fin k0_t5_loop.trips)
    (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19)
    (H17 : HasRun (Mr (lg w x xs ws bs)) arg17 f17 fun b => if b < 4 * k.val then k0_t3.val + 1 else k0_t3.val)
    (H18 : HasRun (Sr (lg w x xs ws bs)) arg18 f18 fun b => if b < 4 * k.val then k0_t3.val + 1 else k0_t3.val) :
    HasRun (Sr (lg w x xs ws bs)) arg18 (arg18.view.writes (Elt Ideal) f18 (step_k0_t5.sl.H18_4 (F := Ideal) c arg11 arg13 arg14 arg15 arg16 arg17 arg18 arg19 k0_t3 X11 X13 X14 X15 X19 k f17 f18))
      fun b => if b < 4 * (k.val + 1) then k0_t3.val + 1 else k0_t3.val :=
  rows_written arg18 f18 k.val k.isLt _ _ _ _ _ _ _ _ (off49 k).1 (off49 k).2.1 (off49 k).2.2.1 (off49 k).2.2.2 _ _ _ _ _ _ H18
    (sum_0 c k0_t3 k H11 H13 H14 H15 H19 H17 H18) (sum_1 c k0_t3 k H11 H13 H14 H15 H19 H17 H18)
    (sum_2 c k0_t3 k H11 H13 H14 H15 H19 H17 H18) (sum_3 c k0_t3 k H11 H13 H14 H15 H19 H17 H18)

end
end Cert.Proof.KernelIdeal
-- ==== Proof.KernelIdeal.Init.lean ====
/-
  What the body's first stores establish: the running maxima at their start, the running sums at zero, the scaled row
  scales.
-/
module

public import proofs.«01_k».proof.Proof.KernelIdeal.UnitStep
public import Idealize.ShloMosaic.Lib.WritesUnit

@[expose] public section

set_option maxRecDepth 16384

noncomputable section

namespace Cert.Proof.KernelIdeal

open Cert.KernelIdeal Cert.KernelIdeal.Gen Idealize.ShloMosaic Idealize.ShloMosaic.TcCoe

/-- The steps' scales, in base two once multiplied. -/
def HasXs (xs : ℕ → ℕ → EReal) (arg2 : Memref sig .tc .vmem S16x128 .f32) (X : BufTy.Contents (Elt Ideal) arg2.view.ty) : Prop :=
  ∀ (b : Fin 16) (t : Fin 128), arg2.view.read (Elt Ideal) X (ix2 b t) * (((Real.log 2)⁻¹ : ℝ) : EReal) = xs b.val t.val

/-- A running table stored whole. -/
theorem run_stored (R : ℕ → ℕ → ℕ → ℕ → EReal) (arg17 : Memref sig .tc .vmem S16x8x128 .f32) (f : BufTy.Contents (Elt Ideal) arg17.view.ty) (Y : FVec Ideal S16x8x128 .f32)
    (H : ∀ (b : Fin 16) (s : Fin 8) (t : Fin 128), Y (ix3 b s t) = R 0 b.val s.val t.val) :
    HasRun R arg17 (arg17.view.writes (Elt Ideal) f [⟨Rect.unit (s := S16x8x128) ![0, 0, 0] S16x8x128.size inb_S16x8x128_S16x8x128_0_0_0, Y⟩]) fun _ => 0 := by
  intro b s t
  rw [View.read_writes_cons_unit_of_mem arg17.view f inb_S16x8x128_S16x8x128_0_0_0 Y _ (ix3 b s t) (ix3 b s t) rfl (by
    intro a
    match a with
    | ⟨0, _⟩ => show b.val = 0 + b.val; omega
    | ⟨1, _⟩ => show s.val = 0 + s.val; omega
    | ⟨2, _⟩ => show t.val = 0 + t.val; omega)]
  exact H b s t

theorem max_stored (l : ℕ → ℕ → ℕ → EReal) (arg17 : Memref sig .tc .vmem S16x8x128 .f32) (f : BufTy.Contents (Elt Ideal) arg17.view.ty) :
    HasRun (Mr l) arg17 (arg17.view.writes (Elt Ideal) f [⟨Rect.unit (s := S16x8x128) ![0, 0, 0] S16x8x128.size inb_S16x8x128_S16x8x128_0_0_0, k0_pay272 (F := Ideal)⟩]) fun _ => 0 :=
  run_stored _ _ _ _ fun b s t => by
    show k0_pay272 (F := Ideal) (ix3 b s t) = Ideal.ofBits .f32 0xF149F2CA#32
    pointwise [k0_pay272]

theorem sum_stored (l : ℕ → ℕ → ℕ → EReal) (arg17 : Memref sig .tc .vmem S16x8x128 .f32) (f : BufTy.Contents (Elt Ideal) arg17.view.ty) :
    HasRun (Sr l) arg17 (arg17.view.writes (Elt Ideal) f [⟨Rect.unit (s := S16x8x128) ![0, 0, 0] S16x8x128.size inb_S16x8x128_S16x8x128_0_0_0, k0_pay273 (F := Ideal)⟩]) fun _ => 0 :=
  run_stored _ _ _ _ fun b s t => by
    show k0_pay273 (F := Ideal) (ix3 b s t) = 0
    have e : (FloatOps.ofBits (F := Ideal) .f32 0#32 : EReal) = 0 := by
      show Ideal.ofBits .f32 0#32 = 0
      simp [Ideal.ofBits, Ideal.ieee]
    exact e

/-- The steps' scales stored, in base two. -/
theorem xs_stored {xs : ℕ → ℕ → EReal} {arg2 : Memref sig .tc .vmem S16x128 .f32} {X2 : BufTy.Contents (Elt Ideal) arg2.view.ty} (H : HasXs xs arg2 X2)
    (arg19 : Memref sig .tc .vmem S16x128 .f32) (f : BufTy.Contents (Elt Ideal) arg19.view.ty) :
    Has19 xs arg19 (arg19.view.writes (Elt Ideal) f [⟨Rect.unit (s := S16x128) ![0, 0] S16x128.size inb_S16x128_S16x128_0_0,
      k0_pay271 (F := Ideal) (View.readAt (Elt Ideal) arg2.view (Rect.unit (s := S16x128) ![0, 0] S16x128.size inb_S16x128_S16x128_0_0).toLoadRect X2)⟩]) := by
  intro b t
  rw [View.read_writes_cons_unit_of_mem arg19.view f inb_S16x128_S16x128_0_0 _ _ (ix2 b t) (ix2 b t) rfl (by
    intro a
    match a with
    | ⟨0, _⟩ => show b.val = 0 + b.val; omega
    | ⟨1, _⟩ => show t.val = 0 + t.val; omega)]
  have e1 : ∀ Y : FVec Ideal S16x128 .f32, k0_pay271 (F := Ideal) Y (ix2 b t) = Y (ix2 b t) * (((Real.log 2)⁻¹ : ℝ) : EReal) := fun Y => by
    pointwise [k0_pay271]
    rfl
  refine (e1 _).trans (Eq.trans ?_ (H b t))
  refine congrArg (· * (((Real.log 2)⁻¹ : ℝ) : EReal)) ?_
  show arg2.view.read (Elt Ideal) X2 _ = _
  congr 1
  funext a
  match a with
  | ⟨0, _⟩ => exact Fin.ext (by show 0 + 1 * b.val = b.val; omega)
  | ⟨1, _⟩ => exact Fin.ext (by show 0 + 1 * t.val = t.val; omega)

end Cert.Proof.KernelIdeal
-- ==== Proof.KernelIdeal.Facts.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

/-! What the precondition says of the staged words, and the side conditions that follow from it. -/

/-- Every label names a column. -/
def LabOK (arg5 : Memref sig .tc .smem S512 .i32) (X : BufTy.Contents (Elt F) arg5.view.ty) : Prop :=
  ∀ i, BitVec.toNat (arg5.view.read (Elt F) X i) < 8192
/-- Every label length is at most 32. -/
def LenOK (arg6 : Memref sig .tc .smem S16 .i32) (X : BufTy.Contents (Elt F) arg6.view.ty) : Prop :=
  ∀ i, BitVec.toNat (arg6.view.read (Elt F) X i) ≤ 32
/-- Every offset of a batch's labels is at most 480. -/
def OffOK (arg35 : Memref sig .tc .smem S16 .i32) (X : BufTy.Contents (Elt F) arg35.view.ty) : Prop :=
  ∀ i, BitVec.toNat (arg35.view.read (Elt F) X i) ≤ 480

/-- An offset at most 480 keeps every label's place inside the array. -/
theorem chk1_of_le (v : BitVec 32) (h : v.toNat ≤ 480) : k0_chk1 v := by
  intro t a
  have ht : t.val < 32 := t.isLt
  have e : (Scf.iv 0#32 1#32 t.val).toNat = t.val := by
    revert t; decide
  fin_cases a
  show (Scalar.minsi (Scalar.addi v (Scf.iv 0#32 1#32 t.val)) 511#32).toNat + 1 ≤ 512
  have e2 : (Scalar.addi v (Scf.iv 0#32 1#32 t.val)).toNat = v.toNat + t.val := by
    simp only [Scalar.addi, IntOp.addi, BitVec.toNat_add, e]; omega
  generalize Scalar.addi v (Scf.iv 0#32 1#32 t.val) = w at *
  simp only [Scalar.minsi, IntOp.minsi]
  split
  · omega
  · decide

/-- A label below 8192 keeps every row it selects inside its table. -/
theorem chk2_of_lt (v : BitVec 32) (h : v.toNat < 8192) : k0_chk2 v := by
  have e : (Scalar.shrui v 2#32).toNat < 2048 := by
    simp [Scalar.shrui, IntOp.shrui]; omega
  have h1 : ∀ (n : Nat) (hn : n < 12), ∀ a, (![n, (Scalar.shrui v 2#32).toNat, 0] : Fin 3 → Nat) a + S1x1x128.size a ≤ S12x2048x128.size a := by
    intro n hn a
    fin_cases a
    · show n + 1 ≤ 12; omega
    · show (Scalar.shrui v 2#32).toNat + 1 ≤ 2048; omega
    · show 0 + 128 ≤ 128; omega
  refine ⟨h1 0 (by decide), h1 1 (by decide), h1 2 (by decide), h1 3 (by decide), h1 4 (by decide), h1 5 (by decide),
    h1 6 (by decide), h1 7 (by decide), h1 8 (by decide), h1 9 (by decide), h1 10 (by decide), h1 11 (by decide), ?_⟩
  intro a
  fin_cases a
  · show v.toNat + 1 ≤ 8192; omega
  · show 0 + 128 ≤ 128; omega

end Cert.Proof.KernelIdeal
-- ==== Proof.KernelIdeal.T1.lean ====
module

public import proofs.«01_k».proof.Proof.Gen.KernelIdeal.Loops
public import Idealize.ShloMosaic.Lib.Pipeline.FrameBody
public import Idealize.ShloMosaic.Lib.Tactic
public import Idealize.ShloMosaic.Lib.CellWrites
public import proofs.«01_k».proof.Proof.KernelIdeal.Facts

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before trip `k`: the running offset is at most `32 k`, and the offsets stored so far are at most 480. -/
abbrev inv_k0_t1 (X6 : BufTy.Contents (Elt F) arg6.view.ty) (X7 : BufTy.Contents (Elt F) arg7.view.ty) (k : ℕ) (acc : BitVec 32 × IVec S8x128 32 × IVec S8x128 32) : sProp 𝕄 :=
  iprop(⌜LenOK arg6 X6⌝ ∗ ⌜BitVec.toNat acc.1 ≤ 32 * k⌝ ∗ (arg6.view.loc (c : Thread nD τ) ↦[arg6.view.set]{fullShare} X6) ∗ (arg7.view.loc (c : Thread nD τ) ↦[arg7.view.set]{fullShare} X7)
    ∗ (∃ f, (arg35.view.loc (c : Thread nD τ) ↦[arg35.view.set]{fullShare} f) ∗ ⌜∀ i : S16.Idx, (i 0).val < k → BitVec.toNat (arg35.view.read (Elt F) f i) ≤ 480⌝))

set_option maxHeartbeats 4000000 in
/-- One trip of `k0_t1`. -/
theorem step_k0_t1 (v124 : IVec S8x128 32) (v125 : IVec S8x128 32) (v126 : IVec S8x128 32) (c0_i32_58 : BitVec 32) (c0_i32_59 : BitVec 32) (X6 : BufTy.Contents (Elt F) arg6.view.ty) (X7 : BufTy.Contents (Elt F) arg7.view.ty) (k : Fin k0_t1_loop.trips) (acc : BitVec 32 × IVec S8x128 32 × IVec S8x128 32) :
    inv_k0_t1 (F := F) c arg6 arg7 arg35 X6 X7 k.val acc ⊢ wp frame (wpE (defs₀ (F := F)) Variants.none (c : Thread nD τ) none) Set.univ
      (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 k acc) (fun acc' => inv_k0_t1 (F := F) c arg6 arg7 arg35 X6 X7 (k.val + 1) acc') := by
  obtain ⟨a1, a2, a3⟩ := acc
  unfold k0_t1_body
  iintro ⟨%hL, %ha, H6, H7, ⟨%f35, H35, %h35⟩⟩
  sl_exec
  sl_step
  isplitr; · ipureintro; exact hL
  isplitr
  · ipureintro
    have key : ∀ x : S1.Idx, BitVec.toNat (arg6.view.readAt (Elt F) (Rect.unit (s := S16) (k0_off1 k) S1.size (k0_off1_inb k)).toLoadRect X6 x) ≤ 32 :=
      fun x => by rw [View.readAt_apply]; exact hL _
    have h6 := key (Shape.Idx.first (s := S1) (by decide))
    show BitVec.toNat (Scalar.addi a1 (arg6.view.readAt (Elt F) (Rect.unit (s := S16) (k0_off1 k) S1.size (k0_off1_inb k)).toLoadRect X6 (Shape.Idx.first (s := S1) (by decide)))) ≤ _
    simp only [Scalar.addi, IntOp.addi, BitVec.toNat_add]
    exact Nat.le_trans (Nat.mod_le _ _) (Nat.le_trans (Nat.add_le_add ha h6) (by omega))
  isplitl [H6]; · iexact H6
  isplitl [H7]; · iexact H7
  iexists _
  isplitl [H35]; · iexact H35
  ipureintro
  intro i hi
  rw [View.read_writes_cons_cell]
  have hk : k.val < 16 := k.isLt
  split
  · simp only at ha; omega
  · rename_i hne
    refine h35 i ?_
    rw [Gen.k0_off1_eq] at hne
    simp only [Matrix.cons_val_zero] at hne
    omega

set_option warn.classDefReducibility false in
/-- Loop `k0_t1` at its invariant. -/
@[sl_loop] def loopInv_k0_t1 (v124 : IVec S8x128 32) (v125 : IVec S8x128 32) (v126 : IVec S8x128 32) (c0_i32_58 : BitVec 32) (c0_i32_59 : BitVec 32) (init : BitVec 32 × IVec S8x128 32 × IVec S8x128 32) (X6 : BufTy.Contents (Elt F) arg6.view.ty) (X7 : BufTy.Contents (Elt F) arg7.view.ty) :
    Gen.LoopInvTy_k0_t1 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 init where
  inv k acc := inv_k0_t1 (F := F) c arg6 arg7 arg35 X6 X7 k acc
  step k acc := step_k0_t1 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v125 v126 c0_i32_58 c0_i32_59 X6 X7 k acc

end
end Cert.Proof.KernelIdeal
-- ==== Proof.KernelIdeal.Tables.lean ====
/-
  The packed codes, the scales and the biases as tables: how each step of the packing extends what is held of them.
-/
module

public import proofs.«01_k».proof.Proof.KernelIdeal.UnitVals
public import Idealize.ShloMosaic.Lib.WritesUnit

@[expose] public section

set_option maxRecDepth 16384

noncomputable section

namespace Cert.Proof.KernelIdeal

open Cert.KernelIdeal Cert.KernelIdeal.Gen Idealize.ShloMosaic Idealize.ShloMosaic.TcCoe

variable {w : ℕ → ℕ → EReal}

/-- Columns `128 r …` of the block of codes: their bytes read in the narrow format. -/
def HasBlk (w : ℕ → ℕ → EReal) (R : S1536x128.Idx → BitVec 8) (r : ℕ) : Prop :=
  ∀ (d : Fin 1536) (i : Fin 128), Ideal.ofBits .fp8e4m3 (R (ix2 d i)) = w d.val (128 * r + i.val)

/-- What plane `g` of the transposed words holds. -/
def HasPlane (w : ℕ → ℕ → EReal) (Y : S1x32x128.Idx → BitVec 32) (g r : ℕ) : Prop :=
  ∀ (i : Fin 32) (l : Fin 128) (q : ℕ), q < 4 → Ideal.ofBits .fp8e4m3 ((Y (ix3 0 i l)).extractLsb' (8 * q) 8) = w (128 * g + l.val) (4 * (32 * r + i.val) + q)

theorem plane_words {R : S1536x128.Idx → BitVec 8} {r : ℕ} (H : HasBlk w R r) (h1 : S1536x128.Transposes [1, 0] S128x1536) (h2 : S128x1536.Bitcasts 8 S32x1536 32)
    (g : ℕ) (hg : g < 12) (o : Fin 2 → ℕ) (ho : o = ![0, 128 * g]) (h3 : S32x1536.Slices o S32x128) (h4 : S32x128.ShapeCasts S1x32x128) :
    HasPlane w (shapeCast S1x32x128 (extractStridedSlice S32x128 o (bitcast S32x1536 32 (transpose S128x1536 [1, 0] R h1) h2) h3) h4) g r := by
  intro i l q hq
  have e1 : ∀ T : S32x1536.Idx → BitVec 32, shapeCast S1x32x128 (extractStridedSlice S32x128 o T h3) h4 (ix3 0 i l) = T (ix2 i ⟨128 * g + l.val, by omega⟩) := fun T => by
    subst ho
    pointwise []
  rw [e1, byte_of_bytes _ h2 i ⟨128 * g + l.val, by omega⟩ q hq ⟨4 * i.val + q, by omega⟩ rfl]
  have e2 : transpose S128x1536 [1, 0] R h1 (ix2 ⟨4 * i.val + q, by omega⟩ ⟨128 * g + l.val, by omega⟩) = R (ix2 ⟨128 * g + l.val, by omega⟩ ⟨4 * i.val + q, by omega⟩) := by
    pointwise []
  rw [e2, H]
  congr 1
  show 128 * r + (4 * i.val + q) = _
  omega

set_option maxHeartbeats 4000000 in
/-- The twelve planes' words of one part written. -/
theorem planes_written (arg13 : Memref sig .tc .vmem S12x2048x128 .i32) (f : BufTy.Contents (Elt Ideal) arg13.view.ty) (r n : ℕ) (hn : n = 32 * r)
    (o0 o1 o2 o3 o4 o5 o6 o7 o8 o9 o10 o11 : Fin 3 → ℕ) (i0 : ∀ a, o0 a + S1x32x128.size a ≤ S12x2048x128.size a) (i1 : ∀ a, o1 a + S1x32x128.size a ≤ S12x2048x128.size a) (i2 : ∀ a, o2 a + S1x32x128.size a ≤ S12x2048x128.size a) (i3 : ∀ a, o3 a + S1x32x128.size a ≤ S12x2048x128.size a) (i4 : ∀ a, o4 a + S1x32x128.size a ≤ S12x2048x128.size a) (i5 : ∀ a, o5 a + S1x32x128.size a ≤ S12x2048x128.size a) (i6 : ∀ a, o6 a + S1x32x128.size a ≤ S12x2048x128.size a) (i7 : ∀ a, o7 a + S1x32x128.size a ≤ S12x2048x128.size a) (i8 : ∀ a, o8 a + S1x32x128.size a ≤ S12x2048x128.size a) (i9 : ∀ a, o9 a + S1x32x128.size a ≤ S12x2048x128.size a) (i10 : ∀ a, o10 a + S1x32x128.size a ≤ S12x2048x128.size a) (i11 : ∀ a, o11 a + S1x32x128.size a ≤ S12x2048x128.size a)
    (h0 : o0 = ![0, 32 * r, 0]) (h1 : o1 = ![1, 32 * r, 0]) (h2 : o2 = ![2, 32 * r, 0]) (h3 : o3 = ![3, 32 * r, 0]) (h4 : o4 = ![4, 32 * r, 0]) (h5 : o5 = ![5, 32 * r, 0]) (h6 : o6 = ![6, 32 * r, 0]) (h7 : o7 = ![7, 32 * r, 0]) (h8 : o8 = ![8, 32 * r, 0]) (h9 : o9 = ![9, 32 * r, 0]) (h10 : o10 = ![10, 32 * r, 0]) (h11 : o11 = ![11, 32 * r, 0])
    (Y0 Y1 Y2 Y3 Y4 Y5 Y6 Y7 Y8 Y9 Y10 Y11 : S1x32x128.Idx → BitVec 32) (H0 : HasPlane w Y0 0 r) (H1 : HasPlane w Y1 1 r) (H2 : HasPlane w Y2 2 r) (H3 : HasPlane w Y3 3 r) (H4 : HasPlane w Y4 4 r) (H5 : HasPlane w Y5 5 r) (H6 : HasPlane w Y6 6 r) (H7 : HasPlane w Y7 7 r) (H8 : HasPlane w Y8 8 r) (H9 : HasPlane w Y9 9 r) (H10 : HasPlane w Y10 10 r) (H11 : HasPlane w Y11 11 r)
    (H : Has13 w arg13 f n) :
    Has13 w arg13 (arg13.view.writes (Elt Ideal) f [⟨Rect.unit (s := S12x2048x128) o11 S1x32x128.size i11, Y11⟩, ⟨Rect.unit (s := S12x2048x128) o10 S1x32x128.size i10, Y10⟩, ⟨Rect.unit (s := S12x2048x128) o9 S1x32x128.size i9, Y9⟩, ⟨Rect.unit (s := S12x2048x128) o8 S1x32x128.size i8, Y8⟩, ⟨Rect.unit (s := S12x2048x128) o7 S1x32x128.size i7, Y7⟩, ⟨Rect.unit (s := S12x2048x128) o6 S1x32x128.size i6, Y6⟩, ⟨Rect.unit (s := S12x2048x128) o5 S1x32x128.size i5, Y5⟩, ⟨Rect.unit (s := S12x2048x128) o4 S1x32x128.size i4, Y4⟩, ⟨Rect.unit (s := S12x2048x128) o3 S1x32x128.size i3, Y3⟩, ⟨Rect.unit (s := S12x2048x128) o2 S1x32x128.size i2, Y2⟩, ⟨Rect.unit (s := S12x2048x128) o1 S1x32x128.size i1, Y1⟩, ⟨Rect.unit (s := S12x2048x128) o0 S1x32x128.size i0, Y0⟩]) (n + 32) := by
  subst h0 h1 h2 h3 h4 h5 h6 h7 h8 h9 h10 h11 hn
  intro g i l q hq hi
  by_cases c : i.val < 32 * r
  · rw [View.read_writes_cons_unit_of_not_mem arg13.view f i11 Y11 _ (ix3 g i l) rfl 1 (by show i.val < 32 * r ∨ 32 * r + 32 ≤ i.val; omega), View.read_writes_cons_unit_of_not_mem arg13.view f i10 Y10 _ (ix3 g i l) rfl 1 (by show i.val < 32 * r ∨ 32 * r + 32 ≤ i.val; omega), View.read_writes_cons_unit_of_not_mem arg13.view f i9 Y9 _ (ix3 g i l) rfl 1 (by show i.val < 32 * r ∨ 32 * r + 32 ≤ i.val; omega), View.read_writes_cons_unit_of_not_mem arg13.view f i8 Y8 _ (ix3 g i l) rfl 1 (by show i.val < 32 * r ∨ 32 * r + 32 ≤ i.val; omega), View.read_writes_cons_unit_of_not_mem arg13.view f i7 Y7 _ (ix3 g i l) rfl 1 (by show i.val < 32 * r ∨ 32 * r + 32 ≤ i.val; omega), View.read_writes_cons_unit_of_not_mem arg13.view f i6 Y6 _ (ix3 g i l) rfl 1 (by show i.val < 32 * r ∨ 32 * r + 32 ≤ i.val; omega), View.read_writes_cons_unit_of_not_mem arg13.view f i5 Y5 _ (ix3 g i l) rfl 1 (by show i.val < 32 * r ∨ 32 * r + 32 ≤ i.val; omega), View.read_writes_cons_unit_of_not_mem arg13.view f i4 Y4 _ (ix3 g i l) rfl 1 (by show i.val < 32 * r ∨ 32 * r + 32 ≤ i.val; omega), View.read_writes_cons_unit_of_not_mem arg13.view f i3 Y3 _ (ix3 g i l) rfl 1 (by show i.val < 32 * r ∨ 32 * r + 32 ≤ i.val; omega), View.read_writes_cons_unit_of_not_mem arg13.view f i2 Y2 _ (ix3 g i l) rfl 1 (by show i.val < 32 * r ∨ 32 * r + 32 ≤ i.val; omega), View.read_writes_cons_unit_of_not_mem arg13.view f i1 Y1 _ (ix3 g i l) rfl 1 (by show i.val < 32 * r ∨ 32 * r + 32 ≤ i.val; omega), View.read_writes_cons_unit_of_not_mem arg13.view f i0 Y0 _ (ix3 g i l) rfl 1 (by show i.val < 32 * r ∨ 32 * r + 32 ≤ i.val; omega)]
    exact H g i l q hq c
  by_cases c0 : g.val = 0
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_not_mem arg13.view f i5 Y5 _ (ix3 g i l) rfl 0 (by show g.val < 5 ∨ 5 + 1 ≤ g.val; omega), View.read_writes_cons_unit_of_not_mem arg13.view f i4 Y4 _ (ix3 g i l) rfl 0 (by show g.val < 4 ∨ 4 + 1 ≤ g.val; omega), View.read_writes_cons_unit_of_not_mem arg13.view f i3 Y3 _ (ix3 g i l) rfl 0 (by show g.val < 3 ∨ 3 + 1 ≤ g.val; omega), View.read_writes_cons_unit_of_not_mem arg13.view f i2 Y2 _ (ix3 g i l) rfl 0 (by show g.val < 2 ∨ 2 + 1 ≤ g.val; omega), View.read_writes_cons_unit_of_not_mem arg13.view f i1 Y1 _ (ix3 g i l) rfl 0 (by show g.val < 1 ∨ 1 + 1 ≤ g.val; omega), View.read_writes_cons_unit_of_mem arg13.view f i0 Y0 _ (ix3 g i l) (ix3 0 ⟨i.val - 32 * r, by omega⟩ l) rfl (by
      intro a
      match a with
      | ⟨0, _⟩ => show g.val = 0 + 0; omega
      | ⟨1, _⟩ => show i.val = 32 * r + (i.val - 32 * r); omega
      | ⟨2, _⟩ => show l.val = 0 + l.val; omega)]
    refine (H0 _ l q hq).trans ?_
    rw [c0]
    congr 1
    show 4 * (32 * r + (i.val - 32 * r)) + q = _
    omega
  by_cases c1 : g.val = 1
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_not_mem arg13.view f i5 Y5 _ (ix3 g i l) rfl 0 (by show g.val < 5 ∨ 5 + 1 ≤ g.val; omega), View.read_writes_cons_unit_of_not_mem arg13.view f i4 Y4 _ (ix3 g i l) rfl 0 (by show g.val < 4 ∨ 4 + 1 ≤ g.val; omega), View.read_writes_cons_unit_of_not_mem arg13.view f i3 Y3 _ (ix3 g i l) rfl 0 (by show g.val < 3 ∨ 3 + 1 ≤ g.val; omega), View.read_writes_cons_unit_of_not_mem arg13.view f i2 Y2 _ (ix3 g i l) rfl 0 (by show g.val < 2 ∨ 2 + 1 ≤ g.val; omega), View.read_writes_cons_unit_of_mem arg13.view f i1 Y1 _ (ix3 g i l) (ix3 0 ⟨i.val - 32 * r, by omega⟩ l) rfl (by
      intro a
      match a with
      | ⟨0, _⟩ => show g.val = 1 + 0; omega
      | ⟨1, _⟩ => show i.val = 32 * r + (i.val - 32 * r); omega
      | ⟨2, _⟩ => show l.val = 0 + l.val; omega)]
    refine (H1 _ l q hq).trans ?_
    rw [c1]
    congr 1
    show 4 * (32 * r + (i.val - 32 * r)) + q = _
    omega
  by_cases c2 : g.val = 2
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_not_mem arg13.view f i5 Y5 _ (ix3 g i l) rfl 0 (by show g.val < 5 ∨ 5 + 1 ≤ g.val; omega), View.read_writes_cons_unit_of_not_mem arg13.view f i4 Y4 _ (ix3 g i l) rfl 0 (by show g.val < 4 ∨ 4 + 1 ≤ g.val; omega), View.read_writes_cons_unit_of_not_mem arg13.view f i3 Y3 _ (ix3 g i l) rfl 0 (by show g.val < 3 ∨ 3 + 1 ≤ g.val; omega), View.read_writes_cons_unit_of_mem arg13.view f i2 Y2 _ (ix3 g i l) (ix3 0 ⟨i.val - 32 * r, by omega⟩ l) rfl (by
      intro a
      match a with
      | ⟨0, _⟩ => show g.val = 2 + 0; omega
      | ⟨1, _⟩ => show i.val = 32 * r + (i.val - 32 * r); omega
      | ⟨2, _⟩ => show l.val = 0 + l.val; omega)]
    refine (H2 _ l q hq).trans ?_
    rw [c2]
    congr 1
    show 4 * (32 * r + (i.val - 32 * r)) + q = _
    omega
  by_cases c3 : g.val = 3
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_not_mem arg13.view f i5 Y5 _ (ix3 g i l) rfl 0 (by show g.val < 5 ∨ 5 + 1 ≤ g.val; omega), View.read_writes_cons_unit_of_not_mem arg13.view f i4 Y4 _ (ix3 g i l) rfl 0 (by show g.val < 4 ∨ 4 + 1 ≤ g.val; omega), View.read_writes_cons_unit_of_mem arg13.view f i3 Y3 _ (ix3 g i l) (ix3 0 ⟨i.val - 32 * r, by omega⟩ l) rfl (by
      intro a
      match a with
      | ⟨0, _⟩ => show g.val = 3 + 0; omega
      | ⟨1, _⟩ => show i.val = 32 * r + (i.val - 32 * r); omega
      | ⟨2, _⟩ => show l.val = 0 + l.val; omega)]
    refine (H3 _ l q hq).trans ?_
    rw [c3]
    congr 1
    show 4 * (32 * r + (i.val - 32 * r)) + q = _
    omega
  by_cases c4 : g.val = 4
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_not_mem arg13.view f i5 Y5 _ (ix3 g i l) rfl 0 (by show g.val < 5 ∨ 5 + 1 ≤ g.val; omega), View.read_writes_cons_unit_of_mem arg13.view f i4 Y4 _ (ix3 g i l) (ix3 0 ⟨i.val - 32 * r, by omega⟩ l) rfl (by
      intro a
      match a with
      | ⟨0, _⟩ => show g.val = 4 + 0; omega
      | ⟨1, _⟩ => show i.val = 32 * r + (i.val - 32 * r); omega
      | ⟨2, _⟩ => show l.val = 0 + l.val; omega)]
    refine (H4 _ l q hq).trans ?_
    rw [c4]
    congr 1
    show 4 * (32 * r + (i.val - 32 * r)) + q = _
    omega
  by_cases c5 : g.val = 5
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_not_mem arg13.view f i6 Y6 _ (ix3 g i l) rfl 0 (by show g.val < 6 ∨ 6 + 1 ≤ g.val; omega), View.read_writes_cons_unit_of_mem arg13.view f i5 Y5 _ (ix3 g i l) (ix3 0 ⟨i.val - 32 * r, by omega⟩ l) rfl (by
      intro a
      match a with
      | ⟨0, _⟩ => show g.val = 5 + 0; omega
      | ⟨1, _⟩ => show i.val = 32 * r + (i.val - 32 * r); omega
      | ⟨2, _⟩ => show l.val = 0 + l.val; omega)]
    refine (H5 _ l q hq).trans ?_
    rw [c5]
    congr 1
    show 4 * (32 * r + (i.val - 32 * r)) + q = _
    omega
  by_cases c6 : g.val = 6
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_not_mem arg13.view f i7 Y7 _ (ix3 g i l) rfl 0 (by show g.val < 7 ∨ 7 + 1 ≤ g.val; omega), View.read_writes_cons_unit_of_mem arg13.view f i6 Y6 _ (ix3 g i l) (ix3 0 ⟨i.val - 32 * r, by omega⟩ l) rfl (by
      intro a
      match a with
      | ⟨0, _⟩ => show g.val = 6 + 0; omega
      | ⟨1, _⟩ => show i.val = 32 * r + (i.val - 32 * r); omega
      | ⟨2, _⟩ => show l.val = 0 + l.val; omega)]
    refine (H6 _ l q hq).trans ?_
    rw [c6]
    congr 1
    show 4 * (32 * r + (i.val - 32 * r)) + q = _
    omega
  by_cases c7 : g.val = 7
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_not_mem arg13.view f i8 Y8 _ (ix3 g i l) rfl 0 (by show g.val < 8 ∨ 8 + 1 ≤ g.val; omega), View.read_writes_cons_unit_of_mem arg13.view f i7 Y7 _ (ix3 g i l) (ix3 0 ⟨i.val - 32 * r, by omega⟩ l) rfl (by
      intro a
      match a with
      | ⟨0, _⟩ => show g.val = 7 + 0; omega
      | ⟨1, _⟩ => show i.val = 32 * r + (i.val - 32 * r); omega
      | ⟨2, _⟩ => show l.val = 0 + l.val; omega)]
    refine (H7 _ l q hq).trans ?_
    rw [c7]
    congr 1
    show 4 * (32 * r + (i.val - 32 * r)) + q = _
    omega
  by_cases c8 : g.val = 8
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_not_mem arg13.view f i9 Y9 _ (ix3 g i l) rfl 0 (by show g.val < 9 ∨ 9 + 1 ≤ g.val; omega), View.read_writes_cons_unit_of_mem arg13.view f i8 Y8 _ (ix3 g i l) (ix3 0 ⟨i.val - 32 * r, by omega⟩ l) rfl (by
      intro a
      match a with
      | ⟨0, _⟩ => show g.val = 8 + 0; omega
      | ⟨1, _⟩ => show i.val = 32 * r + (i.val - 32 * r); omega
      | ⟨2, _⟩ => show l.val = 0 + l.val; omega)]
    refine (H8 _ l q hq).trans ?_
    rw [c8]
    congr 1
    show 4 * (32 * r + (i.val - 32 * r)) + q = _
    omega
  by_cases c9 : g.val = 9
  · rw [View.read_writes_cons_unit_of_not_mem arg13.view f i11 Y11 _ (ix3 g i l) rfl 0 (by show g.val < 11 ∨ 11 + 1 ≤ g.val; omega), View.read_writes_cons_unit_of_not_mem arg13.view f i10 Y10 _ (ix3 g i l) rfl 0 (by show g.val < 10 ∨ 10 + 1 ≤ g.val; omega), View.read_writes_cons_unit_of_mem arg13.view f i9 Y9 _ (ix3 g i l) (ix3 0 ⟨i.val - 32 * r, by omega⟩ l) rfl (by
      intro a
      match a with
      | ⟨0, _⟩ => show g.val = 9 + 0; omega
      | ⟨1, _⟩ => show i.val = 32 * r + (i.val - 32 * r); omega
      | ⟨2, _⟩ => show l.val = 0 + l.val; omega)]
    refine (H9 _ l q hq).trans ?_
    rw [c9]
    congr 1
    show 4 * (32 * r + (i.val - 32 * r)) + q = _
    omega
  by_cases c10 : g.val = 10
  · rw [View.read_writes_cons_unit_of_not_mem arg13.view f i11 Y11 _ (ix3 g i l) rfl 0 (by show g.val < 11 ∨ 11 + 1 ≤ g.val; omega), View.read_writes_cons_unit_of_mem arg13.view f i10 Y10 _ (ix3 g i l) (ix3 0 ⟨i.val - 32 * r, by omega⟩ l) rfl (by
      intro a
      match a with
      | ⟨0, _⟩ => show g.val = 10 + 0; omega
      | ⟨1, _⟩ => show i.val = 32 * r + (i.val - 32 * r); omega
      | ⟨2, _⟩ => show l.val = 0 + l.val; omega)]
    refine (H10 _ l q hq).trans ?_
    rw [c10]
    congr 1
    show 4 * (32 * r + (i.val - 32 * r)) + q = _
    omega
  by_cases c11 : g.val = 11
  · rw [View.read_writes_cons_unit_of_mem arg13.view f i11 Y11 _ (ix3 g i l) (ix3 0 ⟨i.val - 32 * r, by omega⟩ l) rfl (by
      intro a
      match a with
      | ⟨0, _⟩ => show g.val = 11 + 0; omega
      | ⟨1, _⟩ => show i.val = 32 * r + (i.val - 32 * r); omega
      | ⟨2, _⟩ => show l.val = 0 + l.val; omega)]
    refine (H11 _ l q hq).trans ?_
    rw [c11]
    congr 1
    show 4 * (32 * r + (i.val - 32 * r)) + q = _
    omega
  omega

/-- One part's rows of a table of one value per column written. -/
theorem col_written {y : ℕ → EReal} (arg14 : Memref sig .tc .vmem S8192x128 .f32) (f : BufTy.Contents (Elt Ideal) arg14.view.ty) (r n : ℕ) (hn : n = 128 * r)
    (o : Fin 2 → ℕ) (inb : ∀ a, o a + S128x128.size a ≤ S8192x128.size a) (ho : o = ![128 * r, 0]) (Y : FVec Ideal S128x128 .f32)
    (HY : ∀ i t : Fin 128, Y (ix2 i t) = y (128 * r + i.val)) (H : HasCol y arg14 f n) :
    HasCol y arg14 (arg14.view.writes (Elt Ideal) f [⟨Rect.unit (s := S8192x128) o S128x128.size inb, Y⟩]) (n + 128) := by
  subst ho hn
  intro v t hv
  by_cases c : v.val < 128 * r
  · rw [View.read_writes_cons_unit_of_not_mem arg14.view f inb Y _ (ix2 v t) rfl 0 (by show v.val < 128 * r ∨ 128 * r + 128 ≤ v.val; omega)]
    exact H v t c
  rw [View.read_writes_cons_unit_of_mem arg14.view f inb Y _ (ix2 v t) (ix2 ⟨v.val - 128 * r, by omega⟩ t) rfl (by
    intro a
    match a with
    | ⟨0, _⟩ => show v.val = 128 * r + (v.val - 128 * r); omega
    | ⟨1, _⟩ => show t.val = 0 + t.val; omega), HY]
  congr 1
  show 128 * r + (v.val - 128 * r) = v.val
  omega

/-- The table of the columns' scales, 128 to a row. -/
def Has3 (ws : ℕ → EReal) (arg3 : Memref sig .tc .vmem S64x128 .f32) (X : BufTy.Contents (Elt Ideal) arg3.view.ty) : Prop :=
  ∀ (r : Fin 64) (i : Fin 128), arg3.view.read (Elt Ideal) X (ix2 r i) = ws (128 * r.val + i.val)
/-- The table of the biases, 128 to a row, put to base two. -/
def Has4 (bs : ℕ → EReal) (arg4 : Memref sig .tc .vmem S64x128 .f32) (X : BufTy.Contents (Elt Ideal) arg4.view.ty) : Prop :=
  ∀ (r : Fin 64) (i : Fin 128), arg4.view.read (Elt Ideal) X (ix2 r i) * (((Real.log 2)⁻¹ : ℝ) : EReal) = bs (128 * r.val + i.val)

theorem row3_read (arg3 : Memref sig .tc .vmem S64x128 .f32) (X : BufTy.Contents (Elt Ideal) arg3.view.ty) (r : Fin 64) (o : Fin 2 → ℕ)
    (inb : ∀ a, o a + S1x128.size a ≤ S64x128.size a) (ho : o = ![r.val, 0]) (i : Fin 128) :
    View.readAt (Elt Ideal) arg3.view (Rect.unit (s := S64x128) o S1x128.size inb).toLoadRect X (ix2 0 i) = arg3.view.read (Elt Ideal) X (ix2 r i) := by
  subst ho
  show arg3.view.read (Elt Ideal) X _ = _
  congr 1
  funext a
  match a with
  | ⟨0, _⟩ => exact Fin.ext (by show r.val + 1 * 0 = r.val; omega)
  | ⟨1, _⟩ => exact Fin.ext (by show 0 + 1 * i.val = i.val; omega)

theorem pay276_at (Z : FVec Ideal S1x128 .f32) (i t : Fin 128) : k0_pay276 (F := Ideal) Z (ix2 i t) = Z (ix2 0 i) := by
  pointwise [k0_pay276]
theorem pay277_at (Z : FVec Ideal S1x128 .f32) (i t : Fin 128) : k0_pay277 (F := Ideal) Z (ix2 i t) = Z (ix2 0 i) * (((Real.log 2)⁻¹ : ℝ) : EReal) := by
  pointwise [k0_pay277]
  rfl
theorem pay275_at (Z : FVec Ideal S1x128 .f32) (i t : Fin 128) : k0_pay275 (F := Ideal) Z (ix2 i t) = Z (ix2 0 i) * (((Real.log 2)⁻¹ : ℝ) : EReal) := by
  pointwise [k0_pay275]
  rfl
theorem pay274_at (Z : FVec Ideal S1x128 .f32) (h h' : S1x128.ShapeCasts S1x128) (h'' : S1x128.Broadcasts S128x128) (i t : Fin 128) :
    k0_pay274 (F := Ideal) (broadcastTo S128x128 (shapeCast S1x128 (shapeCast S1x128 Z h) h') h'') (ix2 i t) = Z (ix2 0 i) := by
  pointwise [k0_pay274]

/-- The block of codes a transfer landed, through the whole buffer. -/
def Has12 (w : ℕ → ℕ → EReal) (arg12 : Memref sig .tc .vmem S1536x8192 .i8) (X : BufTy.Contents (Elt Ideal) arg12.view.ty) (j : ℕ) : Prop :=
  ∀ (d : Fin 1536) (v : Fin 8192), 512 * j ≤ v.val → v.val < 512 * (j + 1) → Ideal.ofBits .fp8e4m3 (arg12.view.read (Elt Ideal) X (ix2 d v)) = w d.val v.val

theorem blk_read {arg12 : Memref sig .tc .vmem S1536x8192 .i8} {X : BufTy.Contents (Elt Ideal) arg12.view.ty} {j : ℕ} (H : Has12 w arg12 X j)
    (c : ℕ) (hc : c < 4) (hj : j < 16) (o : Fin 2 → ℕ) (inb : ∀ a, o a + S1536x128.size a ≤ S1536x8192.size a) (ho : o = ![0, 128 * (4 * j + c)]) :
    HasBlk w (View.readAt (Elt Ideal) arg12.view (Rect.unit (s := S1536x8192) o S1536x128.size inb).toLoadRect X) (4 * j + c) := by
  intro d i
  have e : View.readAt (Elt Ideal) arg12.view (Rect.unit (s := S1536x8192) o S1536x128.size inb).toLoadRect X (ix2 d i)
      = arg12.view.read (Elt Ideal) X (ix2 d ⟨128 * (4 * j + c) + i.val, by omega⟩) := by
    subst ho
    show arg12.view.read (Elt Ideal) X _ = _
    congr 1
    funext a
    match a with
    | ⟨0, _⟩ => exact Fin.ext (by show 0 + 1 * d.val = d.val; omega)
    | ⟨1, _⟩ => exact Fin.ext (by show 128 * (4 * j + c) + 1 * i.val = 128 * (4 * j + c) + i.val; omega)
  rw [e]
  exact H d _ (by show 512 * j ≤ 128 * (4 * j + c) + i.val; omega) (by show 128 * (4 * j + c) + i.val < 512 * (j + 1); omega)

end Cert.Proof.KernelIdeal
-- ==== Proof.KernelIdeal.V2.lean ====
/-
  The loop that packs the first weight block, with the values it leaves.
-/
module

public import proofs.«01_k».proof.Proof.Gen.KernelIdeal.Loops
public import proofs.«01_k».proof.Proof.KernelIdeal.Tables
public import Idealize.ShloMosaic.Lib.Pipeline.FrameBody
public import Idealize.ShloMosaic.Lib.Tactic
public import proofs.«01_k».proof.Proof.KernelIdeal.Windows

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

theorem off_v2_0 (k : Fin k0_t2_loop.trips) : k0_off3 k = ![0, 32 * (4 * 0 + k.val), 0] := by revert k; decide
theorem off_v2_1 (k : Fin k0_t2_loop.trips) : k0_off4 k = ![1, 32 * (4 * 0 + k.val), 0] := by revert k; decide
theorem off_v2_2 (k : Fin k0_t2_loop.trips) : k0_off5 k = ![2, 32 * (4 * 0 + k.val), 0] := by revert k; decide
theorem off_v2_3 (k : Fin k0_t2_loop.trips) : k0_off6 k = ![3, 32 * (4 * 0 + k.val), 0] := by revert k; decide
theorem off_v2_4 (k : Fin k0_t2_loop.trips) : k0_off7 k = ![4, 32 * (4 * 0 + k.val), 0] := by revert k; decide
theorem off_v2_5 (k : Fin k0_t2_loop.trips) : k0_off8 k = ![5, 32 * (4 * 0 + k.val), 0] := by revert k; decide
theorem off_v2_6 (k : Fin k0_t2_loop.trips) : k0_off9 k = ![6, 32 * (4 * 0 + k.val), 0] := by revert k; decide
theorem off_v2_7 (k : Fin k0_t2_loop.trips) : k0_off10 k = ![7, 32 * (4 * 0 + k.val), 0] := by revert k; decide
theorem off_v2_8 (k : Fin k0_t2_loop.trips) : k0_off11 k = ![8, 32 * (4 * 0 + k.val), 0] := by revert k; decide
theorem off_v2_9 (k : Fin k0_t2_loop.trips) : k0_off12 k = ![9, 32 * (4 * 0 + k.val), 0] := by revert k; decide
theorem off_v2_10 (k : Fin k0_t2_loop.trips) : k0_off13 k = ![10, 32 * (4 * 0 + k.val), 0] := by revert k; decide
theorem off_v2_11 (k : Fin k0_t2_loop.trips) : k0_off14 k = ![11, 32 * (4 * 0 + k.val), 0] := by revert k; decide
theorem off_v2_read (k : Fin k0_t2_loop.trips) : k0_off2 k = ![0, 128 * (4 * 0 + k.val)] := by revert k; decide
theorem off_v2_row (k : Fin k0_t2_loop.trips) : k0_off15 k = ![(4 * 0 + k.val), 0] := by revert k; decide
theorem off_v2_col (k : Fin k0_t2_loop.trips) : k0_off16 k = ![128 * (4 * 0 + k.val), 0] := by revert k; decide

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip: the block of codes and the two rows' tables at their contents, the three transposed tables at any. -/
abbrev inv_v2 (w : ℕ → ℕ → EReal) (ws bs : ℕ → EReal) (X12 : BufTy.Contents (Elt Ideal) (wwin arg12 0).view.ty) (X3 : BufTy.Contents (Elt Ideal) arg3.view.ty) (X4 : BufTy.Contents (Elt Ideal) arg4.view.ty) : ℕ → sProp 𝕄 := fun k =>
  iprop(((wwin arg12 0).view.loc (c : Thread nD τ) ↦[(wwin arg12 0).view.set]{fullShare} X12) ∗ (arg3.view.loc (c : Thread nD τ) ↦[arg3.view.set]{fullShare} X3) ∗ (arg4.view.loc (c : Thread nD τ) ↦[arg4.view.set]{fullShare} X4) ∗ (∃ f, (arg13.view.loc (c : Thread nD τ) ↦[arg13.view.set]{fullShare} f) ∗ ⌜Has13 w arg13 f (128 * 0 + 32 * k)⌝) ∗ (∃ f, (arg14.view.loc (c : Thread nD τ) ↦[arg14.view.set]{fullShare} f) ∗ ⌜HasCol ws arg14 f (512 * 0 + 128 * k)⌝) ∗ (∃ f, (arg15.view.loc (c : Thread nD τ) ↦[arg15.view.set]{fullShare} f) ∗ ⌜HasCol bs arg15 f (512 * 0 + 128 * k)⌝))

set_option maxHeartbeats 4000000 in
/-- One trip of `k0_t2`. -/
theorem step_v2 {w : ℕ → ℕ → EReal} {ws bs : ℕ → EReal} (v124 : IVec S8x128 32) (v145 : IVec S8x128 32) (X12 : BufTy.Contents (Elt Ideal) (wwin arg12 0).view.ty) (X3 : BufTy.Contents (Elt Ideal) arg3.view.ty) (X4 : BufTy.Contents (Elt Ideal) arg4.view.ty) (hB : Has12 w arg12 X12 0) (h3 : Has3 ws arg3 X3) (h4 : Has4 bs arg4 X4) (k : Fin k0_t2_loop.trips) (acc : Unit) :
    inv_v2 c arg3 arg4 arg12 arg13 arg14 arg15 w ws bs X12 X3 X4 k.val ⊢ wp frame (wpE (defs₀ (F := Ideal)) Variants.none (c : Thread nD τ) none) Set.univ
      (k0_t2_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_v2 c arg3 arg4 arg12 arg13 arg14 arg15 w ws bs X12 X3 X4 (k.val + 1)) := by
  have hin := in_wwin0 arg12 k
  unfold k0_t2_body
  iintro ⟨H12, H3, H4, ⟨%f13, H13, %h13⟩, ⟨%f14, H14, %h14⟩, ⟨%f15, H15, %h15⟩⟩
  sl_exec
  sl_step
  have hk : k.val < 4 := k.isLt
  isplitl [H12]; · iexact H12
  isplitl [H3]; · iexact H3
  isplitl [H4]; · iexact H4
  isplitl [H13]
  · iexists _
    isplitl [H13]; · iexact H13
    ipureintro
    have HR := blk_read hB k.val hk (by decide) _ (k0_off2_inb k) (off_v2_read k)
    exact planes_written arg13 f13 (4 * 0 + k.val) (128 * 0 + 32 * k.val) (by omega) _ _ _ _ _ _ _ _ _ _ _ _ _ _ _ _ _ _ _ _ _ _ _ _ (off_v2_0 k) (off_v2_1 k) (off_v2_2 k) (off_v2_3 k) (off_v2_4 k) (off_v2_5 k) (off_v2_6 k) (off_v2_7 k) (off_v2_8 k) (off_v2_9 k) (off_v2_10 k) (off_v2_11 k) _ _ _ _ _ _ _ _ _ _ _ _ (plane_words HR _ _ 0 (by decide) _ rfl _ _) (plane_words HR _ _ 1 (by decide) _ rfl _ _) (plane_words HR _ _ 2 (by decide) _ rfl _ _) (plane_words HR _ _ 3 (by decide) _ rfl _ _) (plane_words HR _ _ 4 (by decide) _ rfl _ _) (plane_words HR _ _ 5 (by decide) _ rfl _ _) (plane_words HR _ _ 6 (by decide) _ rfl _ _) (plane_words HR _ _ 7 (by decide) _ rfl _ _) (plane_words HR _ _ 8 (by decide) _ rfl _ _) (plane_words HR _ _ 9 (by decide) _ rfl _ _) (plane_words HR _ _ 10 (by decide) _ rfl _ _) (plane_words HR _ _ 11 (by decide) _ rfl _ _) h13
  isplitl [H14]
  · iexists _
    isplitl [H14]; · iexact H14
    ipureintro
    exact col_written arg14 f14 (4 * 0 + k.val) (512 * 0 + 128 * k.val) (by omega) _ _ (off_v2_col k) _ (fun i t => (pay274_at _ _ _ _ i t).trans ((row3_read arg3 X3 ⟨(4 * 0 + k.val), by omega⟩ _ _ (off_v2_row k) i).trans (h3 _ i))) h14
  iexists _
  isplitl [H15]; · iexact H15
  ipureintro
  exact col_written arg15 f15 (4 * 0 + k.val) (512 * 0 + 128 * k.val) (by omega) _ _ (off_v2_col k) _ (fun i t => (pay275_at _ i t).trans ((congrArg (· * _) (row3_read arg4 X4 ⟨(4 * 0 + k.val), by omega⟩ _ _ (off_v2_row k) i)).trans (h4 _ i))) h15

set_option warn.classDefReducibility false in
/-- Loop `k0_t2` at its invariant. -/
@[reducible] def loopInv_v2 {w : ℕ → ℕ → EReal} {ws bs : ℕ → EReal} (v124 : IVec S8x128 32) (v145 : IVec S8x128 32) (X12 : BufTy.Contents (Elt Ideal) (wwin arg12 0).view.ty) (X3 : BufTy.Contents (Elt Ideal) arg3.view.ty) (X4 : BufTy.Contents (Elt Ideal) arg4.view.ty) (hB : Has12 w arg12 X12 0) (h3 : Has3 ws arg3 X3) (h4 : Has4 bs arg4 X4) :
    Gen.LoopInvTy_k0_t2 (F := Ideal) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_v2 c arg3 arg4 arg12 arg13 arg14 arg15 w ws bs X12 X3 X4 k
  step k acc := step_v2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X12 X3 X4 hB h3 h4 k acc

end
end Cert.Proof.KernelIdeal
-- ==== Proof.KernelIdeal.V4.lean ====
/-
  The loop that packs the next weight block, with the values it leaves.
-/
module

public import proofs.«01_k».proof.Proof.Gen.KernelIdeal.Loops
public import proofs.«01_k».proof.Proof.KernelIdeal.Tables
public import Idealize.ShloMosaic.Lib.Pipeline.FrameBody
public import Idealize.ShloMosaic.Lib.Tactic
public import proofs.«01_k».proof.Proof.KernelIdeal.Windows

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

theorem off_v4_0 (k0_t3 : Fin k0_t3_loop.trips) (k : Fin k0_t4_loop.trips) : k0_off20 k0_t3 k = ![0, 32 * (4 * (k0_t3.val + 1) + k.val), 0] := by revert k0_t3 k; decide
theorem off_v4_1 (k0_t3 : Fin k0_t3_loop.trips) (k : Fin k0_t4_loop.trips) : k0_off21 k0_t3 k = ![1, 32 * (4 * (k0_t3.val + 1) + k.val), 0] := by revert k0_t3 k; decide
theorem off_v4_2 (k0_t3 : Fin k0_t3_loop.trips) (k : Fin k0_t4_loop.trips) : k0_off22 k0_t3 k = ![2, 32 * (4 * (k0_t3.val + 1) + k.val), 0] := by revert k0_t3 k; decide
theorem off_v4_3 (k0_t3 : Fin k0_t3_loop.trips) (k : Fin k0_t4_loop.trips) : k0_off23 k0_t3 k = ![3, 32 * (4 * (k0_t3.val + 1) + k.val), 0] := by revert k0_t3 k; decide
theorem off_v4_4 (k0_t3 : Fin k0_t3_loop.trips) (k : Fin k0_t4_loop.trips) : k0_off24 k0_t3 k = ![4, 32 * (4 * (k0_t3.val + 1) + k.val), 0] := by revert k0_t3 k; decide
theorem off_v4_5 (k0_t3 : Fin k0_t3_loop.trips) (k : Fin k0_t4_loop.trips) : k0_off25 k0_t3 k = ![5, 32 * (4 * (k0_t3.val + 1) + k.val), 0] := by revert k0_t3 k; decide
theorem off_v4_6 (k0_t3 : Fin k0_t3_loop.trips) (k : Fin k0_t4_loop.trips) : k0_off26 k0_t3 k = ![6, 32 * (4 * (k0_t3.val + 1) + k.val), 0] := by revert k0_t3 k; decide
theorem off_v4_7 (k0_t3 : Fin k0_t3_loop.trips) (k : Fin k0_t4_loop.trips) : k0_off27 k0_t3 k = ![7, 32 * (4 * (k0_t3.val + 1) + k.val), 0] := by revert k0_t3 k; decide
theorem off_v4_8 (k0_t3 : Fin k0_t3_loop.trips) (k : Fin k0_t4_loop.trips) : k0_off28 k0_t3 k = ![8, 32 * (4 * (k0_t3.val + 1) + k.val), 0] := by revert k0_t3 k; decide
theorem off_v4_9 (k0_t3 : Fin k0_t3_loop.trips) (k : Fin k0_t4_loop.trips) : k0_off29 k0_t3 k = ![9, 32 * (4 * (k0_t3.val + 1) + k.val), 0] := by revert k0_t3 k; decide
theorem off_v4_10 (k0_t3 : Fin k0_t3_loop.trips) (k : Fin k0_t4_loop.trips) : k0_off30 k0_t3 k = ![10, 32 * (4 * (k0_t3.val + 1) + k.val), 0] := by revert k0_t3 k; decide
theorem off_v4_11 (k0_t3 : Fin k0_t3_loop.trips) (k : Fin k0_t4_loop.trips) : k0_off31 k0_t3 k = ![11, 32 * (4 * (k0_t3.val + 1) + k.val), 0] := by revert k0_t3 k; decide
theorem off_v4_read (k0_t3 : Fin k0_t3_loop.trips) (k : Fin k0_t4_loop.trips) : k0_off19 k0_t3 k = ![0, 128 * (4 * (k0_t3.val + 1) + k.val)] := by revert k0_t3 k; decide
theorem off_v4_row (k0_t3 : Fin k0_t3_loop.trips) (k : Fin k0_t4_loop.trips) : k0_off32 k0_t3 k = ![(4 * (k0_t3.val + 1) + k.val), 0] := by revert k0_t3 k; decide
theorem off_v4_col (k0_t3 : Fin k0_t3_loop.trips) (k : Fin k0_t4_loop.trips) : k0_off33 k0_t3 k = ![128 * (4 * (k0_t3.val + 1) + k.val), 0] := by revert k0_t3 k; decide

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip: the block of codes and the two rows' tables at their contents, the three transposed tables at any. -/
abbrev inv_v4 (w : ℕ → ℕ → EReal) (ws bs : ℕ → EReal) (k0_t3 : Fin k0_t3_loop.trips) (h : k0_t3.val + 1 < 16) (X12 : BufTy.Contents (Elt Ideal) (wwin arg12 ⟨k0_t3.val + 1, h⟩).view.ty) (X3 : BufTy.Contents (Elt Ideal) arg3.view.ty) (X4 : BufTy.Contents (Elt Ideal) arg4.view.ty) : ℕ → sProp 𝕄 := fun k =>
  iprop(((wwin arg12 ⟨k0_t3.val + 1, h⟩).view.loc (c : Thread nD τ) ↦[(wwin arg12 ⟨k0_t3.val + 1, h⟩).view.set]{fullShare} X12) ∗ (arg3.view.loc (c : Thread nD τ) ↦[arg3.view.set]{fullShare} X3) ∗ (arg4.view.loc (c : Thread nD τ) ↦[arg4.view.set]{fullShare} X4) ∗ (∃ f, (arg13.view.loc (c : Thread nD τ) ↦[arg13.view.set]{fullShare} f) ∗ ⌜Has13 w arg13 f (128 * (k0_t3.val + 1) + 32 * k)⌝) ∗ (∃ f, (arg14.view.loc (c : Thread nD τ) ↦[arg14.view.set]{fullShare} f) ∗ ⌜HasCol ws arg14 f (512 * (k0_t3.val + 1) + 128 * k)⌝) ∗ (∃ f, (arg15.view.loc (c : Thread nD τ) ↦[arg15.view.set]{fullShare} f) ∗ ⌜HasCol bs arg15 f (512 * (k0_t3.val + 1) + 128 * k)⌝))

set_option maxHeartbeats 4000000 in
/-- One trip of `k0_t4`. -/
theorem step_v4 {w : ℕ → ℕ → EReal} {ws bs : ℕ → EReal} (v124 : IVec S8x128 32) (v145 : IVec S8x128 32) (k0_t3 : Fin k0_t3_loop.trips) (k0_h1 : k0_cond1 k0_t3 = 1#1) (v504 : BitVec 32) (h : k0_t3.val + 1 < 16) (X12 : BufTy.Contents (Elt Ideal) (wwin arg12 ⟨k0_t3.val + 1, h⟩).view.ty) (X3 : BufTy.Contents (Elt Ideal) arg3.view.ty) (X4 : BufTy.Contents (Elt Ideal) arg4.view.ty) (hB : Has12 w arg12 X12 (k0_t3.val + 1)) (h3 : Has3 ws arg3 X3) (h4 : Has4 bs arg4 X4) (k : Fin k0_t4_loop.trips) (acc : Unit) :
    inv_v4 c arg3 arg4 arg12 arg13 arg14 arg15 w ws bs k0_t3 h X12 X3 X4 k.val ⊢ wp frame (wpE (defs₀ (F := Ideal)) Variants.none (c : Thread nD τ) none) Set.univ
      (k0_t4_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 k acc) (fun _ => inv_v4 c arg3 arg4 arg12 arg13 arg14 arg15 w ws bs k0_t3 h X12 X3 X4 (k.val + 1)) := by
  have hin := in_wwint arg12 k0_t3 h k0_h1 k
  unfold k0_t4_body
  iintro ⟨H12, H3, H4, ⟨%f13, H13, %h13⟩, ⟨%f14, H14, %h14⟩, ⟨%f15, H15, %h15⟩⟩
  sl_exec
  sl_step
  have hk : k.val < 4 := k.isLt
  isplitl [H12]; · iexact H12
  isplitl [H3]; · iexact H3
  isplitl [H4]; · iexact H4
  isplitl [H13]
  · iexists _
    isplitl [H13]; · iexact H13
    ipureintro
    have HR := blk_read hB k.val hk h _ (k0_off19_inb k0_t3 k k0_h1) (off_v4_read k0_t3 k)
    exact planes_written arg13 f13 (4 * (k0_t3.val + 1) + k.val) (128 * (k0_t3.val + 1) + 32 * k.val) (by omega) _ _ _ _ _ _ _ _ _ _ _ _ _ _ _ _ _ _ _ _ _ _ _ _ (off_v4_0 k0_t3 k) (off_v4_1 k0_t3 k) (off_v4_2 k0_t3 k) (off_v4_3 k0_t3 k) (off_v4_4 k0_t3 k) (off_v4_5 k0_t3 k) (off_v4_6 k0_t3 k) (off_v4_7 k0_t3 k) (off_v4_8 k0_t3 k) (off_v4_9 k0_t3 k) (off_v4_10 k0_t3 k) (off_v4_11 k0_t3 k) _ _ _ _ _ _ _ _ _ _ _ _ (plane_words HR _ _ 0 (by decide) _ rfl _ _) (plane_words HR _ _ 1 (by decide) _ rfl _ _) (plane_words HR _ _ 2 (by decide) _ rfl _ _) (plane_words HR _ _ 3 (by decide) _ rfl _ _) (plane_words HR _ _ 4 (by decide) _ rfl _ _) (plane_words HR _ _ 5 (by decide) _ rfl _ _) (plane_words HR _ _ 6 (by decide) _ rfl _ _) (plane_words HR _ _ 7 (by decide) _ rfl _ _) (plane_words HR _ _ 8 (by decide) _ rfl _ _) (plane_words HR _ _ 9 (by decide) _ rfl _ _) (plane_words HR _ _ 10 (by decide) _ rfl _ _) (plane_words HR _ _ 11 (by decide) _ rfl _ _) h13
  isplitl [H14]
  · iexists _
    isplitl [H14]; · iexact H14
    ipureintro
    exact col_written arg14 f14 (4 * (k0_t3.val + 1) + k.val) (512 * (k0_t3.val + 1) + 128 * k.val) (by omega) _ _ (off_v4_col k0_t3 k) _ (fun i t => (pay276_at _ i t).trans ((row3_read arg3 X3 ⟨(4 * (k0_t3.val + 1) + k.val), by omega⟩ _ _ (off_v4_row k0_t3 k) i).trans (h3 _ i))) h14
  iexists _
  isplitl [H15]; · iexact H15
  ipureintro
  exact col_written arg15 f15 (4 * (k0_t3.val + 1) + k.val) (512 * (k0_t3.val + 1) + 128 * k.val) (by omega) _ _ (off_v4_col k0_t3 k) _ (fun i t => (pay277_at _ i t).trans ((congrArg (· * _) (row3_read arg4 X4 ⟨(4 * (k0_t3.val + 1) + k.val), by omega⟩ _ _ (off_v4_row k0_t3 k) i)).trans (h4 _ i))) h15

set_option warn.classDefReducibility false in
/-- Loop `k0_t4` at its invariant. -/
@[reducible] def loopInv_v4 {w : ℕ → ℕ → EReal} {ws bs : ℕ → EReal} (v124 : IVec S8x128 32) (v145 : IVec S8x128 32) (k0_t3 : Fin k0_t3_loop.trips) (k0_h1 : k0_cond1 k0_t3 = 1#1) (v504 : BitVec 32) (h : k0_t3.val + 1 < 16) (X12 : BufTy.Contents (Elt Ideal) (wwin arg12 ⟨k0_t3.val + 1, h⟩).view.ty) (X3 : BufTy.Contents (Elt Ideal) arg3.view.ty) (X4 : BufTy.Contents (Elt Ideal) arg4.view.ty) (hB : Has12 w arg12 X12 (k0_t3.val + 1)) (h3 : Has3 ws arg3 X3) (h4 : Has4 bs arg4 X4) :
    Gen.LoopInvTy_k0_t4 (F := Ideal) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 where
  inv k acc := inv_v4 c arg3 arg4 arg12 arg13 arg14 arg15 w ws bs k0_t3 h X12 X3 X4 k
  step k acc := step_v4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 k0_h1 v504 h X12 X3 X4 hB h3 h4 k acc

end
end Cert.Proof.KernelIdeal
-- ==== Proof.KernelIdeal.V5.lean ====
/-
  The loop over the pairs of batch rows of a tile, with the values it carries.
-/
module

public import proofs.«01_k».proof.Proof.Gen.KernelIdeal.Loops
public import proofs.«01_k».proof.Proof.KernelIdeal.UnitStep
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t5`: what it reads at its contents, what it writes at any contents. -/
abbrev inv_v5 (w x xs : ℕ → ℕ → EReal) (ws bs : ℕ → EReal) (k0_t3 : Fin k0_t3_loop.trips) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X19 : BufTy.Contents (Elt Ideal) arg19.view.ty) : (k : ℕ) → sProp 𝕄 := fun k =>
  iprop((arg11.view.loc (c : Thread nD τ) ↦[arg11.view.set]{fullShare} X11) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg19.view.loc (c : Thread nD τ) ↦[arg19.view.set]{fullShare} X19) ∗ (∃ f, (arg16.view.loc (c : Thread nD τ) ↦[arg16.view.set]{fullShare} f)) ∗ (∃ f, (arg17.view.loc (c : Thread nD τ) ↦[arg17.view.set]{fullShare} f) ∗ ⌜HasRun (Mr (lg w x xs ws bs)) arg17 f fun b => if b < 4 * k then k0_t3.val + 1 else k0_t3.val⌝) ∗ (∃ f, (arg18.view.loc (c : Thread nD τ) ↦[arg18.view.set]{fullShare} f) ∗ ⌜HasRun (Sr (lg w x xs ws bs)) arg18 f fun b => if b < 4 * k then k0_t3.val + 1 else k0_t3.val⌝) ∗ (∃ f, (arg27.view.loc (c : Thread nD τ) ↦[arg27.view.set]{fullShare} f)))

set_option maxHeartbeats 4000000 in
/-- One trip of `k0_t5`. -/
theorem step_v5 {w x xs : ℕ → ℕ → EReal} {ws bs : ℕ → EReal} (v124 : IVec S8x128 32) (v145 : IVec S8x128 32) (k0_t3 : Fin k0_t3_loop.trips) (arg38 : BitVec 32) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X19 : BufTy.Contents (Elt Ideal) arg19.view.ty) (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19) (k : Fin k0_t5_loop.trips) (acc : Unit) :
    inv_v5 c arg11 arg13 arg14 arg15 arg16 arg17 arg18 arg19 arg27 w x xs ws bs k0_t3 X11 X13 X14 X15 X19 k.val ⊢ wp frame (wpE (defs₀ (F := Ideal)) Variants.none (c : Thread nD τ) none) Set.univ
      (k0_t5_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 k acc) (fun _ => inv_v5 c arg11 arg13 arg14 arg15 arg16 arg17 arg18 arg19 arg27 w x xs ws bs k0_t3 X11 X13 X14 X15 X19 (k.val + 1)) := by
  unfold k0_t5_body
  iintro ⟨G11, G13, G14, G15, G19, ⟨%f16, G16⟩, ⟨%f17, G17, %h17⟩, ⟨%f18, G18, %h18⟩, ⟨%f27, G27⟩⟩
  sl_exec
  sl_step
  isplitl [G11]; · iexact G11
  isplitl [G13]; · iexact G13
  isplitl [G14]; · iexact G14
  isplitl [G15]; · iexact G15
  isplitl [G19]; · iexact G19
  isplitl [G16]; · iexists _; iexact G16
  isplitl [G17]
  · iexists _
    isplitl [G17]; · iexact G17
    ipureintro
    exact unit_max c k0_t3 k H11 H13 H14 H15 H19 h17
  isplitl [G18]
  · iexists _
    isplitl [G18]; · iexact G18
    ipureintro
    exact unit_sum c k0_t3 k H11 H13 H14 H15 H19 h17 h18
  iexists _; iexact G27

set_option warn.classDefReducibility false in
/-- Loop `k0_t5` at its invariant. -/
@[reducible] def loopInv_v5 {w x xs : ℕ → ℕ → EReal} {ws bs : ℕ → EReal} (v124 : IVec S8x128 32) (v145 : IVec S8x128 32) (k0_t3 : Fin k0_t3_loop.trips) (arg38 : BitVec 32) (X11 : BufTy.Contents (Elt Ideal) arg11.view.ty) (X13 : BufTy.Contents (Elt Ideal) arg13.view.ty) (X14 : BufTy.Contents (Elt Ideal) arg14.view.ty) (X15 : BufTy.Contents (Elt Ideal) arg15.view.ty) (X19 : BufTy.Contents (Elt Ideal) arg19.view.ty) (H11 : Has11 x arg11 X11) (H13 : Has13 w arg13 X13 (128 * (k0_t3.val + 1)))
    (H14 : HasCol ws arg14 X14 (512 * (k0_t3.val + 1))) (H15 : HasCol bs arg15 X15 (512 * (k0_t3.val + 1))) (H19 : Has19 xs arg19 X19) :
    Gen.LoopInvTy_k0_t5 (F := Ideal) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 where
  inv k acc := inv_v5 c arg11 arg13 arg14 arg15 arg16 arg17 arg18 arg19 arg27 w x xs ws bs k0_t3 X11 X13 X14 X15 X19 k
  step k acc := step_v5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k0_t3 arg38 X11 X13 X14 X15 X19 H11 H13 H14 H15 H19 k acc

end
end Cert.Proof.KernelIdeal
-- ==== Proof.KernelIdeal.Landed.lean ====
/-
  What a copy that has arrived leaves: the blocks of the weights hold their codes.
-/
module

public import proofs.«01_k».proof.Proof.KernelIdeal.Tables
public import proofs.«01_k».proof.Proof.KernelIdeal.Flights
public import proofs.«01_k».proof.Proof.KernelIdeal.UnitStep

@[expose] public section

noncomputable section

namespace Cert.Proof.KernelIdeal

open Cert.KernelIdeal Cert.KernelIdeal.Gen Idealize.ShloMosaic Idealize.ShloMosaic.TcCoe

variable {w : ℕ → ℕ → EReal} {y : ℕ → EReal}

/-- The array of codes, its bytes read in the narrow format. -/
def HasW (w : ℕ → ℕ → EReal) (arg1 : Memref sig .tc .hbm S1536x8192 .i8) (X : BufTy.Contents (Elt Ideal) arg1.view.ty) : Prop :=
  ∀ (d : Fin 1536) (v : Fin 8192), Ideal.ofBits .fp8e4m3 (arg1.view.read (Elt Ideal) X (ix2 d v)) = w d.val v.val

theorem wwin_read {sp : Space} (M : Memref sig .tc sp S1536x8192 .i8) (X : BufTy.Contents (Elt Ideal) M.view.ty) (j : Fin 16) (d : Fin 1536) (v : Fin 8192)
    (i : Fin 512) (hv : v.val = 512 * j.val + i.val) :
    M.view.read (Elt Ideal) X (ix2 d v) = (wwin M j).view.read (Elt Ideal) X (ix2 d i) := by
  show M.view.read (Elt Ideal) X _ = M.view.read (Elt Ideal) X _
  congr 1
  funext a
  match a with
  | ⟨0, _⟩ => exact Fin.ext (by show d.val = 0 + 1 * d.val; omega)
  | ⟨1, _⟩ => exact Fin.ext (by show v.val = 512 * j.val + 1 * i.val; omega)

theorem landed_read (arg1 : Memref sig .tc .hbm S1536x8192 .i8) (X1 : BufTy.Contents (Elt Ideal) arg1.view.ty)
    (arg12 : Memref sig .tc .vmem S1536x8192 .i8) (j : Fin 16) (f : BufTy.Contents (Elt Ideal) (wwin arg12 j).view.ty) (y : S1536x512.Idx) :
    (wwin arg12 j).view.read (Elt Ideal) (landed arg1 arg12 X1 j f) y = (wwin arg1 j).view.read (Elt Ideal) X1 y :=
  congrFun (View.read_writes_whole _ _ _) y

theorem has12_landed {arg1 : Memref sig .tc .hbm S1536x8192 .i8} {X1 : BufTy.Contents (Elt Ideal) arg1.view.ty} (H : HasW w arg1 X1)
    (arg12 : Memref sig .tc .vmem S1536x8192 .i8) (j : Fin 16) (f : BufTy.Contents (Elt Ideal) (wwin arg12 j).view.ty) :
    Has12 w arg12 (landed arg1 arg12 X1 j f) j.val := by
  intro d v h1 h2
  refine Eq.trans (congrArg (Ideal.ofBits .fp8e4m3) ?_) (H d v)
  refine (wwin_read arg12 _ j d v ⟨v.val - 512 * j.val, by omega⟩ (by show v.val = 512 * j.val + (v.val - 512 * j.val); omega)).trans ?_
  refine (landed_read arg1 X1 arg12 j f _).trans ?_
  exact (wwin_read arg1 _ j d v ⟨v.val - 512 * j.val, by omega⟩ (by show v.val = 512 * j.val + (v.val - 512 * j.val); omega)).symm

theorem has13_mono {arg13 : Memref sig .tc .vmem S12x2048x128 .i32} {X : BufTy.Contents (Elt Ideal) arg13.view.ty} {n n' : ℕ} (H : Has13 w arg13 X n)
    (hn : n' ≤ n ∨ 2048 ≤ n) : Has13 w arg13 X n' :=
  fun g i l q hq hi => H g i l q hq (by omega)
theorem hasCol_mono {arg14 : Memref sig .tc .vmem S8192x128 .f32} {X : BufTy.Contents (Elt Ideal) arg14.view.ty} {n n' : ℕ} (H : HasCol y arg14 X n)
    (hn : n' ≤ n ∨ 8192 ≤ n) : HasCol y arg14 X n' :=
  fun v t hi => H v t (by omega)
theorem hasRun_congr {R : ℕ → ℕ → ℕ → ℕ → EReal} {arg17 : Memref sig .tc .vmem S16x8x128 .f32} {f : BufTy.Contents (Elt Ideal) arg17.view.ty} {n n' : ℕ → ℕ}
    (H : HasRun R arg17 f n) (hn : ∀ b < 16, n b = n' b) : HasRun R arg17 f n' :=
  fun b s t => (H b s t).trans (by rw [hn b.val b.isLt])

end Cert.Proof.KernelIdeal
-- ==== Proof.KernelIdeal.V3.lean ====
/-
  The loop over the sixteen weight tiles, with the values it carries.
-/
module

public import proofs.«01_k».proof.Proof.Gen.KernelIdeal.Loops
public import Idealize.ShloMosaic.Lib.Pipeline.FrameBody
public import Idealize.ShloMosaic.Lib.Tactic
public import proofs.«01_k».proof.Proof.KernelIdeal.Flights
public import proofs.«01_k».proof.Proof.KernelIdeal.V4
public import proofs.«01_k».proof.Proof.KernelIdeal.V5
public import proofs.«01_k».proof.Proof.KernelIdeal.Landed

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

theorem trips_t4 : Scf.trips k0_t4_loop.lb k0_t4_loop.ub k0_t4_loop.st = 4 := by decide
theorem trips_t5 : Scf.trips k0_t5_loop.lb k0_t5_loop.ub k0_t5_loop.st = 4 := by decide

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before trip `k` of the tile loop. -/
abbrev inv_v3 (w x xs : ℕ → ℕ → EReal) (ws bs : ℕ → EReal) (X1 : BufTy.Contents (Elt Ideal) arg1.view.ty) (X3 : BufTy.Contents (Elt Ideal) arg3.view.ty) (X4 : BufTy.Contents (Elt Ideal) arg4.view.ty) (X11 : BufTy.Contents (Elt Ideal) arg11.view.ty) (X19 : BufTy.Contents (Elt Ideal) arg19.view.ty) (k : ℕ) : sProp 𝕄 :=
  iprop((∃ W, owes (c : Thread nD τ) 0 W) ∗ (arg3.view.loc (c : Thread nD τ) ↦[arg3.view.set]{fullShare} X3) ∗ (arg4.view.loc (c : Thread nD τ) ↦[arg4.view.set]{fullShare} X4) ∗ (arg11.view.loc (c : Thread nD τ) ↦[arg11.view.set]{fullShare} X11) ∗ (arg19.view.loc (c : Thread nD τ) ↦[arg19.view.set]{fullShare} X19) ∗ (∃ f, (arg13.view.loc (c : Thread nD τ) ↦[arg13.view.set]{fullShare} f) ∗ ⌜Has13 w arg13 f (128 * (k + 1))⌝) ∗ (∃ f, (arg14.view.loc (c : Thread nD τ) ↦[arg14.view.set]{fullShare} f) ∗ ⌜HasCol ws arg14 f (512 * (k + 1))⌝) ∗ (∃ f, (arg15.view.loc (c : Thread nD τ) ↦[arg15.view.set]{fullShare} f) ∗ ⌜HasCol bs arg15 f (512 * (k + 1))⌝) ∗ (∃ f, (arg16.view.loc (c : Thread nD τ) ↦[arg16.view.set]{fullShare} f)) ∗ (∃ f, (arg17.view.loc (c : Thread nD τ) ↦[arg17.view.set]{fullShare} f) ∗ ⌜HasRun (Mr (lg w x xs ws bs)) arg17 f fun _ => k⌝) ∗ (∃ f, (arg18.view.loc (c : Thread nD τ) ↦[arg18.view.set]{fullShare} f) ∗ ⌜HasRun (Sr (lg w x xs ws bs)) arg18 f fun _ => k⌝) ∗ (∃ f, (arg27.view.loc (c : Thread nD τ) ↦[arg27.view.set]{fullShare} f)) ∗ blocksAt c arg1 arg12 arg36 X1 k)

set_option maxHeartbeats 4000000 in
/-- One trip of the tile loop. -/
theorem step_v3 {w x xs : ℕ → ℕ → EReal} {ws bs : ℕ → EReal} (v124 : IVec S8x128 32) (v145 : IVec S8x128 32) (X1 : BufTy.Contents (Elt Ideal) arg1.view.ty) (X3 : BufTy.Contents (Elt Ideal) arg3.view.ty) (X4 : BufTy.Contents (Elt Ideal) arg4.view.ty) (X11 : BufTy.Contents (Elt Ideal) arg11.view.ty) (X19 : BufTy.Contents (Elt Ideal) arg19.view.ty) (hW : HasW w arg1 X1) (h3 : Has3 ws arg3 X3) (h4 : Has4 bs arg4 X4) (h11 : Has11 x arg11 X11) (h19 : Has19 xs arg19 X19) (k : Fin k0_t3_loop.trips) (acc : Unit) :
    inv_v3 c arg1 arg3 arg4 arg11 arg12 arg13 arg14 arg15 arg16 arg17 arg18 arg19 arg27 arg36 w x xs ws bs X1 X3 X4 X11 X19 k.val ⊢ wp frame (wpE (defs₀ (F := Ideal)) Variants.none (c : Thread nD τ) none) Set.univ
      (k0_t3_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_v3 c arg1 arg3 arg4 arg11 arg12 arg13 arg14 arg15 arg16 arg17 arg18 arg19 arg27 arg36 w x xs ws bs X1 X3 X4 X11 X19 (k.val + 1)) := by
  by_cases h : k.val + 1 < 16
  · have hc := cond1_ge k h
    have hk : k.val < 16 := k.isLt
    unfold k0_t3_body
    iintro ⟨⟨%W, HW⟩, H3, H4, H11, H19, ⟨%f13, H13, %h13⟩, ⟨%f14, H14, %h14⟩, ⟨%f15, H15, %h15⟩, ⟨%f16, H16⟩, ⟨%f17, H17, %h17⟩, ⟨%f18, H18, %h18⟩, ⟨%f27, H27⟩, HB⟩
    ihave HB' := (blocks_here c arg1 arg12 arg36 X1 k.val h) $$ HB
    icases HB' with ⟨⟨%f0, HF⟩, HR⟩
    sl_exec
    have e13 : Has13 w arg13 f13 (128 * (k.val + 1) + 32 * 0) := h13
    have e14 : HasCol ws arg14 f14 (512 * (k.val + 1) + 128 * 0) := h14
    have e15 : HasCol bs arg15 f15 (512 * (k.val + 1) + 128 * 0) := h15
    let L4 := loopInv_v4 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k hc (Scalar.addi (Scf.iv 0#32 1#32 k) 1#32) h (landed arg1 arg12 X1 ⟨k.val + 1, h⟩ (wwin arg12 ⟨k.val + 1, h⟩).view.junk) X3 X4 (has12_landed hW arg12 ⟨k.val + 1, h⟩ (wwin arg12 ⟨k.val + 1, h⟩).view.junk) h3 h4
    sl_exec
    have g13 : Has13 w arg13 fL0 (128 * (k.val + 1 + 1)) := has13_mono hL4 (.inl (by rw [trips_t4]; omega))
    have g14 : HasCol ws arg14 fL1 (512 * (k.val + 1 + 1)) := hasCol_mono hL6 (.inl (by rw [trips_t4]; omega))
    have g15 : HasCol bs arg15 fL2 (512 * (k.val + 1 + 1)) := hasCol_mono hL8 (.inl (by rw [trips_t4]; omega))
    have e17 : HasRun (Mr (lg w x xs ws bs)) arg17 f17 fun b => if b < 4 * 0 then k.val + 1 else k.val := hasRun_congr h17 fun b _ => (if_neg (by omega)).symm
    have e18 : HasRun (Sr (lg w x xs ws bs)) arg18 f18 fun b => if b < 4 * 0 then k.val + 1 else k.val := hasRun_congr h18 fun b _ => (if_neg (by omega)).symm
    let L5 := loopInv_v5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k (Scf.iv 0#32 1#32 k) X11 fL0 fL1 fL2 X19 h11 (has13_mono g13 (.inl (by omega))) (hasCol_mono g14 (.inl (by omega))) (hasCol_mono g15 (.inl (by omega))) h19
    sl_exec
    have n17 := hasRun_congr (n' := fun _ => k.val + 1) hL7 fun b hb => if_pos (by rw [trips_t5]; omega)
    have n18 := hasRun_congr (n' := fun _ => k.val + 1) hL9 fun b hb => if_pos (by rw [trips_t5]; omega)
    sl_step
    isplitl [HW]; · iexists _; iexact HW
    isplitl [H3]; · iexact H3
    isplitl [H4]; · iexact H4
    isplitl [H11]; · iexact H11
    isplitl [H19]; · iexact H19
    isplitl [H13]; · iexists _; isplitl [H13]; (· iexact H13); ipureintro; exact g13
    isplitl [H14]; · iexists _; isplitl [H14]; (· iexact H14); ipureintro; exact g14
    isplitl [H15]; · iexists _; isplitl [H15]; (· iexact H15); ipureintro; exact g15
    isplitl [H16]; · iexists _; iexact H16
    isplitl [H17]; · iexists _; isplitl [H17]; (· iexact H17); ipureintro; exact n17
    isplitl [H18]; · iexists _; isplitl [H18]; (· iexact H18); ipureintro; exact n18
    isplitl [H27]; · iexists _; iexact H27
    iapply (blocks_next c arg1 arg12 arg36 X1 k.val h)
    isplitl [HF HF_dst HF_src]
    · isplitl [HF_dst]; · iexists _; iexact HF_dst
      isplitl [HF_src]; · iexact HF_src
      iexact HF
    iexact HR
  · have hc : ¬ k0_cond1 k = 1#1 := fun e => h (cond1_lt k e)
    have hk : k.val < 16 := k.isLt
    unfold k0_t3_body
    iintro ⟨⟨%W, HW⟩, H3, H4, H11, H19, ⟨%f13, H13, %h13⟩, ⟨%f14, H14, %h14⟩, ⟨%f15, H15, %h15⟩, ⟨%f16, H16⟩, ⟨%f17, H17, %h17⟩, ⟨%f18, H18, %h18⟩, ⟨%f27, H27⟩, HB⟩
    sl_exec
    have e17 : HasRun (Mr (lg w x xs ws bs)) arg17 f17 fun b => if b < 4 * 0 then k.val + 1 else k.val := hasRun_congr h17 fun b _ => (if_neg (by omega)).symm
    have e18 : HasRun (Sr (lg w x xs ws bs)) arg18 f18 fun b => if b < 4 * 0 then k.val + 1 else k.val := hasRun_congr h18 fun b _ => (if_neg (by omega)).symm
    let L5 := loopInv_v5 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k (Scf.iv 0#32 1#32 k) X11 f13 f14 f15 X19 h11 h13 h14 h15 h19
    sl_exec
    have g13 : Has13 w arg13 f13 (128 * (k.val + 1 + 1)) := has13_mono h13 (.inr (by omega))
    have g14 : HasCol ws arg14 f14 (512 * (k.val + 1 + 1)) := hasCol_mono h14 (.inr (by omega))
    have g15 : HasCol bs arg15 f15 (512 * (k.val + 1 + 1)) := hasCol_mono h15 (.inr (by omega))
    have n17 := hasRun_congr (n' := fun _ => k.val + 1) hL7 fun b hb => if_pos (by rw [trips_t5]; omega)
    have n18 := hasRun_congr (n' := fun _ => k.val + 1) hL9 fun b hb => if_pos (by rw [trips_t5]; omega)
    sl_step
    isplitl [HW]; · iexists _; iexact HW
    isplitl [H3]; · iexact H3
    isplitl [H4]; · iexact H4
    isplitl [H11]; · iexact H11
    isplitl [H19]; · iexact H19
    isplitl [H13]; · iexists _; isplitl [H13]; (· iexact H13); ipureintro; exact g13
    isplitl [H14]; · iexists _; isplitl [H14]; (· iexact H14); ipureintro; exact g14
    isplitl [H15]; · iexists _; isplitl [H15]; (· iexact H15); ipureintro; exact g15
    isplitl [H16]; · iexists _; iexact H16
    isplitl [H17]; · iexists _; isplitl [H17]; (· iexact H17); ipureintro; exact n17
    isplitl [H18]; · iexists _; isplitl [H18]; (· iexact H18); ipureintro; exact n18
    isplitl [H27]; · iexists _; iexact H27
    iapply (blocks_last c arg1 arg12 arg36 X1 k.val h)
    iexact HB

set_option warn.classDefReducibility false in
/-- Loop `k0_t3` at its invariant. -/
@[reducible] def loopInv_v3 {w x xs : ℕ → ℕ → EReal} {ws bs : ℕ → EReal} (v124 : IVec S8x128 32) (v145 : IVec S8x128 32) (X1 : BufTy.Contents (Elt Ideal) arg1.view.ty) (X3 : BufTy.Contents (Elt Ideal) arg3.view.ty) (X4 : BufTy.Contents (Elt Ideal) arg4.view.ty) (X11 : BufTy.Contents (Elt Ideal) arg11.view.ty) (X19 : BufTy.Contents (Elt Ideal) arg19.view.ty) (hW : HasW w arg1 X1) (h3 : Has3 ws arg3 X3) (h4 : Has4 bs arg4 X4) (h11 : Has11 x arg11 X11) (h19 : Has19 xs arg19 X19) :
    Gen.LoopInvTy_k0_t3 (F := Ideal) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_v3 c arg1 arg3 arg4 arg11 arg12 arg13 arg14 arg15 arg16 arg17 arg18 arg19 arg27 arg36 w x xs ws bs X1 X3 X4 X11 X19 k
  step k acc := step_v3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X1 X3 X4 X11 X19 hW h3 h4 h11 h19 k acc

end
end Cert.Proof.KernelIdeal
-- ==== Proof.KernelIdeal.T8.lean ====
module

public import proofs.«01_k».proof.Proof.Gen.KernelIdeal.Loops
public import Idealize.ShloMosaic.Lib.Pipeline.FrameBody
public import Idealize.ShloMosaic.Lib.Tactic
public import proofs.«01_k».proof.Proof.KernelIdeal.Facts

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)
instance (a : Fin k0_t7_loop.trips) (b : Fin k0_t8_loop.trips) : ClosedOff (k0_off54 a b) :=
  ⟨![0, (k0_off54 a b) 1, 0], by funext i; fin_cases i <;> rfl⟩
instance (a : Fin k0_t7_loop.trips) (b : Fin k0_t8_loop.trips) : ClosedOff (k0_off56 a b) :=
  ⟨![1, (k0_off54 a b) 1, 0], by funext i; fin_cases i <;> rfl⟩
instance (a : Fin k0_t7_loop.trips) (b : Fin k0_t8_loop.trips) : ClosedOff (k0_off58 a b) :=
  ⟨![2, (k0_off54 a b) 1, 0], by funext i; fin_cases i <;> rfl⟩
instance (a : Fin k0_t7_loop.trips) (b : Fin k0_t8_loop.trips) : ClosedOff (k0_off60 a b) :=
  ⟨![3, (k0_off54 a b) 1, 0], by funext i; fin_cases i <;> rfl⟩
instance (a : Fin k0_t7_loop.trips) (b : Fin k0_t8_loop.trips) : ClosedOff (k0_off62 a b) :=
  ⟨![4, (k0_off54 a b) 1, 0], by funext i; fin_cases i <;> rfl⟩
instance (a : Fin k0_t7_loop.trips) (b : Fin k0_t8_loop.trips) : ClosedOff (k0_off64 a b) :=
  ⟨![5, (k0_off54 a b) 1, 0], by funext i; fin_cases i <;> rfl⟩
instance (a : Fin k0_t7_loop.trips) (b : Fin k0_t8_loop.trips) : ClosedOff (k0_off66 a b) :=
  ⟨![6, (k0_off54 a b) 1, 0], by funext i; fin_cases i <;> rfl⟩
instance (a : Fin k0_t7_loop.trips) (b : Fin k0_t8_loop.trips) : ClosedOff (k0_off68 a b) :=
  ⟨![7, (k0_off54 a b) 1, 0], by funext i; fin_cases i <;> rfl⟩
instance (a : Fin k0_t7_loop.trips) (b : Fin k0_t8_loop.trips) : ClosedOff (k0_off70 a b) :=
  ⟨![8, (k0_off54 a b) 1, 0], by funext i; fin_cases i <;> rfl⟩
instance (a : Fin k0_t7_loop.trips) (b : Fin k0_t8_loop.trips) : ClosedOff (k0_off72 a b) :=
  ⟨![9, (k0_off54 a b) 1, 0], by funext i; fin_cases i <;> rfl⟩
instance (a : Fin k0_t7_loop.trips) (b : Fin k0_t8_loop.trips) : ClosedOff (k0_off74 a b) :=
  ⟨![10, (k0_off54 a b) 1, 0], by funext i; fin_cases i <;> rfl⟩
instance (a : Fin k0_t7_loop.trips) (b : Fin k0_t8_loop.trips) : ClosedOff (k0_off76 a b) :=
  ⟨![11, (k0_off54 a b) 1, 0], by funext i; fin_cases i <;> rfl⟩

/-- Before any trip of `k0_t8`: what it reads at its contents, what it writes at any contents. -/
abbrev inv_k0_t8 (X5 : BufTy.Contents (Elt F) arg5.view.ty) (X13 : BufTy.Contents (Elt F) arg13.view.ty) (X14 : BufTy.Contents (Elt F) arg14.view.ty) (X15 : BufTy.Contents (Elt F) arg15.view.ty) : sProp 𝕄 :=
  iprop(⌜LabOK arg5 X5⌝ ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))

set_option maxHeartbeats 4000000 in
/-- One trip of `k0_t8`. -/
theorem step_k0_t8 (c0_i32_102 : BitVec 32) (c1_i32_104 : BitVec 32) (k0_t6 : Fin k0_t6_loop.trips) (k0_t7 : Fin k0_t7_loop.trips) (arg39 : BitVec 32) (v752 : Elt F .i32) (k0_hw1 : k0_chk1 v752) (X5 : BufTy.Contents (Elt F) arg5.view.ty) (X13 : BufTy.Contents (Elt F) arg13.view.ty) (X14 : BufTy.Contents (Elt F) arg14.view.ty) (X15 : BufTy.Contents (Elt F) arg15.view.ty) (k : Fin k0_t8_loop.trips) (acc : BitVec 32) :
    inv_k0_t8 (F := F) c arg5 arg13 arg14 arg15 arg20 arg21 arg23 arg24 arg25 X5 X13 X14 X15 ⊢ wp frame (wpE (defs₀ (F := F)) Variants.none (c : Thread nD τ) none) Set.univ
      (k0_t8_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 k acc) (fun _ => inv_k0_t8 (F := F) c arg5 arg13 arg14 arg15 arg20 arg21 arg23 arg24 arg25 X5 X13 X14 X15) := by
  unfold k0_t8_body
  iintro ⟨%hf, H5, H13, H14, H15, ⟨%f20, H20⟩, ⟨%f21, H21⟩, ⟨%f23, H23⟩, ⟨%f24, H24⟩, ⟨%f25, H25⟩⟩
  sl_exec
  have hchk : k0_chk2 (step_k0_t8.sl.r arg5 v752 k0_hw1 X5 k) := chk2_of_lt _ (by
    exact hf _)
  sl_exec
  sl_step
  sl_close

set_option warn.classDefReducibility false in
/-- Loop `k0_t8` at its invariant. -/
@[sl_loop] def loopInv_k0_t8 (c0_i32_102 : BitVec 32) (c1_i32_104 : BitVec 32) (k0_t6 : Fin k0_t6_loop.trips) (k0_t7 : Fin k0_t7_loop.trips) (arg39 : BitVec 32) (v752 : Elt F .i32) (k0_hw1 : k0_chk1 v752) (init : BitVec 32) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t8 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 init where
  inv k acc := inv_k0_t8 (F := F) c arg5 arg13 arg14 arg15 arg20 arg21 arg23 arg24 arg25 X5 X13 X14 X15
  step k acc := step_k0_t8 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k0_t7 arg39 v752 k0_hw1 X5 X13 X14 X15 k acc

end
end Cert.Proof.KernelIdeal
-- ==== Proof.KernelIdeal.T7.lean ====
module

public import proofs.«01_k».proof.Proof.Gen.KernelIdeal.Loops
public import Idealize.ShloMosaic.Lib.Pipeline.FrameBody
public import Idealize.ShloMosaic.Lib.Tactic
public import proofs.«01_k».proof.Proof.KernelIdeal.T8

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t7`: what it reads at its contents, what it writes at any contents. -/
abbrev inv_k0_t7 (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) : sProp 𝕄 :=
  iprop(⌜LabOK arg5 X5 ∧ OffOK arg35 X35⌝ ∗ (arg35.view.loc (c : Thread nD τ) ↦[arg35.view.set]{fullShare} X35) ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (∃ f, (arg20.view.loc (c : Thread nD τ) ↦[arg20.view.set]{fullShare} f)) ∗ (∃ f, (arg21.view.loc (c : Thread nD τ) ↦[arg21.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)))

set_option maxHeartbeats 4000000 in
/-- One trip of `k0_t7`. -/
theorem step_k0_t7 (c0_i32_102 : BitVec 32) (c1_i32_104 : BitVec 32) (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (k : Fin k0_t7_loop.trips) (acc : Unit) :
    inv_k0_t7 (F := F) c arg5 arg13 arg14 arg15 arg20 arg21 arg23 arg24 arg25 arg35 X35 X5 X13 X14 X15 ⊢ wp frame (wpE (defs₀ (F := F)) Variants.none (c : Thread nD τ) none) Set.univ
      (k0_t7_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 k acc) (fun _ => inv_k0_t7 (F := F) c arg5 arg13 arg14 arg15 arg20 arg21 arg23 arg24 arg25 arg35 X35 X5 X13 X14 X15) := by
  unfold k0_t7_body
  iintro ⟨%hf, H35, H5, H13, H14, H15, ⟨%f20, H20⟩, ⟨%f21, H21⟩, ⟨%f23, H23⟩, ⟨%f24, H24⟩, ⟨%f25, H25⟩⟩
  have hl : LabOK arg5 X5 := hf.1
  sl_exec
  have hchk : k0_chk1 (step_k0_t7.sl.r arg35 k0_t6 X35 k) := chk1_of_le _ (by
    exact hf.2 _)
  sl_exec
  sl_step
  sl_close

set_option warn.classDefReducibility false in
/-- Loop `k0_t7` at its invariant. -/
@[sl_loop] def loopInv_k0_t7 (c0_i32_102 : BitVec 32) (c1_i32_104 : BitVec 32) (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t7 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 where
  inv k acc := inv_k0_t7 (F := F) c arg5 arg13 arg14 arg15 arg20 arg21 arg23 arg24 arg25 arg35 X35 X5 X13 X14 X15
  step k acc := step_k0_t7 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 X35 X5 X13 X14 X15 k acc

end
end Cert.Proof.KernelIdeal
-- ==== Proof.KernelIdeal.T9.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t9`: what it reads at its contents, what it writes at any contents. -/
abbrev inv_k0_t9 (X20 : BufTy.Contents (Elt F) arg20.view.ty) : sProp 𝕄 :=
  iprop((arg20.view.loc (c : Thread nD τ) ↦[arg20.view.set]{fullShare} X20) ∗ (∃ f, (arg22.view.loc (c : Thread nD τ) ↦[arg22.view.set]{fullShare} f)))

set_option maxHeartbeats 4000000 in
/-- One trip of `k0_t9`. -/
theorem step_k0_t9 (c0_i32_102 : BitVec 32) (c1_i32_104 : BitVec 32) (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) (k : Fin k0_t9_loop.trips) (acc : Unit) :
    inv_k0_t9 (F := F) c arg20 arg22 X20 ⊢ wp frame (wpE (defs₀ (F := F)) Variants.none (c : Thread nD τ) none) Set.univ
      (k0_t9_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 k acc) (fun _ => inv_k0_t9 (F := F) c arg20 arg22 X20) := by
  unfold k0_t9_body
  iintro ⟨H20, ⟨%f22, H22⟩⟩
  sl_exec
  sl_step
  sl_close

set_option warn.classDefReducibility false in
/-- Loop `k0_t9` at its invariant. -/
@[sl_loop] def loopInv_k0_t9 (c0_i32_102 : BitVec 32) (c1_i32_104 : BitVec 32) (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) :
    Gen.LoopInvTy_k0_t9 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 where
  inv k acc := inv_k0_t9 (F := F) c arg20 arg22 X20
  step k acc := step_k0_t9 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v500 v501 v502 v503 X20 k acc

/-- Before any trip of `k0_t10`: what it reads at its contents, what it writes at any contents. -/
abbrev inv_k0_t10 (X20 : BufTy.Contents (Elt F) arg20.view.ty) : sProp 𝕄 :=
  iprop((arg20.view.loc (c : Thread nD τ) ↦[arg20.view.set]{fullShare} X20) ∗ (∃ f, (arg22.view.loc (c : Thread nD τ) ↦[arg22.view.set]{fullShare} f)))

set_option maxHeartbeats 4000000 in
/-- One trip of `k0_t10`. -/
theorem step_k0_t10 (c0_i32_102 : BitVec 32) (c1_i32_104 : BitVec 32) (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) (k : Fin k0_t10_loop.trips) (acc : Unit) :
    inv_k0_t10 (F := F) c arg20 arg22 X20 ⊢ wp frame (wpE (defs₀ (F := F)) Variants.none (c : Thread nD τ) none) Set.univ
      (k0_t10_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 k acc) (fun _ => inv_k0_t10 (F := F) c arg20 arg22 X20) := by
  unfold k0_t10_body
  iintro ⟨H20, ⟨%f22, H22⟩⟩
  sl_exec
  sl_step
  sl_close

set_option warn.classDefReducibility false in
/-- Loop `k0_t10` at its invariant. -/
@[sl_loop] def loopInv_k0_t10 (c0_i32_102 : BitVec 32) (c1_i32_104 : BitVec 32) (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) :
    Gen.LoopInvTy_k0_t10 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 where
  inv k acc := inv_k0_t10 (F := F) c arg20 arg22 X20
  step k acc := step_k0_t10 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 c0_i32_102 c1_i32_104 k0_t6 arg38 v505 v506 v507 v508 X20 k acc

end
end Cert.Proof.KernelIdeal
-- ==== Proof.KernelIdeal.T6.lean ====
module

public import proofs.«01_k».proof.Proof.Gen.KernelIdeal.Loops
public import Idealize.ShloMosaic.Lib.Pipeline.FrameBody
public import Idealize.ShloMosaic.Lib.Tactic
public import proofs.«01_k».proof.Proof.KernelIdeal.T7
public import proofs.«01_k».proof.Proof.KernelIdeal.T9

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t6`: what it reads at its contents, what it writes at any contents. -/
abbrev inv_k0_t6 (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) : sProp 𝕄 :=
  iprop(⌜LabOK arg5 X5 ∧ OffOK arg35 X35⌝ ∗ (arg35.view.loc (c : Thread nD τ) ↦[arg35.view.set]{fullShare} X35) ∗ (arg5.view.loc (c : Thread nD τ) ↦[arg5.view.set]{fullShare} X5) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg11.view.loc (c : Thread nD τ) ↦[arg11.view.set]{fullShare} X11) ∗ (arg19.view.loc (c : Thread nD τ) ↦[arg19.view.set]{fullShare} X19) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)))

set_option warn.classDefReducibility false in
/-- Loop `k0_t7` as the group calls it. -/
@[sl_loop] def loopInv_k0_t7_here (k0_t6 : Fin k0_t6_loop.trips) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) :
    Gen.LoopInvTy_k0_t7 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 :=
  loopInv_k0_t7 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 X35 X5 X13 X14 X15

set_option warn.classDefReducibility false in
/-- Loop `k0_t9` as the group calls it. -/
@[sl_loop] def loopInv_k0_t9_here (k0_t6 : Fin k0_t6_loop.trips) (arg38 : BitVec 32) (v500 : Vec F S8x128 .i32) (v501 : Vec F S8x128 .i32) (v502 : Vec F S8x128 .i32) (v503 : Vec F S8x128 .i32) (X20 : BufTy.Contents (Elt F) arg20.view.ty) :
    Gen.LoopInvTy_k0_t9 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v500 v501 v502 v503 :=
  loopInv_k0_t9 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v500 v501 v502 v503 X20

set_option warn.classDefReducibility false in
/-- Loop `k0_t10` as the group calls it. -/
@[sl_loop] def loopInv_k0_t10_here (k0_t6 : Fin k0_t6_loop.trips) (arg38 : BitVec 32) (v505 : Vec F S8x128 .i32) (v506 : Vec F S8x128 .i32) (v507 : Vec F S8x128 .i32) (v508 : Vec F S8x128 .i32) (X20 : BufTy.Contents (Elt F) arg20.view.ty) :
    Gen.LoopInvTy_k0_t10 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v505 v506 v507 v508 :=
  loopInv_k0_t10 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 0#32 1#32 k0_t6 arg38 v505 v506 v507 v508 X20

set_option maxHeartbeats 4000000 in
/-- One trip of `k0_t6`. -/
theorem step_k0_t6 (v124 : IVec S8x128 32) (v145 : IVec S8x128 32) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) (k : Fin k0_t6_loop.trips) (acc : Unit) :
    inv_k0_t6 (F := F) c arg5 arg11 arg13 arg14 arg15 arg19 arg20 arg21 arg22 arg23 arg24 arg25 arg26 arg35 X35 X5 X13 X14 X15 X11 X19 ⊢ wp frame (wpE (defs₀ (F := F)) Variants.none (c : Thread nD τ) none) Set.univ
      (k0_t6_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t6 (F := F) c arg5 arg11 arg13 arg14 arg15 arg19 arg20 arg21 arg22 arg23 arg24 arg25 arg26 arg35 X35 X5 X13 X14 X15 X11 X19) := by
  unfold k0_t6_body
  iintro ⟨%hf, H35, H5, H13, H14, H15, H11, H19, ⟨%f20, H20⟩, ⟨%f21, H21⟩, ⟨%f22, H22⟩, ⟨%f23, H23⟩, ⟨%f24, H24⟩, ⟨%f25, H25⟩, ⟨%f26, H26⟩⟩
  sl_exec
  sl_step
  sl_close

set_option warn.classDefReducibility false in
/-- Loop `k0_t6` at its invariant. -/
@[sl_loop] def loopInv_k0_t6 (v124 : IVec S8x128 32) (v145 : IVec S8x128 32) (X35 : BufTy.Contents (Elt F) arg35.view.ty) (X5 : BufTy.Contents (Elt F) arg5.view.ty) (X13 : BufTy.Contents (Elt F) arg13.view.ty) (X14 : BufTy.Contents (Elt F) arg14.view.ty) (X15 : BufTy.Contents (Elt F) arg15.view.ty) (X11 : BufTy.Contents (Elt F) arg11.view.ty) (X19 : BufTy.Contents (Elt F) arg19.view.ty) :
    Gen.LoopInvTy_k0_t6 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t6 (F := F) c arg5 arg11 arg13 arg14 arg15 arg19 arg20 arg21 arg22 arg23 arg24 arg25 arg26 arg35 X35 X5 X13 X14 X15 X11 X19
  step k acc := step_k0_t6 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X35 X5 X13 X14 X15 X11 X19 k acc

end
end Cert.Proof.KernelIdeal
-- ==== Proof.KernelIdeal.T11.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t11`: what it reads at its contents, what it writes at any contents. -/
abbrev inv_k0_t11 (X26 : BufTy.Contents (Elt F) arg26.view.ty) (X25 : BufTy.Contents (Elt F) arg25.view.ty) : sProp 𝕄 :=
  iprop((arg26.view.loc (c : Thread nD τ) ↦[arg26.view.set]{fullShare} X26) ∗ (arg25.view.loc (c : Thread nD τ) ↦[arg25.view.set]{fullShare} X25) ∗ (∃ f, (arg28.view.loc (c : Thread nD τ) ↦[arg28.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)))

set_option maxHeartbeats 4000000 in
/-- One trip of `k0_t11`. -/
theorem step_k0_t11 (v124 : IVec S8x128 32) (v145 : IVec S8x128 32) (X26 : BufTy.Contents (Elt F) arg26.view.ty) (X25 : BufTy.Contents (Elt F) arg25.view.ty) (k : Fin k0_t11_loop.trips) (acc : Unit) :
    inv_k0_t11 (F := F) c arg25 arg26 arg28 arg30 arg31 arg32 X26 X25 ⊢ wp frame (wpE (defs₀ (F := F)) Variants.none (c : Thread nD τ) none) Set.univ
      (k0_t11_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 k acc) (fun _ => inv_k0_t11 (F := F) c arg25 arg26 arg28 arg30 arg31 arg32 X26 X25) := by
  unfold k0_t11_body
  iintro ⟨H26, H25, ⟨%f28, H28⟩, ⟨%f30, H30⟩, ⟨%f31, H31⟩, ⟨%f32, H32⟩⟩
  sl_exec
  sl_step
  sl_close

set_option warn.classDefReducibility false in
/-- Loop `k0_t11` at its invariant. -/
@[sl_loop] def loopInv_k0_t11 (v124 : IVec S8x128 32) (v145 : IVec S8x128 32) (X26 : BufTy.Contents (Elt F) arg26.view.ty) (X25 : BufTy.Contents (Elt F) arg25.view.ty) :
    Gen.LoopInvTy_k0_t11 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 where
  inv k acc := inv_k0_t11 (F := F) c arg25 arg26 arg28 arg30 arg31 arg32 X26 X25
  step k acc := step_k0_t11 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v124 v145 X26 X25 k acc

end
end Cert.Proof.KernelIdeal
-- ==== Proof.KernelIdeal.T13.lean ====
module

public import proofs.«01_k».proof.Proof.Gen.KernelIdeal.Loops
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t13`: what it reads at its contents, what it writes at any contents. -/
abbrev inv_k0_t13 (X28 : BufTy.Contents (Elt F) arg28.view.ty) (X29 : BufTy.Contents (Elt F) arg29.view.ty) : sProp 𝕄 :=
  iprop((arg28.view.loc (c : Thread nD τ) ↦[arg28.view.set]{fullShare} X28) ∗ (arg29.view.loc (c : Thread nD τ) ↦[arg29.view.set]{fullShare} X29))

set_option maxHeartbeats 4000000 in
/-- One trip of `k0_t13`. -/
theorem step_k0_t13 (v130 : IVec S8x128 32) (v145 : IVec S8x128 32) (k0_t12 : Fin k0_t12_loop.trips) (v499 : BitVec 32) (v501 : FVec F S8x128 .f32) (v503 : FVec F S8x128 .f32) (v505 : FVec F S8x128 .f32) (v507 : FVec F S8x128 .f32) (v509 : FVec F S8x128 .f32) (v511 : FVec F S8x128 .f32) (v513 : FVec F S8x128 .f32) (v515 : FVec F S8x128 .f32) (v517 : FVec F S8x128 .f32) (v519 : FVec F S8x128 .f32) (v521 : FVec F S8x128 .f32) (v522 : Vec F S1x8x128 .f32) (v524 : Vec F S1x8x128 .f32) (X28 : BufTy.Contents (Elt F) arg28.view.ty) (X29 : BufTy.Contents (Elt F) arg29.view.ty) (k : Fin k0_t13_loop.trips) (acc : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) :
    inv_k0_t13 (F := F) c arg28 arg29 X28 X29 ⊢ wp frame (wpE (defs₀ (F := F)) Variants.none (c : Thread nD τ) none) Set.univ
      (k0_t13_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 k acc) (fun _ => inv_k0_t13 (F := F) c arg28 arg29 X28 X29) := by
  unfold k0_t13_body
  iintro ⟨H28, H29⟩
  sl_exec
  sl_step
  sl_close

set_option warn.classDefReducibility false in
/-- Loop `k0_t13` at its invariant. -/
@[sl_loop] def loopInv_k0_t13 (v130 : IVec S8x128 32) (v145 : IVec S8x128 32) (k0_t12 : Fin k0_t12_loop.trips) (v499 : BitVec 32) (v501 : FVec F S8x128 .f32) (v503 : FVec F S8x128 .f32) (v505 : FVec F S8x128 .f32) (v507 : FVec F S8x128 .f32) (v509 : FVec F S8x128 .f32) (v511 : FVec F S8x128 .f32) (v513 : FVec F S8x128 .f32) (v515 : FVec F S8x128 .f32) (v517 : FVec F S8x128 .f32) (v519 : FVec F S8x128 .f32) (v521 : FVec F S8x128 .f32) (v522 : Vec F S1x8x128 .f32) (v524 : Vec F S1x8x128 .f32) (init : FVec F S8x128 .f32 × FVec F S8x128 .f32 × FVec F S8x128 .f32 × FVec F S8x128 .f32 × FVec F S8x128 .f32 × FVec F S8x128 .f32 × FVec F S8x128 .f32 × FVec F S8x128 .f32 × FVec F S8x128 .f32) (X28 : BufTy.Contents (Elt F) arg28.view.ty) (X29 : BufTy.Contents (Elt F) arg29.view.ty) :
    Gen.LoopInvTy_k0_t13 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 init where
  inv k acc := inv_k0_t13 (F := F) c arg28 arg29 X28 X29
  step k acc := step_k0_t13 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k0_t12 v499 v501 v503 v505 v507 v509 v511 v513 v515 v517 v519 v521 v522 v524 X28 X29 k acc

end
end Cert.Proof.KernelIdeal
-- ==== Proof.KernelIdeal.T12.lean ====
module

public import proofs.«01_k».proof.Proof.Gen.KernelIdeal.Loops
public import Idealize.ShloMosaic.Lib.Pipeline.FrameBody
public import Idealize.ShloMosaic.Lib.Tactic
public import proofs.«01_k».proof.Proof.KernelIdeal.T13

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t12`: what it reads at its contents, what it writes at any contents. -/
abbrev inv_k0_t12 (X30 : BufTy.Contents (Elt F) arg30.view.ty) (X28 : BufTy.Contents (Elt F) arg28.view.ty) (X29 : BufTy.Contents (Elt F) arg29.view.ty) : sProp 𝕄 :=
  iprop((arg30.view.loc (c : Thread nD τ) ↦[arg30.view.set]{fullShare} X30) ∗ (arg28.view.loc (c : Thread nD τ) ↦[arg28.view.set]{fullShare} X28) ∗ (arg29.view.loc (c : Thread nD τ) ↦[arg29.view.set]{fullShare} X29) ∗ (∃ f, (arg31.view.loc (c : Thread nD τ) ↦[arg31.view.set]{fullShare} f)) ∗ (∃ f, (arg32.view.loc (c : Thread nD τ) ↦[arg32.view.set]{fullShare} f)))

set_option maxHeartbeats 4000000 in
/-- One trip of `k0_t12`. -/
theorem step_k0_t12 (v130 : IVec S8x128 32) (v145 : IVec S8x128 32) (X30 : BufTy.Contents (Elt F) arg30.view.ty) (X28 : BufTy.Contents (Elt F) arg28.view.ty) (X29 : BufTy.Contents (Elt F) arg29.view.ty) (k : Fin k0_t12_loop.trips) (acc : Unit) :
    inv_k0_t12 (F := F) c arg28 arg29 arg30 arg31 arg32 X30 X28 X29 ⊢ wp frame (wpE (defs₀ (F := F)) Variants.none (c : Thread nD τ) none) Set.univ
      (k0_t12_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 k acc) (fun _ => inv_k0_t12 (F := F) c arg28 arg29 arg30 arg31 arg32 X30 X28 X29) := by
  unfold k0_t12_body
  iintro ⟨H30, H28, H29, ⟨%f31, H31⟩, ⟨%f32, H32⟩⟩
  sl_exec
  sl_step
  sl_close

set_option warn.classDefReducibility false in
/-- Loop `k0_t12` at its invariant. -/
@[sl_loop] def loopInv_k0_t12 (v130 : IVec S8x128 32) (v145 : IVec S8x128 32) (X30 : BufTy.Contents (Elt F) arg30.view.ty) (X28 : BufTy.Contents (Elt F) arg28.view.ty) (X29 : BufTy.Contents (Elt F) arg29.view.ty) :
    Gen.LoopInvTy_k0_t12 (F := F) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 where
  inv k acc := inv_k0_t12 (F := F) c arg28 arg29 arg30 arg31 arg32 X30 X28 X29
  step k acc := step_k0_t12 (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v130 v145 X30 X28 X29 k acc

end
end Cert.Proof.KernelIdeal
-- ==== Proof.KernelIdeal.Finish.lean ====
/-
  The end of the log-sum: eight sublanes' maxima and sums to one natural log-sum.
-/
module

public import proofs.«01_k».proof.Proof.KernelIdeal.UnitStep
public import Idealize.ShloMosaic.Lib.WritesUnit

@[expose] public section

set_option maxRecDepth 16384

noncomputable section

namespace Cert.Proof.KernelIdeal

open Cert.KernelIdeal Cert.KernelIdeal.Gen Idealize.ShloMosaic Idealize.ShloMosaic.TcCoe

/-- The eight sublanes' maxima as one. -/
def Mz (l : ℕ → ℕ → ℕ → EReal) (b t : ℕ) : EReal := Finset.univ.sup fun s : Fin 8 => Mr l 16 b s.val t
/-- The kernel's log-sum, from the running maxima and sums of the eight sublanes. -/
def Lz (l : ℕ → ℕ → ℕ → EReal) (b t : ℕ) : EReal :=
  (Mz l b t + Ideal.log (∑ s : Fin 8, Sr l 16 b s.val t * Ideal.exp2 (Mr l 16 b s.val t - Mz l b t)) * (((Real.log 2)⁻¹ : ℝ) : EReal)) * ((Real.log 2 : ℝ) : EReal)
    - Ideal.ofBits .f32 0x41102CB3#32

/-- The first `k` rows of the log-sums. -/
def HasLz (l : ℕ → ℕ → ℕ → EReal) (arg9 : Memref sig .tc .vmem S16x128 .f32) (f : BufTy.Contents (Elt Ideal) arg9.view.ty) (k : ℕ) : Prop :=
  ∀ (b : Fin 16) (t : Fin 128), b.val < k → arg9.view.read (Elt Ideal) f (ix2 b t) = Lz l b.val t.val

section
variable {l : ℕ → ℕ → ℕ → EReal}

/-- The greatest of eight sublanes, copied back to each. -/
theorem sub_max (X : FVec Ideal S8x128 .f32) (h2 : S8x128.Reduces [0] S128) (h3 : FKind.Formats .f32)
    (h4 : 0xFF800000#32 = FKind.maximumf.neutral .f32 h3) (t : Fin 128) :
    multiReduction .maximumf [0] S128 X 0xFF800000#32 h2 h3 h4 (ix1 t) = Finset.univ.sup fun s : Fin 8 => X (ix2 s t) := by
  rw [multiReduction_maximumf_eq_fold]
  refine (h2.fold_filter_drop_single _ _ _ _).trans ?_
  have el : ∀ q : Fin 8, h2.lift (ix1 t) q = ix2 q t := fun q => by
    funext a
    apply Fin.ext
    match a with
    | ⟨0, _⟩ => rfl
    | ⟨1, _⟩ => rfl
  have e0 : (FloatOps.ofBits (F := Ideal) .f32 4286578688#32 : EReal) = ⊥ := neg_inf
  rw [e0]
  show Finset.fold max ⊥ (fun q : Fin 8 => X (h2.lift (ix1 t) q)) Finset.univ = _
  simp only [el]
  rfl

/-- A row of eight sublanes finished: base-two maximum and sum to a natural log-sum. -/
theorem pay343_at (v500 v507 : Vec Ideal S1x8x128 .f32) (b : ℕ) (t : Fin 128)
    (hm : ∀ s : Fin 8, shapeCast S8x128 v500 shapeCasts_S1x8x128_S8x128 (ix2 s t) = Mr l 16 b s.val t.val)
    (hs : ∀ s : Fin 8, shapeCast S8x128 v507 shapeCasts_S1x8x128_S8x128 (ix2 s t) = Sr l 16 b s.val t.val) :
    k0_pay343 (F := Ideal) v500 v507 (ix2 0 t) = Lz l b t.val := by
  have hM : multiReduction (F := Ideal) .maximumf [0] S128 (shapeCast S8x128 v500 shapeCasts_S1x8x128_S8x128) 0xFF800000#32 reduces_S8x128_S128 (.inl rfl) rfl (ix1 t) = Mz l b t.val := by
    exact (sub_max _ _ _ _ t).trans (Finset.sup_congr rfl fun s _ => hm s)
  generalize hA : shapeCast S8x128 v500 shapeCasts_S1x8x128_S8x128 = A at hm hM
  generalize hB : shapeCast S8x128 v507 shapeCasts_S1x8x128_S8x128 = B at hs
  generalize hR : multiReduction (F := Ideal) .maximumf [0] S128 A 0xFF800000#32 reduces_S8x128_S128 (.inl rfl) rfl = R at hM
  have key : k0_pay343 (F := Ideal) v500 v507 (ix2 0 t)
      = (R (ix1 t) + Ideal.log (∑ s : Fin 8, B (ix2 s t) * Ideal.exp2 (A (ix2 s t) - R (ix1 t))) * (((Real.log 2)⁻¹ : ℝ) : EReal)) * ((Real.log 2 : ℝ) : EReal)
        - Ideal.ofBits .f32 0x41102CB3#32 := by
    unfold k0_pay343 k0_pay342
    rw [hA, hB]
    dsimp only
    rw [hR]
    pointwise []
    rfl
  rw [key, hM]
  unfold Lz
  rw [show (∑ s : Fin 8, B (ix2 s t) * Ideal.exp2 (A (ix2 s t) - Mz l b t.val)) = ∑ s : Fin 8, Sr l 16 b s.val t.val * Ideal.exp2 (Mr l 16 b s.val t.val - Mz l b t.val) from
    Finset.sum_congr rfl fun s _ => by rw [hm s, hs s]]

/-- One row of the log-sums written. -/
theorem lz_written {arg9 : Memref sig .tc .vmem S16x128 .f32} {f : BufTy.Contents (Elt Ideal) arg9.view.ty} {k : ℕ} (hk : k < 16) (H : HasLz l arg9 f k)
    (off : Fin 2 → ℕ) (inb : ∀ a, off a + S1x128.size a ≤ S16x128.size a) (ho : off = ![k, 0]) (Y : FVec Ideal S1x128 .f32)
    (HY : ∀ t : Fin 128, Y (ix2 0 t) = Lz l k t.val) :
    HasLz l arg9 (arg9.view.writes (Elt Ideal) f [⟨Rect.unit (s := S16x128) off S1x128.size inb, Y⟩]) (k + 1) := by
  subst ho
  intro b t hb
  by_cases c : b.val = k
  · rw [View.read_writes_cons_unit_of_mem arg9.view f inb Y _ (ix2 b t) (ix2 0 t) rfl (by
      intro a
      match a with
      | ⟨0, _⟩ => show b.val = k + 0; omega
      | ⟨1, _⟩ => show t.val = 0 + t.val; omega), HY, c]
  rw [View.read_writes_cons_unit_of_not_mem arg9.view f inb Y _ (ix2 b t) rfl 0 (by show b.val < k ∨ k + 1 ≤ b.val; omega)]
  exact H b t (by omega)

end

end Cert.Proof.KernelIdeal
-- ==== Proof.KernelIdeal.V14.lean ====
/-
  The loop that finishes the log-sums row by row, with the values it leaves.
-/
module

public import proofs.«01_k».proof.Proof.Gen.KernelIdeal.Loops
public import proofs.«01_k».proof.Proof.KernelIdeal.Finish
public import Idealize.ShloMosaic.Lib.Pipeline.FrameBody
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- Before any trip of `k0_t14`: what it reads at its contents, what it writes at any contents. -/
abbrev inv_v14 (l : ℕ → ℕ → ℕ → EReal) (X17 : BufTy.Contents (Elt Ideal) arg17.view.ty) (X18 : BufTy.Contents (Elt Ideal) arg18.view.ty) (X7 : BufTy.Contents (Elt Ideal) arg7.view.ty) : ℕ → sProp 𝕄 := fun k =>
  iprop((arg17.view.loc (c : Thread nD τ) ↦[arg17.view.set]{fullShare} X17) ∗ (arg18.view.loc (c : Thread nD τ) ↦[arg18.view.set]{fullShare} X18) ∗ (arg7.view.loc (c : Thread nD τ) ↦[arg7.view.set]{fullShare} X7) ∗ (∃ f, (arg9.view.loc (c : Thread nD τ) ↦[arg9.view.set]{fullShare} f) ∗ ⌜HasLz l arg9 f k⌝) ∗ (∃ f, (arg34.view.loc (c : Thread nD τ) ↦[arg34.view.set]{fullShare} f)))

set_option maxHeartbeats 4000000 in
/-- One trip of `k0_t14`. -/
theorem step_v14 {l : ℕ → ℕ → ℕ → EReal} (v445 : FVec Ideal S8x128 .f32) (v454 : IVec S8x128 32) (c0_i32_227 : BitVec 32) (X17 : BufTy.Contents (Elt Ideal) arg17.view.ty) (X18 : BufTy.Contents (Elt Ideal) arg18.view.ty) (X7 : BufTy.Contents (Elt Ideal) arg7.view.ty) (h17 : HasRun (Mr l) arg17 X17 fun _ => 16) (h18 : HasRun (Sr l) arg18 X18 fun _ => 16) (k : Fin k0_t14_loop.trips) (acc : Unit) :
    inv_v14 c arg7 arg9 arg17 arg18 arg34 l X17 X18 X7 k.val ⊢ wp frame (wpE (defs₀ (F := Ideal)) Variants.none (c : Thread nD τ) none) Set.univ
      (k0_t14_body (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 k acc) (fun _ => inv_v14 c arg7 arg9 arg17 arg18 arg34 l X17 X18 X7 (k.val + 1)) := by
  unfold k0_t14_body
  iintro ⟨H17, H18, H7, ⟨%f9, H9, %h9⟩, ⟨%f34, H34⟩⟩
  sl_exec
  sl_step
  have hk : k.val < 16 := lt_of_lt_of_eq k.isLt (by decide)
  have e119 : k0_off119 k = ![k.val, 0, 0] := by clear h9; revert k; decide
  have e120 : k0_off120 k = ![k.val, 0] := by clear h9; revert k; decide
  isplitl [H17]; · iexact H17
  isplitl [H18]; · iexact H18
  isplitl [H7]; · iexact H7
  isplitl [H9]
  · iexists _
    isplitl [H9]; · iexact H9
    ipureintro
    refine lz_written hk h9 _ _ e120 _ fun t => ?_
    refine pay343_at _ _ _ t (fun s => ?_) (fun s => ?_)
    · exact (row_read arg17 X17 _ _ ⟨k.val, hk⟩ e119 _ s t).trans (h17 _ _ _)
    · exact (row_read arg18 X18 _ _ ⟨k.val, hk⟩ e119 _ s t).trans (h18 _ _ _)
  iexists _; iexact H34

set_option warn.classDefReducibility false in
/-- Loop `k0_t14` at its invariant. -/
@[reducible] def loopInv_v14 {l : ℕ → ℕ → ℕ → EReal} (v445 : FVec Ideal S8x128 .f32) (v454 : IVec S8x128 32) (c0_i32_227 : BitVec 32) (X17 : BufTy.Contents (Elt Ideal) arg17.view.ty) (X18 : BufTy.Contents (Elt Ideal) arg18.view.ty) (X7 : BufTy.Contents (Elt Ideal) arg7.view.ty) (h17 : HasRun (Mr l) arg17 X17 fun _ => 16) (h18 : HasRun (Sr l) arg18 X18 fun _ => 16) :
    Gen.LoopInvTy_k0_t14 (F := Ideal) Unit ℕ (Pipeline.UD sig nD τ) ℕ Variants.none c none Set.univ arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 where
  inv k acc := inv_v14 c arg7 arg9 arg17 arg18 arg34 l X17 X18 X7 k
  step k acc := step_v14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 v445 v454 c0_i32_227 X17 X18 X7 h17 h18 k acc

end
end Cert.Proof.KernelIdeal
-- ==== Proof.KernelIdeal.BodyV.lean ====
/-
  The whole body's triple: from its inputs it ends with the log-sums of every row in its result.
-/
module

public import proofs.«01_k».proof.Proof.Gen.KernelIdeal.Loops
public import Idealize.ShloMosaic.Lib.Pipeline.FrameBody
public import Idealize.ShloMosaic.Lib.Tactic
public import proofs.«01_k».proof.Proof.KernelIdeal.Start
public import proofs.«01_k».proof.Proof.KernelIdeal.Init
public import proofs.«01_k».proof.Proof.KernelIdeal.T1
public import proofs.«01_k».proof.Proof.KernelIdeal.V2
public import proofs.«01_k».proof.Proof.KernelIdeal.V3
public import proofs.«01_k».proof.Proof.KernelIdeal.T6
public import proofs.«01_k».proof.Proof.KernelIdeal.T11
public import proofs.«01_k».proof.Proof.KernelIdeal.T12
public import proofs.«01_k».proof.Proof.KernelIdeal.V14

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (Pipeline.UD sig nD τ) ℕ

section
variable (c : Dev nD) (arg0 : Memref sig .tc .hbm S2048x1536 .fp8e4m3) (harg0 : arg0.IsWhole) (arg1 : Memref sig .tc .hbm S1536x8192 .i8) (harg1 : arg1.IsWhole) (arg2 : Memref sig .tc .vmem S16x128 .f32) (harg2 : arg2.IsWhole) (arg3 : Memref sig .tc .vmem S64x128 .f32) (harg3 : arg3.IsWhole) (arg4 : Memref sig .tc .vmem S64x128 .f32) (harg4 : arg4.IsWhole) (arg5 : Memref sig .tc .smem S512 .i32) (harg5 : arg5.IsWhole) (arg6 : Memref sig .tc .smem S16 .i32) (harg6 : arg6.IsWhole) (arg7 : Memref sig .tc .smem S16 .i32) (harg7 : arg7.IsWhole) (arg8 : Memref sig .tc .vmem S1x16 .f32) (harg8 : arg8.IsWhole) (arg9 : Memref sig .tc .vmem S16x128 .f32) (harg9 : arg9.IsWhole) (arg10 : Memref sig .tc .vmem S16x65 .f32) (harg10 : arg10.IsWhole) (arg11 : Memref sig .tc .vmem S2048x1536 .fp8e4m3) (harg11 : arg11.IsWhole) (arg12 : Memref sig .tc .vmem S1536x8192 .i8) (harg12 : arg12.IsWhole) (arg13 : Memref sig .tc .vmem S12x2048x128 .i32) (harg13 : arg13.IsWhole) (arg14 : Memref sig .tc .vmem S8192x128 .f32) (harg14 : arg14.IsWhole) (arg15 : Memref sig .tc .vmem S8192x128 .f32) (harg15 : arg15.IsWhole) (arg16 : Memref sig .tc .vmem S4x512x128 .f32) (harg16 : arg16.IsWhole) (arg17 : Memref sig .tc .vmem S16x8x128 .f32) (harg17 : arg17.IsWhole) (arg18 : Memref sig .tc .vmem S16x8x128 .f32) (harg18 : arg18.IsWhole) (arg19 : Memref sig .tc .vmem S16x128 .f32) (harg19 : arg19.IsWhole) (arg20 : Memref sig .tc .vmem S12x64x128 .i32) (harg20 : arg20.IsWhole) (arg21 : Memref sig .tc .vmem S64x128 .i32) (harg21 : arg21.IsWhole) (arg22 : Memref sig .tc .vmem S12x128x128 .i32) (harg22 : arg22.IsWhole) (arg23 : Memref sig .tc .vmem S512x128 .f32) (harg23 : arg23.IsWhole) (arg24 : Memref sig .tc .vmem S512x128 .f32) (harg24 : arg24.IsWhole) (arg25 : Memref sig .tc .vmem S512x128 .f32) (harg25 : arg25.IsWhole) (arg26 : Memref sig .tc .vmem S4x128x128 .f32) (harg26 : arg26.IsWhole) (arg27 : Memref sig .tc .vmem S128x128 .f32) (harg27 : arg27.IsWhole) (arg28 : Memref sig .tc .vmem S4x128x128 .f32) (harg28 : arg28.IsWhole) (arg29 : Memref sig .tc .vmem S128x128 .f32) (harg29 : arg29.IsWhole) (arg30 : Memref sig .tc .vmem S4x8x128 .f32) (harg30 : arg30.IsWhole) (arg31 : Memref sig .tc .vmem S4x8x128 .f32) (harg31 : arg31.IsWhole) (arg32 : Memref sig .tc .vmem S5x8x128 .f32) (harg32 : arg32.IsWhole) (arg33 : Memref sig .tc .vmem S128x128 .f32) (harg33 : arg33.IsWhole) (arg34 : Memref sig .tc .vmem S128x128 .f32) (harg34 : arg34.IsWhole) (arg35 : Memref sig .tc .smem S16 .i32) (harg35 : arg35.IsWhole) (arg36 : DmaSems sig S16) (arg37 : DmaSems sig S4)

/-- What the body is handed, and hands back: the staged operands at their contents, the results and the scratch at any,
the blocks of the two arrays it copies at rest. -/
abbrev bodyRes (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) : sProp 𝕄 := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f)) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ bigSep Finset.univ (xlandedP c arg0 arg11 arg37 X0) ∗ bigSep Finset.univ (landedP c arg1 arg12 arg36 X1) ∗ (∃ W, owes (c : Thread nD τ) 0 W))

/-- What the body hands back: the log-sums at their values, the staged operands at their contents, the other results and the scratch at any,
the blocks of the two arrays it copies at rest. -/
abbrev bodyVal (l : ℕ → ℕ → ℕ → EReal) (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) : sProp 𝕄 := iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg8.view.loc (c : Thread nD τ) ↦[arg8.view.set]{fullShare} f)) ∗ (∃ f, (arg9.view.loc (c : Thread nD τ) ↦[arg9.view.set]{fullShare} f) ∗ ⌜HasLz l arg9 f 16⌝) ∗ (∃ f, (arg10.view.loc (c : Thread nD τ) ↦[arg10.view.set]{fullShare} f)) ∗ (∃ f, (arg13.view.loc (c : Thread nD τ) ↦[arg13.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)) ∗ (∃ f, (arg25.view.loc (c : Thread nD τ) ↦[arg25.view.set]{fullShare} f)) ∗ (∃ f, (arg26.view.loc (c : Thread nD τ) ↦[arg26.view.set]{fullShare} f)) ∗ (∃ f, (arg27.view.loc (c : Thread nD τ) ↦[arg27.view.set]{fullShare} f)) ∗ (∃ f, (arg28.view.loc (c : Thread nD τ) ↦[arg28.view.set]{fullShare} f)) ∗ (∃ f, (arg29.view.loc (c : Thread nD τ) ↦[arg29.view.set]{fullShare} f)) ∗ (∃ f, (arg30.view.loc (c : Thread nD τ) ↦[arg30.view.set]{fullShare} f)) ∗ (∃ f, (arg31.view.loc (c : Thread nD τ) ↦[arg31.view.set]{fullShare} f)) ∗ (∃ f, (arg32.view.loc (c : Thread nD τ) ↦[arg32.view.set]{fullShare} f)) ∗ (∃ f, (arg33.view.loc (c : Thread nD τ) ↦[arg33.view.set]{fullShare} f)) ∗ (∃ f, (arg34.view.loc (c : Thread nD τ) ↦[arg34.view.set]{fullShare} f)) ∗ (∃ f, (arg35.view.loc (c : Thread nD τ) ↦[arg35.view.set]{fullShare} f)) ∗ bigSep Finset.univ (xlandedP c arg0 arg11 arg37 X0) ∗ bigSep Finset.univ (landedP c arg1 arg12 arg36 X1) ∗ (∃ W, owes (c : Thread nD τ) 0 W))

attribute [local irreducible] blocksAt in
set_option maxHeartbeats 16000000 in
theorem body_vrun {w x xs : ℕ → ℕ → EReal} {ws bs : ℕ → EReal} (X0 : BufTy.Contents (Elt Ideal) arg0.view.ty) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (hlab : LabOK arg5 X5) (hlen : LenOK arg6 X6)
    (hx : ∀ (r : Fin 2048) (d : Fin 1536), arg0.view.read (Elt Ideal) X0 (ix2 r d) = x r.val d.val) (hW : HasW w arg1 X1) (hxs : HasXs xs arg2 X2) (h3 : Has3 ws arg3 X3) (h4 : Has4 bs arg4 X4) :
    bodyRes c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 X0 X1 X2 X3 X4 X5 X6 X7 ⊢ wp frame (wpE (defs₀ (F := Ideal)) Variants.none (c : Thread nD τ) none) Set.univ
      (cc0_ctc_head (F := Ideal) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37) (fun _ => bodyVal c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 (lg w x xs ws bs) X0 X1 X2 X3 X4 X5 X6 X7) := by
  rw [cc0_ctc_head_eq_skeleton]
  unfold cc0_ctc_head_skel
  generalize hQ : (fun _ : PUnit => bodyVal c arg0 arg1 arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 arg34 arg35 arg36 arg37 (lg w x xs ws bs) X0 X1 X2 X3 X4 X5 X6 X7) = Q
  unfold bodyRes
  rw [w16, x4]
  iintro ⟨H2, H3, H4, H5, H6, H7, ⟨%f8, H8⟩, ⟨%f9, H9⟩, ⟨%f10, H10⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, ⟨%f22, H22⟩, ⟨%f23, H23⟩, ⟨%f24, H24⟩, ⟨%f25, H25⟩, ⟨%f26, H26⟩, ⟨%f27, H27⟩, ⟨%f28, H28⟩, ⟨%f29, H29⟩, ⟨%f30, H30⟩, ⟨%f31, H31⟩, ⟨%f32, H32⟩, ⟨%f33, H33⟩, ⟨%f34, H34⟩, ⟨%f35, H35⟩, Hx, Hw, ⟨%W, HW⟩⟩
  icases Hw with ⟨⟨⟨%g0, Hw0⟩, Hv0, Hc0⟩, ⟨⟨%g1, Hw1⟩, Hv1, Hc1⟩, ⟨⟨%g2, Hw2⟩, Hv2, Hc2⟩, ⟨⟨%g3, Hw3⟩, Hv3, Hc3⟩, ⟨⟨%g4, Hw4⟩, Hv4, Hc4⟩, ⟨⟨%g5, Hw5⟩, Hv5, Hc5⟩, ⟨⟨%g6, Hw6⟩, Hv6, Hc6⟩, ⟨⟨%g7, Hw7⟩, Hv7, Hc7⟩, ⟨⟨%g8, Hw8⟩, Hv8, Hc8⟩, ⟨⟨%g9, Hw9⟩, Hv9, Hc9⟩, ⟨⟨%g10, Hw10⟩, Hv10, Hc10⟩, ⟨⟨%g11, Hw11⟩, Hv11, Hc11⟩, ⟨⟨%g12, Hw12⟩, Hv12, Hc12⟩, ⟨⟨%g13, Hw13⟩, Hv13, Hc13⟩, ⟨⟨%g14, Hw14⟩, Hv14, Hc14⟩, ⟨⟨%g15, Hw15⟩, Hv15, Hc15⟩⟩
  icases Hx with ⟨⟨⟨%u0, Hx0⟩, Hy0, Hd0⟩, ⟨⟨%u1, Hx1⟩, Hy1, Hd1⟩, ⟨⟨%u2, Hx2⟩, Hy2, Hd2⟩, ⟨⟨%u3, Hx3⟩, Hy3, Hd3⟩⟩
  sl_exec
  rename_i acc1
  have hoff : OffOK arg35 fL0 := fun i => hL5 i (lt_of_lt_of_eq (i 0).isLt (by decide))
  have hlo : LabOK arg5 X5 ∧ OffOK arg35 fL0 := ⟨hlab, hoff⟩
  have hB : Has12 w arg12 ((wwin arg12 0).view.writes (Elt Ideal) (wwin arg12 0).view.junk [⟨Rect.whole S1536x512, body_vrun.sl.dma0 arg1 X1⟩]) 0 :=
    has12_landed hW arg12 0 _
  have e13 : Has13 w arg13 f13 (128 * 0 + 32 * 0) := fun g i l q hq hi => absurd hi (Nat.not_lt_zero _)
  have e14 : HasCol ws arg14 f14 (512 * 0 + 128 * 0) := fun v t hv => absurd hv (Nat.not_lt_zero _)
  have e15 : HasCol bs arg15 f15 (512 * 0 + 128 * 0) := fun v t hv => absurd hv (Nat.not_lt_zero _)
  let L2 := loopInv_v2 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 body_vrun.sl.v124 body_vrun.sl.v145 _ X3 X4 hB h3 h4
  sl_exec
  have k13 : Has13 w arg13 fL0 (128 * (0 + 1)) := has13_mono hL4 (Or.inl (by decide))
  have k14 : HasCol ws arg14 fL1 (512 * (0 + 1)) := hasCol_mono hL6 (Or.inl (by decide))
  have k15 : HasCol bs arg15 fL2 (512 * (0 + 1)) := hasCol_mono hL8 (Or.inl (by decide))
  ihave HX := (x_collect c arg0 arg11 X0) $$ [Hx0 Hx1 Hx2 Hx3]
  · isplitl [Hx0]
    · iexists _
      isplitr; rotate_left
      · iexact Hx0
      · ipureintro; intro y; rw [View.read_writes_whole]; rfl
    isplitl [Hx1]
    · iexists _
      isplitr; rotate_left
      · iexact Hx1
      · ipureintro; intro y; rw [View.read_writes_whole]; rfl
    isplitl [Hx2]
    · iexists _
      isplitr; rotate_left
      · iexact Hx2
      · ipureintro; intro y; rw [View.read_writes_whole]; rfl
    iexists _
    isplitr; rotate_left
    · iexact Hx3
    · ipureintro; intro y; rw [View.read_writes_whole]; rfl
  icases HX with ⟨%gx, %hgx, H11⟩
  ihave HB := (blocks_start c arg1 arg12 arg36 X1) $$ [Hw0 Hv0 Hc0 Hc1 Hc2 Hc3 Hc4 Hc5 Hc6 Hc7 Hc8 Hc9 Hc10 Hc11 Hc12 Hc13 Hc14 Hc15]
  · isplitl [Hw0 Hv0 Hc0]
    · isplitl [Hw0]; · iexists _; iexact Hw0
      isplitl [Hv0]; · iexact Hv0
      iexact Hc0
    isplitl [Hc1]; · iexists _; iexact Hc1
    isplitl [Hc2]; · iexists _; iexact Hc2
    isplitl [Hc3]; · iexists _; iexact Hc3
    isplitl [Hc4]; · iexists _; iexact Hc4
    isplitl [Hc5]; · iexists _; iexact Hc5
    isplitl [Hc6]; · iexists _; iexact Hc6
    isplitl [Hc7]; · iexists _; iexact Hc7
    isplitl [Hc8]; · iexists _; iexact Hc8
    isplitl [Hc9]; · iexists _; iexact Hc9
    isplitl [Hc10]; · iexists _; iexact Hc10
    isplitl [Hc11]; · iexists _; iexact Hc11
    isplitl [Hc12]; · iexists _; iexact Hc12
    isplitl [Hc13]; · iexists _; iexact Hc13
    isplitl [Hc14]; · iexists _; iexact Hc14
    iexists _; iexact Hc15
  have k11 : Has11 x arg11 gx := fun r d => (hgx _).trans (hx r d)
  have k19 : Has19 xs arg19 (arg19.view.writes (Elt Ideal) arg19.view.junk (body_vrun.sl.H19_1 arg2 X2)) := xs_stored hxs arg19 _
  have k17 : HasRun (Mr (lg w x xs ws bs)) arg17 (arg17.view.writes (Elt Ideal) arg17.view.junk body_vrun.sl.H17_1) fun _ => 0 := max_stored _ arg17 _
  have k18 : HasRun (Sr (lg w x xs ws bs)) arg18 (arg18.view.writes (Elt Ideal) arg18.view.junk body_vrun.sl.H18_1) fun _ => 0 := sum_stored _ arg18 _
  let L := loopInv_v3 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 body_vrun.sl.v124 body_vrun.sl.v145 X1 X3 X4 gx (arg19.view.writes (Elt Ideal) arg19.view.junk (body_vrun.sl.H19_1 arg2 X2)) hW h3 h4 k11 k19
  sl_exec
  have t3 : Scf.trips k0_t3_loop.lb k0_t3_loop.ub k0_t3_loop.st = 16 := by decide
  have q17 : HasRun (Mr (lg w x xs ws bs)) arg17 fL5 fun _ => 16 := hasRun_congr hL13 fun _ _ => t3
  have q18 : HasRun (Sr (lg w x xs ws bs)) arg18 fL6 fun _ => 16 := hasRun_congr hL15 fun _ _ => t3
  have e9 : HasLz (lg w x xs ws bs) arg9 f9 0 := fun b t hb => absurd hb (Nat.not_lt_zero _)
  let L14 := loopInv_v14 c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 arg37 (body_vrun.sl.r_18 c arg31 arg32 acc1 fL19 fL20) body_vrun.sl.v454 0#32 fL5 fL6 X7 q17 q18
  sl_exec
  sl_step
  have t14 : Scf.trips k0_t14_loop.lb k0_t14_loop.ub k0_t14_loop.st = 16 := by decide
  subst hQ
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]
  · iexists _
    isplitl [H9]; · iexact H9
    ipureintro
    rw [← t14]
    assumption
  isplitl [H10]; · iexists _; iexact H10
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H11 Hy0 Hy1 Hy2 Hy3 Hd0 Hd1 Hd2 Hd3]
  · iapply (x_home c arg0 arg11 arg37 X0 gx)
    isplitl [H11]; · iexact H11
    isplitl [Hy0]; · iexact Hy0
    isplitl [Hy1]; · iexact Hy1
    isplitl [Hy2]; · iexact Hy2
    isplitl [Hy3]; · iexact Hy3
    isplitl [Hd0]; · iexact Hd0
    isplitl [Hd1]; · iexact Hd1
    isplitl [Hd2]; · iexact Hd2
    iexact Hd3
  isplitl [HB]
  · iapply (blocks_end c arg1 arg12 arg36 X1)
    iexact HB
  iexists _; iexact HW

end
end Cert.Proof.KernelIdeal
-- ==== Proof.KernelIdeal.Parts.lean ====
module

public import proofs.«01_k».proof.Proof.KernelIdeal.Start

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! A buffer cut into the blocks its transfers move, and put together again: sixteen column blocks, four row blocks. -/

section
variable (c : Dev nD)

/-- The places of column block `j`. -/
abbrev wset {sp : Space} (M : Memref sig .tc sp S1536x8192 .i8) (j : Fin 16) : Finset M.view.ty.Idx :=
  M.view.setOn (Rect.unit (s := S1536x8192) (wOff j) S1536x512.size (wOff_inb j)).set
theorem mem_wset {sp : Space} (M : Memref sig .tc sp S1536x8192 .i8) (j : Fin 16) (y : S1536x8192.Idx) :
    M.view.emb y ∈ wset M j ↔ (y 1).val / 512 = j.val := by
  rw [View.mem_setOn, Rect.mem_set_unit]
  have h1 : (y 0).val < 1536 := (y 0).isLt
  constructor
  · intro H; have a0 : 512 * j.val ≤ (y 1).val ∧ (y 1).val < 512 * j.val + 512 := H 1; omega
  · intro H i; fin_cases i
    · show 0 ≤ (y 0).val ∧ (y 0).val < 0 + 1536; omega
    · show 512 * j.val ≤ (y 1).val ∧ (y 1).val < 512 * j.val + 512; omega
theorem wset_disjoint {sp : Space} (M : Memref sig .tc sp S1536x8192 .i8) : ∀ p ∈ (Finset.univ : Finset (Fin 16)), ∀ p' ∈ (Finset.univ : Finset (Fin 16)), p ≠ p' → Disjoint (wset M p) (wset M p') := by
  intro p _ p' _ hne
  rw [Finset.disjoint_left]
  intro i hi hi'
  obtain ⟨y, -, rfl⟩ := Finset.mem_map.mp hi
  exact hne (Fin.ext (((mem_wset M p y).mp hi).symm.trans ((mem_wset M p' y).mp hi')))
theorem wset_cover {sp : Space} (M : Memref sig .tc sp S1536x8192 .i8) : Finset.univ.biUnion (wset M) = M.view.set := by
  ext i
  rw [Finset.mem_biUnion]
  constructor
  · rintro ⟨p, -, h⟩; exact M.view.setOn_subset_set _ h
  · intro h
    obtain ⟨y, -, rfl⟩ := Finset.mem_map.mp h
    have h0 : (y 1).val < 8192 := (y 1).isLt
    exact ⟨⟨(y 1).val / 512, by omega⟩, Finset.mem_univ _, (mem_wset M _ y).mpr rfl⟩

theorem wpt_eq {sp : Space} (M : Memref sig .tc sp S1536x8192 .i8) (p : Fin 16) (f : BufTy.Contents (Elt F) M.view.ty) :
    (((wwin M p).view.loc (c : Thread nD τ) ↦[(wwin M p).view.set]{fullShare} f) : sProp 𝕄)
      = (M.view.loc (c : Thread nD τ) ↦[wset M p]{fullShare} f) :=
  congrArg (fun S : Finset M.view.ty.Idx => (M.view.loc (c : Thread nD τ) ↦[S]{fullShare} f : sProp 𝕄)) (wwin_set M p)
theorem wpt_split {sp : Space} (M : Memref sig .tc sp S1536x8192 .i8) (f : BufTy.Contents (Elt F) M.view.ty) :
    (M.view.loc (c : Thread nD τ) ↦[M.view.set]{fullShare} f : sProp 𝕄)
      = bigSep Finset.univ (fun p : Fin 16 => ((wwin M p).view.loc (c : Thread nD τ) ↦[(wwin M p).view.set]{fullShare} f)) := by
  refine ((congrArg (fun S : Finset M.view.ty.Idx => (M.view.loc (c : Thread nD τ) ↦[S]{fullShare} f : sProp 𝕄)) (wset_cover M).symm).trans
    (pointsTo_biUnion (q := fullShare) (ℓ := M.view.loc (c : Thread nD τ)) Finset.univ (wset M) (wset_disjoint M))).trans ?_
  exact bigSep_congr fun p _ => (wpt_eq c M p f).symm
theorem wpt_join {sp : Space} (M : Memref sig .tc sp S1536x8192 .i8) :
    bigSep Finset.univ (fun p : Fin 16 => iprop(∃ f, ((wwin M p).view.loc (c : Thread nD τ) ↦[(wwin M p).view.set]{fullShare} f)))
      ⊢ (iprop(∃ g : BufTy.Contents (Elt F) M.view.ty, (M.view.loc (c : Thread nD τ) ↦[M.view.set]{fullShare} g)) : sProp 𝕄) := by
  refine (bigSep_exists_pi (Y := fun _ => BufTy.Contents (Elt F) M.view.ty) Finset.univ (fun p f => ((wwin M p).view.loc (c : Thread nD τ) ↦[(wwin M p).view.set]{fullShare} f : sProp 𝕄))).trans ?_
  iintro ⟨%fs, H⟩
  have hj := (pointsTo_biUnion_join (Ix := Unit) (Name := ℕ) (U := Pipeline.UD sig nD τ) (Lvl := ℕ) (q := fullShare) (ℓ := M.view.loc (c : Thread nD τ)) Finset.univ (wset M) fs (fs 0) (wset_disjoint M))
  have he : bigSep Finset.univ (fun p : Fin 16 => ((wwin M p).view.loc (c : Thread nD τ) ↦[(wwin M p).view.set]{fullShare} fs p : sProp 𝕄))
      ⊢ bigSep Finset.univ (fun p : Fin 16 => (M.view.loc (c : Thread nD τ) ↦[wset M p]{fullShare} fs p : sProp 𝕄)) := Entails.of_eq (bigSep_congr fun p _ => wpt_eq c M p (fs p))
  ihave H' := he $$ H
  icases hj $$ H' with ⟨%g, %hg, H⟩
  iexists g
  rw [wset_cover]; iexact H

theorem xpt_eq {sp : Space} (M : Memref sig .tc sp S2048x1536 .fp8e4m3) (p : Fin 4) (f : BufTy.Contents (Elt F) M.view.ty) :
    (((xwin M p).view.loc (c : Thread nD τ) ↦[(xwin M p).view.set]{fullShare} f) : sProp 𝕄)
      = (M.view.loc (c : Thread nD τ) ↦[xset M p]{fullShare} f) :=
  congrArg (fun S : Finset M.view.ty.Idx => (M.view.loc (c : Thread nD τ) ↦[S]{fullShare} f : sProp 𝕄)) (xwin_set M p)
theorem xpt_split {sp : Space} (M : Memref sig .tc sp S2048x1536 .fp8e4m3) (f : BufTy.Contents (Elt F) M.view.ty) :
    (M.view.loc (c : Thread nD τ) ↦[M.view.set]{fullShare} f : sProp 𝕄)
      = bigSep Finset.univ (fun p : Fin 4 => ((xwin M p).view.loc (c : Thread nD τ) ↦[(xwin M p).view.set]{fullShare} f)) := by
  refine ((congrArg (fun S : Finset M.view.ty.Idx => (M.view.loc (c : Thread nD τ) ↦[S]{fullShare} f : sProp 𝕄)) (xset_cover M).symm).trans
    (pointsTo_biUnion (q := fullShare) (ℓ := M.view.loc (c : Thread nD τ)) Finset.univ (xset M) (xset_disjoint M))).trans ?_
  exact bigSep_congr fun p _ => (xpt_eq c M p f).symm
theorem xpt_join {sp : Space} (M : Memref sig .tc sp S2048x1536 .fp8e4m3) :
    bigSep Finset.univ (fun p : Fin 4 => iprop(∃ f, ((xwin M p).view.loc (c : Thread nD τ) ↦[(xwin M p).view.set]{fullShare} f)))
      ⊢ (iprop(∃ g : BufTy.Contents (Elt F) M.view.ty, (M.view.loc (c : Thread nD τ) ↦[M.view.set]{fullShare} g)) : sProp 𝕄) := by
  refine (bigSep_exists_pi (Y := fun _ => BufTy.Contents (Elt F) M.view.ty) Finset.univ (fun p f => ((xwin M p).view.loc (c : Thread nD τ) ↦[(xwin M p).view.set]{fullShare} f : sProp 𝕄))).trans ?_
  iintro ⟨%fs, H⟩
  have hj := (pointsTo_biUnion_join (Ix := Unit) (Name := ℕ) (U := Pipeline.UD sig nD τ) (Lvl := ℕ) (q := fullShare) (ℓ := M.view.loc (c : Thread nD τ)) Finset.univ (xset M) fs (fs 0) (xset_disjoint M))
  have he : bigSep Finset.univ (fun p : Fin 4 => ((xwin M p).view.loc (c : Thread nD τ) ↦[(xwin M p).view.set]{fullShare} fs p : sProp 𝕄))
      ⊢ bigSep Finset.univ (fun p : Fin 4 => (M.view.loc (c : Thread nD τ) ↦[xset M p]{fullShare} fs p : sProp 𝕄)) := Entails.of_eq (bigSep_congr fun p _ => xpt_eq c M p (fs p))
  ihave H' := he $$ H
  icases hj $$ H' with ⟨%g, %hg, H⟩
  iexists g
  rw [xset_cover]; iexact H

/-- A buffer at any contents, the array and the cells at zero are the blocks at rest. -/
theorem w_rest (arg1 : Memref sig .tc .hbm S1536x8192 .i8) (arg12 : Memref sig .tc .vmem S1536x8192 .i8) (arg36 : DmaSems sig S16) (X1 : BufTy.Contents (Elt F) arg1.view.ty) :
    iprop((∃ f, (arg12.view.loc (c : Thread nD τ) ↦[arg12.view.set]{fullShare} f)) ∗ (arg1.view.loc (c : Thread nD τ) ↦[arg1.view.set]{fullShare} X1) ∗ bigSep Finset.univ (fun p : Fin 16 => semVal ((c : Thread nD τ), SemLoc.dma (wcell arg36 p).sem) 0))
      ⊢ (bigSep Finset.univ (landedP c arg1 arg12 arg36 X1) : sProp 𝕄) := by
  rw [wpt_split c arg1, bigSep_sep', bigSep_sep']
  iintro ⟨⟨%f, H⟩, HA, HC⟩
  isplitl [H]
  · have he : bigSep Finset.univ (fun p : Fin 16 => ((wwin arg12 p).view.loc (c : Thread nD τ) ↦[(wwin arg12 p).view.set]{fullShare} f : sProp 𝕄))
        ⊢ bigSep Finset.univ (fun p : Fin 16 => (iprop(∃ f, ((wwin arg12 p).view.loc (c : Thread nD τ) ↦[(wwin arg12 p).view.set]{fullShare} f)) : sProp 𝕄)) :=
      bigSep_mono fun p _ => exists_intro (Φ := fun f => ((wwin arg12 p).view.loc (c : Thread nD τ) ↦[(wwin arg12 p).view.set]{fullShare} f : sProp 𝕄)) f
    have hs := Entails.of_eq (wpt_split c arg12 f)
    ihave H1 := hs $$ H
    ihave H' := he $$ H1
    iexact H'
  isplitl [HA]; · iexact HA
  iexact HC
theorem w_unrest (arg1 : Memref sig .tc .hbm S1536x8192 .i8) (arg12 : Memref sig .tc .vmem S1536x8192 .i8) (arg36 : DmaSems sig S16) (X1 : BufTy.Contents (Elt F) arg1.view.ty) :
    bigSep Finset.univ (landedP c arg1 arg12 arg36 X1)
      ⊢ (iprop((∃ f, (arg12.view.loc (c : Thread nD τ) ↦[arg12.view.set]{fullShare} f)) ∗ (arg1.view.loc (c : Thread nD τ) ↦[arg1.view.set]{fullShare} X1) ∗ bigSep Finset.univ (fun p : Fin 16 => semVal ((c : Thread nD τ), SemLoc.dma (wcell arg36 p).sem) 0)) : sProp 𝕄) := by
  rw [wpt_split c arg1]
  rw [bigSep_sep', bigSep_sep']
  iintro ⟨H, HA, HC⟩
  ihave H' := (wpt_join c arg12) $$ H
  isplitl [H']; · iexact H'
  isplitl [HA]; · iexact HA
  iexact HC

/-- A buffer at any contents, the array and the cells at zero are the blocks at rest. -/
theorem x_rest (arg0 : Memref sig .tc .hbm S2048x1536 .fp8e4m3) (arg11 : Memref sig .tc .vmem S2048x1536 .fp8e4m3) (arg37 : DmaSems sig S4) (X0 : BufTy.Contents (Elt F) arg0.view.ty) :
    iprop((∃ f, (arg11.view.loc (c : Thread nD τ) ↦[arg11.view.set]{fullShare} f)) ∗ (arg0.view.loc (c : Thread nD τ) ↦[arg0.view.set]{fullShare} X0) ∗ bigSep Finset.univ (fun p : Fin 4 => semVal ((c : Thread nD τ), SemLoc.dma (xcell arg37 p).sem) 0))
      ⊢ (bigSep Finset.univ (xlandedP c arg0 arg11 arg37 X0) : sProp 𝕄) := by
  rw [xpt_split c arg0, bigSep_sep', bigSep_sep']
  iintro ⟨⟨%f, H⟩, HA, HC⟩
  isplitl [H]
  · have he : bigSep Finset.univ (fun p : Fin 4 => ((xwin arg11 p).view.loc (c : Thread nD τ) ↦[(xwin arg11 p).view.set]{fullShare} f : sProp 𝕄))
        ⊢ bigSep Finset.univ (fun p : Fin 4 => (iprop(∃ f, ((xwin arg11 p).view.loc (c : Thread nD τ) ↦[(xwin arg11 p).view.set]{fullShare} f)) : sProp 𝕄)) :=
      bigSep_mono fun p _ => exists_intro (Φ := fun f => ((xwin arg11 p).view.loc (c : Thread nD τ) ↦[(xwin arg11 p).view.set]{fullShare} f : sProp 𝕄)) f
    have hs := Entails.of_eq (xpt_split c arg11 f)
    ihave H1 := hs $$ H
    ihave H' := he $$ H1
    iexact H'
  isplitl [HA]; · iexact HA
  iexact HC
theorem x_unrest (arg0 : Memref sig .tc .hbm S2048x1536 .fp8e4m3) (arg11 : Memref sig .tc .vmem S2048x1536 .fp8e4m3) (arg37 : DmaSems sig S4) (X0 : BufTy.Contents (Elt F) arg0.view.ty) :
    bigSep Finset.univ (xlandedP c arg0 arg11 arg37 X0)
      ⊢ (iprop((∃ f, (arg11.view.loc (c : Thread nD τ) ↦[arg11.view.set]{fullShare} f)) ∗ (arg0.view.loc (c : Thread nD τ) ↦[arg0.view.set]{fullShare} X0) ∗ bigSep Finset.univ (fun p : Fin 4 => semVal ((c : Thread nD τ), SemLoc.dma (xcell arg37 p).sem) 0)) : sProp 𝕄) := by
  rw [xpt_split c arg0]
  rw [bigSep_sep', bigSep_sep']
  iintro ⟨H, HA, HC⟩
  ihave H' := (xpt_join c arg11) $$ H
  isplitl [H']; · iexact H'
  isplitl [HA]; · iexact HA
  iexact HC
end

end Cert.Proof.KernelIdeal
-- ==== Proof.KernelIdeal.LaunchV.lean ====
/-
  The launch: the body's triple as the call's obligation, the run of the program from it, and what the run leaves in the
  arguments and in the array of log-sums.
-/
module

public import proofs.«01_k».proof.Proof.KernelIdeal.BodyV
public import Idealize.ShloMosaic.Lib.Pipeline.ValueKit.Geometry
public import proofs.«01_k».proof.Proof.KernelIdeal.Parts
public import proofs.«01_k».proof.Proof.Gen.KernelIdeal.Frame
public import proofs.«01_k».proof.Proof.Gen.KernelIdeal.Skeleton
public import Idealize.ShloMosaic.Lib.Pipeline.Frame

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat BodyObligation)
open Idealize.SL.BI.BIBase Idealize.SL.BI.Laws Idealize.SL.ProofMode Idealize.SL.Sem

local notation "𝕄" => MT nD τ sig Unit (Elt Ideal) ℕ (Pipeline.UD sig nD τ) ℕ

variable (m : (ℓ : Loc nD τ sig) → Buf (Elt Ideal) ℓ) (ρ : Dev nD → PrngReg)

/-! ## The kernel's own semaphores, and the two arrays it copies -/

abbrev osem0 : Fin 20 → SemLoc sig := fun j => (![SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27, SemLoc.dma 28] : Fin 20 → SemLoc sig) j
theorem ownSemFacts0 : Pipeline.OwnSemFacts spec0 osem0 := by decide
theorem wsem_0 : (wcell cc0_scratch25 0).sem = 9 := by decide +kernel
theorem wsem_1 : (wcell cc0_scratch25 1).sem = 10 := by decide +kernel
theorem wsem_2 : (wcell cc0_scratch25 2).sem = 11 := by decide +kernel
theorem wsem_3 : (wcell cc0_scratch25 3).sem = 12 := by decide +kernel
theorem wsem_4 : (wcell cc0_scratch25 4).sem = 13 := by decide +kernel
theorem wsem_5 : (wcell cc0_scratch25 5).sem = 14 := by decide +kernel
theorem wsem_6 : (wcell cc0_scratch25 6).sem = 15 := by decide +kernel
theorem wsem_7 : (wcell cc0_scratch25 7).sem = 16 := by decide +kernel
theorem wsem_8 : (wcell cc0_scratch25 8).sem = 17 := by decide +kernel
theorem wsem_9 : (wcell cc0_scratch25 9).sem = 18 := by decide +kernel
theorem wsem_10 : (wcell cc0_scratch25 10).sem = 19 := by decide +kernel
theorem wsem_11 : (wcell cc0_scratch25 11).sem = 20 := by decide +kernel
theorem wsem_12 : (wcell cc0_scratch25 12).sem = 21 := by decide +kernel
theorem wsem_13 : (wcell cc0_scratch25 13).sem = 22 := by decide +kernel
theorem wsem_14 : (wcell cc0_scratch25 14).sem = 23 := by decide +kernel
theorem wsem_15 : (wcell cc0_scratch25 15).sem = 24 := by decide +kernel
theorem xsem_0 : (xcell cc0_scratch26 0).sem = 25 := by decide +kernel
theorem xsem_1 : (xcell cc0_scratch26 1).sem = 26 := by decide +kernel
theorem xsem_2 : (xcell cc0_scratch26 2).sem = 27 := by decide +kernel
theorem xsem_3 : (xcell cc0_scratch26 3).sem = 28 := by decide +kernel
theorem ownSems00_eq (c : Dev nD) :
    (Pipeline.ownSems0 (Ix := Unit) (Name := ℕ) (U := Pipeline.UD sig nD τ) (Lvl := ℕ) (Val := Elt Ideal) (τ := τ) osem0 c : sProp 𝕄)
      = iprop(semVal ((c : Thread nD τ), SemLoc.dma (wcell cc0_scratch25 0).sem) 0 ∗ semVal ((c : Thread nD τ), SemLoc.dma (wcell cc0_scratch25 1).sem) 0 ∗ semVal ((c : Thread nD τ), SemLoc.dma (wcell cc0_scratch25 2).sem) 0 ∗ semVal ((c : Thread nD τ), SemLoc.dma (wcell cc0_scratch25 3).sem) 0 ∗ semVal ((c : Thread nD τ), SemLoc.dma (wcell cc0_scratch25 4).sem) 0 ∗ semVal ((c : Thread nD τ), SemLoc.dma (wcell cc0_scratch25 5).sem) 0 ∗ semVal ((c : Thread nD τ), SemLoc.dma (wcell cc0_scratch25 6).sem) 0 ∗ semVal ((c : Thread nD τ), SemLoc.dma (wcell cc0_scratch25 7).sem) 0 ∗ semVal ((c : Thread nD τ), SemLoc.dma (wcell cc0_scratch25 8).sem) 0 ∗ semVal ((c : Thread nD τ), SemLoc.dma (wcell cc0_scratch25 9).sem) 0 ∗ semVal ((c : Thread nD τ), SemLoc.dma (wcell cc0_scratch25 10).sem) 0 ∗ semVal ((c : Thread nD τ), SemLoc.dma (wcell cc0_scratch25 11).sem) 0 ∗ semVal ((c : Thread nD τ), SemLoc.dma (wcell cc0_scratch25 12).sem) 0 ∗ semVal ((c : Thread nD τ), SemLoc.dma (wcell cc0_scratch25 13).sem) 0 ∗ semVal ((c : Thread nD τ), SemLoc.dma (wcell cc0_scratch25 14).sem) 0 ∗ semVal ((c : Thread nD τ), SemLoc.dma (wcell cc0_scratch25 15).sem) 0 ∗ semVal ((c : Thread nD τ), SemLoc.dma (xcell cc0_scratch26 0).sem) 0 ∗ semVal ((c : Thread nD τ), SemLoc.dma (xcell cc0_scratch26 1).sem) 0 ∗ semVal ((c : Thread nD τ), SemLoc.dma (xcell cc0_scratch26 2).sem) 0 ∗ semVal ((c : Thread nD τ), SemLoc.dma (xcell cc0_scratch26 3).sem) 0) := by
  rw [Pipeline.ownSems0_eq_of_list c osem0 [0, 1, 2, 3, 4, 5, 6, 7, 8, 9, 10, 11, 12, 13, 14, 15, 16, 17, 18, 19] (by decide) (by decide)]
  rw [wsem_0, wsem_1, wsem_2, wsem_3, wsem_4, wsem_5, wsem_6, wsem_7, wsem_8, wsem_9, wsem_10, wsem_11, wsem_12, wsem_13, wsem_14, wsem_15, xsem_0, xsem_1, xsem_2, xsem_3]
  rfl
/-- The inputs and the codes, left where they are: no window's arrays. -/
def H0 : Finset (Ref sig .tc) := {main_v0, main_arg2}
theorem H0_sub : H0 ⊆ Pipeline.restRefs sig spec0 := by decide
theorem hbmPts0_eq (c : Dev nD) :
    (bigSep H0 (fun b => ((c : Thread nD τ).loc b) ↦{fullShare} V m c b) : sProp 𝕄)
      = iprop((((c : Thread nD τ).loc main_v0) ↦{fullShare} V m c main_v0) ∗ (((c : Thread nD τ).loc main_arg2) ↦{fullShare} V m c main_arg2)) := by
  rw [BI.bigSep_eq_bigSepL_of_eq [main_v0, main_arg2] (by decide) (by decide)]; rfl

/-- The invariant, conjunct by conjunct. -/
theorem PhiD0_eq (c : Dev nD) :
    (Pipeline.ΦD osem0 spec0 H0 (V m) c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc0_scratch9) fullShare d) ∗ (∃ d, owns (c : Thread nD τ) (Memref.whole cc0_scratch10) fullShare d) ∗ (∃ d, owns (c : Thread nD τ) (Memref.whole cc0_scratch11) fullShare d) ∗ (∃ d, owns (c : Thread nD τ) (Memref.whole cc0_scratch12) fullShare d) ∗ (∃ d, owns (c : Thread nD τ) (Memref.whole cc0_scratch13) fullShare d) ∗ (∃ d, owns (c : Thread nD τ) (Memref.whole cc0_scratch14) fullShare d) ∗ (∃ d, owns (c : Thread nD τ) (Memref.whole cc0_scratch15) fullShare d) ∗ (∃ d, owns (c : Thread nD τ) (Memref.whole cc0_scratch16) fullShare d) ∗ (∃ d, owns (c : Thread nD τ) (Memref.whole cc0_scratch17) fullShare d) ∗ (∃ d, owns (c : Thread nD τ) (Memref.whole cc0_scratch18) fullShare d) ∗ (∃ d, owns (c : Thread nD τ) (Memref.whole cc0_scratch19) fullShare d) ∗ (∃ d, owns (c : Thread nD τ) (Memref.whole cc0_scratch20) fullShare d) ∗ (∃ d, owns (c : Thread nD τ) (Memref.whole cc0_scratch21) fullShare d) ∗ (∃ d, owns (c : Thread nD τ) (Memref.whole cc0_scratch22) fullShare d) ∗ (∃ d, owns (c : Thread nD τ) (Memref.whole cc0_scratch23) fullShare d) ∗ (∃ d, owns (c : Thread nD τ) (Memref.whole cc0_scratch24) fullShare d)) ∗ (∃ r, prngReg c r)
          ∗ iprop(semVal ((c : Thread nD τ), SemLoc.dma (wcell cc0_scratch25 0).sem) 0 ∗ semVal ((c : Thread nD τ), SemLoc.dma (wcell cc0_scratch25 1).sem) 0 ∗ semVal ((c : Thread nD τ), SemLoc.dma (wcell cc0_scratch25 2).sem) 0 ∗ semVal ((c : Thread nD τ), SemLoc.dma (wcell cc0_scratch25 3).sem) 0 ∗ semVal ((c : Thread nD τ), SemLoc.dma (wcell cc0_scratch25 4).sem) 0 ∗ semVal ((c : Thread nD τ), SemLoc.dma (wcell cc0_scratch25 5).sem) 0 ∗ semVal ((c : Thread nD τ), SemLoc.dma (wcell cc0_scratch25 6).sem) 0 ∗ semVal ((c : Thread nD τ), SemLoc.dma (wcell cc0_scratch25 7).sem) 0 ∗ semVal ((c : Thread nD τ), SemLoc.dma (wcell cc0_scratch25 8).sem) 0 ∗ semVal ((c : Thread nD τ), SemLoc.dma (wcell cc0_scratch25 9).sem) 0 ∗ semVal ((c : Thread nD τ), SemLoc.dma (wcell cc0_scratch25 10).sem) 0 ∗ semVal ((c : Thread nD τ), SemLoc.dma (wcell cc0_scratch25 11).sem) 0 ∗ semVal ((c : Thread nD τ), SemLoc.dma (wcell cc0_scratch25 12).sem) 0 ∗ semVal ((c : Thread nD τ), SemLoc.dma (wcell cc0_scratch25 13).sem) 0 ∗ semVal ((c : Thread nD τ), SemLoc.dma (wcell cc0_scratch25 14).sem) 0 ∗ semVal ((c : Thread nD τ), SemLoc.dma (wcell cc0_scratch25 15).sem) 0 ∗ semVal ((c : Thread nD τ), SemLoc.dma (xcell cc0_scratch26 0).sem) 0 ∗ semVal ((c : Thread nD τ), SemLoc.dma (xcell cc0_scratch26 1).sem) 0 ∗ semVal ((c : Thread nD τ), SemLoc.dma (xcell cc0_scratch26 2).sem) 0 ∗ semVal ((c : Thread nD τ), SemLoc.dma (xcell cc0_scratch26 3).sem) 0)
          ∗ iprop(owns (c : Thread nD τ) (Memref.whole main_v0) fullShare (V m c main_v0) ∗ owns (c : Thread nD τ) (Memref.whole main_arg2) fullShare (V m c main_arg2))) := by
  rw [Pipeline.ΦD_eq, scopedRest0_eq, ownSems00_eq, hbmPts0_eq]; simp only [owns_whole]; try rfl

/-! ## The arrays as functions of their coordinates -/

/-- A number times the base-two logarithm of e. -/
@[reducible] def timesL (a : EReal) : EReal := a * (((Real.log 2)⁻¹ : ℝ) : EReal)

def xf (c : Dev nD) (r d : ℕ) : EReal := (V m c main_v0 : FVec Ideal S2048x1536 .fp8e4m3) (ix2 (Fin.ofNat 2048 r) (Fin.ofNat 1536 d))
def wf (c : Dev nD) (d v : ℕ) : EReal := Ideal.ofBits .fp8e4m3 ((V m c main_arg2 : IVec S1536x8192 8) (ix2 (Fin.ofNat 1536 d) (Fin.ofNat 8192 v)))
def xsf (c : Dev nD) (b t : ℕ) : EReal := timesL ((V m c main_arg1 : FVec Ideal S16x128 .f32) (ix2 (Fin.ofNat 16 b) (Fin.ofNat 128 t)))
def wsf (c : Dev nD) (v : ℕ) : EReal := (V m c main_v1 : FVec Ideal S64x128 .f32) (ix2 (Fin.ofNat 64 (v / 128)) (Fin.ofNat 128 v))
def bsf (c : Dev nD) (v : ℕ) : EReal := timesL ((V m c main_v2 : FVec Ideal S64x128 .f32) (ix2 (Fin.ofNat 64 (v / 128)) (Fin.ofNat 128 v)))

/-- The logits in base two. -/
def lgm (c : Dev nD) : ℕ → ℕ → ℕ → EReal := lg (wf m c) (xf m c) (xsf m c) (wsf m c) (bsf m c)

theorem ofNat_self {n : ℕ} [NeZero n] (a : Fin n) : Fin.ofNat n a.val = a := Fin.ext (Nat.mod_eq_of_lt a.isLt)

theorem iblk0_at (c : Dev nD) (t : Fin cfg0.N) (b : Fin 16) (u : Fin 128) :
    (iblk m c 0 t : FVec Ideal S16x128 .f32) (ix2 b u) = (V m c main_arg1 : FVec Ideal S16x128 .f32) (ix2 b u) := by
  show (V m c main_arg1 : FVec Ideal S16x128 .f32) _ = _
  congr 1
  funext a
  match a with
  | ⟨0, _⟩ => exact Fin.ext (by show 0 + 1 * b.val = b.val; omega)
  | ⟨1, _⟩ => exact Fin.ext (by show 0 + 1 * u.val = u.val; omega)
theorem iblk1_at (c : Dev nD) (t : Fin cfg0.N) (b : Fin 64) (u : Fin 128) :
    (iblk m c 1 t : FVec Ideal S64x128 .f32) (ix2 b u) = (V m c main_v1 : FVec Ideal S64x128 .f32) (ix2 b u) := by
  show (V m c main_v1 : FVec Ideal S64x128 .f32) _ = _
  congr 1
  funext a
  match a with
  | ⟨0, _⟩ => exact Fin.ext (by show 0 + 1 * b.val = b.val; omega)
  | ⟨1, _⟩ => exact Fin.ext (by show 0 + 1 * u.val = u.val; omega)
theorem iblk2_at (c : Dev nD) (t : Fin cfg0.N) (b : Fin 64) (u : Fin 128) :
    (iblk m c 2 t : FVec Ideal S64x128 .f32) (ix2 b u) = (V m c main_v2 : FVec Ideal S64x128 .f32) (ix2 b u) := by
  show (V m c main_v2 : FVec Ideal S64x128 .f32) _ = _
  congr 1
  funext a
  match a with
  | ⟨0, _⟩ => exact Fin.ext (by show 0 + 1 * b.val = b.val; omega)
  | ⟨1, _⟩ => exact Fin.ext (by show 0 + 1 * u.val = u.val; omega)

theorem wsf_at (c : Dev nD) (r : Fin 64) (i : Fin 128) : wsf m c (128 * r.val + i.val) = (V m c main_v1 : FVec Ideal S64x128 .f32) (ix2 r i) := by
  unfold wsf
  rw [show Fin.ofNat 64 ((128 * r.val + i.val) / 128) = r from Fin.ext (by show (128 * r.val + i.val) / 128 % 64 = r.val; omega),
    show Fin.ofNat 128 (128 * r.val + i.val) = i from Fin.ext (by show (128 * r.val + i.val) % 128 = i.val; omega)]
theorem bsf_at (c : Dev nD) (r : Fin 64) (i : Fin 128) :
    bsf m c (128 * r.val + i.val) = timesL ((V m c main_v2 : FVec Ideal S64x128 .f32) (ix2 r i)) := by
  unfold bsf
  rw [show Fin.ofNat 64 ((128 * r.val + i.val) / 128) = r from Fin.ext (by show (128 * r.val + i.val) / 128 % 64 = r.val; omega),
    show Fin.ofNat 128 (128 * r.val + i.val) = i from Fin.ext (by show (128 * r.val + i.val) % 128 = i.val; omega)]

/-- The log-sums of the array. -/
def lzArr (c : Dev nD) : FVec Ideal S16x128 .f32 := fun y => Lz (lgm m c) (y 0).val (y 1).val

/-! ## The proof data -/

/-- The two results the program drops, of which nothing is said. -/
def forgets0 : Fin 9 → Bool := fun w => decide (w.val = 6) || decide (w.val = 8)

def dats (_ : Fin 1) (c : Dev nD) : Dat τ (Elt Ideal) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨7, _⟩ => lzArr m c
    | ⟨6, h⟩ => Pipeline.Dat.unnamed (cfg := cfg0) ⟨6, h⟩ t
    | ⟨8, h⟩ => Pipeline.Dat.unnamed (cfg := cfg0) ⟨8, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem after0_7 (c : Dev nD) (t : Fin cfg0.N) : (dats m 0 c).after 7 t = lzArr m c := by dsimp only [dats]
theorem before0_0 (c : Dev nD) (t : Fin cfg0.N) (d) : (dats m 0 c).before 0 t d = iblk m c 0 t :=
  ((dats m 0 c).before_in_eq_fetched 0 rfl (fun _ => rfl) (fun _ _ _ => rfl) (fun t => by show iblk m c 0 t = _; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by show iblk m c 1 t = _; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by show iblk m c 2 t = _; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by show iblk m c 3 t = _; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by show iblk m c 4 t = _; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by show iblk m c 5 t = _; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ X, owns (c : Thread nD τ) (st0_6 t) fullShare X) ∗ (∃ d, owns (c : Thread nD τ) (st0_7 t) fullShare ((dats m 0 c).before 7 t d)) ∗ (∃ X, owns (c : Thread nD τ) (st0_8 t) fullShare X))
def bodyPost (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ (∃ X, owns (c : Thread nD τ) (st0_6 t) fullShare X) ∗ owns (c : Thread nD τ) (st0_7 t) fullShare ((dats m 0 c).after 7 t) ∗ (∃ X, owns (c : Thread nD τ) (st0_8 t) fullShare X))

/-- What the launch asks of the staged labels and lengths. -/
abbrev WordsOK : Prop := ∀ c : Dev nD, (∀ t i, BitVec.toNat (iblk m c 3 t i) < 8192) ∧ ∀ t i, BitVec.toNat (iblk m c 4 t i) ≤ 32

set_option maxHeartbeats 4000000 in
/-- The body at the point: the invariant opened, the blocks laid out, `body_run`, everything put back. -/
theorem sound_body (hp : WordsOK m) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  simp only [before0_0, before0_1, before0_2, before0_3, before0_4, before0_5]
  unfold owns
  iintro ⟨⟨⟨⟨%d0, %f0, -, Hs0⟩, ⟨%d1, %f1, -, Hs1⟩, ⟨%d2, %f2, -, Hs2⟩, ⟨%d3, %f3, -, Hs3⟩, ⟨%d4, %f4, -, Hs4⟩, ⟨%d5, %f5, -, Hs5⟩, ⟨%d6, %f6, -, Hs6⟩, ⟨%d7, %f7, -, Hs7⟩, ⟨%d8, %f8, -, Hs8⟩, ⟨%d9, %f9, -, Hs9⟩, ⟨%d10, %f10, -, Hs10⟩, ⟨%d11, %f11, -, Hs11⟩, ⟨%d12, %f12, -, Hs12⟩, ⟨%d13, %f13, -, Hs13⟩, ⟨%d14, %f14, -, Hs14⟩, ⟨%d15, %f15, -, Hs15⟩, ⟨%d16, %f16, -, Hs16⟩, ⟨%d17, %f17, -, Hs17⟩, ⟨%d18, %f18, -, Hs18⟩, ⟨%d19, %f19, -, Hs19⟩, ⟨%d20, %f20, -, Hs20⟩, ⟨%d21, %f21, -, Hs21⟩, ⟨%d22, %f22, -, Hs22⟩, ⟨%d23, %f23, -, Hs23⟩, ⟨%d24, %f24, -, Hs24⟩⟩, Hg, ⟨Hc0, Hc1, Hc2, Hc3, Hc4, Hc5, Hc6, Hc7, Hc8, Hc9, Hc10, Hc11, Hc12, Hc13, Hc14, Hc15, Hd0, Hd1, Hd2, Hd3⟩, ⟨⟨%X0, %e0, Hx⟩, ⟨%X1, %e1, Hw⟩⟩⟩, ⟨%W, %hW, HO⟩, ⟨%dd0, %X2, %e2, H2⟩, ⟨%dd1, %X3, %e3, H3⟩, ⟨%dd2, %X4, %e4, H4⟩, ⟨%dd3, %X5, %e5, H5⟩, ⟨%dd4, %X6, %e6, H6⟩, ⟨%dd5, %X7, %e7, H7⟩, ⟨%dd6, %g8, -, H8⟩, ⟨%dd7, %g9, -, H9⟩, ⟨%dd8, %g10, -, H10⟩⟩
  ihave HX := (x_rest c (Memref.whole main_v0) (Memref.whole cc0_scratch0) cc0_scratch26 X0) $$ [Hs0 Hx Hd0 Hd1 Hd2 Hd3]
  · isplitl [Hs0]; · iexists _; iexact Hs0
    isplitl [Hx]; · iexact Hx
    rw [x4]
    isplitl [Hd0]; · iexact Hd0
    isplitl [Hd1]; · iexact Hd1
    isplitl [Hd2]; · iexact Hd2
    iexact Hd3
  ihave HWB := (w_rest c (Memref.whole main_arg2) (Memref.whole cc0_scratch1) cc0_scratch25 X1) $$ [Hs1 Hw Hc0 Hc1 Hc2 Hc3 Hc4 Hc5 Hc6 Hc7 Hc8 Hc9 Hc10 Hc11 Hc12 Hc13 Hc14 Hc15]
  · isplitl [Hs1]; · iexists _; iexact Hs1
    isplitl [Hw]; · iexact Hw
    rw [w16]
    isplitl [Hc0]; · iexact Hc0
    isplitl [Hc1]; · iexact Hc1
    isplitl [Hc2]; · iexact Hc2
    isplitl [Hc3]; · iexact Hc3
    isplitl [Hc4]; · iexact Hc4
    isplitl [Hc5]; · iexact Hc5
    isplitl [Hc6]; · iexact Hc6
    isplitl [Hc7]; · iexact Hc7
    isplitl [Hc8]; · iexact Hc8
    isplitl [Hc9]; · iexact Hc9
    isplitl [Hc10]; · iexact Hc10
    isplitl [Hc11]; · iexact Hc11
    isplitl [Hc12]; · iexact Hc12
    isplitl [Hc13]; · iexact Hc13
    isplitl [Hc14]; · iexact Hc14
    iexact Hc15
  have hlab : LabOK (st0_3 t) X5 := fun i => by rw [e5]; exact (hp c).1 t i
  have hlen : LenOK (st0_4 t) X6 := fun i => by rw [e6]; exact (hp c).2 t i
  have hx : ∀ (r : Fin 2048) (d : Fin 1536), (Memref.whole main_v0).view.read (Elt Ideal) X0 (ix2 r d) = xf m c r.val d.val := fun r d => by
    rw [e0]; unfold xf; rw [ofNat_self, ofNat_self]
  have hW : HasW (wf m c) (Memref.whole main_arg2) X1 := fun d v => by
    rw [e1]; unfold wf; rw [ofNat_self, ofNat_self]
  have hxs : HasXs (xsf m c) (st0_0 t) X2 := fun b u => by
    rw [e2]; unfold xsf; rw [ofNat_self, ofNat_self]; exact congrArg timesL (iblk0_at m c t b u)
  have h3 : Has3 (wsf m c) (st0_1 t) X3 := fun r i => by
    rw [e3, wsf_at]; exact iblk1_at m c t r i
  have h4 : Has4 (bsf m c) (st0_2 t) X4 := fun r i => by
    rw [e4, bsf_at]; exact congrArg timesL (iblk2_at m c t r i)
  have hr := body_vrun c (Memref.whole main_v0) (Memref.isWhole_whole _) (Memref.whole main_arg2) (Memref.isWhole_whole _) (st0_0 t) (hstage0_0 0) (st0_1 t) (hstage0_1 0) (st0_2 t) (hstage0_2 0) (st0_3 t) (hstage0_3 0) (st0_4 t) (hstage0_4 0) (st0_5 t) (hstage0_5 0) (st0_6 t) (hstage0_6 0) (st0_7 t) (hstage0_7 0) (st0_8 t) (hstage0_8 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) cc0_scratch25 cc0_scratch26 X0 X1 X2 X3 X4 X5 X6 X7 hlab hlen hx hW hxs h3 h4
  ihave HR := hr $$ [H2 H3 H4 H5 H6 H7 H8 H9 H10 Hs2 Hs3 Hs4 Hs5 Hs6 Hs7 Hs8 Hs9 Hs10 Hs11 Hs12 Hs13 Hs14 Hs15 Hs16 Hs17 Hs18 Hs19 Hs20 Hs21 Hs22 Hs23 Hs24 HX HWB HO]
  · isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [Hs2]; · iexists _; iexact Hs2
    isplitl [Hs3]; · iexists _; iexact Hs3
    isplitl [Hs4]; · iexists _; iexact Hs4
    isplitl [Hs5]; · iexists _; iexact Hs5
    isplitl [Hs6]; · iexists _; iexact Hs6
    isplitl [Hs7]; · iexists _; iexact Hs7
    isplitl [Hs8]; · iexists _; iexact Hs8
    isplitl [Hs9]; · iexists _; iexact Hs9
    isplitl [Hs10]; · iexists _; iexact Hs10
    isplitl [Hs11]; · iexists _; iexact Hs11
    isplitl [Hs12]; · iexists _; iexact Hs12
    isplitl [Hs13]; · iexists _; iexact Hs13
    isplitl [Hs14]; · iexists _; iexact Hs14
    isplitl [Hs15]; · iexists _; iexact Hs15
    isplitl [Hs16]; · iexists _; iexact Hs16
    isplitl [Hs17]; · iexists _; iexact Hs17
    isplitl [Hs18]; · iexists _; iexact Hs18
    isplitl [Hs19]; · iexists _; iexact Hs19
    isplitl [Hs20]; · iexists _; iexact Hs20
    isplitl [Hs21]; · iexists _; iexact Hs21
    isplitl [Hs22]; · iexists _; iexact Hs22
    isplitl [Hs23]; · iexists _; iexact Hs23
    isplitl [Hs24]; · iexists _; iexact Hs24
    isplitl [HX]; · iexact HX
    isplitl [HWB]; · iexact HWB
    iexists _; iexact HO
  ihave HR2 := (wp_wand _ _ _) $$ HR
  iapply HR2
  iintro %u
  iintro ⟨H2, H3, H4, H5, H6, H7, ⟨%g8, H8⟩, ⟨%g9, H9, %h9⟩, ⟨%g10, H10⟩, ⟨%f2, Hs2⟩, ⟨%f3, Hs3⟩, ⟨%f4, Hs4⟩, ⟨%f5, Hs5⟩, ⟨%f6, Hs6⟩, ⟨%f7, Hs7⟩, ⟨%f8, Hs8⟩, ⟨%f9, Hs9⟩, ⟨%f10, Hs10⟩, ⟨%f11, Hs11⟩, ⟨%f12, Hs12⟩, ⟨%f13, Hs13⟩, ⟨%f14, Hs14⟩, ⟨%f15, Hs15⟩, ⟨%f16, Hs16⟩, ⟨%f17, Hs17⟩, ⟨%f18, Hs18⟩, ⟨%f19, Hs19⟩, ⟨%f20, Hs20⟩, ⟨%f21, Hs21⟩, ⟨%f22, Hs22⟩, ⟨%f23, Hs23⟩, ⟨%f24, Hs24⟩, HX, HWB, ⟨%W2, HO⟩⟩
  ihave HX2 := (x_unrest c (Memref.whole main_v0) (Memref.whole cc0_scratch0) cc0_scratch26 X0) $$ HX
  ihave HW2 := (w_unrest c (Memref.whole main_arg2) (Memref.whole cc0_scratch1) cc0_scratch25 X1) $$ HWB
  rw [x4, w16]
  icases HX2 with ⟨⟨%f0, Hs0⟩, Hx, Hd0, Hd1, Hd2, Hd3⟩
  icases HW2 with ⟨⟨%f1, Hs1⟩, Hw, Hc0, Hc1, Hc2, Hc3, Hc4, Hc5, Hc6, Hc7, Hc8, Hc9, Hc10, Hc11, Hc12, Hc13, Hc14, Hc15⟩
  isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24 Hg Hc0 Hc1 Hc2 Hc3 Hc4 Hc5 Hc6 Hc7 Hc8 Hc9 Hc10 Hc11 Hc12 Hc13 Hc14 Hc15 Hd0 Hd1 Hd2 Hd3 Hx Hw]
  · isplitl [Hs0 Hs1 Hs2 Hs3 Hs4 Hs5 Hs6 Hs7 Hs8 Hs9 Hs10 Hs11 Hs12 Hs13 Hs14 Hs15 Hs16 Hs17 Hs18 Hs19 Hs20 Hs21 Hs22 Hs23 Hs24]
    · isplitl [Hs0]
      · iexists _, _; isplitr; swap; · iexact Hs0
        ipureintro; rfl
      isplitl [Hs1]
      · iexists _, _; isplitr; swap; · iexact Hs1
        ipureintro; rfl
      isplitl [Hs2]
      · iexists _, _; isplitr; swap; · iexact Hs2
        ipureintro; rfl
      isplitl [Hs3]
      · iexists _, _; isplitr; swap; · iexact Hs3
        ipureintro; rfl
      isplitl [Hs4]
      · iexists _, _; isplitr; swap; · iexact Hs4
        ipureintro; rfl
      isplitl [Hs5]
      · iexists _, _; isplitr; swap; · iexact Hs5
        ipureintro; rfl
      isplitl [Hs6]
      · iexists _, _; isplitr; swap; · iexact Hs6
        ipureintro; rfl
      isplitl [Hs7]
      · iexists _, _; isplitr; swap; · iexact Hs7
        ipureintro; rfl
      isplitl [Hs8]
      · iexists _, _; isplitr; swap; · iexact Hs8
        ipureintro; rfl
      isplitl [Hs9]
      · iexists _, _; isplitr; swap; · iexact Hs9
        ipureintro; rfl
      isplitl [Hs10]
      · iexists _, _; isplitr; swap; · iexact Hs10
        ipureintro; rfl
      isplitl [Hs11]
      · iexists _, _; isplitr; swap; · iexact Hs11
        ipureintro; rfl
      isplitl [Hs12]
      · iexists _, _; isplitr; swap; · iexact Hs12
        ipureintro; rfl
      isplitl [Hs13]
      · iexists _, _; isplitr; swap; · iexact Hs13
        ipureintro; rfl
      isplitl [Hs14]
      · iexists _, _; isplitr; swap; · iexact Hs14
        ipureintro; rfl
      isplitl [Hs15]
      · iexists _, _; isplitr; swap; · iexact Hs15
        ipureintro; rfl
      isplitl [Hs16]
      · iexists _, _; isplitr; swap; · iexact Hs16
        ipureintro; rfl
      isplitl [Hs17]
      · iexists _, _; isplitr; swap; · iexact Hs17
        ipureintro; rfl
      isplitl [Hs18]
      · iexists _, _; isplitr; swap; · iexact Hs18
        ipureintro; rfl
      isplitl [Hs19]
      · iexists _, _; isplitr; swap; · iexact Hs19
        ipureintro; rfl
      isplitl [Hs20]
      · iexists _, _; isplitr; swap; · iexact Hs20
        ipureintro; rfl
      isplitl [Hs21]
      · iexists _, _; isplitr; swap; · iexact Hs21
        ipureintro; rfl
      isplitl [Hs22]
      · iexists _, _; isplitr; swap; · iexact Hs22
        ipureintro; rfl
      isplitl [Hs23]
      · iexists _, _; isplitr; swap; · iexact Hs23
        ipureintro; rfl
      iexists _, _; isplitr; swap; · iexact Hs24
      ipureintro; rfl
    isplitl [Hg]; · iexact Hg
    isplitl [Hc0 Hc1 Hc2 Hc3 Hc4 Hc5 Hc6 Hc7 Hc8 Hc9 Hc10 Hc11 Hc12 Hc13 Hc14 Hc15 Hd0 Hd1 Hd2 Hd3]
    · isplitl [Hc0]; · iexact Hc0
      isplitl [Hc1]; · iexact Hc1
      isplitl [Hc2]; · iexact Hc2
      isplitl [Hc3]; · iexact Hc3
      isplitl [Hc4]; · iexact Hc4
      isplitl [Hc5]; · iexact Hc5
      isplitl [Hc6]; · iexact Hc6
      isplitl [Hc7]; · iexact Hc7
      isplitl [Hc8]; · iexact Hc8
      isplitl [Hc9]; · iexact Hc9
      isplitl [Hc10]; · iexact Hc10
      isplitl [Hc11]; · iexact Hc11
      isplitl [Hc12]; · iexact Hc12
      isplitl [Hc13]; · iexact Hc13
      isplitl [Hc14]; · iexact Hc14
      isplitl [Hc15]; · iexact Hc15
      isplitl [Hd0]; · iexact Hd0
      isplitl [Hd1]; · iexact Hd1
      isplitl [Hd2]; · iexact Hd2
      iexact Hd3
    isplitl [Hx]
    · iexists X0; isplitr; swap; · iexact Hx
      ipureintro; exact e0
    iexists X1; isplitr; swap; · iexact Hw
    ipureintro; exact e1
  isplitl [HO]
  · iexists W2; isplitr; · ipureintro; exact fun _ _ => Or.inl trivial
    iexact HO
  isplitl [H2]
  · iexists X2; isplitr; swap; · iexact H2
    ipureintro; exact e2
  isplitl [H3]
  · iexists X3; isplitr; swap; · iexact H3
    ipureintro; exact e3
  isplitl [H4]
  · iexists X4; isplitr; swap; · iexact H4
    ipureintro; exact e4
  isplitl [H5]
  · iexists X5; isplitr; swap; · iexact H5
    ipureintro; exact e5
  isplitl [H6]
  · iexists X6; isplitr; swap; · iexact H6
    ipureintro; exact e6
  isplitl [H7]
  · iexists X7; isplitr; swap; · iexact H7
    ipureintro; exact e7
  isplitl [H8]
  · iexists _, _; isplitr; swap; · iexact H8
    ipureintro; rfl
  isplitl [H9]
  · iexists g9; isplitr; swap; · iexact H9
    ipureintro
    rw [after0_7]
    funext y
    rw [show y = ix2 (y 0) (y 1) from funext fun a => by
      match a with
      | ⟨0, _⟩ => rfl
      | ⟨1, _⟩ => rfl]
    exact h9 (y 0) (y 1) (y 0).isLt
  iexists _, _; isplitr; swap; · iexact H10
  ipureintro; rfl

theorem defs₀_row (t : Fin cfg0.N) : defs₀ (F := Ideal) .tc cfg0.body (cfg0.bodyArgs t (cfg0.slots t)) = bodyAt0 t := by
  unfold defs₀; rw [Defs.onTc_tc]

set_option maxHeartbeats 1600000 in
theorem body_obligation (hp : WordsOK m) (c : Dev nD) :
    BodyObligation (dats m 0 c) (defs₀ (F := Ideal)) Variants.none () Set.univ forgets0 := fun t => by
  rw [bigSep_W0, bigSep_W0, defs₀_row]
  exact triple_restated (sound_body m hp c t) rfl .rfl fun _ => .rfl

/-! ## The launch -/

set_option maxHeartbeats 800000 in
theorem hmainD (𝒱₀ : Variants) : Pipeline.HMain (Ix := Unit) (Name := ℕ) (U := Pipeline.UD sig nD τ) (Lvl := ℕ) cfgs 0 defs₀ 𝒱₀ m (main (F := Ideal)) (V m) :=
  Pipeline.hmain_prefix cfgs 0 defs₀ 𝒱₀ m main hostOps0 hostOps0_sub hostOps0_fresh main_chain

set_option backward.isDefEq.respectTransparency.types false in
/-- Every weakly fair execution terminates, at the contents `FramePost` names, every semaphore at zero. -/
theorem run_main (hp : WordsOK m) :
    θ_run defs (onTc (τ := τ) (main (F := Ideal))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m hp c).loose) (hshare := fun c => (dats m 0 c).share_full fun _ => rfl)
    (howed := fun _ _ => rfl) (V := V m) (hmain := hmainD m Variants.none) (hA := A_eq m)
    (hin := fun _ => .rfl) (hout := fun _ => .rfl)

variable {m ρ}

/-- The arguments end at what they held at launch. -/
theorem final_args {r : PUnit × MemSt nD τ sig (Elt Ideal)}
    (h : Pipeline.RDat.FramePost (cfgs 0) (fun c => (dats m 0 c).toRForget forgets0) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  ⟨((h c).2 main_arg0 (Pipeline.mem_restRefs_of main_arg0 (by decide) (by decide))).trans (V_main_arg0 m c),
   (((dats m 0 c).toRForget_arrAt_iff (by decide) _ _).mp ((h c).1 0)).trans (((dats m 0 c).arrAt_in 0 rfl _).trans ((A_eq m c 0).trans (V_main_arg1 m c))),
   ((h c).2 main_arg2 (Pipeline.mem_restRefs_of main_arg2 (by decide) (by decide))).trans (V_main_arg2 m c),
   ((h c).2 main_arg3 (Pipeline.mem_restRefs_of main_arg3 (by decide) (by decide))).trans (V_main_arg3 m c),
   ((h c).2 main_arg4 (Pipeline.mem_restRefs_of main_arg4 (by decide) (by decide))).trans (V_main_arg4 m c),
   (((dats m 0 c).toRForget_arrAt_iff (by decide) _ _).mp ((h c).1 3)).trans (((dats m 0 c).arrAt_in 3 rfl _).trans ((A_eq m c 3).trans (V_main_arg5 m c))),
   (((dats m 0 c).toRForget_arrAt_iff (by decide) _ _).mp ((h c).1 4)).trans (((dats m 0 c).arrAt_in 4 rfl _).trans ((A_eq m c 4).trans (V_main_arg6 m c))),
   (((dats m 0 c).toRForget_arrAt_iff (by decide) _ _).mp ((h c).1 5)).trans (((dats m 0 c).arrAt_in 5 rfl _).trans ((A_eq m c 5).trans (V_main_arg7 m c)))⟩

/-- The log-sums end at their values. -/
theorem final_lz {r : PUnit × MemSt nD τ sig (Elt Ideal)}
    (h : Pipeline.RDat.FramePost (cfgs 0) (fun c => (dats m 0 c).toRForget forgets0) (V m) r) (c : Dev nD) :
    r.2.mem ((c.tc : Thread nD τ).loc main_v3_1) = lzArr m c := by
  refine (((dats m 0 c).toRForget_arrAt_iff (by decide) _ _).mp ((h c).1 7)).trans ?_
  refine (dats m 0 c).arrAt_eq_of_after_last 7 ⟨0, by decide⟩ (by decide +kernel) _ fun j => ?_
  rw [after0_7]
  rfl

end Cert.Proof.KernelIdeal

end
-- ==== Proof.ReferenceIdeal.Value.lean ====
/-
  What the reference leaves in its result: for a row of the batch and a step, the log of the sum of the exponentials of
  the step's logits, less the constant the problem subtracts.
-/
module

public import proofs.«01_k».proof.Proof.Gen.ReferenceIdeal.Frame
public import Idealize.ShloMosaic.Lib.Pipeline.ValueKit
public import Idealize.ShloMosaic.Lib.Pointwise
public import Idealize.ShloMosaic.Lib.StableHlo.Run

@[expose] public section

set_option maxRecDepth 16384

noncomputable section

namespace Cert.Proof.ReferenceIdeal

open Idealize.ShloMosaic Idealize.ShloMosaic.TcCoe Cert.ReferenceIdeal Cert.ReferenceIdeal.Gen

/-- The reference's log-sum of the logits `l`: natural, in the plain order. -/
def refLz (l : ℕ → EReal) : EReal :=
  (Finset.univ.sup (fun v : Fin 8192 => l v.val))
    + Ideal.log (∑ v : Fin 8192, Ideal.exp (l v.val - Finset.univ.sup (fun v : Fin 8192 => l v.val)))
    - Ideal.ofBits .f32 0x41102CB3#32

/-- The greatest entry of each row. -/
theorem row_max (X : FVec Ideal S2048x8192 .f32) (h2 : S2048x8192.Reduces [1] S2048) (h3 : FKind.Formats .f32)
    (h4 : 0xFF800000#32 = FKind.maximumf.neutral .f32 h3) (r : Fin 2048) :
    multiReduction (F := Ideal) .maximumf [1] S2048 X 0xFF800000#32 h2 h3 h4 (ix1 r) = Finset.univ.sup fun v : Fin 8192 => X (ix2 r v) := by
  rw [multiReduction_maximumf_eq_fold]
  refine (h2.fold_filter_drop_single _ _ _ _).trans ?_
  have el : ∀ q : Fin 8192, h2.lift (ix1 r) q = ix2 r q := fun q => by
    funext a
    apply Fin.ext
    match a with
    | ⟨0, _⟩ => rfl
    | ⟨1, _⟩ => rfl
  have e0 : (FloatOps.ofBits (F := Ideal) .f32 4286578688#32 : EReal) = ⊥ := by
    show Ideal.ofBits .f32 0xFF800000#32 = ⊥
    simp [Ideal.ofBits, Ideal.ieee]
  rw [e0]
  show Finset.fold max ⊥ (fun q : Fin 8192 => X (h2.lift (ix1 r) q)) Finset.univ = _
  simp only [el]
  rfl

/-- The body's logits. -/
def logits (w : Vec Ideal S1536x8192 .i8) (x : Vec Ideal S2048x1536 .fp8e4m3) (xs : Vec Ideal S2048x1 .f32)
    (ws b : Vec Ideal S1x8192 .f32) : FVec Ideal S2048x8192 .f32 :=
  addf (mulf (mulf (matmul (F := Ideal) (φ₁ := .fp8e4m3) (φ₂ := .fp8e4m3) dot_S2048x1536_S1536x8192_S2048x8192_1_0_0_1_n_n none
      (shapeCast S2048x1536 x shapeCasts_S2048x1536_S2048x1536 : FVec Ideal S2048x1536 .fp8e4m3) (bitcastToFloat .fp8e4m3 w) (constant S2048x8192 .f32 0x00000000#32))
    (broadcastTo S2048x8192 (shapeCast S2048x1 xs shapeCasts_S2048x1_S2048x1) broadcasts_S2048x1_S2048x8192 : FVec Ideal S2048x8192 .f32))
    (broadcastTo S2048x8192 (shapeCast S1x8192 ws shapeCasts_S1x8192_S1x8192) broadcasts_S1x8192_S2048x8192 : FVec Ideal S2048x8192 .f32))
    (broadcastTo S2048x8192 (shapeCast S1x8192 b shapeCasts_S1x8192_S1x8192) broadcasts_S1x8192_S2048x8192 : FVec Ideal S2048x8192 .f32)

/-- What the body makes of them. -/
def finish (A : FVec Ideal S2048x8192 .f32) (R : FVec Ideal S2048 .f32) : FVec Ideal S2048x1 .f32 :=
  subf (addf (shapeCast S2048x1 R shapeCasts_S2048_S2048x1) (log (shapeCast S2048x1 (multiReduction (F := Ideal) .add [1] S2048 (exp (subf A (broadcastTo S2048x8192 (shapeCast S2048x1 R shapeCasts_S2048_S2048x1) broadcasts_S2048x1_S2048x8192))) 0x00000000#32 reduces_S2048x8192_S2048 (.inl rfl) rfl) shapeCasts_S2048_S2048x1)))
    (broadcast S2048x1 (Scalar.ofBits (F := Ideal) .f32 0x41102CB3#32))

theorem pay_eq (w : Vec Ideal S1536x8192 .i8) (x : Vec Ideal S2048x1536 .fp8e4m3) (xs : Vec Ideal S2048x1 .f32)
    (ws b : Vec Ideal S1x8192 .f32) :
    k0_pay1 (F := Ideal) w x xs ws b = finish (logits w x xs ws b)
      (multiReduction (F := Ideal) .maximumf [1] S2048 (logits w x xs ws b) 0xFF800000#32 reduces_S2048x8192_S2048 (.inl rfl) rfl) := rfl

theorem logits_at (w : Vec Ideal S1536x8192 .i8) (x : Vec Ideal S2048x1536 .fp8e4m3) (xs : Vec Ideal S2048x1 .f32)
    (ws b : Vec Ideal S1x8192 .f32) (r : Fin 2048) (v : Fin 8192) :
    logits w x xs ws b (ix2 r v) = (∑ d : Fin 1536, (x : FVec Ideal S2048x1536 .fp8e4m3) (ix2 r d) * Ideal.ofBits .fp8e4m3 (w (ix2 d v))) * (xs : FVec Ideal S2048x1 .f32) (ix2 r 0)
      * (ws : FVec Ideal S1x8192 .f32) (ix2 0 v) + (b : FVec Ideal S1x8192 .f32) (ix2 0 v) := by
  pointwise [logits]

theorem finish_at (A : FVec Ideal S2048x8192 .f32) (R : FVec Ideal S2048 .f32) (r : Fin 2048) :
    finish A R (ix2 r 0) = R (ix1 r) + Ideal.log (∑ v : Fin 8192, Ideal.exp (A (ix2 r v) - R (ix1 r))) - Ideal.ofBits .f32 0x41102CB3#32 := by
  pointwise [finish]

/-- One row of the body's result. -/
theorem pay_at (w : Vec Ideal S1536x8192 .i8) (x : Vec Ideal S2048x1536 .fp8e4m3) (xs : Vec Ideal S2048x1 .f32)
    (ws b : Vec Ideal S1x8192 .f32) (l : ℕ → EReal) (r : Fin 2048)
    (hl : ∀ v : Fin 8192, (∑ d : Fin 1536, (x : FVec Ideal S2048x1536 .fp8e4m3) (ix2 r d) * Ideal.ofBits .fp8e4m3 (w (ix2 d v))) * (xs : FVec Ideal S2048x1 .f32) (ix2 r 0)
      * (ws : FVec Ideal S1x8192 .f32) (ix2 0 v) + (b : FVec Ideal S1x8192 .f32) (ix2 0 v) = l v.val) :
    k0_pay1 (F := Ideal) w x xs ws b (ix2 r 0) = refLz l := by
  have hA : ∀ v : Fin 8192, logits w x xs ws b (ix2 r v) = l v.val := fun v => (logits_at w x xs ws b r v).trans (hl v)
  have hM := (row_max (logits w x xs ws b) reduces_S2048x8192_S2048 (.inl rfl) rfl r).trans (Finset.sup_congr rfl fun v _ => hA v)
  rw [pay_eq]
  generalize logits w x xs ws b = A at hA hM
  generalize multiReduction (F := Ideal) .maximumf [1] S2048 A 0xFF800000#32 reduces_S2048x8192_S2048 (.inl rfl) rfl = R at hM
  rw [finish_at, hM]
  unfold refLz
  rw [show (∑ v : Fin 8192, Ideal.exp (A (ix2 r v) - Finset.univ.sup fun v : Fin 8192 => l v.val)) = ∑ v : Fin 8192, Ideal.exp (l v.val - Finset.univ.sup fun v : Fin 8192 => l v.val) from
    Finset.sum_congr rfl fun v _ => by rw [hA v]]

variable (m : (ℓ : Loc nD τ sig) → Buf (Elt Ideal) ℓ)

/-! ## The arrays the body reads -/

theorem V_v0 (c : Dev nD) : (V m c main_v0 : FVec Ideal S2048x1536 .fp8e4m3)
    = shapeCast S2048x1536 (m ((c : Thread nD τ).loc main_arg0) : FVec Ideal S16x128x1536 .fp8e4m3) shapeCasts_S16x128x1536_S2048x1536 := by
  show StableHlo.after hostOps0 _ (Proc.devRef .tc main_v0) = _
  after_results
  rfl
theorem V_v1 (c : Dev nD) : (V m c main_v1 : FVec Ideal S2048x1 .f32)
    = shapeCast S2048x1 (m ((c : Thread nD τ).loc main_arg1) : FVec Ideal S16x128 .f32) shapeCasts_S16x128_S2048x1 := by
  show StableHlo.after hostOps0 _ (Proc.devRef .tc main_v1) = _
  after_results
  rfl
theorem V_v2 (c : Dev nD) : (V m c main_v2 : FVec Ideal S1x8192 .f32)
    = shapeCast S1x8192 (m ((c : Thread nD τ).loc main_arg3) : FVec Ideal S8192 .f32) shapeCasts_S8192_S1x8192 := by
  show StableHlo.after hostOps0 _ (Proc.devRef .tc main_v2) = _
  after_results
  rfl
theorem V_v3 (c : Dev nD) : (V m c main_v3 : FVec Ideal S1x8192 .f32)
    = shapeCast S1x8192 (m ((c : Thread nD τ).loc main_arg4) : FVec Ideal S8192 .f32) shapeCasts_S8192_S1x8192 := by
  show StableHlo.after hostOps0 _ (Proc.devRef .tc main_v3) = _
  after_results
  rfl

/-- The logits in the reference's order. -/
def rl (x : FVec Ideal S16x128x1536 .fp8e4m3) (xs : FVec Ideal S16x128 .f32) (w : IVec S1536x8192 8) (ws b : FVec Ideal S8192 .f32)
    (i : Fin 16) (t : Fin 128) (v : ℕ) : EReal :=
  (∑ d : Fin 1536, x (ix3 i t d) * Ideal.ofBits .fp8e4m3 (w (ix2 d (Fin.ofNat 8192 v)))) * xs (ix2 i t) * ws (ix1 (Fin.ofNat 8192 v)) + b (ix1 (Fin.ofNat 8192 v))

/-- The logits of the launch's arguments. -/
def rlm (c : Dev nD) : Fin 16 → Fin 128 → ℕ → EReal :=
  rl (m ((c : Thread nD τ).loc main_arg0)) (m ((c : Thread nD τ).loc main_arg1)) (m ((c : Thread nD τ).loc main_arg2)) (m ((c : Thread nD τ).loc main_arg3)) (m ((c : Thread nD τ).loc main_arg4))

theorem ofNat_self {n : ℕ} [NeZero n] (a : Fin n) : Fin.ofNat n a.val = a := Fin.ext (Nat.mod_eq_of_lt a.isLt)

/-- The kernel's one result array. -/
def rowArr (c : Dev nD) (t : Fin cfg0.N) : FVec Ideal S2048x1 .f32 :=
  k0_pay1 (F := Ideal) (iblk m c 2 t) (iblk m c 0 t) (iblk m c 1 t) (iblk m c 3 t) (iblk m c 4 t)

theorem out_eq (x0 : Vec Ideal S2048x1536 .fp8e4m3) (x1 : Vec Ideal S2048x1 .f32) (x2 : Vec Ideal S1536x8192 .i8) (x3 x4 : Vec Ideal S1x8192 .f32) :
    out0_5 x0 x1 x2 x3 x4 = k0_pay1 (F := Ideal) x2 x0 x1 x3 x4 := by
  frame_out

theorem arr_at (c : Dev nD) (P : FVec Ideal S2048x1 .f32) (hP : (dats m 0 c).after 5 ⟨0, by decide⟩ = P) :
    ((dats m 0 c).arrAt 5 cfg0.N : FVec Ideal S2048x1 .f32) = P := by
  refine (dats m 0 c).arrAt_eq_of_after_last 5 ⟨0, by decide⟩ (by decide +kernel) _ fun j => ?_
  rw [hP]
  rfl

theorem arr_end (c : Dev nD) : ((dats m 0 c).arrAt 5 cfg0.N : FVec Ideal S2048x1 .f32) = rowArr m c ⟨0, by decide⟩ :=
  arr_at m c _ ((after0_5 m c _).trans (out_eq _ _ _ _ _))

theorem iblk0_at (c : Dev nD) (t : Fin cfg0.N) (r : Fin 2048) (d : Fin 1536) :
    (iblk m c 0 t : FVec Ideal S2048x1536 .fp8e4m3) (ix2 r d) = (V m c main_v0 : FVec Ideal S2048x1536 .fp8e4m3) (ix2 r d) := by
  show (V m c main_v0 : FVec Ideal S2048x1536 .fp8e4m3) _ = _
  congr 1
  funext a
  match a with
  | ⟨0, _⟩ => exact Fin.ext (by show 0 + 1 * r.val = r.val; omega)
  | ⟨1, _⟩ => exact Fin.ext (by show 0 + 1 * d.val = d.val; omega)
theorem iblk1_at (c : Dev nD) (t : Fin cfg0.N) (r : Fin 2048) :
    (iblk m c 1 t : FVec Ideal S2048x1 .f32) (ix2 r 0) = (V m c main_v1 : FVec Ideal S2048x1 .f32) (ix2 r 0) := by
  show (V m c main_v1 : FVec Ideal S2048x1 .f32) _ = _
  congr 1
  funext a
  match a with
  | ⟨0, _⟩ => exact Fin.ext (by show 0 + 1 * r.val = r.val; omega)
  | ⟨1, _⟩ => rfl
theorem iblk2_at (c : Dev nD) (t : Fin cfg0.N) (d : Fin 1536) (v : Fin 8192) :
    (iblk m c 2 t : IVec S1536x8192 8) (ix2 d v) = (V m c main_arg2 : IVec S1536x8192 8) (ix2 d v) := by
  show (V m c main_arg2 : IVec S1536x8192 8) _ = _
  congr 1
  funext a
  match a with
  | ⟨0, _⟩ => exact Fin.ext (by show 0 + 1 * d.val = d.val; omega)
  | ⟨1, _⟩ => exact Fin.ext (by blk_simp; have e : win0_2.index t 1 = 0 := rfl; omega)
theorem iblk3_at (c : Dev nD) (t : Fin cfg0.N) (v : Fin 8192) :
    (iblk m c 3 t : FVec Ideal S1x8192 .f32) (ix2 0 v) = (V m c main_v2 : FVec Ideal S1x8192 .f32) (ix2 0 v) := by
  show (V m c main_v2 : FVec Ideal S1x8192 .f32) _ = _
  congr 1
  funext a
  match a with
  | ⟨0, _⟩ => rfl
  | ⟨1, _⟩ => exact Fin.ext (by blk_simp; have e : win0_3.index t 1 = 0 := rfl; omega)
theorem iblk4_at (c : Dev nD) (t : Fin cfg0.N) (v : Fin 8192) :
    (iblk m c 4 t : FVec Ideal S1x8192 .f32) (ix2 0 v) = (V m c main_v3 : FVec Ideal S1x8192 .f32) (ix2 0 v) := by
  show (V m c main_v3 : FVec Ideal S1x8192 .f32) _ = _
  congr 1
  funext a
  match a with
  | ⟨0, _⟩ => rfl
  | ⟨1, _⟩ => exact Fin.ext (by blk_simp; have e : win0_4.index t 1 = 0 := rfl; omega)

theorem cast3_at (x : FVec Ideal S16x128x1536 .fp8e4m3) (i : Fin 16) (t : Fin 128) (d : Fin 1536) :
    shapeCast S2048x1536 x shapeCasts_S16x128x1536_S2048x1536 (ix2 ⟨128 * i.val + t.val, by omega⟩ d) = x (ix3 i t d) := by
  pointwise []
theorem cast2_at (x : FVec Ideal S16x128 .f32) (i : Fin 16) (t : Fin 128) :
    shapeCast S2048x1 x shapeCasts_S16x128_S2048x1 (ix2 ⟨128 * i.val + t.val, by omega⟩ 0) = x (ix2 i t) := by
  pointwise []
theorem castB_at (x : FVec Ideal S2048x1 .f32) (i : Fin 16) (t : Fin 128) :
    shapeCast S16x128 x shapeCasts_S2048x1_S16x128 (ix2 i t) = x (ix2 ⟨128 * i.val + t.val, by omega⟩ 0) := by
  pointwise []
  exact congrArg x (congrArg (ix2 · 0) (Fin.ext (by show i.val * 128 + t.val = 128 * i.val + t.val; omega)))
theorem cast1_at (x : FVec Ideal S8192 .f32) (v : Fin 8192) :
    shapeCast S1x8192 x shapeCasts_S8192_S1x8192 (ix2 0 v) = x (ix1 v) := by
  pointwise []

theorem row_at (c : Dev nD) (t0 : Fin cfg0.N) (i : Fin 16) (t : Fin 128) :
    rowArr m c t0 (ix2 ⟨128 * i.val + t.val, by omega⟩ 0) = refLz (rlm m c i t) := by
  unfold rowArr
  refine pay_at _ _ _ _ _ _ _ fun v => ?_
  rw [iblk1_at, iblk3_at, iblk4_at, V_v1, V_v2, V_v3, cast2_at, cast1_at, cast1_at]
  unfold rlm rl
  rw [ofNat_self]
  congr 3
  refine Finset.sum_congr rfl fun d _ => ?_
  rw [iblk0_at, iblk2_at, V_v0, cast3_at, V_main_arg2]

theorem res_eq (c : Dev nD) : (Pipeline.afterTail₀ cfgs (dats m) 0 (V0 m) [hostOps1] c main_v5 : FVec Ideal S16x128 .f32)
    = shapeCast S16x128 ((dats m 0 c).arrAt 5 cfg0.N : FVec Ideal S2048x1 .f32) shapeCasts_S2048x1_S16x128 := by
  have e : Pipeline.withArrays (cfgs 0).spec c (V0 m c) (fun w => (dats m 0 c).arrAt w (cfgs 0).N) (Proc.devRef .tc main_v4) = (dats m 0 c).arrAt 5 cfg0.N :=
    Pipeline.withArrays_arr (cfgs 0).spec (by decide) c (V0 m c) (fun w => (dats m 0 c).arrAt w (cfgs 0).N) 5
  rw [← e]
  unfold Pipeline.afterTail₀
  show StableHlo.after hostOps1 _ (Proc.devRef .tc main_v5) = _
  after_results
  rfl

/-- The result, entry by entry. -/
theorem res_at (c : Dev nD) : (Pipeline.afterTail₀ cfgs (dats m) 0 (V0 m) [hostOps1] c main_v5 : FVec Ideal S16x128 .f32)
    = fun y : S16x128.Idx => refLz (rlm m c (y 0) (y 1)) := by
  have key : ∀ (i : Fin 16) (t : Fin 128), (Pipeline.afterTail₀ cfgs (dats m) 0 (V0 m) [hostOps1] c main_v5 : FVec Ideal S16x128 .f32) (ix2 i t) = refLz (rlm m c i t) := fun i t => by
    rw [res_eq, castB_at, arr_end]
    exact row_at m c _ _ _
  refine funext fun (y : S16x128.Idx) => ?_
  have hy : y = ix2 (y 0) (y 1) := funext fun a => by
    match a with
    | ⟨0, _⟩ => rfl
    | ⟨1, _⟩ => rfl
  exact (congrArg _ hy).trans (key (y 0) (y 1))

/-- The reference's run: its result and its arguments. -/
theorem run (ρ : Dev nD → PrngReg) : θ_run (defs (F := Ideal)) (onTc (τ := τ) (main (F := Ideal))) ⟨m, fun _ => 0, ρ⟩ (fun r => ∀ c : Dev nD,
      (r.2.mem ((c.tc : Thread nD τ).loc main_v5) : FVec Ideal S16x128 .f32) = fun y : S16x128.Idx => refLz (rlm m c (y 0) (y 1))) :=
  (θ_run defs _ _).mono (fun _ h c => ((h c).2 main_v5 (Pipeline.mem_restRefs_of main_v5 (by decide) (by decide))).trans (res_at m c)) (run_main m ρ)

end Cert.Proof.ReferenceIdeal

end
-- ==== Proof.LogSum.lean ====
/-
  The kernel's running log-sum is the plain one. Tile by tile and sublane by sublane the kernel keeps a maximum and a
  sum of powers of two relative to it; rescaling such a sum from one maximum to a greater one multiplies it by a power
  of two, so after the last tile the eight sublanes' sums relative to their common maximum are one sum over all columns.
  Its base-two logarithm plus the maximum, times the logarithm of two, is the natural log-sum whatever the maximum is.
-/
module

public import proofs.«01_k».proof.Proof.KernelIdeal.Finish
public import proofs.«01_k».proof.Proof.ReferenceIdeal.Value

@[expose] public section

noncomputable section

namespace Cert.Proof.LogSum

open Idealize.ShloMosaic Cert.Proof.KernelIdeal Cert.Proof.ReferenceIdeal

/-! ## Powers of two over the extended reals -/

theorem exp2_nonneg (a : EReal) : 0 ≤ Ideal.exp2 a := by
  induction a with
  | bot => simp
  | top => simp
  | coe r => rw [Ideal.exp2_coe]; exact EReal.coe_nonneg.mpr (Real.rpow_nonneg (by norm_num) r)

theorem sub_top' (a : EReal) : a - ⊤ = ⊥ := by rw [sub_eq_add_neg, EReal.neg_top, EReal.add_bot]

/-- Rescaling from the maximum `p` to a greater one `q`. -/
theorem exp2_rescale {a p q : EReal} (hap : a ≤ p) (hpq : p ≤ q) (hp : p ≠ ⊥) :
    Ideal.exp2 (a - p) * Ideal.exp2 (p - q) = Ideal.exp2 (a - q) := by
  induction q with
  | bot => exact absurd (le_bot_iff.mp hpq) hp
  | top => rw [sub_top', sub_top', Ideal.exp2_bot, mul_zero]
  | coe q =>
    induction p with
    | bot => exact absurd rfl hp
    | top => exact absurd hpq (by simp)
    | coe p =>
      induction a with
      | bot => simp
      | top => exact absurd hap (by simp)
      | coe a =>
        rw [← EReal.coe_sub, ← EReal.coe_sub, ← EReal.coe_sub, Ideal.exp2_coe, Ideal.exp2_coe, Ideal.exp2_coe, ← EReal.coe_mul]
        congr 1
        show (2 : ℝ) ^ (a - p) * (2 : ℝ) ^ (p - q) = (2 : ℝ) ^ (a - q)
        rw [← Real.rpow_add (by norm_num)]
        congr 1
        ring

/-- A sum of nonnegative numbers times a number. -/
theorem sum_mul' {ι : Type} (s : Finset ι) (f : ι → EReal) (hf : ∀ i, 0 ≤ f i) (c : EReal) :
    (∑ i ∈ s, f i) * c = ∑ i ∈ s, f i * c := by
  classical
  induction s using Finset.induction_on with
  | empty => simp
  | insert i s hi ih =>
    rw [Finset.sum_insert hi, Finset.sum_insert hi, EReal.right_distrib_of_nonneg (hf i) (Finset.sum_nonneg fun j _ => hf j), ih]

/-! ## The running maximum and sum -/

theorem neg_ne_bot : Ideal.ofBits .f32 0xF149F2CA#32 ≠ ⊥ := by
  simp [Ideal.ofBits, Ideal.ieee]
  exact_mod_cast EReal.coe_ne_top ((13234890 : ℝ) * 2 ^ 76)
theorem neg_ne_top : Ideal.ofBits .f32 0xF149F2CA#32 ≠ ⊤ := by
  simp [Ideal.ofBits, Ideal.ieee]
  exact_mod_cast EReal.coe_ne_bot ((13234890 : ℝ) * 2 ^ 76)

variable (l : ℕ → ℕ → ℕ → EReal)

theorem neg_le_Mr (n b s t : ℕ) : Ideal.ofBits .f32 0xF149F2CA#32 ≤ Mr l n b s t := by
  induction n with
  | zero => exact le_rfl
  | succ n ih => exact ih.trans (le_max_left _ _)

theorem Mr_ne_bot (n b s t : ℕ) : Mr l n b s t ≠ ⊥ := fun h => neg_ne_bot (le_bot_iff.mp (h ▸ neg_le_Mr l n b s t))

theorem Mr_succ (n b s t : ℕ) : Mr l n b s t ≤ Mr l (n + 1) b s t := le_max_left _ _

theorem Mr_mono {n k : ℕ} (h : n ≤ k) (b s t : ℕ) : Mr l n b s t ≤ Mr l k b s t := by
  induction k, h using Nat.le_induction with
  | base => exact le_rfl
  | succ k _ ih => exact ih.trans (Mr_succ l k b s t)

theorem le_Mr (n b s t : ℕ) (e q : Fin 8) : l (512 * n + 64 * e.val + 8 * q.val + s) b t ≤ Mr l (n + 1) b s t := by
  refine le_trans ?_ (le_max_right _ _)
  unfold tmax
  refine le_trans ?_ (Finset.le_sup (Finset.mem_univ e))
  exact Finset.le_sup (f := fun q : Fin 8 => l (512 * n + 64 * e.val + 8 * q.val + s) b t) (Finset.mem_univ q)

/-- The running sum, rescaled to any greater maximum, is the sum of the tiles' powers relative to that. -/
theorem Sr_rescaled (b s t : ℕ) (n : ℕ) : ∀ M : EReal, Mr l n b s t ≤ M →
    Sr l n b s t * Ideal.exp2 (Mr l n b s t - M)
      = ∑ k ∈ Finset.range n, ∑ e : Fin 8, ∑ q : Fin 8, Ideal.exp2 (l (512 * k + 64 * e.val + 8 * q.val + s) b t - M) := by
  induction n with
  | zero => intro M _; show (0 : EReal) * _ = _; simp
  | succ n ih =>
    intro M hM
    rw [Finset.sum_range_succ, ← ih M ((Mr_succ l n b s t).trans hM)]
    show (Sr l n b s t * Ideal.exp2 (Mr l n b s t - Mr l (n + 1) b s t)
      + ∑ e : Fin 8, ∑ q : Fin 8, Ideal.exp2 (l (512 * n + 64 * e.val + 8 * q.val + s) b t - Mr l (n + 1) b s t)) * _ = _
    have h0 : (0 : EReal) ≤ ∑ e : Fin 8, ∑ q : Fin 8, Ideal.exp2 (l (512 * n + 64 * e.val + 8 * q.val + s) b t - Mr l (n + 1) b s t) :=
      Finset.sum_nonneg fun _ _ => Finset.sum_nonneg fun _ _ => exp2_nonneg _
    have h1 : (0 : EReal) ≤ Sr l n b s t * Ideal.exp2 (Mr l n b s t - Mr l (n + 1) b s t) := by
      rw [ih _ (Mr_succ l n b s t)]
      exact Finset.sum_nonneg fun _ _ => Finset.sum_nonneg fun _ _ => Finset.sum_nonneg fun _ _ => exp2_nonneg _
    rw [EReal.right_distrib_of_nonneg h1 h0, mul_assoc, exp2_rescale (Mr_succ l n b s t) hM (Mr_ne_bot l _ b s t)]
    congr 1
    rw [sum_mul' _ _ fun _ => Finset.sum_nonneg fun _ _ => exp2_nonneg _]
    refine Finset.sum_congr rfl fun e _ => ?_
    rw [sum_mul' _ _ fun _ => exp2_nonneg _]
    refine Finset.sum_congr rfl fun q _ => ?_
    exact exp2_rescale (le_Mr l n b s t e q) hM (Mr_ne_bot l _ b s t)

/-! ## All columns -/

theorem sum_mul_range (f : ℕ → EReal) (n k : ℕ) : ∑ i ∈ Finset.range (n * k), f i = ∑ a ∈ Finset.range k, ∑ c ∈ Finset.range n, f (n * a + c) := by
  induction k with
  | zero => simp
  | succ k ih => rw [Nat.mul_succ, Finset.sum_range_add, ih, Finset.sum_range_succ]

/-- The columns by sublane, tile and place in the tile. -/
theorem sum_columns (f : ℕ → EReal) :
    (∑ s : Fin 8, ∑ k ∈ Finset.range 16, ∑ e : Fin 8, ∑ q : Fin 8, f (512 * k + 64 * e.val + 8 * q.val + s.val)) = ∑ v : Fin 8192, f v.val := by
  rw [← Finset.sum_range (n := 8192) f, show (8192 : ℕ) = 512 * 16 from rfl, sum_mul_range, Finset.sum_comm]
  refine Finset.sum_congr rfl fun k _ => ?_
  rw [show (512 : ℕ) = 64 * 8 from rfl, sum_mul_range (fun c => f (64 * 8 * k + c)), ← Fin.sum_univ_eq_sum_range (fun a => ∑ c ∈ Finset.range 64, f (64 * 8 * k + (64 * a + c))) 8, Finset.sum_comm]
  refine Finset.sum_congr rfl fun e _ => ?_
  rw [show (64 : ℕ) = 8 * 8 from rfl, sum_mul_range (fun c => f (8 * 8 * 8 * k + (8 * 8 * e.val + c))), ← Fin.sum_univ_eq_sum_range (fun a => ∑ c ∈ Finset.range 8, f (8 * 8 * 8 * k + (8 * 8 * e.val + (8 * a + c)))) 8, Finset.sum_comm]
  refine Finset.sum_congr rfl fun q _ => ?_
  rw [← Fin.sum_univ_eq_sum_range (fun c => f (8 * 8 * 8 * k + (8 * 8 * e.val + (8 * q.val + c)))) 8]
  refine Finset.sum_congr rfl fun s _ => ?_
  congr 1
  omega

/-- The sublanes' sums relative to their common maximum are one sum over all columns. -/
theorem sublanes_sum (b t : ℕ) :
    (∑ s : Fin 8, Sr l 16 b s.val t * Ideal.exp2 (Mr l 16 b s.val t - Mz l b t)) = ∑ v : Fin 8192, Ideal.exp2 (l v.val b t - Mz l b t) := by
  rw [← sum_columns fun v => Ideal.exp2 (l v b t - Mz l b t)]
  refine Finset.sum_congr rfl fun s _ => ?_
  exact Sr_rescaled l b s.val t 16 _ (Finset.le_sup (f := fun s : Fin 8 => Mr l 16 b s.val t) (Finset.mem_univ s))

theorem Mr_le (M : EReal) (h0 : Ideal.ofBits .f32 0xF149F2CA#32 ≤ M) (b s t : ℕ) (hs : s < 8) (n : ℕ) (hn : n ≤ 16)
    (h : ∀ v : Fin 8192, l v.val b t ≤ M) : Mr l n b s t ≤ M := by
  induction n with
  | zero => exact h0
  | succ n ih =>
    refine max_le (ih (by omega)) ?_
    refine Finset.sup_le fun e _ => Finset.sup_le fun q _ => ?_
    exact h ⟨512 * n + 64 * e.val + 8 * q.val + s, by omega⟩

/-- The common maximum is the columns' greatest, or the finite start. -/
theorem Mz_eq (b t : ℕ) : Mz l b t = max (Ideal.ofBits .f32 0xF149F2CA#32) (Finset.univ.sup fun v : Fin 8192 => l v.val b t) := by
  apply le_antisymm
  · refine Finset.sup_le fun s _ => ?_
    exact Mr_le l _ (le_max_left _ _) b s.val t s.isLt 16 le_rfl fun v =>
      le_trans (Finset.le_sup (f := fun v : Fin 8192 => l v.val b t) (Finset.mem_univ v)) (le_max_right _ _)
  · have hz : ∀ s : Fin 8, Mr l 16 b s.val t ≤ Mz l b t := fun s => Finset.le_sup (f := fun s : Fin 8 => Mr l 16 b s.val t) (Finset.mem_univ s)
    refine max_le ((neg_le_Mr l 16 b 0 t).trans (hz 0)) (Finset.sup_le fun v _ => ?_)
    refine le_trans ?_ ((Mr_mono l (n := v.val / 512 + 1) (k := 16) (by omega) b (v.val % 8) t).trans (hz ⟨v.val % 8, by omega⟩))
    have h := le_Mr l (v.val / 512) b (v.val % 8) t ⟨v.val / 64 % 8, by omega⟩ ⟨v.val / 8 % 8, by omega⟩
    rwa [show 512 * (v.val / 512) + 64 * (v.val / 64 % 8) + 8 * (v.val / 8 % 8) + v.val % 8 = v.val by omega] at h

/-! ## Base two and base e -/

theorem log2_pos : 0 < Real.log 2 := Real.log_pos (by norm_num)
theorem log2_inv_pos : 0 < (Real.log 2)⁻¹ := inv_pos.mpr log2_pos

theorem exp2_scaled (a T : ℝ) : Ideal.exp2 ((a : EReal) * (((Real.log 2)⁻¹ : ℝ) : EReal) - (T : EReal) * (((Real.log 2)⁻¹ : ℝ) : EReal)) = Ideal.exp ((a : EReal) - T) := by
  rw [← EReal.coe_mul, ← EReal.coe_mul, ← EReal.coe_sub, ← EReal.coe_sub, Ideal.exp2_coe, Ideal.exp_coe]
  congr 1
  show (2 : ℝ) ^ (a * (Real.log 2)⁻¹ - T * (Real.log 2)⁻¹) = _
  rw [Real.rpow_def_of_pos (by norm_num)]
  congr 1
  have := log2_pos.ne'
  field_simp

theorem sum_coe' {ι : Type} (s : Finset ι) (g : ι → ℝ) : (∑ i ∈ s, (g i : EReal)) = ((∑ i ∈ s, g i : ℝ) : EReal) := by
  classical
  induction s using Finset.induction_on with
  | empty => simp
  | insert i s hi ih => rw [Finset.sum_insert hi, Finset.sum_insert hi, ih, EReal.coe_add]

/-- The kernel's log-sum of base-two logits is the plain log-sum of the natural ones. -/
theorem Lz_eq (b t : ℕ) (n : ℕ → EReal) (h : ∀ v : Fin 8192, l v.val b t = n v.val * (((Real.log 2)⁻¹ : ℝ) : EReal)) :
    Lz l b t = refLz n := by
  unfold Lz refLz
  rw [sublanes_sum]
  have hM := Mz_eq l b t
  obtain ⟨v0, -, hv0⟩ := Finset.exists_mem_eq_sup (Finset.univ : Finset (Fin 8192)) ⟨0, Finset.mem_univ _⟩ fun v => n v.val
  have hle : ∀ v : Fin 8192, n v.val ≤ Finset.univ.sup (fun v : Fin 8192 => n v.val) := fun v => Finset.le_sup (f := fun v : Fin 8192 => n v.val) (Finset.mem_univ v)
  have hT : (Finset.univ.sup fun v : Fin 8192 => l v.val b t) = Finset.univ.sup (fun v : Fin 8192 => n v.val) * (((Real.log 2)⁻¹ : ℝ) : EReal) := by
    apply le_antisymm
    · refine Finset.sup_le fun v _ => ?_
      rw [h v]
      exact mul_le_mul_of_nonneg_right (hle v) (EReal.coe_nonneg.mpr log2_inv_pos.le)
    · rw [hv0, ← h v0]
      exact Finset.le_sup (f := fun v : Fin 8192 => l v.val b t) (Finset.mem_univ v0)
  rw [hT] at hM
  generalize Finset.univ.sup (fun v : Fin 8192 => n v.val) = T at *
  generalize Mz l b t = M at *
  suffices key : (M + Ideal.log (∑ v : Fin 8192, Ideal.exp2 (l v.val b t - M)) * (((Real.log 2)⁻¹ : ℝ) : EReal)) * ((Real.log 2 : ℝ) : EReal)
      = T + Ideal.log (∑ v : Fin 8192, Ideal.exp (n v.val - T)) by rw [key]
  induction T with
  | bot =>
    have hn : ∀ v : Fin 8192, n v.val = ⊥ := fun v => le_bot_iff.mp (hle v)
    have hs : (∑ v : Fin 8192, Ideal.exp2 (l v.val b t - M)) = 0 := Finset.sum_eq_zero fun v _ => by
      rw [h v, hn v, EReal.bot_mul_coe_of_pos log2_inv_pos, sub_eq_add_neg, EReal.bot_add, Ideal.exp2_bot]
    have hl0 : Ideal.log 0 = ⊥ := by rw [← EReal.coe_zero, Ideal.log_coe, if_pos le_rfl]
    rw [hs, hl0, EReal.bot_mul_coe_of_pos log2_inv_pos, EReal.add_bot, EReal.bot_mul_coe_of_pos log2_pos, EReal.bot_add]
  | top =>
    have hMt : M = ⊤ := by rw [hM, EReal.top_mul_coe_of_pos log2_inv_pos]; exact max_top_right _
    have hs : (∑ v : Fin 8192, Ideal.exp2 (l v.val b t - M)) = 0 := Finset.sum_eq_zero fun v _ => by
      rw [hMt, sub_top', Ideal.exp2_bot]
    have hs' : (∑ v : Fin 8192, Ideal.exp (n v.val - ⊤)) = 0 := Finset.sum_eq_zero fun v _ => by
      rw [sub_top', Ideal.exp_bot]
    have hl0 : Ideal.log 0 = ⊥ := by rw [← EReal.coe_zero, Ideal.log_coe, if_pos le_rfl]
    rw [hs, hs', hl0, EReal.bot_mul_coe_of_pos log2_inv_pos, EReal.add_bot, EReal.bot_mul_coe_of_pos log2_pos, EReal.add_bot]
  | coe T =>
    have hMb : M ≠ ⊥ := fun e => neg_ne_bot (le_bot_iff.mp (e ▸ hM ▸ le_max_left _ _))
    have hMt : M ≠ ⊤ := by
      rw [hM, ← EReal.coe_mul]
      exact (max_lt (lt_top_iff_ne_top.mpr neg_ne_top) (EReal.coe_lt_top _)).ne
    have hTM : (T : EReal) * (((Real.log 2)⁻¹ : ℝ) : EReal) ≤ M := hM ▸ le_max_right _ _
    lift M to ℝ using ⟨hMt, hMb⟩ with μ
    have hg : ∀ v : Fin 8192, ∃ g : ℝ, 0 ≤ g ∧ Ideal.exp (n v.val - T) = (g : EReal) ∧ Ideal.exp2 (l v.val b t - μ) = ((g * (2 : ℝ) ^ (T * (Real.log 2)⁻¹ - μ) : ℝ) : EReal) := fun v => by
      have hv := hle v
      rw [h v]
      have hr := exp2_rescale (a := n v.val * (((Real.log 2)⁻¹ : ℝ) : EReal)) (p := (T : EReal) * (((Real.log 2)⁻¹ : ℝ) : EReal)) (q := μ)
        (mul_le_mul_of_nonneg_right hv (EReal.coe_nonneg.mpr log2_inv_pos.le)) hTM (by rw [← EReal.coe_mul]; exact EReal.coe_ne_bot _)
      rw [← hr]
      have h2 : Ideal.exp2 ((T : EReal) * (((Real.log 2)⁻¹ : ℝ) : EReal) - (μ : EReal)) = (((2 : ℝ) ^ (T * (Real.log 2)⁻¹ - μ) : ℝ) : EReal) := by
        rw [← EReal.coe_mul, ← EReal.coe_sub, Ideal.exp2_coe]; rfl
      rw [h2]
      generalize n v.val = a at hv
      induction a with
      | bot => exact ⟨0, le_rfl, by simp, by rw [EReal.bot_mul_coe_of_pos log2_inv_pos, sub_eq_add_neg, EReal.bot_add, Ideal.exp2_bot]; simp⟩
      | top => exact absurd hv (by simp)
      | coe a =>
        refine ⟨Real.exp (a - T), (Real.exp_pos _).le, by rw [← EReal.coe_sub, Ideal.exp_coe], ?_⟩
        rw [exp2_scaled, ← EReal.coe_sub, Ideal.exp_coe, EReal.coe_mul]
    choose g hg0 hg1 hg2 using hg
    have hgv : g v0 = 1 := by
      have e := hg1 v0
      rw [← hv0, ← EReal.coe_sub, sub_self, Ideal.exp_coe, Real.exp_zero] at e
      exact (EReal.coe_injective e).symm
    have hpos : 0 < ∑ v : Fin 8192, g v := Finset.sum_pos' (fun v _ => hg0 v) ⟨v0, Finset.mem_univ _, by rw [hgv]; norm_num⟩
    have hc : 0 < (2 : ℝ) ^ (T * (Real.log 2)⁻¹ - μ) := Real.rpow_pos_of_pos (by norm_num) _
    rw [Finset.sum_congr rfl fun v _ => hg1 v, Finset.sum_congr rfl fun v _ => hg2 v, sum_coe', sum_coe', ← Finset.sum_mul, Ideal.log_coe, Ideal.log_coe,
      if_neg (not_le.mpr hpos), if_neg (not_le.mpr (mul_pos hpos hc)), Real.log_mul hpos.ne' hc.ne', Real.log_rpow (by norm_num),
      ← EReal.coe_mul, ← EReal.coe_add, ← EReal.coe_mul, ← EReal.coe_add]
    generalize (∑ v : Fin 8192, g v) = G
    have e : (μ + (Real.log G + (T * (Real.log 2)⁻¹ - μ) * Real.log 2) * (Real.log 2)⁻¹) * Real.log 2 = T + Real.log G := by
      have := log2_pos.ne'
      field_simp
      ring
    rw [e]

/-- Base-two logits, as the kernel scales them, from natural ones. -/
theorem scaled_logit (a s q r : EReal) :
    a * q * (s * (((Real.log 2)⁻¹ : ℝ) : EReal)) + r * (((Real.log 2)⁻¹ : ℝ) : EReal) = (a * s * q + r) * (((Real.log 2)⁻¹ : ℝ) : EReal) := by
  rw [EReal.right_distrib_of_nonneg_of_ne_top (EReal.coe_nonneg.mpr log2_inv_pos.le) (EReal.coe_ne_top _), mul_right_comm a s q, mul_assoc (a * q)]

end Cert.Proof.LogSum

end
-- ==== Proof.Agree.lean ====
/-
  Kernel and reference compute the same log-sums: the kernel's base-two logits are the reference's logits times the
  base-two logarithm of e, argument by argument.
-/
module

public import proofs.«01_k».proof.Proof.LogSum
public import proofs.«01_k».proof.Proof.KernelIdeal.LaunchV

@[expose] public section

set_option maxRecDepth 16384

noncomputable section

namespace Cert.Proof.Agree

open Idealize.ShloMosaic Idealize.ShloMosaic.TcCoe Cert.KernelIdeal Cert.KernelIdeal.Gen Cert.Proof.KernelIdeal

variable (m : (ℓ : Loc nD τ sig) → Buf (Elt Ideal) ℓ)

/-! ## The arrays the kernel reads -/

theorem V_v0 (c : Dev nD) : (V m c main_v0 : FVec Ideal S2048x1536 .fp8e4m3)
    = shapeCast S2048x1536 (m ((c : Thread nD τ).loc main_arg0) : FVec Ideal S16x128x1536 .fp8e4m3) shapeCasts_S16x128x1536_S2048x1536 := by
  show StableHlo.after hostOps0 _ (Proc.devRef .tc main_v0) = _
  after_results
  rfl
theorem V_v1 (c : Dev nD) : (V m c main_v1 : FVec Ideal S64x128 .f32)
    = shapeCast S64x128 (m ((c : Thread nD τ).loc main_arg3) : FVec Ideal S8192 .f32) shapeCasts_S8192_S64x128 := by
  show StableHlo.after hostOps0 _ (Proc.devRef .tc main_v1) = _
  after_results
  rfl
theorem V_v2 (c : Dev nD) : (V m c main_v2 : FVec Ideal S64x128 .f32)
    = shapeCast S64x128 (m ((c : Thread nD τ).loc main_arg4) : FVec Ideal S8192 .f32) shapeCasts_S8192_S64x128 := by
  show StableHlo.after hostOps0 _ (Proc.devRef .tc main_v2) = _
  after_results
  rfl

theorem cast3_at (x : FVec Ideal S16x128x1536 .fp8e4m3) (i : Fin 16) (t : Fin 128) (d : Fin 1536) :
    shapeCast S2048x1536 x shapeCasts_S16x128x1536_S2048x1536 (ix2 (Fin.ofNat 2048 (128 * i.val + t.val)) d) = x (ix3 i t d) := by
  rw [show Fin.ofNat 2048 (128 * i.val + t.val) = ⟨128 * i.val + t.val, by omega⟩ from Fin.ext (Nat.mod_eq_of_lt (by omega))]
  pointwise []
theorem cast1_at (x : FVec Ideal S8192 .f32) (v : Fin 8192) :
    shapeCast S64x128 x shapeCasts_S8192_S64x128 (ix2 (Fin.ofNat 64 (v.val / 128)) (Fin.ofNat 128 v.val)) = x (ix1 v) := by
  rw [show Fin.ofNat 64 (v.val / 128) = ⟨v.val / 128, by omega⟩ from Fin.ext (Nat.mod_eq_of_lt (by omega)),
    show Fin.ofNat 128 v.val = ⟨v.val % 128, by omega⟩ from rfl]
  pointwise []

/-- The kernel's logits are the reference's in base two. -/
theorem lgm_eq (c : Dev nD) (b : Fin 16) (t : Fin 128) (v : Fin 8192) :
    lgm m c v.val b.val t.val
      = Cert.Proof.ReferenceIdeal.rl (m ((c : Thread nD τ).loc main_arg0)) (m ((c : Thread nD τ).loc main_arg1)) (m ((c : Thread nD τ).loc main_arg2))
          (m ((c : Thread nD τ).loc main_arg3)) (m ((c : Thread nD τ).loc main_arg4)) b t v.val * (((Real.log 2)⁻¹ : ℝ) : EReal) := by
  have hx : ∀ d : Fin 1536, xf m c (128 * b.val + t.val) d.val = (m ((c : Thread nD τ).loc main_arg0) : FVec Ideal S16x128x1536 .fp8e4m3) (ix3 b t d) := fun d => by
    unfold xf
    rw [ofNat_self, V_v0, cast3_at]
  have hw : ∀ d : Fin 1536, wf m c d.val v.val = Ideal.ofBits .fp8e4m3 ((m ((c : Thread nD τ).loc main_arg2) : IVec S1536x8192 8) (ix2 d v)) := fun d => by
    unfold wf
    rw [ofNat_self, ofNat_self, V_main_arg2]
  have hxs : xsf m c b.val t.val = timesL ((m ((c : Thread nD τ).loc main_arg1) : FVec Ideal S16x128 .f32) (ix2 b t)) := by
    unfold xsf
    rw [ofNat_self, ofNat_self, V_main_arg1]
  have hws : wsf m c v.val = (m ((c : Thread nD τ).loc main_arg3) : FVec Ideal S8192 .f32) (ix1 v) := by
    unfold wsf
    rw [V_v1, cast1_at]
  have hbs : bsf m c v.val = timesL ((m ((c : Thread nD τ).loc main_arg4) : FVec Ideal S8192 .f32) (ix1 v)) := by
    unfold bsf
    rw [V_v2, cast1_at]
  unfold lgm lg Cert.Proof.ReferenceIdeal.rl
  rw [hxs, hws, hbs, LogSum.scaled_logit, ofNat_self]
  refine congrArg (fun z : EReal => (z * _ * _ + _) * _) (Finset.sum_congr rfl fun d _ => ?_)
  rw [hx, hw]
  exact mul_comm _ _

/-- The kernel's array of log-sums, entry by entry the reference's. -/
theorem lzArr_eq (c : Dev nD) : lzArr m c = fun y : S16x128.Idx =>
    Cert.Proof.ReferenceIdeal.refLz (Cert.Proof.ReferenceIdeal.rl (m ((c : Thread nD τ).loc main_arg0)) (m ((c : Thread nD τ).loc main_arg1)) (m ((c : Thread nD τ).loc main_arg2))
          (m ((c : Thread nD τ).loc main_arg3)) (m ((c : Thread nD τ).loc main_arg4)) (y 0) (y 1)) := by
  funext y
  exact LogSum.Lz_eq (lgm m c) (y 0).val (y 1).val _ fun v => lgm_eq m c (y 0) (y 1) v

end Cert.Proof.Agree

end
-- ==== Proof.lean ====
/- The claims: the two programs' frames from the runs of Proof/Kernel/Launch.lean and Proof/KernelIdeal/LaunchV.lean, the
   reference's from its generated frame, the two named constants, and the equality of the two programs' log-sums from
   Proof/Agree.lean. -/
module

public import proofs.«01_k».proof.Defs
public import proofs.«01_k».proof.Proof.Pre
public import proofs.«01_k».proof.Proof.Kernel.Launch
public import proofs.«01_k».proof.Proof.KernelIdeal.LaunchV
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.Pre_labels_in_range
public import proofs.«01_k».proof.Proof.Gen.ReferenceIdeal.Frame
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The precondition is what the kernel's launch asks of the staged words. -/
theorem Kernel.words_ok (m : (ℓ : Loc Cert.Kernel.nD Cert.Kernel.τ Cert.Kernel.sig) → Buf (Elt Bits) ℓ) (h : Cert.Pre_Kernel m) :
    Cert.Proof.Kernel.WordsOK (F := Bits) m := fun c => by
  have hw := pre_words _ _ _ _ _ _ _ _ (h c)
  constructor
  · intro t i
    show BitVec.toNat (Cert.Kernel.Gen.V m c Cert.Kernel.main_arg5 (((Cert.Kernel.cfg0.win 3).blk t).view.emb i)) < 8192
    rw [Cert.Kernel.Gen.V_main_arg5]
    exact hw.1 _
  · intro t i
    show BitVec.toNat (Cert.Kernel.Gen.V m c Cert.Kernel.main_arg6 (((Cert.Kernel.cfg0.win 4).blk t).view.emb i)) ≤ 32
    rw [Cert.Kernel.Gen.V_main_arg6]
    exact hw.2 _
theorem KernelIdeal.words_ok (m : (ℓ : Loc Cert.KernelIdeal.nD Cert.KernelIdeal.τ Cert.KernelIdeal.sig) → Buf (Elt Ideal) ℓ) (h : Cert.Pre_KernelIdeal m) :
    Cert.Proof.KernelIdeal.WordsOK m := fun c => by
  have hw := pre_words _ _ _ _ _ _ _ _ (h c)
  constructor
  · intro t i
    show BitVec.toNat (Cert.KernelIdeal.Gen.V m c Cert.KernelIdeal.main_arg5 (((Cert.KernelIdeal.cfg0.win 3).blk t).view.emb i)) < 8192
    rw [Cert.KernelIdeal.Gen.V_main_arg5]
    exact hw.1 _
  · intro t i
    show BitVec.toNat (Cert.KernelIdeal.Gen.V m c Cert.KernelIdeal.main_arg6 (((Cert.KernelIdeal.cfg0.win 4).blk t).view.emb i)) ≤ 32
    rw [Cert.KernelIdeal.Gen.V_main_arg6]
    exact hw.2 _

theorem frame_kernel : Cert.quiescent_Kernel := fun m ρ h =>
  (θ_run Cert.Kernel.defs _ _).mono (fun _ hr => ⟨fun c => Cert.Proof.Kernel.final_args hr.1 c, hr.2⟩)
    (Cert.Proof.Kernel.run_main (F := Bits) m ρ (Kernel.words_ok m h))
theorem frame_kernelIdeal : Cert.quiescent_KernelIdeal := fun m ρ h =>
  (θ_run Cert.KernelIdeal.defs _ _).mono (fun _ hr => ⟨fun c => Cert.Proof.KernelIdeal.final_args hr.1 c, hr.2⟩)
    (Cert.Proof.KernelIdeal.run_main m ρ (KernelIdeal.words_ok m h))
theorem frame_reference : Cert.quiescent_ReferenceIdeal := fun m ρ _ => Cert.ReferenceIdeal.Gen.frame m ρ

/-- The two constants the ideal program names are the reals they were rounded from. -/
theorem preserves : Cert.preserves_Kernel_KernelIdeal :=
  ⟨IdealRules.named_const.statement Cert.KernelIdeal.κ "log2_e" .f32 0x3FB8AA3B#32 (((Real.log 2)⁻¹ : ℝ) : EReal) rfl,
    IdealRules.named_const.statement Cert.KernelIdeal.κ "ln_2" .f32 0x3F317218#32 ((Real.log 2 : ℝ) : EReal) rfl⟩

/-- The reference's frame under the precondition, which it does not need. -/
theorem frame_reference_pre : Cert.quiescent_ReferenceIdeal_pre_labels_in_range := fun m ρ _ => Cert.ReferenceIdeal.Gen.frame m ρ

/-- From equal arguments the ideal kernel and the reference end with the same log-sums. -/
theorem algebraic : Cert.algebraic_KernelIdeal_ReferenceIdeal := fun m g m' g' h hm => by
  refine ⟨fun c => Cert.Proof.KernelIdeal.lzArr m c, ?_, ?_⟩
  · exact (θ_run Cert.KernelIdeal.defs _ _).mono (fun _ hr c => ⟨Cert.Proof.KernelIdeal.final_lz hr.1 c, Cert.Proof.KernelIdeal.final_args hr.1 c⟩)
      (Cert.Proof.KernelIdeal.run_main m g (KernelIdeal.words_ok m h))
  · refine (θ_run Cert.ReferenceIdeal.defs _ _).mono (fun _ hr c => ⟨(hr.1 c).trans ?_, hr.2 c⟩)
      (θ_run_and (Cert.Proof.ReferenceIdeal.run m' g') (Cert.ReferenceIdeal.Gen.unchanged m' g'))
    obtain ⟨h0, h1, h2, h3, h4, -⟩ := hm c
    refine Eq.trans ?_ (Agree.lzArr_eq m c).symm
    have e : Cert.Proof.ReferenceIdeal.rlm m' c = Cert.Proof.ReferenceIdeal.rl (m (c.tc.loc Cert.KernelIdeal.main_arg0)) (m (c.tc.loc Cert.KernelIdeal.main_arg1))
        (m (c.tc.loc Cert.KernelIdeal.main_arg2)) (m (c.tc.loc Cert.KernelIdeal.main_arg3)) (m (c.tc.loc Cert.KernelIdeal.main_arg4)) := by
      unfold Cert.Proof.ReferenceIdeal.rlm
      rw [h0, h1, h2, h3, h4]
    exact congrArg (fun (F : Fin 16 → Fin 128 → ℕ → EReal) (y : Cert.ReferenceIdeal.S16x128.Idx) => Cert.Proof.ReferenceIdeal.refLz (F (y 0) (y 1))) e

theorem claim : Cert.Claim :=
  ⟨Cert.Kernel.Gen.facts, Cert.KernelIdeal.Gen.facts, Cert.ReferenceIdeal.Gen.facts, Cert.Pre_labels_in_range.Gen.facts,
    frame_kernel, frame_kernelIdeal, frame_reference, frame_reference_pre, preserves, algebraic⟩

end Cert.Proof

end
